-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1920x4608 : Shape := ⟨2, ![1920, 4608]⟩
abbrev S1920 : Shape := ⟨1, ![1920]⟩
abbrev S4608x9216 : Shape := ⟨2, ![4608, 9216]⟩
abbrev S9216 : Shape := ⟨1, ![9216]⟩
abbrev S9216x4608 : Shape := ⟨2, ![9216, 4608]⟩
abbrev S4608 : Shape := ⟨1, ![4608]⟩
abbrev S1920x1 : Shape := ⟨2, ![1920, 1]⟩
abbrev S1920x128 : Shape := ⟨2, ![1920, 128]⟩
abbrev S1x9216 : Shape := ⟨2, ![1, 9216]⟩
abbrev S1x4608 : Shape := ⟨2, ![1, 4608]⟩
abbrev S1920x9216 : Shape := ⟨2, ![1920, 9216]⟩
abbrev S3x1x640 : Shape := ⟨3, ![3, 1, 640]⟩
abbrev S640x4608 : Shape := ⟨2, ![640, 4608]⟩
abbrev S640x128 : Shape := ⟨2, ![640, 128]⟩
abbrev S4608x512 : Shape := ⟨2, ![4608, 512]⟩
abbrev S1x512 : Shape := ⟨2, ![1, 512]⟩
abbrev S9216x512 : Shape := ⟨2, ![9216, 512]⟩
abbrev S1x1x640 : Shape := ⟨3, ![1, 1, 640]⟩
abbrev S2x640x4608 : Shape := ⟨3, ![2, 640, 4608]⟩
abbrev S640x9216 : Shape := ⟨2, ![640, 9216]⟩
abbrev S2x32x4608 : Shape := ⟨3, ![2, 32, 4608]⟩
abbrev S_ : Shape := ⟨0, ![]⟩
abbrev S2 : Shape := ⟨1, ![2]⟩
abbrev S320x4608 : Shape := ⟨2, ![320, 4608]⟩
abbrev S4608x256 : Shape := ⟨2, ![4608, 256]⟩
abbrev S320x256 : Shape := ⟨2, ![320, 256]⟩
abbrev S320x128 : Shape := ⟨2, ![320, 128]⟩
abbrev S1x128 : Shape := ⟨2, ![1, 128]⟩
abbrev S1x320x128 : Shape := ⟨3, ![1, 320, 128]⟩
abbrev S640 : Shape := ⟨1, ![640]⟩
abbrev S640x1 : Shape := ⟨2, ![640, 1]⟩
abbrev S128x640 : Shape := ⟨2, ![128, 640]⟩
abbrev S1x640 : Shape := ⟨2, ![1, 640]⟩
abbrev S32x128 : Shape := ⟨2, ![32, 128]⟩
abbrev S32x1 : Shape := ⟨2, ![32, 1]⟩
abbrev S1x32x4608 : Shape := ⟨3, ![1, 32, 4608]⟩
abbrev S32x4608 : Shape := ⟨2, ![32, 4608]⟩
abbrev S1x640x4608 : Shape := ⟨3, ![1, 640, 4608]⟩
abbrev S320x9216 : Shape := ⟨2, ![320, 9216]⟩
abbrev S9216x256 : Shape := ⟨2, ![9216, 256]⟩
abbrev S1 : Shape := ⟨1, ![1]⟩
abbrev S32 : Shape := ⟨1, ![32]⟩

abbrev nBuf : Space → Nat
  | .hbm => 19
  | .vmem => 23
  | .smem => 0
  | _ => 0

abbrev bufTy : (tb : Table) → Fin (tcTables nBuf tb) → BufTy
  | .hbm, ⟨0, _⟩ => ⟨S1920x4608, .fp8e4m3⟩
  | .hbm, ⟨1, _⟩ => ⟨S1920, .f32⟩
  | .hbm, ⟨2, _⟩ => ⟨S4608x9216, .fp8e4m3⟩
  | .hbm, ⟨3, _⟩ => ⟨S9216, .f32⟩
  | .hbm, ⟨4, _⟩ => ⟨S4608x9216, .fp8e4m3⟩
  | .hbm, ⟨5, _⟩ => ⟨S9216, .f32⟩
  | .hbm, ⟨6, _⟩ => ⟨S9216x4608, .fp8e4m3⟩
  | .hbm, ⟨7, _⟩ => ⟨S4608, .f32⟩
  | .hbm, ⟨8, _⟩ => ⟨S4608, .f32⟩
  | .hbm, ⟨9, _⟩ => ⟨S1920x4608, .f32⟩
  | .hbm, ⟨10, _⟩ => ⟨S1920x1, .f32⟩
  | .hbm, ⟨11, _⟩ => ⟨S1920x128, .f32⟩
  | .hbm, ⟨12, _⟩ => ⟨S1x9216, .f32⟩
  | .hbm, ⟨13, _⟩ => ⟨S1x9216, .f32⟩
  | .hbm, ⟨14, _⟩ => ⟨S1x4608, .f32⟩
  | .hbm, ⟨15, _⟩ => ⟨S1x4608, .f32⟩
  | .hbm, ⟨16, _⟩ => ⟨S1920x4608, .bf16⟩
  | .hbm, ⟨17, _⟩ => ⟨S1920x9216, .fp8e4m3⟩
  | .hbm, ⟨18, _⟩ => ⟨S3x1x640, .f32⟩
  | .local _ .vmem, ⟨0, _⟩ => ⟨S640x4608, .fp8e4m3⟩
  | .local _ .vmem, ⟨1, _⟩ => ⟨S640x4608, .fp8e4m3⟩
  | .local _ .vmem, ⟨2, _⟩ => ⟨S640x128, .f32⟩
  | .local _ .vmem, ⟨3, _⟩ => ⟨S640x128, .f32⟩
  | .local _ .vmem, ⟨4, _⟩ => ⟨S4608x512, .fp8e4m3⟩
  | .local _ .vmem, ⟨5, _⟩ => ⟨S4608x512, .fp8e4m3⟩
  | .local _ .vmem, ⟨6, _⟩ => ⟨S1x512, .f32⟩
  | .local _ .vmem, ⟨7, _⟩ => ⟨S1x512, .f32⟩
  | .local _ .vmem, ⟨8, _⟩ => ⟨S4608x512, .fp8e4m3⟩
  | .local _ .vmem, ⟨9, _⟩ => ⟨S4608x512, .fp8e4m3⟩
  | .local _ .vmem, ⟨10, _⟩ => ⟨S1x512, .f32⟩
  | .local _ .vmem, ⟨11, _⟩ => ⟨S1x512, .f32⟩
  | .local _ .vmem, ⟨12, _⟩ => ⟨S9216x512, .fp8e4m3⟩
  | .local _ .vmem, ⟨13, _⟩ => ⟨S9216x512, .fp8e4m3⟩
  | .local _ .vmem, ⟨14, _⟩ => ⟨S1x512, .f32⟩
  | .local _ .vmem, ⟨15, _⟩ => ⟨S1x512, .f32⟩
  | .local _ .vmem, ⟨16, _⟩ => ⟨S1x4608, .f32⟩
  | .local _ .vmem, ⟨17, _⟩ => ⟨S1x1x640, .f32⟩
  | .local _ .vmem, ⟨18, _⟩ => ⟨S1x1x640, .f32⟩
  | .local _ .vmem, ⟨19, _⟩ => ⟨S2x640x4608, .f32⟩
  | .local _ .vmem, ⟨20, _⟩ => ⟨S640x9216, .fp8e4m3⟩
  | .local _ .vmem, ⟨21, _⟩ => ⟨S640x128, .f32⟩
  | .local _ .vmem, ⟨22, _⟩ => ⟨S2x32x4608, .bf16⟩
  | _, _ => ⟨S1920x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![3, 27], ![false, false]⟩

def k0_cond2 (i : grid0.Coords) : BitVec 1 :=
  let arg1 : BitVec 32 := BitVec.ofNat 32 (i 1).val
  let c18_i32 : BitVec 32 := 18#32
  let v4 : BitVec 1 := Scalar.cmpi .slt arg1 c18_i32
  let v5 : BitVec 32 := Scalar.extui v4
  let c0_i32_1 : BitVec 32 := 0#32
  let v6 : BitVec 1 := Scalar.cmpi .ne v5 c0_i32_1
  v6

def k0_mult1 (i : grid0.Coords) : BitVec 32 :=
  let arg1 : BitVec 32 := BitVec.ofNat 32 (i 1).val
  let c0_i32_7 : BitVec 32 := 0#32
  let v17 : BitVec 1 := Scalar.cmpi .sgt arg1 c0_i32_7
  let v18 : BitVec 32 := Scalar.extui v17
  let c0_i32_8 : BitVec 32 := 0#32
  let v19 : BitVec 1 := Scalar.cmpi .slt arg1 c0_i32_8
  let v20 : BitVec 32 := Scalar.extui v19
  let v21 : BitVec 32 := Scalar.subi v18 v20
  let c9_i32 : BitVec 32 := 9#32
  let c0_i32_9 : BitVec 32 := 0#32
  let v22 : BitVec 1 := Scalar.cmpi .sgt c9_i32 c0_i32_9
  let v23 : BitVec 32 := Scalar.extui v22
  let c0_i32_10 : BitVec 32 := 0#32
  let v24 : BitVec 1 := Scalar.cmpi .slt c9_i32 c0_i32_10
  let v25 : BitVec 32 := Scalar.extui v24
  let v26 : BitVec 32 := Scalar.subi v23 v25
  let v27 : BitVec 1 := Scalar.cmpi .ne v21 v26
  let v28 : BitVec 32 := Scalar.remsi arg1 c9_i32
  let c0_i32_11 : BitVec 32 := 0#32
  let v29 : BitVec 1 := Scalar.cmpi .ne v28 c0_i32_11
  let v30 : BitVec 1 := Scalar.andi v27 v29
  let v16 : BitVec 32 := Scalar.divsi arg1 c9_i32
  let c1_i32 : BitVec 32 := 1#32
  let v31 : BitVec 32 := Scalar.subi v16 c1_i32
  let v32 : BitVec 32 := Scalar.select v30 v31 v16
  let c9_i32_12 : BitVec 32 := 9#32
  let v33 : BitVec 32 := Scalar.muli v32 c9_i32_12
  let v34 : BitVec 32 := Scalar.subi arg1 v33
  let c512_i32 : BitVec 32 := 512#32
  let v35 : BitVec 32 := Scalar.muli v34 c512_i32
  let c0_i32_29 : BitVec 32 := 0#32
  let v69 : BitVec 32 := Scalar.addi v35 c0_i32_29
  v69
def k0_off1 (i : grid0.Coords) (c0_i32_29 : BitVec 32) : Fin 3 → Nat :=
  let arg1 : BitVec 32 := BitVec.ofNat 32 (i 1).val
  let c0_i32_7 : BitVec 32 := 0#32
  let v17 : BitVec 1 := Scalar.cmpi .sgt arg1 c0_i32_7
  let v18 : BitVec 32 := Scalar.extui v17
  let c0_i32_8 : BitVec 32 := 0#32
  let v19 : BitVec 1 := Scalar.cmpi .slt arg1 c0_i32_8
  let v20 : BitVec 32 := Scalar.extui v19
  let v21 : BitVec 32 := Scalar.subi v18 v20
  let c9_i32 : BitVec 32 := 9#32
  let c0_i32_9 : BitVec 32 := 0#32
  let v22 : BitVec 1 := Scalar.cmpi .sgt c9_i32 c0_i32_9
  let v23 : BitVec 32 := Scalar.extui v22
  let c0_i32_10 : BitVec 32 := 0#32
  let v24 : BitVec 1 := Scalar.cmpi .slt c9_i32 c0_i32_10
  let v25 : BitVec 32 := Scalar.extui v24
  let v26 : BitVec 32 := Scalar.subi v23 v25
  let v27 : BitVec 1 := Scalar.cmpi .ne v21 v26
  let v28 : BitVec 32 := Scalar.remsi arg1 c9_i32
  let c0_i32_11 : BitVec 32 := 0#32
  let v29 : BitVec 1 := Scalar.cmpi .ne v28 c0_i32_11
  let v30 : BitVec 1 := Scalar.andi v27 v29
  let v16 : BitVec 32 := Scalar.divsi arg1 c9_i32
  let c1_i32 : BitVec 32 := 1#32
  let v31 : BitVec 32 := Scalar.subi v16 c1_i32
  let v32 : BitVec 32 := Scalar.select v30 v31 v16
  let v71 : Index := Scalar.indexCast v32
  let c0_30 : Index := 0#32
  let c9_i32_12 : BitVec 32 := 9#32
  let v33 : BitVec 32 := Scalar.muli v32 c9_i32_12
  let v34 : BitVec 32 := Scalar.subi arg1 v33
  let c512_i32 : BitVec 32 := 512#32
  let v35 : BitVec 32 := Scalar.muli v34 c512_i32
  let v69 : BitVec 32 := Scalar.addi v35 c0_i32_29
  let v70 : BitVec 32 := v69
  let v72 : Index := Scalar.indexCast v70
  ![v71.toNat, 0, v72.toNat]
def k0_mult2 (i : grid0.Coords) : BitVec 32 :=
  let arg1 : BitVec 32 := BitVec.ofNat 32 (i 1).val
  let c0_i32_7 : BitVec 32 := 0#32
  let v17 : BitVec 1 := Scalar.cmpi .sgt arg1 c0_i32_7
  let v18 : BitVec 32 := Scalar.extui v17
  let c0_i32_8 : BitVec 32 := 0#32
  let v19 : BitVec 1 := Scalar.cmpi .slt arg1 c0_i32_8
  let v20 : BitVec 32 := Scalar.extui v19
  let v21 : BitVec 32 := Scalar.subi v18 v20
  let c9_i32 : BitVec 32 := 9#32
  let c0_i32_9 : BitVec 32 := 0#32
  let v22 : BitVec 1 := Scalar.cmpi .sgt c9_i32 c0_i32_9
  let v23 : BitVec 32 := Scalar.extui v22
  let c0_i32_10 : BitVec 32 := 0#32
  let v24 : BitVec 1 := Scalar.cmpi .slt c9_i32 c0_i32_10
  let v25 : BitVec 32 := Scalar.extui v24
  let v26 : BitVec 32 := Scalar.subi v23 v25
  let v27 : BitVec 1 := Scalar.cmpi .ne v21 v26
  let v28 : BitVec 32 := Scalar.remsi arg1 c9_i32
  let c0_i32_11 : BitVec 32 := 0#32
  let v29 : BitVec 1 := Scalar.cmpi .ne v28 c0_i32_11
  let v30 : BitVec 1 := Scalar.andi v27 v29
  let v16 : BitVec 32 := Scalar.divsi arg1 c9_i32
  let c1_i32 : BitVec 32 := 1#32
  let v31 : BitVec 32 := Scalar.subi v16 c1_i32
  let v32 : BitVec 32 := Scalar.select v30 v31 v16
  let c9_i32_12 : BitVec 32 := 9#32
  let v33 : BitVec 32 := Scalar.muli v32 c9_i32_12
  let v34 : BitVec 32 := Scalar.subi arg1 v33
  let c512_i32 : BitVec 32 := 512#32
  let v35 : BitVec 32 := Scalar.muli v34 c512_i32
  let c128_i32 : BitVec 32 := 128#32
  let v110 : BitVec 32 := Scalar.addi v35 c128_i32
  v110
def k0_mult3 (i : grid0.Coords) : BitVec 32 :=
  let arg1 : BitVec 32 := BitVec.ofNat 32 (i 1).val
  let c0_i32_7 : BitVec 32 := 0#32
  let v17 : BitVec 1 := Scalar.cmpi .sgt arg1 c0_i32_7
  let v18 : BitVec 32 := Scalar.extui v17
  let c0_i32_8 : BitVec 32 := 0#32
  let v19 : BitVec 1 := Scalar.cmpi .slt arg1 c0_i32_8
  let v20 : BitVec 32 := Scalar.extui v19
  let v21 : BitVec 32 := Scalar.subi v18 v20
  let c9_i32 : BitVec 32 := 9#32
  let c0_i32_9 : BitVec 32 := 0#32
  let v22 : BitVec 1 := Scalar.cmpi .sgt c9_i32 c0_i32_9
  let v23 : BitVec 32 := Scalar.extui v22
  let c0_i32_10 : BitVec 32 := 0#32
  let v24 : BitVec 1 := Scalar.cmpi .slt c9_i32 c0_i32_10
  let v25 : BitVec 32 := Scalar.extui v24
  let v26 : BitVec 32 := Scalar.subi v23 v25
  let v27 : BitVec 1 := Scalar.cmpi .ne v21 v26
  let v28 : BitVec 32 := Scalar.remsi arg1 c9_i32
  let c0_i32_11 : BitVec 32 := 0#32
  let v29 : BitVec 1 := Scalar.cmpi .ne v28 c0_i32_11
  let v30 : BitVec 1 := Scalar.andi v27 v29
  let v16 : BitVec 32 := Scalar.divsi arg1 c9_i32
  let c1_i32 : BitVec 32 := 1#32
  let v31 : BitVec 32 := Scalar.subi v16 c1_i32
  let v32 : BitVec 32 := Scalar.select v30 v31 v16
  let c9_i32_12 : BitVec 32 := 9#32
  let v33 : BitVec 32 := Scalar.muli v32 c9_i32_12
  let v34 : BitVec 32 := Scalar.subi arg1 v33
  let c512_i32 : BitVec 32 := 512#32
  let v35 : BitVec 32 := Scalar.muli v34 c512_i32
  let c0_i32_66 : BitVec 32 := 0#32
  let v156 : BitVec 32 := Scalar.addi v35 c0_i32_66
  v156
def k0_off2 (i : grid0.Coords) (c0_i32_66 : BitVec 32) : Fin 3 → Nat :=
  let arg1 : BitVec 32 := BitVec.ofNat 32 (i 1).val
  let c0_i32_7 : BitVec 32 := 0#32
  let v17 : BitVec 1 := Scalar.cmpi .sgt arg1 c0_i32_7
  let v18 : BitVec 32 := Scalar.extui v17
  let c0_i32_8 : BitVec 32 := 0#32
  let v19 : BitVec 1 := Scalar.cmpi .slt arg1 c0_i32_8
  let v20 : BitVec 32 := Scalar.extui v19
  let v21 : BitVec 32 := Scalar.subi v18 v20
  let c9_i32 : BitVec 32 := 9#32
  let c0_i32_9 : BitVec 32 := 0#32
  let v22 : BitVec 1 := Scalar.cmpi .sgt c9_i32 c0_i32_9
  let v23 : BitVec 32 := Scalar.extui v22
  let c0_i32_10 : BitVec 32 := 0#32
  let v24 : BitVec 1 := Scalar.cmpi .slt c9_i32 c0_i32_10
  let v25 : BitVec 32 := Scalar.extui v24
  let v26 : BitVec 32 := Scalar.subi v23 v25
  let v27 : BitVec 1 := Scalar.cmpi .ne v21 v26
  let v28 : BitVec 32 := Scalar.remsi arg1 c9_i32
  let c0_i32_11 : BitVec 32 := 0#32
  let v29 : BitVec 1 := Scalar.cmpi .ne v28 c0_i32_11
  let v30 : BitVec 1 := Scalar.andi v27 v29
  let v16 : BitVec 32 := Scalar.divsi arg1 c9_i32
  let c1_i32 : BitVec 32 := 1#32
  let v31 : BitVec 32 := Scalar.subi v16 c1_i32
  let v32 : BitVec 32 := Scalar.select v30 v31 v16
  let v158 : Index := Scalar.indexCast v32
  let c320_67 : Index := 320#32
  let c9_i32_12 : BitVec 32 := 9#32
  let v33 : BitVec 32 := Scalar.muli v32 c9_i32_12
  let v34 : BitVec 32 := Scalar.subi arg1 v33
  let c512_i32 : BitVec 32 := 512#32
  let v35 : BitVec 32 := Scalar.muli v34 c512_i32
  let v156 : BitVec 32 := Scalar.addi v35 c0_i32_66
  let v157 : BitVec 32 := v156
  let v159 : Index := Scalar.indexCast v157
  ![v158.toNat, 320, v159.toNat]
def k0_mult4 (i : grid0.Coords) : BitVec 32 :=
  let arg1 : BitVec 32 := BitVec.ofNat 32 (i 1).val
  let c0_i32_7 : BitVec 32 := 0#32
  let v17 : BitVec 1 := Scalar.cmpi .sgt arg1 c0_i32_7
  let v18 : BitVec 32 := Scalar.extui v17
  let c0_i32_8 : BitVec 32 := 0#32
  let v19 : BitVec 1 := Scalar.cmpi .slt arg1 c0_i32_8
  let v20 : BitVec 32 := Scalar.extui v19
  let v21 : BitVec 32 := Scalar.subi v18 v20
  let c9_i32 : BitVec 32 := 9#32
  let c0_i32_9 : BitVec 32 := 0#32
  let v22 : BitVec 1 := Scalar.cmpi .sgt c9_i32 c0_i32_9
  let v23 : BitVec 32 := Scalar.extui v22
  let c0_i32_10 : BitVec 32 := 0#32
  let v24 : BitVec 1 := Scalar.cmpi .slt c9_i32 c0_i32_10
  let v25 : BitVec 32 := Scalar.extui v24
  let v26 : BitVec 32 := Scalar.subi v23 v25
  let v27 : BitVec 1 := Scalar.cmpi .ne v21 v26
  let v28 : BitVec 32 := Scalar.remsi arg1 c9_i32
  let c0_i32_11 : BitVec 32 := 0#32
  let v29 : BitVec 1 := Scalar.cmpi .ne v28 c0_i32_11
  let v30 : BitVec 1 := Scalar.andi v27 v29
  let v16 : BitVec 32 := Scalar.divsi arg1 c9_i32
  let c1_i32 : BitVec 32 := 1#32
  let v31 : BitVec 32 := Scalar.subi v16 c1_i32
  let v32 : BitVec 32 := Scalar.select v30 v31 v16
  let c9_i32_12 : BitVec 32 := 9#32
  let v33 : BitVec 32 := Scalar.muli v32 c9_i32_12
  let v34 : BitVec 32 := Scalar.subi arg1 v33
  let c512_i32 : BitVec 32 := 512#32
  let v35 : BitVec 32 := Scalar.muli v34 c512_i32
  let c128_i32_82 : BitVec 32 := 128#32
  let v197 : BitVec 32 := Scalar.addi v35 c128_i32_82
  v197
def k0_mult5 (i : grid0.Coords) : BitVec 32 :=
  let arg1 : BitVec 32 := BitVec.ofNat 32 (i 1).val
  let c0_i32_7 : BitVec 32 := 0#32
  let v17 : BitVec 1 := Scalar.cmpi .sgt arg1 c0_i32_7
  let v18 : BitVec 32 := Scalar.extui v17
  let c0_i32_8 : BitVec 32 := 0#32
  let v19 : BitVec 1 := Scalar.cmpi .slt arg1 c0_i32_8
  let v20 : BitVec 32 := Scalar.extui v19
  let v21 : BitVec 32 := Scalar.subi v18 v20
  let c9_i32 : BitVec 32 := 9#32
  let c0_i32_9 : BitVec 32 := 0#32
  let v22 : BitVec 1 := Scalar.cmpi .sgt c9_i32 c0_i32_9
  let v23 : BitVec 32 := Scalar.extui v22
  let c0_i32_10 : BitVec 32 := 0#32
  let v24 : BitVec 1 := Scalar.cmpi .slt c9_i32 c0_i32_10
  let v25 : BitVec 32 := Scalar.extui v24
  let v26 : BitVec 32 := Scalar.subi v23 v25
  let v27 : BitVec 1 := Scalar.cmpi .ne v21 v26
  let v28 : BitVec 32 := Scalar.remsi arg1 c9_i32
  let c0_i32_11 : BitVec 32 := 0#32
  let v29 : BitVec 1 := Scalar.cmpi .ne v28 c0_i32_11
  let v30 : BitVec 1 := Scalar.andi v27 v29
  let v16 : BitVec 32 := Scalar.divsi arg1 c9_i32
  let c1_i32 : BitVec 32 := 1#32
  let v31 : BitVec 32 := Scalar.subi v16 c1_i32
  let v32 : BitVec 32 := Scalar.select v30 v31 v16
  let c9_i32_12 : BitVec 32 := 9#32
  let v33 : BitVec 32 := Scalar.muli v32 c9_i32_12
  let v34 : BitVec 32 := Scalar.subi arg1 v33
  let c512_i32 : BitVec 32 := 512#32
  let v35 : BitVec 32 := Scalar.muli v34 c512_i32
  let c256_i32 : BitVec 32 := 256#32
  let v243 : BitVec 32 := Scalar.addi v35 c256_i32
  v243
def k0_mult6 (i : grid0.Coords) : BitVec 32 :=
  let arg1 : BitVec 32 := BitVec.ofNat 32 (i 1).val
  let c0_i32_7 : BitVec 32 := 0#32
  let v17 : BitVec 1 := Scalar.cmpi .sgt arg1 c0_i32_7
  let v18 : BitVec 32 := Scalar.extui v17
  let c0_i32_8 : BitVec 32 := 0#32
  let v19 : BitVec 1 := Scalar.cmpi .slt arg1 c0_i32_8
  let v20 : BitVec 32 := Scalar.extui v19
  let v21 : BitVec 32 := Scalar.subi v18 v20
  let c9_i32 : BitVec 32 := 9#32
  let c0_i32_9 : BitVec 32 := 0#32
  let v22 : BitVec 1 := Scalar.cmpi .sgt c9_i32 c0_i32_9
  let v23 : BitVec 32 := Scalar.extui v22
  let c0_i32_10 : BitVec 32 := 0#32
  let v24 : BitVec 1 := Scalar.cmpi .slt c9_i32 c0_i32_10
  let v25 : BitVec 32 := Scalar.extui v24
  let v26 : BitVec 32 := Scalar.subi v23 v25
  let v27 : BitVec 1 := Scalar.cmpi .ne v21 v26
  let v28 : BitVec 32 := Scalar.remsi arg1 c9_i32
  let c0_i32_11 : BitVec 32 := 0#32
  let v29 : BitVec 1 := Scalar.cmpi .ne v28 c0_i32_11
  let v30 : BitVec 1 := Scalar.andi v27 v29
  let v16 : BitVec 32 := Scalar.divsi arg1 c9_i32
  let c1_i32 : BitVec 32 := 1#32
  let v31 : BitVec 32 := Scalar.subi v16 c1_i32
  let v32 : BitVec 32 := Scalar.select v30 v31 v16
  let c9_i32_12 : BitVec 32 := 9#32
  let v33 : BitVec 32 := Scalar.muli v32 c9_i32_12
  let v34 : BitVec 32 := Scalar.subi arg1 v33
  let c512_i32 : BitVec 32 := 512#32
  let v35 : BitVec 32 := Scalar.muli v34 c512_i32
  let c384_i32 : BitVec 32 := 384#32
  let v284 : BitVec 32 := Scalar.addi v35 c384_i32
  v284
def k0_mult7 (i : grid0.Coords) : BitVec 32 :=
  let arg1 : BitVec 32 := BitVec.ofNat 32 (i 1).val
  let c0_i32_7 : BitVec 32 := 0#32
  let v17 : BitVec 1 := Scalar.cmpi .sgt arg1 c0_i32_7
  let v18 : BitVec 32 := Scalar.extui v17
  let c0_i32_8 : BitVec 32 := 0#32
  let v19 : BitVec 1 := Scalar.cmpi .slt arg1 c0_i32_8
  let v20 : BitVec 32 := Scalar.extui v19
  let v21 : BitVec 32 := Scalar.subi v18 v20
  let c9_i32 : BitVec 32 := 9#32
  let c0_i32_9 : BitVec 32 := 0#32
  let v22 : BitVec 1 := Scalar.cmpi .sgt c9_i32 c0_i32_9
  let v23 : BitVec 32 := Scalar.extui v22
  let c0_i32_10 : BitVec 32 := 0#32
  let v24 : BitVec 1 := Scalar.cmpi .slt c9_i32 c0_i32_10
  let v25 : BitVec 32 := Scalar.extui v24
  let v26 : BitVec 32 := Scalar.subi v23 v25
  let v27 : BitVec 1 := Scalar.cmpi .ne v21 v26
  let v28 : BitVec 32 := Scalar.remsi arg1 c9_i32
  let c0_i32_11 : BitVec 32 := 0#32
  let v29 : BitVec 1 := Scalar.cmpi .ne v28 c0_i32_11
  let v30 : BitVec 1 := Scalar.andi v27 v29
  let v16 : BitVec 32 := Scalar.divsi arg1 c9_i32
  let c1_i32 : BitVec 32 := 1#32
  let v31 : BitVec 32 := Scalar.subi v16 c1_i32
  let v32 : BitVec 32 := Scalar.select v30 v31 v16
  let c9_i32_12 : BitVec 32 := 9#32
  let v33 : BitVec 32 := Scalar.muli v32 c9_i32_12
  let v34 : BitVec 32 := Scalar.subi arg1 v33
  let c512_i32 : BitVec 32 := 512#32
  let v35 : BitVec 32 := Scalar.muli v34 c512_i32
  let c256_i32_142 : BitVec 32 := 256#32
  let v330 : BitVec 32 := Scalar.addi v35 c256_i32_142
  v330
def k0_mult8 (i : grid0.Coords) : BitVec 32 :=
  let arg1 : BitVec 32 := BitVec.ofNat 32 (i 1).val
  let c0_i32_7 : BitVec 32 := 0#32
  let v17 : BitVec 1 := Scalar.cmpi .sgt arg1 c0_i32_7
  let v18 : BitVec 32 := Scalar.extui v17
  let c0_i32_8 : BitVec 32 := 0#32
  let v19 : BitVec 1 := Scalar.cmpi .slt arg1 c0_i32_8
  let v20 : BitVec 32 := Scalar.extui v19
  let v21 : BitVec 32 := Scalar.subi v18 v20
  let c9_i32 : BitVec 32 := 9#32
  let c0_i32_9 : BitVec 32 := 0#32
  let v22 : BitVec 1 := Scalar.cmpi .sgt c9_i32 c0_i32_9
  let v23 : BitVec 32 := Scalar.extui v22
  let c0_i32_10 : BitVec 32 := 0#32
  let v24 : BitVec 1 := Scalar.cmpi .slt c9_i32 c0_i32_10
  let v25 : BitVec 32 := Scalar.extui v24
  let v26 : BitVec 32 := Scalar.subi v23 v25
  let v27 : BitVec 1 := Scalar.cmpi .ne v21 v26
  let v28 : BitVec 32 := Scalar.remsi arg1 c9_i32
  let c0_i32_11 : BitVec 32 := 0#32
  let v29 : BitVec 1 := Scalar.cmpi .ne v28 c0_i32_11
  let v30 : BitVec 1 := Scalar.andi v27 v29
  let v16 : BitVec 32 := Scalar.divsi arg1 c9_i32
  let c1_i32 : BitVec 32 := 1#32
  let v31 : BitVec 32 := Scalar.subi v16 c1_i32
  let v32 : BitVec 32 := Scalar.select v30 v31 v16
  let c9_i32_12 : BitVec 32 := 9#32
  let v33 : BitVec 32 := Scalar.muli v32 c9_i32_12
  let v34 : BitVec 32 := Scalar.subi arg1 v33
  let c512_i32 : BitVec 32 := 512#32
  let v35 : BitVec 32 := Scalar.muli v34 c512_i32
  let c384_i32_158 : BitVec 32 := 384#32
  let v371 : BitVec 32 := Scalar.addi v35 c384_i32_158
  v371
def k0_cond3 (i : grid0.Coords) : BitVec 1 :=
  let arg1 : BitVec 32 := BitVec.ofNat 32 (i 1).val
  let c18_i32_2 : BitVec 32 := 18#32
  let v7 : BitVec 1 := Scalar.cmpi .eq arg1 c18_i32_2
  let v8 : BitVec 32 := Scalar.extui v7
  let c0_i32_3 : BitVec 32 := 0#32
  let v9 : BitVec 1 := Scalar.cmpi .ne v8 c0_i32_3
  v9

@[reducible] def k0_t1_loop : Scf.Loop 32 :=
  let c0_i32_16 : BitVec 32 := 0#32
  let c20_i32 : BitVec 32 := 20#32
  let v37 : BitVec 32 := Scalar.addi c0_i32_16 c20_i32
  let c1_i32 : BitVec 32 := 1#32
  ⟨c0_i32_16, v37, c1_i32⟩
def k0_off3 (k0_t1 : Fin k0_t1_loop.trips) : Fin 2 → Nat :=
  let c0_i32_16 : BitVec 32 := 0#32
  let c1_i32 : BitVec 32 := 1#32
  let arg22 : BitVec 32 := Scf.iv c0_i32_16 c1_i32 k0_t1
  let c32_i32 : BitVec 32 := 32#32
  let v42 : BitVec 32 := Scalar.muli arg22 c32_i32
  let v43 : Index := Scalar.indexCast v42
  let c0_23 : Index := 0#32
  ![v43.toNat, 0]
def k0_off4 (k0_t1 : Fin k0_t1_loop.trips) : Fin 3 → Nat :=
  let c0_24 : Index := 0#32
  let c0_i32_16 : BitVec 32 := 0#32
  let c1_i32 : BitVec 32 := 1#32
  let arg22 : BitVec 32 := Scf.iv c0_i32_16 c1_i32 k0_t1
  let c32_i32 : BitVec 32 := 32#32
  let v42 : BitVec 32 := Scalar.muli arg22 c32_i32
  let v46 : Index := Scalar.indexCast v42
  let c0_25 : Index := 0#32
  ![0, v46.toNat, 0]
def k0_off5 (k0_t1 : Fin k0_t1_loop.trips) : Fin 2 → Nat :=
  let c0_i32_16 : BitVec 32 := 0#32
  let c1_i32 : BitVec 32 := 1#32
  let arg22 : BitVec 32 := Scf.iv c0_i32_16 c1_i32 k0_t1
  let c32_i32 : BitVec 32 := 32#32
  let v42 : BitVec 32 := Scalar.muli arg22 c32_i32
  let v56 : Index := Scalar.indexCast v42
  let c0_28 : Index := 0#32
  ![v56.toNat, 0]
def k0_off6 (k0_t1 : Fin k0_t1_loop.trips) : Fin 3 → Nat :=
  let c1 : Index := 1#32
  let c0_i32_16 : BitVec 32 := 0#32
  let c1_i32 : BitVec 32 := 1#32
  let arg22 : BitVec 32 := Scf.iv c0_i32_16 c1_i32 k0_t1
  let c32_i32 : BitVec 32 := 32#32
  let v42 : BitVec 32 := Scalar.muli arg22 c32_i32
  let v60 : Index := Scalar.indexCast v42
  let c0_29 : Index := 0#32
  ![1, v60.toNat, 0]
def k0_off7 (k0_t1 : Fin k0_t1_loop.trips) : Fin 2 → Nat :=
  let c0_i32_16 : BitVec 32 := 0#32
  let c1_i32 : BitVec 32 := 1#32
  let arg22 : BitVec 32 := Scf.iv c0_i32_16 c1_i32 k0_t1
  let c32_i32 : BitVec 32 := 32#32
  let v42 : BitVec 32 := Scalar.muli arg22 c32_i32
  let v70 : Index := Scalar.indexCast v42
  let c4608 : Index := 4608#32
  ![v70.toNat, 4608]
def k0_off8 (i : grid0.Coords) : Fin 2 → Nat :=
  let arg0 : BitVec 32 := BitVec.ofNat 32 (i 0).val
  let c640_i32 : BitVec 32 := 640#32
  let v0 : BitVec 32 := Scalar.muli arg0 c640_i32
  let c0_i32_18 : BitVec 32 := 0#32
  ![v0.toNat, 0]
def k0_off9 (i : grid0.Coords) : Fin 2 → Nat :=
  let arg0 : BitVec 32 := BitVec.ofNat 32 (i 0).val
  let c640_i32 : BitVec 32 := 640#32
  let v0 : BitVec 32 := Scalar.muli arg0 c640_i32
  let c0_i32_22 : BitVec 32 := 0#32
  ![v0.toNat, 0]
def k0_cond4 (i : grid0.Coords) : BitVec 1 :=
  let arg1 : BitVec 32 := BitVec.ofNat 32 (i 1).val
  let c18_i32_4 : BitVec 32 := 18#32
  let v10 : BitVec 1 := Scalar.cmpi .sge arg1 c18_i32_4
  let v11 : BitVec 32 := Scalar.extui v10
  let c0_i32_5 : BitVec 32 := 0#32
  let v12 : BitVec 1 := Scalar.cmpi .ne v11 c0_i32_5
  v12

def k0_mult9 (i : grid0.Coords) : BitVec 32 :=
  let arg1 : BitVec 32 := BitVec.ofNat 32 (i 1).val
  let c18_i32_7 : BitVec 32 := 18#32
  let v16 : BitVec 32 := Scalar.subi arg1 c18_i32_7
  let c512_i32 : BitVec 32 := 512#32
  let v17 : BitVec 32 := Scalar.muli v16 c512_i32
  let c0_i32_15 : BitVec 32 := 0#32
  let v28 : BitVec 32 := Scalar.addi v17 c0_i32_15
  v28
def k0_off10 (i : grid0.Coords) (c0_i32_15 : BitVec 32) : Fin 3 → Nat :=
  let c0_16 : Index := 0#32
  let c0_17 : Index := 0#32
  let arg1 : BitVec 32 := BitVec.ofNat 32 (i 1).val
  let c18_i32_7 : BitVec 32 := 18#32
  let v16 : BitVec 32 := Scalar.subi arg1 c18_i32_7
  let c512_i32 : BitVec 32 := 512#32
  let v17 : BitVec 32 := Scalar.muli v16 c512_i32
  let v28 : BitVec 32 := Scalar.addi v17 c0_i32_15
  let v29 : BitVec 32 := v28
  let v30 : Index := Scalar.indexCast v29
  ![0, 0, v30.toNat]
def k0_mult10 (i : grid0.Coords) : BitVec 32 :=
  let arg1 : BitVec 32 := BitVec.ofNat 32 (i 1).val
  let c18_i32_7 : BitVec 32 := 18#32
  let v16 : BitVec 32 := Scalar.subi arg1 c18_i32_7
  let c512_i32 : BitVec 32 := 512#32
  let v17 : BitVec 32 := Scalar.muli v16 c512_i32
  let c128_i32 : BitVec 32 := 128#32
  let v41 : BitVec 32 := Scalar.addi v17 c128_i32
  v41
def k0_mult11 (i : grid0.Coords) : BitVec 32 :=
  let arg1 : BitVec 32 := BitVec.ofNat 32 (i 1).val
  let c18_i32_7 : BitVec 32 := 18#32
  let v16 : BitVec 32 := Scalar.subi arg1 c18_i32_7
  let c512_i32 : BitVec 32 := 512#32
  let v17 : BitVec 32 := Scalar.muli v16 c512_i32
  let c0_i32_31 : BitVec 32 := 0#32
  let v57 : BitVec 32 := Scalar.addi v17 c0_i32_31
  v57
def k0_off11 (i : grid0.Coords) (c0_i32_31 : BitVec 32) : Fin 3 → Nat :=
  let c0_32 : Index := 0#32
  let c320_33 : Index := 320#32
  let arg1 : BitVec 32 := BitVec.ofNat 32 (i 1).val
  let c18_i32_7 : BitVec 32 := 18#32
  let v16 : BitVec 32 := Scalar.subi arg1 c18_i32_7
  let c512_i32 : BitVec 32 := 512#32
  let v17 : BitVec 32 := Scalar.muli v16 c512_i32
  let v57 : BitVec 32 := Scalar.addi v17 c0_i32_31
  let v58 : BitVec 32 := v57
  let v59 : Index := Scalar.indexCast v58
  ![0, 320, v59.toNat]
def k0_mult12 (i : grid0.Coords) : BitVec 32 :=
  let arg1 : BitVec 32 := BitVec.ofNat 32 (i 1).val
  let c18_i32_7 : BitVec 32 := 18#32
  let v16 : BitVec 32 := Scalar.subi arg1 c18_i32_7
  let c512_i32 : BitVec 32 := 512#32
  let v17 : BitVec 32 := Scalar.muli v16 c512_i32
  let c128_i32_38 : BitVec 32 := 128#32
  let v70 : BitVec 32 := Scalar.addi v17 c128_i32_38
  v70
def k0_mult13 (i : grid0.Coords) : BitVec 32 :=
  let arg1 : BitVec 32 := BitVec.ofNat 32 (i 1).val
  let c18_i32_7 : BitVec 32 := 18#32
  let v16 : BitVec 32 := Scalar.subi arg1 c18_i32_7
  let c512_i32 : BitVec 32 := 512#32
  let v17 : BitVec 32 := Scalar.muli v16 c512_i32
  let c256_i32 : BitVec 32 := 256#32
  let v86 : BitVec 32 := Scalar.addi v17 c256_i32
  v86
def k0_mult14 (i : grid0.Coords) : BitVec 32 :=
  let arg1 : BitVec 32 := BitVec.ofNat 32 (i 1).val
  let c18_i32_7 : BitVec 32 := 18#32
  let v16 : BitVec 32 := Scalar.subi arg1 c18_i32_7
  let c512_i32 : BitVec 32 := 512#32
  let v17 : BitVec 32 := Scalar.muli v16 c512_i32
  let c384_i32 : BitVec 32 := 384#32
  let v99 : BitVec 32 := Scalar.addi v17 c384_i32
  v99
def k0_mult15 (i : grid0.Coords) : BitVec 32 :=
  let arg1 : BitVec 32 := BitVec.ofNat 32 (i 1).val
  let c18_i32_7 : BitVec 32 := 18#32
  let v16 : BitVec 32 := Scalar.subi arg1 c18_i32_7
  let c512_i32 : BitVec 32 := 512#32
  let v17 : BitVec 32 := Scalar.muli v16 c512_i32
  let c256_i32_65 : BitVec 32 := 256#32
  let v115 : BitVec 32 := Scalar.addi v17 c256_i32_65
  v115
def k0_mult16 (i : grid0.Coords) : BitVec 32 :=
  let arg1 : BitVec 32 := BitVec.ofNat 32 (i 1).val
  let c18_i32_7 : BitVec 32 := 18#32
  let v16 : BitVec 32 := Scalar.subi arg1 c18_i32_7
  let c512_i32 : BitVec 32 := 512#32
  let v17 : BitVec 32 := Scalar.muli v16 c512_i32
  let c384_i32_72 : BitVec 32 := 384#32
  let v128 : BitVec 32 := Scalar.addi v17 c384_i32_72
  v128
def k0_cond5 (i : grid0.Coords) : BitVec 1 :=
  let arg1 : BitVec 32 := BitVec.ofNat 32 (i 1).val
  let c26_i32 : BitVec 32 := 26#32
  let v13 : BitVec 1 := Scalar.cmpi .eq arg1 c26_i32
  let v14 : BitVec 32 := Scalar.extui v13
  let c0_i32_6 : BitVec 32 := 0#32
  let v15 : BitVec 1 := Scalar.cmpi .ne v14 c0_i32_6
  v15

def k0_off12 (i : grid0.Coords) : Fin 2 → Nat :=
  let arg0 : BitVec 32 := BitVec.ofNat 32 (i 0).val
  let c640_i32 : BitVec 32 := 640#32
  let v0 : BitVec 32 := Scalar.muli arg0 c640_i32
  let c0_i32_9 : BitVec 32 := 0#32
  ![v0.toNat, 0]
def k0_off13 (i : grid0.Coords) : Fin 2 → Nat :=
  let arg0 : BitVec 32 := BitVec.ofNat 32 (i 0).val
  let c640_i32 : BitVec 32 := 640#32
  let v0 : BitVec 32 := Scalar.muli arg0 c640_i32
  let c0_i32_10 : BitVec 32 := 0#32
  ![v0.toNat, 0]
@[reducible] def k0_t2_loop : Scf.Loop 32 :=
  let c0_i32_12 : BitVec 32 := 0#32
  let c20_i32 : BitVec 32 := 20#32
  let v24 : BitVec 32 := Scalar.addi c0_i32_12 c20_i32
  let c1_i32_13 : BitVec 32 := 1#32
  ⟨c0_i32_12, v24, c1_i32_13⟩
def k0_cond6 (k0_t2 : Fin k0_t2_loop.trips) : BitVec 1 :=
  let c0_i32_12 : BitVec 32 := 0#32
  let c1_i32_13 : BitVec 32 := 1#32
  let arg22 : BitVec 32 := Scf.iv c0_i32_12 c1_i32_13 k0_t2
  let c2_i32_25 : BitVec 32 := 2#32
  let v39 : BitVec 1 := Scalar.cmpi .sge arg22 c2_i32_25
  let v40 : BitVec 32 := Scalar.extui v39
  let c0_i32_26 : BitVec 32 := 0#32
  let v41 : BitVec 1 := Scalar.cmpi .ne v40 c0_i32_26
  v41

def k0_off14 (k0_t2 : Fin k0_t2_loop.trips) : Fin 1 → Nat :=
  let c0_i32_12 : BitVec 32 := 0#32
  let c1_i32_13 : BitVec 32 := 1#32
  let arg22 : BitVec 32 := Scf.iv c0_i32_12 c1_i32_13 k0_t2
  let c2_i32 : BitVec 32 := 2#32
  let v37 : BitVec 32 := Scalar.remsi arg22 c2_i32
  ![v37.toNat]
def k0_off15 (i : grid0.Coords) (k0_t2 : Fin k0_t2_loop.trips) : Fin 2 → Nat :=
  let arg0 : BitVec 32 := BitVec.ofNat 32 (i 0).val
  let c640_i32 : BitVec 32 := 640#32
  let v0 : BitVec 32 := Scalar.muli arg0 c640_i32
  let c0_i32_12 : BitVec 32 := 0#32
  let c1_i32_13 : BitVec 32 := 1#32
  let arg22 : BitVec 32 := Scf.iv c0_i32_12 c1_i32_13 k0_t2
  let c2_i32_39 : BitVec 32 := 2#32
  let v73 : BitVec 32 := Scalar.subi arg22 c2_i32_39
  let c32_i32_40 : BitVec 32 := 32#32
  let v74 : BitVec 32 := Scalar.muli v73 c32_i32_40
  let v75 : BitVec 32 := Scalar.addi v0 v74
  let c0_i32_41 : BitVec 32 := 0#32
  ![v75.toNat, 0]
def k0_off16 (k0_t2 : Fin k0_t2_loop.trips) : Fin 3 → Nat :=
  let c0_i32_12 : BitVec 32 := 0#32
  let c1_i32_13 : BitVec 32 := 1#32
  let arg22 : BitVec 32 := Scf.iv c0_i32_12 c1_i32_13 k0_t2
  let c2_i32 : BitVec 32 := 2#32
  let v37 : BitVec 32 := Scalar.remsi arg22 c2_i32
  let c0_i32_42 : BitVec 32 := 0#32
  let c0_i32_43 : BitVec 32 := 0#32
  ![v37.toNat, 0, 0]
def k0_off17 (k0_t2 : Fin k0_t2_loop.trips) : Fin 3 → Nat :=
  let c1 : Index := 1#32
  let c0_i32_12 : BitVec 32 := 0#32
  let c1_i32_13 : BitVec 32 := 1#32
  let arg22 : BitVec 32 := Scf.iv c0_i32_12 c1_i32_13 k0_t2
  let c32_i32 : BitVec 32 := 32#32
  let v38 : BitVec 32 := Scalar.muli arg22 c32_i32
  let v42 : Index := Scalar.indexCast v38
  let c0_27 : Index := 0#32
  ![1, v42.toNat, 0]
def k0_off18 (k0_t2 : Fin k0_t2_loop.trips) : Fin 3 → Nat :=
  let c0_28 : Index := 0#32
  let c0_i32_12 : BitVec 32 := 0#32
  let c1_i32_13 : BitVec 32 := 1#32
  let arg22 : BitVec 32 := Scf.iv c0_i32_12 c1_i32_13 k0_t2
  let c32_i32 : BitVec 32 := 32#32
  let v38 : BitVec 32 := Scalar.muli arg22 c32_i32
  let v45 : Index := Scalar.indexCast v38
  let c0_29 : Index := 0#32
  ![0, v45.toNat, 0]
def k0_off19 (k0_t2 : Fin k0_t2_loop.trips) : Fin 3 → Nat :=
  let c0_i32_12 : BitVec 32 := 0#32
  let c1_i32_13 : BitVec 32 := 1#32
  let arg22 : BitVec 32 := Scf.iv c0_i32_12 c1_i32_13 k0_t2
  let c2_i32 : BitVec 32 := 2#32
  let v37 : BitVec 32 := Scalar.remsi arg22 c2_i32
  let v62 : Index := Scalar.indexCast v37
  let c0_33 : Index := 0#32
  let c0_34 : Index := 0#32
  ![v62.toNat, 0, 0]
def k0_off20 (k0_t2 : Fin k0_t2_loop.trips) : Fin 1 → Nat :=
  let c0_i32_12 : BitVec 32 := 0#32
  let c1_i32_13 : BitVec 32 := 1#32
  let arg22 : BitVec 32 := Scf.iv c0_i32_12 c1_i32_13 k0_t2
  let c2_i32 : BitVec 32 := 2#32
  let v37 : BitVec 32 := Scalar.remsi arg22 c2_i32
  ![v37.toNat]
def k0_off21 (i : grid0.Coords) (k0_t2 : Fin k0_t2_loop.trips) : Fin 2 → Nat :=
  let arg0 : BitVec 32 := BitVec.ofNat 32 (i 0).val
  let c640_i32 : BitVec 32 := 640#32
  let v0 : BitVec 32 := Scalar.muli arg0 c640_i32
  let c0_i32_12 : BitVec 32 := 0#32
  let c1_i32_13 : BitVec 32 := 1#32
  let arg22 : BitVec 32 := Scf.iv c0_i32_12 c1_i32_13 k0_t2
  let c32_i32_35 : BitVec 32 := 32#32
  let v66 : BitVec 32 := Scalar.muli arg22 c32_i32_35
  let v67 : BitVec 32 := Scalar.addi v0 v66
  let c0_i32_36 : BitVec 32 := 0#32
  ![v67.toNat, 0]
def k0_off22 (k0_t2 : Fin k0_t2_loop.trips) : Fin 3 → Nat :=
  let c0_i32_12 : BitVec 32 := 0#32
  let c1_i32_13 : BitVec 32 := 1#32
  let arg22 : BitVec 32 := Scf.iv c0_i32_12 c1_i32_13 k0_t2
  let c2_i32 : BitVec 32 := 2#32
  let v37 : BitVec 32 := Scalar.remsi arg22 c2_i32
  let c0_i32_37 : BitVec 32 := 0#32
  let c0_i32_38 : BitVec 32 := 0#32
  ![v37.toNat, 0, 0]
def k0_off23 (i : grid0.Coords) (c576_i32 : BitVec 32) : Fin 2 → Nat :=
  let arg0 : BitVec 32 := BitVec.ofNat 32 (i 0).val
  let c640_i32 : BitVec 32 := 640#32
  let v0 : BitVec 32 := Scalar.muli arg0 c640_i32
  let v25 : BitVec 32 := Scalar.addi v0 c576_i32
  let c0_i32_17 : BitVec 32 := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.minsi arg1 c17_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.minsi arg1 c17_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.minsi arg1 c17_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.minsi arg1 c17_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .sge arg1 c9_i32
  let c18_i32 : BitVec 32 := 18#32
  let v1 : BitVec 32 := Scalar.subi arg1 c18_i32
  let c0_i32 : BitVec 32 := 0#32
  let v2 : BitVec 32 := Scalar.maxsi v1 c0_i32
  let c0_i32_0 : BitVec 32 := 0#32
  let v3 : BitVec 1 := Scalar.cmpi .eq arg0 c0_i32_0
  let c0_i32_1 : BitVec 32 := 0#32
  let c8_i32 : BitVec 32 := 8#32
  let v4 : BitVec 32 := Scalar.select v3 c0_i32_1 c8_i32
  let v5 : BitVec 32 := Scalar.select v0 v2 v4
  let c0_i32_2 : BitVec 32 := 0#32
  let c0_i32_3 : BitVec 32 := 0#32
  ![c0_i32_2.toNat, v5.toNat]

def cc0_transform_7 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .sge arg1 c9_i32
  let c18_i32 : BitVec 32 := 18#32
  let v1 : BitVec 32 := Scalar.subi arg1 c18_i32
  let c0_i32 : BitVec 32 := 0#32
  let v2 : BitVec 32 := Scalar.maxsi v1 c0_i32
  let c0_i32_0 : BitVec 32 := 0#32
  let v3 : BitVec 1 := Scalar.cmpi .eq arg0 c0_i32_0
  let c0_i32_1 : BitVec 32 := 0#32
  let c8_i32 : BitVec 32 := 8#32
  let v4 : BitVec 32 := Scalar.select v3 c0_i32_1 c8_i32
  let v5 : BitVec 32 := Scalar.select v0 v2 v4
  let c0_i32_2 : BitVec 32 := 0#32
  let c0_i32_3 : BitVec 32 := 0#32
  ![c0_i32_2.toNat, v5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S640x4608 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4608x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4608x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S9216x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x4608 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S1920x4608 : Shape := ⟨2, ![1920, 4608]⟩
abbrev S1920 : Shape := ⟨1, ![1920]⟩
abbrev S4608x9216 : Shape := ⟨2, ![4608, 9216]⟩
abbrev S9216 : Shape := ⟨1, ![9216]⟩
abbrev S9216x4608 : Shape := ⟨2, ![9216, 4608]⟩
abbrev S4608 : Shape := ⟨1, ![4608]⟩
abbrev S1920x1 : Shape := ⟨2, ![1920, 1]⟩
abbrev S1x9216 : Shape := ⟨2, ![1, 9216]⟩
abbrev S1x4608 : Shape := ⟨2, ![1, 4608]⟩
abbrev S1920x9216 : Shape := ⟨2, ![1920, 9216]⟩
abbrev S3x1x640 : Shape := ⟨3, ![3, 1, 640]⟩

abbrev nBuf : Space → Nat
  | .hbm => 18
  | .vmem => 13
  | .smem => 0
  | _ => 0

abbrev bufTy : (tb : Table) → Fin (tcTables nBuf tb) → BufTy
  | .hbm, ⟨0, _⟩ => ⟨S1920x4608, .fp8e4m3⟩
  | .hbm, ⟨1, _⟩ => ⟨S1920, .f32⟩
  | .hbm, ⟨2, _⟩ => ⟨S4608x9216, .fp8e4m3⟩
  | .hbm, ⟨3, _⟩ => ⟨S9216, .f32⟩
  | .hbm, ⟨4, _⟩ => ⟨S4608x9216, .fp8e4m3⟩
  | .hbm, ⟨5, _⟩ => ⟨S9216, .f32⟩
  | .hbm, ⟨6, _⟩ => ⟨S9216x4608, .fp8e4m3⟩
  | .hbm, ⟨7, _⟩ => ⟨S4608, .f32⟩
  | .hbm, ⟨8, _⟩ => ⟨S4608, .f32⟩
  | .hbm, ⟨9, _⟩ => ⟨S1920x4608, .f32⟩
  | .hbm, ⟨10, _⟩ => ⟨S1920x1, .f32⟩
  | .hbm, ⟨11, _⟩ => ⟨S1x9216, .f32⟩
  | .hbm, ⟨12, _⟩ => ⟨S1x9216, .f32⟩
  | .hbm, ⟨13, _⟩ => ⟨S1x4608, .f32⟩
  | .hbm, ⟨14, _⟩ => ⟨S1x4608, .f32⟩
  | .hbm, ⟨15, _⟩ => ⟨S1920x4608, .bf16⟩
  | .hbm, ⟨16, _⟩ => ⟨S1920x9216, .fp8e4m3⟩
  | .hbm, ⟨17, _⟩ => ⟨S3x1x640, .f32⟩
  | .local _ .vmem, ⟨0, _⟩ => ⟨S1920x4608, .fp8e4m3⟩
  | .local _ .vmem, ⟨1, _⟩ => ⟨S1920x1, .f32⟩
  | .local _ .vmem, ⟨2, _⟩ => ⟨S4608x9216, .fp8e4m3⟩
  | .local _ .vmem, ⟨3, _⟩ => ⟨S1x9216, .f32⟩
  | .local _ .vmem, ⟨4, _⟩ => ⟨S4608x9216, .fp8e4m3⟩
  | .local _ .vmem, ⟨5, _⟩ => ⟨S1x9216, .f32⟩
  | .local _ .vmem, ⟨6, _⟩ => ⟨S9216x4608, .fp8e4m3⟩
  | .local _ .vmem, ⟨7, _⟩ => ⟨S1x4608, .f32⟩
  | .local _ .vmem, ⟨8, _⟩ => ⟨S1x4608, .f32⟩
  | .local _ .vmem, ⟨9, _⟩ => ⟨S1920x4608, .f32⟩
  | .local _ .vmem, ⟨10, _⟩ => ⟨S1920x4608, .bf16⟩
  | .local _ .vmem, ⟨11, _⟩ => ⟨S1920x9216, .fp8e4m3⟩
  | .local _ .vmem, ⟨12, _⟩ => ⟨S3x1x640, .f32⟩
  | _, _ => ⟨S1920x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1920x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x9216 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x9216 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x4608 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4608 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4608 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1920x4608 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1920x4608 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1920x9216 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x1x640 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Base.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The operands left in HBM (`h1`, and the results `out` and `c4` the body's copies write) and the scratch buffers. -/
abbrev hbM11 : Memref sig .tc .hbm S1920x4608 .f32 := Memref.whole main_arg9
abbrev hbM12 : Memref sig .tc .hbm S1920x4608 .bf16 := Memref.whole main_v6_0
abbrev hbM13 : Memref sig .tc .hbm S1920x9216 .fp8e4m3 := Memref.whole main_v6_1
abbrev scM15 : Memref sig .tc .vmem S2x640x4608 .f32 := Memref.whole cc0_scratch0
abbrev scM16 : Memref sig .tc .vmem S640x9216 .fp8e4m3 := Memref.whole cc0_scratch1
abbrev scM17 : Memref sig .tc .vmem S640x128 .f32 := Memref.whole cc0_scratch2
abbrev scM18 : Memref sig .tc .vmem S2x32x4608 .bf16 := Memref.whole cc0_scratch3
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev ownPt (c : Dev nD) {sp : Space} {S : Shape} {e : EltTy} (M : Memref sig .tc sp S e) (f : HbBuf (F := F) c M) : sProp 𝕄 :=
  M.view.loc (c : Thread nD τ) ↦[M.view.set]{fullShare} f
/-- The elements of `M` at a share. -/
abbrev ownQ (c : Dev nD) {sp : Space} {S : Shape} {e : EltTy} (M : Memref sig .tc sp S e) (q : PosShare TreeShare) (f : HbBuf (F := F) c M) : sProp 𝕄 :=
  M.view.loc (c : Thread nD τ) ↦[M.view.set]{q} f
/-- The second slot of the activation scratch, where `h1`'s rows land. -/
abbrev slot1 : Memref sig .tc .vmem S640x4608 .f32 :=
  (scM15.slice (Rect.unit (s := S2x640x4608) ![1, 0, 0] S1x640x4608.size inb_S2x640x4608_S1x640x4608_1_0_0) (fun _ => rfl)).squeeze S640x4608 squeezes_S1x640x4608_S640x4608
/-- The activation scratch but for its second slot. -/
abbrev ownAct0 (c : Dev nD) (f : HbBuf (F := F) c scM15) : sProp 𝕄 :=
  scM15.view.loc (c : Thread nD τ) ↦[scM15.view.set \ slot1.view.set]{fullShare} f
/-- The rows of one block of 640 in `h1`, and in `c4`. -/
theorem rows_inb11 (b : Fin 3) : ∀ a, (![640 * b.val, 0] : Fin 2 → ℕ) a + S640x4608.size a ≤ S1920x4608.size a := by revert b; decide +kernel
theorem rows_inb13 (b : Fin 3) : ∀ a, (![640 * b.val, 0] : Fin 2 → ℕ) a + S640x9216.size a ≤ S1920x9216.size a := by revert b; decide +kernel
abbrev win11 (b : Fin 3) : Memref sig .tc .hbm S640x4608 .f32 := hbM11.slice (Rect.unit (s := S1920x4608) ![640 * b.val, 0] S640x4608.size (rows_inb11 b)) (fun _ => rfl)
abbrev win13 (b : Fin 3) : Memref sig .tc .hbm S640x9216 .fp8e4m3 := hbM13.slice (Rect.unit (s := S1920x9216) ![640 * b.val, 0] S640x9216.size (rows_inb13 b)) (fun _ => rfl)
/-- The two copies in flight across the down phase: the codes' out, and `h1`'s rows in. -/
abbrev flight20 (c : Dev nD) (b : Fin 3) (f13 : HbBuf (F := F) c hbM13) (f16 : HbBuf (F := F) c scM16) : sProp 𝕄 :=
  Transfers.Flight (countersEmb (U := Pipeline.UD sig nD τ)) (c : Thread nD τ) (SemLoc.dma (sig := sig) cc0_scratch5.sem) () 184320
    iprop((hbM13.view.loc (c : Thread nD τ) ↦[(hbM13.slice (Rect.unit (s := S1920x9216) ![640 * b.val, 0] S640x9216.size (rows_inb13 b)) (fun _ => rfl) : Memref sig .tc .hbm S640x9216 .fp8e4m3).view.set]{fullShare} f13) ∗ (scM16.view.loc (c : Thread nD τ) ↦[scM16.view.set]{fullShare.right} f16))
abbrev flight19 (c : Dev nD) (b : Fin 3) (f15 : HbBuf (F := F) c scM15) (f11 : HbBuf (F := F) c hbM11) : sProp 𝕄 :=
  Transfers.Flight (countersEmb (U := Pipeline.UD sig nD τ)) (c : Thread nD τ) (SemLoc.dma (sig := sig) cc0_scratch4.sem) () 368640
    iprop((scM15.view.loc (c : Thread nD τ) ↦[((scM15.slice (Rect.unit (s := S2x640x4608) ![1, 0, 0] S1x640x4608.size inb_S2x640x4608_S1x640x4608_1_0_0) (fun _ => rfl)).squeeze S640x4608 squeezes_S1x640x4608_S640x4608 : Memref sig .tc .vmem S640x4608 .f32).view.set]{fullShare} f15) ∗ (hbM11.view.loc (c : Thread nD τ) ↦[(hbM11.slice (Rect.unit (s := S1920x4608) ![640 * b.val, 0] S640x4608.size (rows_inb11 b)) (fun _ => rfl) : Memref sig .tc .hbm S640x4608 .f32).view.set]{fullShare} f11))
/-- What the copies leave of `c4` and of `h1`. -/
abbrev rest13 (c : Dev nD) (b : Fin 3) (f : HbBuf (F := F) c hbM13) : sProp 𝕄 :=
  hbM13.view.loc (c : Thread nD τ) ↦[hbM13.view.set \ (hbM13.slice (Rect.unit (s := S1920x9216) ![640 * b.val, 0] S640x9216.size (rows_inb13 b)) (fun _ => rfl) : Memref sig .tc .hbm S640x9216 .fp8e4m3).view.set]{fullShare} f
abbrev rest11 (c : Dev nD) (b : Fin 3) (f : HbBuf (F := F) c hbM11) : sProp 𝕄 :=
  hbM11.view.loc (c : Thread nD τ) ↦[hbM11.view.set \ (hbM11.slice (Rect.unit (s := S1920x4608) ![640 * b.val, 0] S640x4608.size (rows_inb11 b)) (fun _ => rfl) : Memref sig .tc .hbm S640x4608 .f32).view.set]{fullShare} f
abbrev cell19 (c : Dev nD) : sProp 𝕄 := semVal ((c : Thread nD τ), SemLoc.dma (sig := sig) cc0_scratch4.sem) 0
abbrev cell20 (c : Dev nD) : sProp 𝕄 := semVal ((c : Thread nD τ), SemLoc.dma (sig := sig) cc0_scratch5.sem) 0

/-- The first guard of the body as printed: the step is 0. -/
abbrev cond1 (i : grid0.Coords) : BitVec 1 := Scalar.cmpi .ne (Scalar.extui (Scalar.cmpi .eq (BitVec.ofNat 32 (i 1).val) 0#32) : BitVec 32) 0#32

/-! The rows the stores of the two phases address, in closed form. -/
theorem off1_eq : ∀ i : grid0.Coords, ∀ r : Fin 4, k0_off1 i (BitVec.ofNat 32 (128 * r.val)) = ![(i 1).val / 9, 0, 512 * ((i 1).val % 9) + 128 * r.val] := by decide +kernel
theorem off2_eq : ∀ i : grid0.Coords, ∀ r : Fin 4, k0_off2 i (BitVec.ofNat 32 (128 * r.val)) = ![(i 1).val / 9, 320, 512 * ((i 1).val % 9) + 128 * r.val] := by decide +kernel
theorem off10_eq : ∀ i : grid0.Coords, 18 ≤ (i 1).val → ∀ r : Fin 4, k0_off10 i (BitVec.ofNat 32 (128 * r.val)) = ![0, 0, 512 * ((i 1).val - 18) + 128 * r.val] := by decide +kernel
theorem off11_eq : ∀ i : grid0.Coords, 18 ≤ (i 1).val → ∀ r : Fin 4, k0_off11 i (BitVec.ofNat 32 (128 * r.val)) = ![0, 320, 512 * ((i 1).val - 18) + 128 * r.val] := by decide +kernel
instance closedOff1_0 (i : grid0.Coords) : ClosedOff (k0_off1 i 0#32) := ⟨![(i 1).val / 9, 0, 512 * ((i 1).val % 9) + 0], off1_eq i 0⟩
instance closedOff1_1 (i : grid0.Coords) : ClosedOff (k0_off1 i 128#32) := ⟨![(i 1).val / 9, 0, 512 * ((i 1).val % 9) + 128], off1_eq i 1⟩
instance closedOff1_2 (i : grid0.Coords) : ClosedOff (k0_off1 i 256#32) := ⟨![(i 1).val / 9, 0, 512 * ((i 1).val % 9) + 256], off1_eq i 2⟩
instance closedOff1_3 (i : grid0.Coords) : ClosedOff (k0_off1 i 384#32) := ⟨![(i 1).val / 9, 0, 512 * ((i 1).val % 9) + 384], off1_eq i 3⟩
instance closedOff2_0 (i : grid0.Coords) : ClosedOff (k0_off2 i 0#32) := ⟨![(i 1).val / 9, 320, 512 * ((i 1).val % 9) + 0], off2_eq i 0⟩
instance closedOff2_1 (i : grid0.Coords) : ClosedOff (k0_off2 i 128#32) := ⟨![(i 1).val / 9, 320, 512 * ((i 1).val % 9) + 128], off2_eq i 1⟩
instance closedOff2_2 (i : grid0.Coords) : ClosedOff (k0_off2 i 256#32) := ⟨![(i 1).val / 9, 320, 512 * ((i 1).val % 9) + 256], off2_eq i 2⟩
instance closedOff2_3 (i : grid0.Coords) : ClosedOff (k0_off2 i 384#32) := ⟨![(i 1).val / 9, 320, 512 * ((i 1).val % 9) + 384], off2_eq i 3⟩

theorem cond1_iff : ∀ i : grid0.Coords, cond1 i = 1#1 ↔ (i 1).val = 0 := by decide +kernel
theorem cond2_iff : ∀ i : grid0.Coords, k0_cond2 i = 1#1 ↔ (i 1).val < 18 := by decide +kernel
theorem cond3_iff : ∀ i : grid0.Coords, k0_cond3 i = 1#1 ↔ (i 1).val = 18 := by decide +kernel
theorem cond4_iff : ∀ i : grid0.Coords, k0_cond4 i = 1#1 ↔ 18 ≤ (i 1).val := by decide +kernel
theorem cond5_iff : ∀ i : grid0.Coords, k0_cond5 i = 1#1 ↔ (i 1).val = 26 := by decide +kernel
theorem cond6_iff : ∀ k : Fin k0_t2_loop.trips, k0_cond6 k = 1#1 ↔ 2 ≤ k.val := by decide +kernel
theorem trips1 : k0_t1_loop.trips = 20 := by decide +kernel
theorem trips2 : k0_t2_loop.trips = 20 := by decide +kernel

end Cert.Proof.Kernel

end
-- ==== Proof.Up.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.Base

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- A point of the up phase after the first one. -/
noncomputable def runUp (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f2 : HbBuf (F := F) c arg2) (f3 : HbBuf (F := F) c arg3) (f4 : HbBuf (F := F) c arg4) (f5 : HbBuf (F := F) c arg5) (f6 : HbBuf (F := F) c arg6) (f7 : HbBuf (F := F) c arg7)
    (f15 : HbBuf (F := F) c scM15) (f17 : HbBuf (F := F) c scM17)
    (h1 : ¬ cond1 i = 1#1) (h2 : k0_cond2 i = 1#1) (h3 : ¬ k0_cond3 i = 1#1) (h4 : ¬ k0_cond4 i = 1#1) (h5 : ¬ k0_cond5 i = 1#1) :
    { L : List (View.Piece (Elt F) S2x640x4608 .f32) × List (View.Piece (Elt F) S640x128 .f32) //
      ∀ (K : PUnit → sProp 𝕄),
        iprop((arg2.view.loc (c : Thread nD τ) ↦[arg2.view.set]{fullShare} f2)
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (arg6.view.loc (c : Thread nD τ) ↦[arg6.view.set]{fullShare} f6)
            ∗ (arg7.view.loc (c : Thread nD τ) ↦[arg7.view.set]{fullShare} f7)
            ∗ ownPt c scM15 f15 ∗ ownPt c scM17 f17
            ∗ (iprop((arg2.view.loc (c : Thread nD τ) ↦[arg2.view.set]{fullShare} f2)
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (arg6.view.loc (c : Thread nD τ) ↦[arg6.view.set]{fullShare} f6)
            ∗ (arg7.view.loc (c : Thread nD τ) ↦[arg7.view.set]{fullShare} f7)
                ∗ ownPt c scM15 (scM15.view.writes (Elt F) f15 L.1) ∗ ownPt c scM17 (scM17.view.writes (Elt F) f17 L.2)) -∗ K ⟨⟩))
          ⊢ wp frame (wpE (defs₀ (F := F)) Variants.none c none) Set.univ
              (cc0_ffn i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6) K } := by
  refine ⟨(?_, ?_), fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    iintro ⟨H2, H3, H4, H5, H6, H7, H15, H17, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H15]; · iexact H15
    iexact H17

end Cert.Proof.Kernel

end
-- ==== Proof.First.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.Base

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The first point of a block of rows: the maximum is zeroed, then the first up product. -/
noncomputable def runFirst (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f2 : HbBuf (F := F) c arg2) (f3 : HbBuf (F := F) c arg3) (f4 : HbBuf (F := F) c arg4) (f5 : HbBuf (F := F) c arg5) (f6 : HbBuf (F := F) c arg6) (f7 : HbBuf (F := F) c arg7)
    (f15 : HbBuf (F := F) c scM15) (f17 : HbBuf (F := F) c scM17)
    (h1 : cond1 i = 1#1) (h2 : k0_cond2 i = 1#1) (h3 : ¬ k0_cond3 i = 1#1) (h4 : ¬ k0_cond4 i = 1#1) (h5 : ¬ k0_cond5 i = 1#1) :
    { L : List (View.Piece (Elt F) S2x640x4608 .f32) × HbBuf (F := F) c scM17 //
      ∀ (K : PUnit → sProp 𝕄),
        iprop((arg2.view.loc (c : Thread nD τ) ↦[arg2.view.set]{fullShare} f2)
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (arg6.view.loc (c : Thread nD τ) ↦[arg6.view.set]{fullShare} f6)
            ∗ (arg7.view.loc (c : Thread nD τ) ↦[arg7.view.set]{fullShare} f7)
            ∗ ownPt c scM15 f15 ∗ ownPt c scM17 f17
            ∗ (iprop((arg2.view.loc (c : Thread nD τ) ↦[arg2.view.set]{fullShare} f2)
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (arg6.view.loc (c : Thread nD τ) ↦[arg6.view.set]{fullShare} f6)
            ∗ (arg7.view.loc (c : Thread nD τ) ↦[arg7.view.set]{fullShare} f7)
                ∗ ownPt c scM15 (scM15.view.writes (Elt F) f15 L.1) ∗ ownPt c scM17 L.2) -∗ K ⟨⟩))
          ⊢ wp frame (wpE (defs₀ (F := F)) Variants.none c none) Set.univ
              (cc0_ffn i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6) K } := by
  refine ⟨(?_, ?_), fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    iintro ⟨H2, H3, H4, H5, H6, H7, H15, H17, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H15]; · iexact H15
    iexact H17

end Cert.Proof.Kernel

end
-- ==== Proof.Down.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.Base

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- A point of the down phase strictly between its first and its last. -/
noncomputable def runDown (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f8 : HbBuf (F := F) c arg8) (f9 : HbBuf (F := F) c arg9)
    (f15 : HbBuf (F := F) c scM15) (f16 : HbBuf (F := F) c scM16) (f17 : HbBuf (F := F) c scM17)
    (h1 : ¬ cond1 i = 1#1) (h2 : ¬ k0_cond2 i = 1#1) (h3 : ¬ k0_cond3 i = 1#1) (h4 : k0_cond4 i = 1#1) (h5 : ¬ k0_cond5 i = 1#1) :
    { L : List (View.Piece (Elt F) S2x640x4608 .f32) //
      ∀ (K : PUnit → sProp 𝕄),
        iprop((arg8.view.loc (c : Thread nD τ) ↦[arg8.view.set]{fullShare} f8)
            ∗ (arg9.view.loc (c : Thread nD τ) ↦[arg9.view.set]{fullShare} f9)
            ∗ ownAct0 c f15 ∗ ownQ c scM16 fullShare.left f16 ∗ ownPt c scM17 f17
            ∗ (iprop((arg8.view.loc (c : Thread nD τ) ↦[arg8.view.set]{fullShare} f8)
            ∗ (arg9.view.loc (c : Thread nD τ) ↦[arg9.view.set]{fullShare} f9)
                ∗ ownAct0 c (scM15.view.writes (Elt F) f15 L) ∗ ownQ c scM16 fullShare.left f16 ∗ ownPt c scM17 f17) -∗ K ⟨⟩))
          ⊢ wp frame (wpE (defs₀ (F := F)) Variants.none c none) Set.univ
              (cc0_ffn i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6) K } := by
  refine ⟨?_, fun K => ?run⟩
  case run =>
    have hi := (cond4_iff i).mp h4
    have hi2 : (i 1).val < 27 := (i 1).isLt
    letI : ClosedOff (k0_off10 i 0#32) := ⟨![0, 0, 512 * ((i 1).val - 18) + 0], off10_eq i ((cond4_iff i).mp h4) 0⟩
    letI : ClosedOff (k0_off10 i 128#32) := ⟨![0, 0, 512 * ((i 1).val - 18) + 128], off10_eq i ((cond4_iff i).mp h4) 1⟩
    letI : ClosedOff (k0_off10 i 256#32) := ⟨![0, 0, 512 * ((i 1).val - 18) + 256], off10_eq i ((cond4_iff i).mp h4) 2⟩
    letI : ClosedOff (k0_off10 i 384#32) := ⟨![0, 0, 512 * ((i 1).val - 18) + 384], off10_eq i ((cond4_iff i).mp h4) 3⟩
    letI : ClosedOff (k0_off11 i 0#32) := ⟨![0, 320, 512 * ((i 1).val - 18) + 0], off11_eq i ((cond4_iff i).mp h4) 0⟩
    letI : ClosedOff (k0_off11 i 128#32) := ⟨![0, 320, 512 * ((i 1).val - 18) + 128], off11_eq i ((cond4_iff i).mp h4) 1⟩
    letI : ClosedOff (k0_off11 i 256#32) := ⟨![0, 320, 512 * ((i 1).val - 18) + 256], off11_eq i ((cond4_iff i).mp h4) 2⟩
    letI : ClosedOff (k0_off11 i 384#32) := ⟨![0, 320, 512 * ((i 1).val - 18) + 384], off11_eq i ((cond4_iff i).mp h4) 3⟩

    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    iintro ⟨H8, H9, H15, H16, H17, Hk⟩
    sl_exec
    sl_step
    iapply Hk
    isplitl [H8]; · iexact H8
    isplitl [H9]; · iexact H9
    isplitl [H15]; · iexact H15
    isplitl [H16]; · iexact H16
    iexact H17

end Cert.Proof.Kernel

end
-- ==== Proof.Loop1.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.Base

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ### `k0_t1_loop`: the generated invariant (classifier: affine) -/

/-- One trip's resources: what the region reads (arg15, arg17) at its contents, what it writes
   (arg16) at any. -/
abbrev Trip_t1 (c : Dev nD) (arg15 : Memref sig .tc .vmem S2x640x4608 .f32) (arg17 : Memref sig .tc .vmem S640x128 .f32) (arg16 : Memref sig .tc .vmem S640x9216 .fp8e4m3) (X_arg15 : BufTy.Contents (Elt F) arg15.view.ty) (X_arg17 : BufTy.Contents (Elt F) arg17.view.ty) (f_arg16 : BufTy.Contents (Elt F) arg16.view.ty) : sProp 𝕄 :=
  iprop((arg15.view.loc (c : Thread nD τ) ↦[arg15.view.set]{fullShare} X_arg15) ∗ (arg17.view.loc (c : Thread nD τ) ↦[arg17.view.set]{fullShare} X_arg17) ∗ (arg16.view.loc (c : Thread nD τ) ↦[arg16.view.set]{fullShare} f_arg16))

/-- ONE TRIP of `k0_t1_loop` at a symbolic `k`, run by `sl_exec` (its rectangles' offsets closed
   forms of `k`, their geometry linear arithmetic): the pieces it writes into arg16 are the run's
   own finds — the witnesses `sl_close` assigns handing the buffers to the continuation.
   `@[irreducible]`: cited, never unfolded. -/
def trip_t1 (𝒱 : Variants) (c : Dev nD) (bd : Option 𝒱.V) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) (k : Fin k0_t1_loop.trips) :
    { L_arg16 : List (View.Piece (Elt F) S640x9216 .fp8e4m3) // ∀ (E : Set ℕ) (f_arg16 : BufTy.Contents (Elt F) arg16.view.ty),
      Trip_t1 (F := F) c arg15 arg17 arg16 X_arg15 X_arg17 f_arg16
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 k PUnit.unit)
          (fun _ => Trip_t1 (F := F) c arg15 arg17 arg16 X_arg15 X_arg17 (arg16.view.writes (Elt F) f_arg16 L_arg16)) } := by
  have hk : k.val < 20 := Nat.lt_of_lt_of_le k.isLt k0_t1_abs.2.1
  refine ⟨?_, fun E f_arg16 => ?run⟩
  case run =>
    unfold k0_t1_body
    iintro ⟨HR_arg15, HR_arg17, HW_arg16⟩
    sl_exec
    sl_step
    sl_close

/-- The trip's piece lists (plain projections of `trip_…`, for the recursion below to cite without
   its proof). -/
abbrev tripL_t1 (𝒱 : Variants) (c : Dev nD) (bd : Option 𝒱.V) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) (k : Fin k0_t1_loop.trips) : List (View.Piece (Elt F) S640x9216 .fp8e4m3) :=
  (trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k).1

/-- Trip `k`'s contribution to the state the recursion `pb_t1` below carries (`prev`): its pieces
   in front, per written memref; past the last trip, `prev` itself. -/
@[irreducible] def pb_t1Step (𝒱 : Variants) (c : Dev nD) (bd : Option 𝒱.V) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) (k : ℕ) (prev : List (View.Piece (Elt F) S640x9216 .fp8e4m3)) : List (View.Piece (Elt F) S640x9216 .fp8e4m3) :=
  if h : k < k0_t1_loop.trips then
    (tripL_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 ⟨k, h⟩) ++ prev
  else prev

/-- The pieces of the trips before `k` (last first), per written memref. -/
def pb_t1 (𝒱 : Variants) (c : Dev nD) (bd : Option 𝒱.V) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) : ℕ → List (View.Piece (Elt F) S640x9216 .fp8e4m3)
  | 0 => []
  | k + 1 => pb_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k (pb_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k)

theorem pb_t1_succ (𝒱 : Variants) (c : Dev nD) (bd : Option 𝒱.V) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) (k : Fin k0_t1_loop.trips) :
    pb_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 (k.val + 1)
      = (tripL_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k) ++ (pb_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k.val) := by
  rw [pb_t1.eq_2]; unfold pb_t1Step; exact dif_pos k.isLt

/-- THE INVARIANT before trip `k`: arg15, arg17 read at `X_·`; arg16 holding the pieces of the trips
   before `k` written over the contents at loop entry `G_·` (stated `∃ f, … ∗ ⌜f = …⌝`, so that a
   hypothesis of any contents matches and the equation is what is proved). -/
abbrev inv_t1 (𝒱 : Variants) (c : Dev nD) (bd : Option 𝒱.V) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) (G_arg16 : BufTy.Contents (Elt F) arg16.view.ty) (k : ℕ) (_u : PUnit) : sProp 𝕄 :=
  iprop((arg15.view.loc (c : Thread nD τ) ↦[arg15.view.set]{fullShare} X_arg15) ∗ (arg17.view.loc (c : Thread nD τ) ↦[arg17.view.set]{fullShare} X_arg17) ∗ (∃ f, (arg16.view.loc (c : Thread nD τ) ↦[arg16.view.set]{fullShare} f) ∗ ⌜f = arg16.view.writes (Elt F) G_arg16 (pb_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_t1 (𝒱 : Variants) (c : Dev nD) (bd : Option 𝒱.V) (E : Set ℕ) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) (G_arg16 : BufTy.Contents (Elt F) arg16.view.ty) :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 where
  inv := inv_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 G_arg16
  step k acc := by
    iintro ⟨HR_arg15, HR_arg17, ⟨%f_arg16, HW_arg16, %h_arg16⟩⟩
    iapply (wp_wand_r Idealize.ShloMosaic.frame (wpE (defs₀ (F := F)) 𝒱 (c : Thread nD τ) bd) E)
    isplitl [HR_arg15 HR_arg17 HW_arg16]
    · iapply ((trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k).2 E f_arg16)
      isplitl [HR_arg15]; · iexact HR_arg15
      isplitl [HR_arg17]; · iexact HR_arg17
      iexact HW_arg16
    · iintro %_ ⟨HR_arg15, HR_arg17, HW_arg16⟩
      isplitl [HR_arg15]; · iexact HR_arg15
      isplitl [HR_arg17]; · iexact HR_arg17
      rw [pb_t1_succ]
      iexists _; isplitl [HW_arg16]; · iexact HW_arg16
      ipureintro; rw [h_arg16, ← View.writes_append]

end Cert.Proof.Kernel

end
-- ==== Proof.R18.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.Base
public import proofs.«01_k».proof.Proof.Loop1

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The copies' windows at any spelling of the block's rows. -/
abbrev flight20o (c : Dev nD) (o : Fin 2 → ℕ) (p : ∀ a, o a + S640x9216.size a ≤ S1920x9216.size a) (f13 : HbBuf (F := F) c hbM13) (f16 : HbBuf (F := F) c scM16) : sProp 𝕄 :=
  Transfers.Flight (countersEmb (U := Pipeline.UD sig nD τ)) (c : Thread nD τ) (SemLoc.dma (sig := sig) cc0_scratch5.sem) () 184320
    iprop((hbM13.view.loc (c : Thread nD τ) ↦[(hbM13.slice (Rect.unit (s := S1920x9216) o S640x9216.size p) (fun _ => rfl) : Memref sig .tc .hbm S640x9216 .fp8e4m3).view.set]{fullShare} f13) ∗ (scM16.view.loc (c : Thread nD τ) ↦[scM16.view.set]{fullShare.right} f16))
abbrev flight19o (c : Dev nD) (o : Fin 2 → ℕ) (p : ∀ a, o a + S640x4608.size a ≤ S1920x4608.size a) (f15 : HbBuf (F := F) c scM15) (f11 : HbBuf (F := F) c hbM11) : sProp 𝕄 :=
  Transfers.Flight (countersEmb (U := Pipeline.UD sig nD τ)) (c : Thread nD τ) (SemLoc.dma (sig := sig) cc0_scratch4.sem) () 368640
    iprop((scM15.view.loc (c : Thread nD τ) ↦[((scM15.slice (Rect.unit (s := S2x640x4608) ![1, 0, 0] S1x640x4608.size inb_S2x640x4608_S1x640x4608_1_0_0) (fun _ => rfl)).squeeze S640x4608 squeezes_S1x640x4608_S640x4608 : Memref sig .tc .vmem S640x4608 .f32).view.set]{fullShare} f15) ∗ (hbM11.view.loc (c : Thread nD τ) ↦[(hbM11.slice (Rect.unit (s := S1920x4608) o S640x4608.size p) (fun _ => rfl) : Memref sig .tc .hbm S640x4608 .f32).view.set]{fullShare} f11))
abbrev rest13o (c : Dev nD) (o : Fin 2 → ℕ) (p : ∀ a, o a + S640x9216.size a ≤ S1920x9216.size a) (f : HbBuf (F := F) c hbM13) : sProp 𝕄 :=
  hbM13.view.loc (c : Thread nD τ) ↦[hbM13.view.set \ (hbM13.slice (Rect.unit (s := S1920x9216) o S640x9216.size p) (fun _ => rfl) : Memref sig .tc .hbm S640x9216 .fp8e4m3).view.set]{fullShare} f
abbrev rest11o (c : Dev nD) (o : Fin 2 → ℕ) (p : ∀ a, o a + S640x4608.size a ≤ S1920x4608.size a) (f : HbBuf (F := F) c hbM11) : sProp 𝕄 :=
  hbM11.view.loc (c : Thread nD τ) ↦[hbM11.view.set \ (hbM11.slice (Rect.unit (s := S1920x4608) o S640x4608.size p) (fun _ => rfl) : Memref sig .tc .hbm S640x4608 .f32).view.set]{fullShare} f
theorem flight20_off (c : Dev nD) (b : Fin 3) (o : Fin 2 → ℕ) (h : o = ![640 * b.val, 0]) (p) (f13 : HbBuf (F := F) c hbM13) (f16 : HbBuf (F := F) c scM16) :
    flight20o c o p f13 f16 = flight20 c b f13 f16 := by subst h; rfl
theorem flight19_off (c : Dev nD) (b : Fin 3) (o : Fin 2 → ℕ) (h : o = ![640 * b.val, 0]) (p) (f15 : HbBuf (F := F) c scM15) (f11 : HbBuf (F := F) c hbM11) :
    flight19o c o p f15 f11 = flight19 c b f15 f11 := by subst h; rfl
theorem rest13_off (c : Dev nD) (b : Fin 3) (o : Fin 2 → ℕ) (h : o = ![640 * b.val, 0]) (p) (f : HbBuf (F := F) c hbM13) :
    rest13o c o p f = rest13 c b f := by subst h; rfl
theorem rest11_off (c : Dev nD) (b : Fin 3) (o : Fin 2 → ℕ) (h : o = ![640 * b.val, 0]) (p) (f : HbBuf (F := F) c hbM11) :
    rest11o c o p f = rest11 c b f := by subst h; rfl
theorem off8_eq : ∀ i : grid0.Coords, k0_off8 i = ![640 * (i 0).val, 0] := by decide +kernel
theorem off9_eq : ∀ i : grid0.Coords, k0_off9 i = ![640 * (i 0).val, 0] := by decide +kernel

set_option maxHeartbeats 400000 in
/-- The first point of the down phase: the scale, the codes, the two copies started, and the first down product. -/
noncomputable def run18 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f8 : HbBuf (F := F) c arg8) (f9 : HbBuf (F := F) c arg9) (f14 : HbBuf (F := F) c arg14)
    (f11 : HbBuf (F := F) c hbM11) (f13 : HbBuf (F := F) c hbM13)
    (f15 : HbBuf (F := F) c scM15) (f16 : HbBuf (F := F) c scM16) (f17 : HbBuf (F := F) c scM17)
    (h1 : ¬ cond1 i = 1#1) (h2 : ¬ k0_cond2 i = 1#1) (h3 : k0_cond3 i = 1#1) (h4 : k0_cond4 i = 1#1) (h5 : ¬ k0_cond5 i = 1#1) :
    { L : List (View.Piece (Elt F) S2x640x4608 .f32) × HbBuf (F := F) c scM17 × List (View.Piece (Elt F) S640x9216 .fp8e4m3) × HbBuf (F := F) c hbM13 × HbBuf (F := F) c scM15 × HbBuf (F := F) c arg14 //
      ∀ (K : PUnit → sProp 𝕄),
        iprop((arg8.view.loc (c : Thread nD τ) ↦[arg8.view.set]{fullShare} f8)
            ∗ (arg9.view.loc (c : Thread nD τ) ↦[arg9.view.set]{fullShare} f9)
            ∗ (arg14.view.loc (c : Thread nD τ) ↦[arg14.view.set]{fullShare} f14)
            ∗ ownPt c hbM11 f11 ∗ ownPt c hbM13 f13 ∗ ownPt c scM15 f15 ∗ ownPt c scM16 f16 ∗ ownPt c scM17 f17
            ∗ semVal ((c : Thread nD τ), SemLoc.dma (sig := sig) cc0_scratch4.sem) 0 ∗ semVal ((c : Thread nD τ), SemLoc.dma (sig := sig) cc0_scratch5.sem) 0
            ∗ (iprop((arg8.view.loc (c : Thread nD τ) ↦[arg8.view.set]{fullShare} f8)
            ∗ (arg9.view.loc (c : Thread nD τ) ↦[arg9.view.set]{fullShare} f9) ∗ ownPt c arg14 L.2.2.2.2.2
                ∗ rest11o c (k0_off9 i) (k0_off9_inb i h3) f11 ∗ rest13o c (k0_off8 i) (k0_off8_inb i h3) L.2.2.2.1 ∗ ownAct0 c (scM15.view.writes (Elt F) L.2.2.2.2.1 L.1) ∗ ownQ c scM16 fullShare.left (scM16.view.writes (Elt F) f16 L.2.2.1) ∗ ownPt c scM17 L.2.1
                ∗ flight19o c (k0_off9 i) (k0_off9_inb i h3) L.2.2.2.2.1 f11 ∗ flight20o c (k0_off8 i) (k0_off8_inb i h3) L.2.2.2.1 (scM16.view.writes (Elt F) f16 L.2.2.1)) -∗ K ⟨⟩))
          ⊢ wp frame (wpE (defs₀ (F := F)) Variants.none c none) Set.univ
              (cc0_ffn i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6) K } := by
  have hi := (cond4_iff i).mp h4
  have hi2 : (i 1).val < 27 := (i 1).isLt
  letI : ClosedOff (k0_off10 i 0#32) := ⟨![0, 0, 512 * ((i 1).val - 18) + 0], off10_eq i ((cond4_iff i).mp h4) 0⟩
  letI : ClosedOff (k0_off10 i 128#32) := ⟨![0, 0, 512 * ((i 1).val - 18) + 128], off10_eq i ((cond4_iff i).mp h4) 1⟩
  letI : ClosedOff (k0_off10 i 256#32) := ⟨![0, 0, 512 * ((i 1).val - 18) + 256], off10_eq i ((cond4_iff i).mp h4) 2⟩
  letI : ClosedOff (k0_off10 i 384#32) := ⟨![0, 0, 512 * ((i 1).val - 18) + 384], off10_eq i ((cond4_iff i).mp h4) 3⟩
  letI : ClosedOff (k0_off11 i 0#32) := ⟨![0, 320, 512 * ((i 1).val - 18) + 0], off11_eq i ((cond4_iff i).mp h4) 0⟩
  letI : ClosedOff (k0_off11 i 128#32) := ⟨![0, 320, 512 * ((i 1).val - 18) + 128], off11_eq i ((cond4_iff i).mp h4) 1⟩
  letI : ClosedOff (k0_off11 i 256#32) := ⟨![0, 320, 512 * ((i 1).val - 18) + 256], off11_eq i ((cond4_iff i).mp h4) 2⟩
  letI : ClosedOff (k0_off11 i 384#32) := ⟨![0, 320, 512 * ((i 1).val - 18) + 384], off11_eq i ((cond4_iff i).mp h4) 3⟩

  refine ⟨(?_, ?_, ?_, ?_, ?_, ?_), fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]

    iintro ⟨H8, H9, H14, H11, H13, H15, H16, H17, C19, C20, Hk⟩
    set_option sl_exec.lendShare "H16" in set_option sl_exec.dmaWindow true in set_option sl_exec.dmaWindowSet true in set_option sl_exec.dmaWindowLent true in sl_exec
    sl_step
    iapply Hk
    isplitl [H8]; · iexact H8
    isplitl [H9]; · iexact H9
    isplitl [H14]; · iexact H14
    isplitl [H11]; · iexact H11
    isplitl [H13]; · iexact H13
    isplitl [H15]; · iexact H15
    isplitl [H16]; · iexact H16
    isplitl [H17]; · iexact H17
    isplitl [C19]; · iexact C19
    iexact C20

end Cert.Proof.Kernel

end
-- ==== Proof.Loop2.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.Base
public import Idealize.SL.BI.BigOpNat

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A block of 32 rows of `out`, held. -/
abbrev blkPt (c : Dev nD) (i : grid0.Coords) (h5 : k0_cond5 i = 1#1) (k : Fin k0_t2_loop.trips) (f : HbBuf (F := F) c hbM12) : sProp 𝕄 :=
  (hbM12.slice (Rect.unit (s := S1920x4608) (k0_off21 i k) S32x4608.size (k0_off21_inb i k h5)) (fun _ => rfl) : Memref sig .tc .hbm S32x4608 .bf16).view.loc (c : Thread nD τ) ↦[(hbM12.slice (Rect.unit (s := S1920x4608) (k0_off21 i k) S32x4608.size (k0_off21_inb i k h5)) (fun _ => rfl) : Memref sig .tc .hbm S32x4608 .bf16).view.set]{fullShare} f
theorem slice_compl {sp : Space} {s : Shape} {e : EltTy} (v : View sig .tc sp s e) (r r' : Rect s) (h : r.set = Finset.univ \ r'.set) : (v.slice r).set = v.set \ (v.slice r').set := by
  rw [View.set_slice, View.set_slice, h, View.set, Finset.map_sdiff]
/-- The output buffer less one of its slots is the other slot. -/
theorem obSet (p q : Fin 2) (hpq : p ≠ q) (hp : ∀ a, (![p.val, 0, 0] : Fin 3 → ℕ) a + S1x32x4608.size a ≤ S2x32x4608.size a) (hq : ∀ a, (![q.val, 0, 0] : Fin 3 → ℕ) a + S1x32x4608.size a ≤ S2x32x4608.size a) :
    ((scM18.slice (Rect.unit (s := S2x32x4608) ![p.val, 0, 0] S1x32x4608.size hp) (fun _ => rfl)).squeeze S32x4608 squeezes_S1x32x4608_S32x4608 : Memref sig .tc .vmem S32x4608 .bf16).view.set
      = scM18.view.set \ ((scM18.slice (Rect.unit (s := S2x32x4608) ![q.val, 0, 0] S1x32x4608.size hq) (fun _ => rfl)).squeeze S32x4608 squeezes_S1x32x4608_S32x4608 : Memref sig .tc .vmem S32x4608 .bf16).view.set := by
  have h : (Rect.unit (s := S2x32x4608) ![p.val, 0, 0] S1x32x4608.size hp).set = Finset.univ \ (Rect.unit (s := S2x32x4608) ![q.val, 0, 0] S1x32x4608.size hq).set := by
    ext x
    simp only [Finset.mem_sdiff, Finset.mem_univ, true_and, Rect.mem_set_unit]
    have h0 : (x 0).val < 2 := (x 0).isLt
    have h1 : (x 1).val < 32 := (x 1).isLt
    have h2 : (x 2).val < 4608 := (x 2).isLt
    have e : ∀ r : Fin 2, (∀ a, (![r.val, 0, 0] : Fin 3 → ℕ) a ≤ (x a).val ∧ (x a).val < (![r.val, 0, 0] : Fin 3 → ℕ) a + S1x32x4608.size a) ↔ (x 0).val = r.val := by
      intro r
      constructor
      · intro h; have := h 0; simp [S1x32x4608] at this; omega
      · intro h a; fin_cases a <;> simp [S1x32x4608] <;> omega
    have hv : p.val ≠ q.val := fun h => hpq (Fin.ext h)
    rw [e p, e q]; omega
  rw [Memref.set_view_squeeze, Memref.set_view_squeeze]
  exact slice_compl scM18.view _ _ h

/-- Slot 0 of the output buffer, held; and the copy of it in flight into block `j`. -/
abbrev obPt0 (c : Dev nD) (f : HbBuf (F := F) c scM18) : sProp 𝕄 :=
  scM18.view.loc (c : Thread nD τ) ↦[((scM18.slice (Rect.unit (s := S2x32x4608) ![0, 0, 0] S1x32x4608.size inb_S2x32x4608_S1x32x4608_0_0_0) (fun _ => rfl)).squeeze S32x4608 squeezes_S1x32x4608_S32x4608 : Memref sig .tc .vmem S32x4608 .bf16).view.set]{fullShare} f
abbrev obR0 (c : Dev nD) (f : HbBuf (F := F) c scM18) : sProp 𝕄 :=
  scM18.view.loc (c : Thread nD τ) ↦[scM18.view.set \ ((scM18.slice (Rect.unit (s := S2x32x4608) ![1, 0, 0] S1x32x4608.size inb_S2x32x4608_S1x32x4608_1_0_0) (fun _ => rfl)).squeeze S32x4608 squeezes_S1x32x4608_S32x4608 : Memref sig .tc .vmem S32x4608 .bf16).view.set]{fullShare} f
theorem obPt0_eq (c : Dev nD) (f : HbBuf (F := F) c scM18) : obPt0 c f = obR0 c f := by
  exact congrArg (fun S => (scM18.view.loc (c : Thread nD τ) ↦[S]{fullShare} f : sProp 𝕄)) (obSet 0 1 (by decide) _ _)
abbrev obFl0 (c : Dev nD) (i : grid0.Coords) (h5 : k0_cond5 i = 1#1) (j : Fin k0_t2_loop.trips) (fd : HbBuf (F := F) c hbM12) (fs : HbBuf (F := F) c scM18) : sProp 𝕄 :=
  Transfers.Flight (countersEmb (U := Pipeline.UD sig nD τ)) (c : Thread nD τ) (SemLoc.dma (sig := sig) ⟨21, by decide⟩) () 9216
    iprop((hbM12.view.loc (c : Thread nD τ) ↦[(hbM12.slice (Rect.unit (s := S1920x4608) (k0_off21 i j) S32x4608.size (k0_off21_inb i j h5)) (fun _ => rfl) : Memref sig .tc .hbm S32x4608 .bf16).view.set]{fullShare} fd) ∗ (scM18.view.loc (c : Thread nD τ) ↦[((scM18.slice (Rect.unit (s := S2x32x4608) ![0, 0, 0] S1x32x4608.size inb_S2x32x4608_S1x32x4608_0_0_0) (fun _ => rfl)).squeeze S32x4608 squeezes_S1x32x4608_S32x4608 : Memref sig .tc .vmem S32x4608 .bf16).view.set]{fullShare} fs))
abbrev obCell0 (c : Dev nD) : sProp 𝕄 := semVal ((c : Thread nD τ), SemLoc.dma (sig := sig) ⟨21, by decide⟩) 0

/-- Slot 1 of the output buffer, held; and the copy of it in flight into block `j`. -/
abbrev obPt1 (c : Dev nD) (f : HbBuf (F := F) c scM18) : sProp 𝕄 :=
  scM18.view.loc (c : Thread nD τ) ↦[((scM18.slice (Rect.unit (s := S2x32x4608) ![1, 0, 0] S1x32x4608.size inb_S2x32x4608_S1x32x4608_1_0_0) (fun _ => rfl)).squeeze S32x4608 squeezes_S1x32x4608_S32x4608 : Memref sig .tc .vmem S32x4608 .bf16).view.set]{fullShare} f
abbrev obR1 (c : Dev nD) (f : HbBuf (F := F) c scM18) : sProp 𝕄 :=
  scM18.view.loc (c : Thread nD τ) ↦[scM18.view.set \ ((scM18.slice (Rect.unit (s := S2x32x4608) ![0, 0, 0] S1x32x4608.size inb_S2x32x4608_S1x32x4608_0_0_0) (fun _ => rfl)).squeeze S32x4608 squeezes_S1x32x4608_S32x4608 : Memref sig .tc .vmem S32x4608 .bf16).view.set]{fullShare} f
theorem obPt1_eq (c : Dev nD) (f : HbBuf (F := F) c scM18) : obPt1 c f = obR1 c f := by
  exact congrArg (fun S => (scM18.view.loc (c : Thread nD τ) ↦[S]{fullShare} f : sProp 𝕄)) (obSet 1 0 (by decide) _ _)
abbrev obFl1 (c : Dev nD) (i : grid0.Coords) (h5 : k0_cond5 i = 1#1) (j : Fin k0_t2_loop.trips) (fd : HbBuf (F := F) c hbM12) (fs : HbBuf (F := F) c scM18) : sProp 𝕄 :=
  Transfers.Flight (countersEmb (U := Pipeline.UD sig nD τ)) (c : Thread nD τ) (SemLoc.dma (sig := sig) ⟨22, by decide⟩) () 9216
    iprop((hbM12.view.loc (c : Thread nD τ) ↦[(hbM12.slice (Rect.unit (s := S1920x4608) (k0_off21 i j) S32x4608.size (k0_off21_inb i j h5)) (fun _ => rfl) : Memref sig .tc .hbm S32x4608 .bf16).view.set]{fullShare} fd) ∗ (scM18.view.loc (c : Thread nD τ) ↦[((scM18.slice (Rect.unit (s := S2x32x4608) ![1, 0, 0] S1x32x4608.size inb_S2x32x4608_S1x32x4608_1_0_0) (fun _ => rfl)).squeeze S32x4608 squeezes_S1x32x4608_S32x4608 : Memref sig .tc .vmem S32x4608 .bf16).view.set]{fullShare} fs))
abbrev obCell1 (c : Dev nD) : sProp 𝕄 := semVal ((c : Thread nD τ), SemLoc.dma (sig := sig) ⟨22, by decide⟩) 0

/-- Slot 0 of the output buffer after trip `k` has stored into it. -/
abbrev outC0 (c : Dev nD) (i : grid0.Coords) (h5 : k0_cond5 i = 1#1) (k : Fin k0_t2_loop.trips) (v20 : Vec F S1x4608 .f32) (f15 : HbBuf (F := F) c scM15) (fs : HbBuf (F := F) c scM18) : HbBuf (F := F) c scM18 :=
  scM18.view.writes (Elt F) fs [⟨Rect.unit (s := S2x32x4608) ![0, 0, 0] S1x32x4608.size inb_S2x32x4608_S1x32x4608_0_0_0,
    k0_pay12 v20 (View.readAt (Elt F) scM15.view (Rect.unit (s := S2x640x4608) (k0_off17 k) S1x32x4608.size (k0_off17_inb i k h5)).toLoadRect f15)
      (View.readAt (Elt F) scM15.view (Rect.unit (s := S2x640x4608) (k0_off18 k) S1x32x4608.size (k0_off18_inb i k h5)).toLoadRect f15)⟩]

/-- Slot 1 of the output buffer after trip `k` has stored into it. -/
abbrev outC1 (c : Dev nD) (i : grid0.Coords) (h5 : k0_cond5 i = 1#1) (k : Fin k0_t2_loop.trips) (v20 : Vec F S1x4608 .f32) (f15 : HbBuf (F := F) c scM15) (fs : HbBuf (F := F) c scM18) : HbBuf (F := F) c scM18 :=
  scM18.view.writes (Elt F) fs [⟨Rect.unit (s := S2x32x4608) ![1, 0, 0] S1x32x4608.size inb_S2x32x4608_S1x32x4608_1_0_0,
    k0_pay12 v20 (View.readAt (Elt F) scM15.view (Rect.unit (s := S2x640x4608) (k0_off17 k) S1x32x4608.size (k0_off17_inb i k h5)).toLoadRect f15)
      (View.readAt (Elt F) scM15.view (Rect.unit (s := S2x640x4608) (k0_off18 k) S1x32x4608.size (k0_off18_inb i k h5)).toLoadRect f15)⟩]

/-- Block `k` of `out` holds what trip `k` stored. -/
def BlkVal (c : Dev nD) (i : grid0.Coords) (h5 : k0_cond5 i = 1#1) (v20 : Vec F S1x4608 .f32) (f15 : HbBuf (F := F) c scM15) (k : Fin k0_t2_loop.trips) (fd : HbBuf (F := F) c hbM12) : Prop :=
  (∃ fb fs, fd = (hbM12.slice (Rect.unit (s := S1920x4608) (k0_off21 i k) S32x4608.size (k0_off21_inb i k h5)) (fun _ => rfl) : Memref sig .tc .hbm S32x4608 .bf16).view.writes (Elt F) fb [⟨Rect.whole (Rect.unit (s := S1920x4608) (k0_off21 i k) S32x4608.size (k0_off21_inb i k h5)).shape, View.read (Elt F) ((scM18.slice (Rect.unit (s := S2x32x4608) ![0, 0, 0] S1x32x4608.size inb_S2x32x4608_S1x32x4608_0_0_0) (fun _ => rfl)).squeeze S32x4608 squeezes_S1x32x4608_S32x4608 : Memref sig .tc .vmem S32x4608 .bf16).view (outC0 c i h5 k v20 f15 fs)⟩])
  ∨ (∃ fb fs, fd = (hbM12.slice (Rect.unit (s := S1920x4608) (k0_off21 i k) S32x4608.size (k0_off21_inb i k h5)) (fun _ => rfl) : Memref sig .tc .hbm S32x4608 .bf16).view.writes (Elt F) fb [⟨Rect.whole (Rect.unit (s := S1920x4608) (k0_off21 i k) S32x4608.size (k0_off21_inb i k h5)).shape, View.read (Elt F) ((scM18.slice (Rect.unit (s := S2x32x4608) ![1, 0, 0] S1x32x4608.size inb_S2x32x4608_S1x32x4608_1_0_0) (fun _ => rfl)).squeeze S32x4608 squeezes_S1x32x4608_S32x4608 : Memref sig .tc .vmem S32x4608 .bf16).view (outC1 c i h5 k v20 f15 fs)⟩])

set_option maxHeartbeats 400000 in
theorem trip2_wait0 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (k j : Fin k0_t2_loop.trips)
    (f15 : HbBuf (F := F) c scM15) (fd fb : HbBuf (F := F) c hbM12) (fs : HbBuf (F := F) c scM18) (W : Waits sig Unit)
    (hk2 : 2 ≤ k.val) (hp : k.val % 2 = 0) (K : PUnit → sProp 𝕄) :
    iprop(ownPt c scM15 f15 ∗ owes (c : Thread nD τ) 0 W ∗ obFl0 c i h5 j fd fs ∗ blkPt c i h5 k fb
      ∗ ((∃ W' fd' fs', ⌜BlkVal c i h5 v20 f15 k fd'⌝ ∗ ownPt c scM15 f15 ∗ owes (c : Thread nD τ) 0 W' ∗ obFl0 c i h5 k fd' fs' ∗ blkPt c i h5 j fd) -∗ K ⟨⟩))
    ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) K := by
  have hk : k.val < 20 := trips2 ▸ k.isLt
  have h6 : k0_cond6 k = 1#1 := (cond6_iff k).mpr hk2
  unfold k0_t2_body
  simp -proj only [dif_pos h6, pure_bind]
  generalize_proofs
  have e14 := k0_off14_eq k
  have e16 := k0_off16_eq k
  have e19 := k0_off19_eq k
  have e20 := k0_off20_eq k
  have e22 := k0_off22_eq k
  rw [hp] at e14 e16 e19 e20 e22
  generalize k0_off14 k = o14, k0_off16 k = o16, k0_off19 k = o19, k0_off20 k = o20, k0_off22 k = o22 at *
  subst e14 e16 e19 e20 e22
  iintro ⟨H15, HW, S, H12, Hk⟩
  sl_exec
  ihave S_src : obR0 c fs $$ [S_src]
  · rw [← obPt0_eq]; iexact S_src
  sl_exec
  sl_step
  sl_unfold_run_names
  iapply Hk
  iexists _, _, _
  isplitr; · ipureintro; exact Or.inl ⟨fb, fs, rfl⟩
  isplitl [H15]; · iexact H15
  isplitl [HW]; · iexact HW
  isplitl [S]; · iexact S
  iexact S_dst

set_option maxHeartbeats 400000 in
theorem trip2_wait1 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (k j : Fin k0_t2_loop.trips)
    (f15 : HbBuf (F := F) c scM15) (fd fb : HbBuf (F := F) c hbM12) (fs : HbBuf (F := F) c scM18) (W : Waits sig Unit)
    (hk2 : 2 ≤ k.val) (hp : k.val % 2 = 1) (K : PUnit → sProp 𝕄) :
    iprop(ownPt c scM15 f15 ∗ owes (c : Thread nD τ) 0 W ∗ obFl1 c i h5 j fd fs ∗ blkPt c i h5 k fb
      ∗ ((∃ W' fd' fs', ⌜BlkVal c i h5 v20 f15 k fd'⌝ ∗ ownPt c scM15 f15 ∗ owes (c : Thread nD τ) 0 W' ∗ obFl1 c i h5 k fd' fs' ∗ blkPt c i h5 j fd) -∗ K ⟨⟩))
    ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) K := by
  have hk : k.val < 20 := trips2 ▸ k.isLt
  have h6 : k0_cond6 k = 1#1 := (cond6_iff k).mpr hk2
  unfold k0_t2_body
  simp -proj only [dif_pos h6, pure_bind]
  generalize_proofs
  have e14 := k0_off14_eq k
  have e16 := k0_off16_eq k
  have e19 := k0_off19_eq k
  have e20 := k0_off20_eq k
  have e22 := k0_off22_eq k
  rw [hp] at e14 e16 e19 e20 e22
  generalize k0_off14 k = o14, k0_off16 k = o16, k0_off19 k = o19, k0_off20 k = o20, k0_off22 k = o22 at *
  subst e14 e16 e19 e20 e22
  iintro ⟨H15, HW, S, H12, Hk⟩
  sl_exec
  ihave S_src : obR1 c fs $$ [S_src]
  · rw [← obPt1_eq]; iexact S_src
  sl_exec
  sl_step
  sl_unfold_run_names
  iapply Hk
  iexists _, _, _
  isplitr; · ipureintro; exact Or.inr ⟨fb, fs, rfl⟩
  isplitl [H15]; · iexact H15
  isplitl [HW]; · iexact HW
  isplitl [S]; · iexact S
  iexact S_dst

set_option maxHeartbeats 400000 in
theorem trip2_free0 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (k j : Fin k0_t2_loop.trips)
    (f15 : HbBuf (F := F) c scM15) (fd fb : HbBuf (F := F) c hbM12) (fs : HbBuf (F := F) c scM18) (W : Waits sig Unit)
    (hk2 : k.val < 2) (hp : k.val % 2 = 0) (K : PUnit → sProp 𝕄) :
    iprop(ownPt c scM15 f15 ∗ owes (c : Thread nD τ) 0 W ∗ obPt0 c fs ∗ obCell0 c ∗ blkPt c i h5 k fb
      ∗ ((∃ W' fd' fs', ⌜BlkVal c i h5 v20 f15 k fd'⌝ ∗ ownPt c scM15 f15 ∗ owes (c : Thread nD τ) 0 W' ∗ obFl0 c i h5 k fd' fs' ) -∗ K ⟨⟩))
    ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) K := by
  have hk : k.val < 20 := trips2 ▸ k.isLt
  have h6 : ¬ k0_cond6 k = 1#1 := fun h => absurd ((cond6_iff k).mp h) (by omega)
  unfold k0_t2_body
  simp -proj only [dif_neg h6, pure_bind]
  generalize_proofs
  have e19 := k0_off19_eq k
  have e20 := k0_off20_eq k
  have e22 := k0_off22_eq k
  rw [hp] at e19 e20 e22
  generalize k0_off19 k = o19, k0_off20 k = o20, k0_off22 k = o22 at *
  subst e19 e20 e22
  iintro ⟨H15, HW, S, C, H12, Hk⟩
  ihave S : obR0 c fs $$ [S]
  · rw [← obPt0_eq]; iexact S
  sl_exec
  sl_step
  sl_unfold_run_names
  iapply Hk
  iexists _, _, _
  isplitr; · ipureintro; exact Or.inl ⟨fb, fs, rfl⟩
  isplitl [H15]; · iexact H15
  isplitl [HW]; · iexact HW
  iexact C

set_option maxHeartbeats 400000 in
theorem trip2_free1 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (k j : Fin k0_t2_loop.trips)
    (f15 : HbBuf (F := F) c scM15) (fd fb : HbBuf (F := F) c hbM12) (fs : HbBuf (F := F) c scM18) (W : Waits sig Unit)
    (hk2 : k.val < 2) (hp : k.val % 2 = 1) (K : PUnit → sProp 𝕄) :
    iprop(ownPt c scM15 f15 ∗ owes (c : Thread nD τ) 0 W ∗ obPt1 c fs ∗ obCell1 c ∗ blkPt c i h5 k fb
      ∗ ((∃ W' fd' fs', ⌜BlkVal c i h5 v20 f15 k fd'⌝ ∗ ownPt c scM15 f15 ∗ owes (c : Thread nD τ) 0 W' ∗ obFl1 c i h5 k fd' fs' ) -∗ K ⟨⟩))
    ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) K := by
  have hk : k.val < 20 := trips2 ▸ k.isLt
  have h6 : ¬ k0_cond6 k = 1#1 := fun h => absurd ((cond6_iff k).mp h) (by omega)
  unfold k0_t2_body
  simp -proj only [dif_neg h6, pure_bind]
  generalize_proofs
  have e19 := k0_off19_eq k
  have e20 := k0_off20_eq k
  have e22 := k0_off22_eq k
  rw [hp] at e19 e20 e22
  generalize k0_off19 k = o19, k0_off20 k = o20, k0_off22 k = o22 at *
  subst e19 e20 e22
  iintro ⟨H15, HW, S, C, H12, Hk⟩
  ihave S : obR1 c fs $$ [S]
  · rw [← obPt1_eq]; iexact S
  sl_exec
  sl_step
  sl_unfold_run_names
  iapply Hk
  iexists _, _, _
  isplitr; · ipureintro; exact Or.inr ⟨fb, fs, rfl⟩
  isplitl [H15]; · iexact H15
  isplitl [HW]; · iexact HW
  iexact C

/-- The loop's state before trip `k`: blocks from `k` on not yet written, blocks below `k - 2` delivered, and each slot free or in flight into the last block of its parity. -/
def todo2 (c : Dev nD) (i : grid0.Coords) (h5 : k0_cond5 i = 1#1) (j : ℕ) : sProp 𝕄 :=
  if h : j < k0_t2_loop.trips then iprop(∃ f, blkPt c i h5 ⟨j, h⟩ f) else iprop(emp)
def done2 (c : Dev nD) (i : grid0.Coords) (h5 : k0_cond5 i = 1#1) (v20 : Vec F S1x4608 .f32) (f15 : HbBuf (F := F) c scM15) (j : ℕ) : sProp 𝕄 :=
  if h : j < k0_t2_loop.trips then iprop(∃ f, ⌜BlkVal c i h5 v20 f15 ⟨j, h⟩ f⌝ ∗ blkPt c i h5 ⟨j, h⟩ f) else iprop(emp)

def fl0 (c : Dev nD) (i : grid0.Coords) (h5 : k0_cond5 i = 1#1) (v20 : Vec F S1x4608 .f32) (f15 : HbBuf (F := F) c scM15) (j : ℕ) : sProp 𝕄 :=
  if h : j < k0_t2_loop.trips then iprop(∃ fd fs, ⌜BlkVal c i h5 v20 f15 ⟨j, h⟩ fd⌝ ∗ obFl0 c i h5 ⟨j, h⟩ fd fs) else iprop(emp)
/-- Slot 0 of the output buffer before trip `k`. -/
def sl0 (c : Dev nD) (i : grid0.Coords) (h5 : k0_cond5 i = 1#1) (v20 : Vec F S1x4608 .f32) (f15 : HbBuf (F := F) c scM15) (k : ℕ) : sProp 𝕄 :=
  if k ≤ 0 then iprop(∃ fs, obPt0 c fs ∗ obCell0 c) else fl0 c i h5 v20 f15 (if (k - 1) % 2 = 0 then k - 1 else k - 2)

def fl1 (c : Dev nD) (i : grid0.Coords) (h5 : k0_cond5 i = 1#1) (v20 : Vec F S1x4608 .f32) (f15 : HbBuf (F := F) c scM15) (j : ℕ) : sProp 𝕄 :=
  if h : j < k0_t2_loop.trips then iprop(∃ fd fs, ⌜BlkVal c i h5 v20 f15 ⟨j, h⟩ fd⌝ ∗ obFl1 c i h5 ⟨j, h⟩ fd fs) else iprop(emp)
/-- Slot 1 of the output buffer before trip `k`. -/
def sl1 (c : Dev nD) (i : grid0.Coords) (h5 : k0_cond5 i = 1#1) (v20 : Vec F S1x4608 .f32) (f15 : HbBuf (F := F) c scM15) (k : ℕ) : sProp 𝕄 :=
  if k ≤ 1 then iprop(∃ fs, obPt1 c fs ∗ obCell1 c) else fl1 c i h5 v20 f15 (if (k - 1) % 2 = 1 then k - 1 else k - 2)

def inv2 (c : Dev nD) (i : grid0.Coords) (h5 : k0_cond5 i = 1#1) (v20 : Vec F S1x4608 .f32) (f15 : HbBuf (F := F) c scM15) (k : ℕ) (_u : PUnit) : sProp 𝕄 :=
  iprop(ownPt c scM15 f15 ∗ (∃ W, owes (c : Thread nD τ) 0 W) ∗ sl0 c i h5 v20 f15 k ∗ sl1 c i h5 v20 f15 k
    ∗ bigSep (Finset.Ico k 20) (todo2 (F := F) c i h5) ∗ bigSep (Finset.range (k - 2)) (done2 c i h5 v20 f15))

theorem step2_wait0 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (f15 : HbBuf (F := F) c scM15) (k : Fin k0_t2_loop.trips)
    (hk2 : 2 ≤ k.val) (hp : k.val % 2 = 0) :
    inv2 c i h5 v20 f15 k.val ⟨⟩ ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) (inv2 c i h5 v20 f15 (k.val + 1)) := by
  have hk : k.val < 20 := trips2 ▸ k.isLt
  have e1 : sl0 c i h5 v20 f15 k.val = fl0 c i h5 v20 f15 (k.val - 2) := by
    unfold sl0; rw [if_neg (by omega), if_neg (by omega)]
  have e3 : sl1 c i h5 v20 f15 k.val = fl1 c i h5 v20 f15 (k.val - 1) := by
    unfold sl1; rw [if_neg (by omega), if_pos (by omega)]
  have e4 : sl1 c i h5 v20 f15 (k.val + 1) = fl1 c i h5 v20 f15 (k.val - 1) := by
    unfold sl1; rw [if_neg (by omega), if_neg (by omega)]; congr 1
  have e2 : sl0 c i h5 v20 f15 (k.val + 1) = iprop(∃ fd fs, ⌜BlkVal c i h5 v20 f15 k fd⌝ ∗ obFl0 c i h5 k fd fs) := by
    unfold sl0; rw [if_neg (by omega), if_pos (by omega)]; unfold fl0; rw [dif_pos (by simpa using k.isLt)]; rfl
  unfold inv2
  rw [bigSep_Ico_succ_bot hk, e1, e2, e3, e4]
  rw [show todo2 (F := F) c i h5 k.val = iprop(∃ f, blkPt c i h5 k f) from dif_pos k.isLt]
  rw [show k.val + 1 - 2 = (k.val - 2) + 1 by omega, bigSep_range_succ]
  rw [show fl0 c i h5 v20 f15 (k.val - 2) = iprop(∃ fd fs, ⌜BlkVal c i h5 v20 f15 ⟨k.val - 2, by have := k.isLt; omega⟩ fd⌝ ∗ obFl0 c i h5 ⟨k.val - 2, by have := k.isLt; omega⟩ fd fs) from dif_pos (by have := k.isLt; omega)]
  rw [show done2 c i h5 v20 f15 (k.val - 2) = iprop(∃ f, ⌜BlkVal c i h5 v20 f15 ⟨k.val - 2, by have := k.isLt; omega⟩ f⌝ ∗ blkPt c i h5 ⟨k.val - 2, by have := k.isLt; omega⟩ f) from dif_pos (by have := k.isLt; omega)]
  iintro ⟨H15, ⟨%W, HW⟩, ⟨%fd, %fs, %hv, S0⟩, S1, ⟨⟨%fb, B⟩, T⟩, D⟩
  iapply (trip2_wait0 c i arg2 harg2 arg3 harg3 arg4 harg4 arg5 harg5 arg6 harg6 arg7 harg7 arg8 harg8 arg9 harg9 arg10 harg10 arg14 harg14 h5 v20 k ⟨k.val - 2, by have := k.isLt; omega⟩ f15 fd fb fs W hk2 hp)
  isplitl [H15]; · iexact H15
  isplitl [HW]; · iexact HW
  isplitl [S0]; · iexact S0
  isplitl [B]; · iexact B
  iintro ⟨%W', %fd', %fs', %hv', H15, HW, S0, B⟩
  isplitl [H15]; · iexact H15
  isplitl [HW]; · iexists _; iexact HW
  isplitl [S0]; · iexists fd', fs'; isplitr; · ipureintro; exact hv'
                  iexact S0
  isplitl [S1]; ·
                  iexact S1
  isplitl [T]; · iexact T
  isplitl [B]
  · iexists fd; isplitr; · ipureintro; exact hv
    iexact B
  iexact D

theorem step2_wait1 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (f15 : HbBuf (F := F) c scM15) (k : Fin k0_t2_loop.trips)
    (hk2 : 2 ≤ k.val) (hp : k.val % 2 = 1) :
    inv2 c i h5 v20 f15 k.val ⟨⟩ ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) (inv2 c i h5 v20 f15 (k.val + 1)) := by
  have hk : k.val < 20 := trips2 ▸ k.isLt
  have e1 : sl1 c i h5 v20 f15 k.val = fl1 c i h5 v20 f15 (k.val - 2) := by
    unfold sl1; rw [if_neg (by omega), if_neg (by omega)]
  have e3 : sl0 c i h5 v20 f15 k.val = fl0 c i h5 v20 f15 (k.val - 1) := by
    unfold sl0; rw [if_neg (by omega), if_pos (by omega)]
  have e4 : sl0 c i h5 v20 f15 (k.val + 1) = fl0 c i h5 v20 f15 (k.val - 1) := by
    unfold sl0; rw [if_neg (by omega), if_neg (by omega)]; congr 1
  have e2 : sl1 c i h5 v20 f15 (k.val + 1) = iprop(∃ fd fs, ⌜BlkVal c i h5 v20 f15 k fd⌝ ∗ obFl1 c i h5 k fd fs) := by
    unfold sl1; rw [if_neg (by omega), if_pos (by omega)]; unfold fl1; rw [dif_pos (by simpa using k.isLt)]; rfl
  unfold inv2
  rw [bigSep_Ico_succ_bot hk, e1, e2, e3, e4]
  rw [show todo2 (F := F) c i h5 k.val = iprop(∃ f, blkPt c i h5 k f) from dif_pos k.isLt]
  rw [show k.val + 1 - 2 = (k.val - 2) + 1 by omega, bigSep_range_succ]
  rw [show fl1 c i h5 v20 f15 (k.val - 2) = iprop(∃ fd fs, ⌜BlkVal c i h5 v20 f15 ⟨k.val - 2, by have := k.isLt; omega⟩ fd⌝ ∗ obFl1 c i h5 ⟨k.val - 2, by have := k.isLt; omega⟩ fd fs) from dif_pos (by have := k.isLt; omega)]
  rw [show done2 c i h5 v20 f15 (k.val - 2) = iprop(∃ f, ⌜BlkVal c i h5 v20 f15 ⟨k.val - 2, by have := k.isLt; omega⟩ f⌝ ∗ blkPt c i h5 ⟨k.val - 2, by have := k.isLt; omega⟩ f) from dif_pos (by have := k.isLt; omega)]
  iintro ⟨H15, ⟨%W, HW⟩, S0, ⟨%fd, %fs, %hv, S1⟩, ⟨⟨%fb, B⟩, T⟩, D⟩
  iapply (trip2_wait1 c i arg2 harg2 arg3 harg3 arg4 harg4 arg5 harg5 arg6 harg6 arg7 harg7 arg8 harg8 arg9 harg9 arg10 harg10 arg14 harg14 h5 v20 k ⟨k.val - 2, by have := k.isLt; omega⟩ f15 fd fb fs W hk2 hp)
  isplitl [H15]; · iexact H15
  isplitl [HW]; · iexact HW
  isplitl [S1]; · iexact S1
  isplitl [B]; · iexact B
  iintro ⟨%W', %fd', %fs', %hv', H15, HW, S1, B⟩
  isplitl [H15]; · iexact H15
  isplitl [HW]; · iexists _; iexact HW
  isplitl [S0]; ·
                  iexact S0
  isplitl [S1]; · iexists fd', fs'; isplitr; · ipureintro; exact hv'
                  iexact S1
  isplitl [T]; · iexact T
  isplitl [B]
  · iexists fd; isplitr; · ipureintro; exact hv
    iexact B
  iexact D

theorem step2_free0 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (f15 : HbBuf (F := F) c scM15) (k : Fin k0_t2_loop.trips)
    (hk2 : k.val < 2) (hp : k.val % 2 = 0) :
    inv2 c i h5 v20 f15 k.val ⟨⟩ ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) (inv2 c i h5 v20 f15 (k.val + 1)) := by
  have hk : k.val < 20 := trips2 ▸ k.isLt
  have hkv : k.val = 0 := by omega
  have e1 : sl0 c i h5 v20 f15 k.val = iprop(∃ fs, obPt0 c fs ∗ obCell0 c) := by
    unfold sl0; rw [if_pos (by omega)]
  have e3 : sl1 c i h5 v20 f15 k.val = iprop(∃ fs, obPt1 c fs ∗ obCell1 c) := by
    unfold sl1; rw [if_pos (by omega)]
  have e4 : sl1 c i h5 v20 f15 (k.val + 1) = iprop(∃ fs, obPt1 c fs ∗ obCell1 c) := by
    unfold sl1; rw [if_pos (by omega)]
  have e2 : sl0 c i h5 v20 f15 (k.val + 1) = iprop(∃ fd fs, ⌜BlkVal c i h5 v20 f15 k fd⌝ ∗ obFl0 c i h5 k fd fs) := by
    unfold sl0; rw [if_neg (by omega), if_pos (by omega)]; unfold fl0; rw [dif_pos (by simpa using k.isLt)]; rfl
  unfold inv2
  rw [bigSep_Ico_succ_bot hk, e1, e2, e3, e4]
  rw [show todo2 (F := F) c i h5 k.val = iprop(∃ f, blkPt c i h5 k f) from dif_pos k.isLt]
  rw [show k.val + 1 - 2 = 0 by omega, show k.val - 2 = 0 by omega]
  iintro ⟨H15, ⟨%W, HW⟩, ⟨%fs, S0, C⟩, S1, ⟨⟨%fb, B⟩, T⟩, D⟩
  iapply (trip2_free0 c i arg2 harg2 arg3 harg3 arg4 harg4 arg5 harg5 arg6 harg6 arg7 harg7 arg8 harg8 arg9 harg9 arg10 harg10 arg14 harg14 h5 v20 k k f15 fb fb fs W hk2 hp)
  isplitl [H15]; · iexact H15
  isplitl [HW]; · iexact HW
  isplitl [S0]; · iexact S0
  isplitl [C]; · iexact C
  isplitl [B]; · iexact B
  iintro ⟨%W', %fd', %fs', %hv', H15, HW, S0⟩
  isplitl [H15]; · iexact H15
  isplitl [HW]; · iexists _; iexact HW
  isplitl [S0]; · iexists fd', fs'; isplitr; · ipureintro; exact hv'
                  iexact S0
  isplitl [S1]; ·
                  iexact S1
  isplitl [T]; · iexact T
  iexact D

theorem step2_free1 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (f15 : HbBuf (F := F) c scM15) (k : Fin k0_t2_loop.trips)
    (hk2 : k.val < 2) (hp : k.val % 2 = 1) :
    inv2 c i h5 v20 f15 k.val ⟨⟩ ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) (inv2 c i h5 v20 f15 (k.val + 1)) := by
  have hk : k.val < 20 := trips2 ▸ k.isLt
  have hkv : k.val = 1 := by omega
  have e1 : sl1 c i h5 v20 f15 k.val = iprop(∃ fs, obPt1 c fs ∗ obCell1 c) := by
    unfold sl1; rw [if_pos (by omega)]
  have e3 : sl0 c i h5 v20 f15 k.val = fl0 c i h5 v20 f15 0 := by
    unfold sl0; rw [if_neg (by omega), if_pos (by omega), hkv]
  have e4 : sl0 c i h5 v20 f15 (k.val + 1) = fl0 c i h5 v20 f15 0 := by
    unfold sl0; rw [if_neg (by omega), if_neg (by omega), hkv]
  have e2 : sl1 c i h5 v20 f15 (k.val + 1) = iprop(∃ fd fs, ⌜BlkVal c i h5 v20 f15 k fd⌝ ∗ obFl1 c i h5 k fd fs) := by
    unfold sl1; rw [if_neg (by omega), if_pos (by omega)]; unfold fl1; rw [dif_pos (by simpa using k.isLt)]; rfl
  unfold inv2
  rw [bigSep_Ico_succ_bot hk, e1, e2, e3, e4]
  rw [show todo2 (F := F) c i h5 k.val = iprop(∃ f, blkPt c i h5 k f) from dif_pos k.isLt]
  rw [show k.val + 1 - 2 = 0 by omega, show k.val - 2 = 0 by omega]
  iintro ⟨H15, ⟨%W, HW⟩, S0, ⟨%fs, S1, C⟩, ⟨⟨%fb, B⟩, T⟩, D⟩
  iapply (trip2_free1 c i arg2 harg2 arg3 harg3 arg4 harg4 arg5 harg5 arg6 harg6 arg7 harg7 arg8 harg8 arg9 harg9 arg10 harg10 arg14 harg14 h5 v20 k k f15 fb fb fs W hk2 hp)
  isplitl [H15]; · iexact H15
  isplitl [HW]; · iexact HW
  isplitl [S1]; · iexact S1
  isplitl [C]; · iexact C
  isplitl [B]; · iexact B
  iintro ⟨%W', %fd', %fs', %hv', H15, HW, S1⟩
  isplitl [H15]; · iexact H15
  isplitl [HW]; · iexists _; iexact HW
  isplitl [S0]; ·
                  iexact S0
  isplitl [S1]; · iexists fd', fs'; isplitr; · ipureintro; exact hv'
                  iexact S1
  isplitl [T]; · iexact T
  iexact D

set_option warn.classDefReducibility false in
/-- The loop by its invariant. -/
def loopInv_t2 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (f15 : HbBuf (F := F) c scM15) :
    LoopInvTy_k0_t2 (F := F) Unit ℕ (Pipeline.UD sig nD τ) ℕ Variants.none c none Set.univ i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 where
  inv := inv2 c i h5 v20 f15
  step k acc := by
    rcases Nat.lt_or_ge k.val 2 with h2 | h2
    · rcases Nat.mod_two_eq_zero_or_one k.val with hp | hp
      · exact step2_free0 c i arg2 harg2 arg3 harg3 arg4 harg4 arg5 harg5 arg6 harg6 arg7 harg7 arg8 harg8 arg9 harg9 arg10 harg10 arg14 harg14 h5 v20 f15 k h2 hp
      · exact step2_free1 c i arg2 harg2 arg3 harg3 arg4 harg4 arg5 harg5 arg6 harg6 arg7 harg7 arg8 harg8 arg9 harg9 arg10 harg10 arg14 harg14 h5 v20 f15 k h2 hp
    · rcases Nat.mod_two_eq_zero_or_one k.val with hp | hp
      · exact step2_wait0 c i arg2 harg2 arg3 harg3 arg4 harg4 arg5 harg5 arg6 harg6 arg7 harg7 arg8 harg8 arg9 harg9 arg10 harg10 arg14 harg14 h5 v20 f15 k h2 hp
      · exact step2_wait1 c i arg2 harg2 arg3 harg3 arg4 harg4 arg5 harg5 arg6 harg6 arg7 harg7 arg8 harg8 arg9 harg9 arg10 harg10 arg14 harg14 h5 v20 f15 k h2 hp

theorem loop2_rule (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (f15 : HbBuf (F := F) c scM15)
    {kk : PUnit → Prog (TpuEff nD τ sig (Elt F) Λ₀ .tc) PUnit} {Q : PUnit → sProp 𝕄} :
    inv2 c i h5 v20 f15 0 ⟨⟩ ⊢ iprop((∀ acc, inv2 c i h5 v20 f15 k0_t2_loop.trips acc -∗ wp frame (wpE (defs₀ (F := F)) Variants.none c none) Set.univ (kk acc) Q)
      -∗ wp frame (wpE (defs₀ (F := F)) Variants.none c none) Set.univ (Scf.Loop.for k0_t2_loop (k0_t2_ok i h5) ⟨⟩ (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20) >>= kk) Q) :=
  exec_loop frame (wpE (defs₀ (F := F)) Variants.none c none) Set.univ _ _ _ _ _ _ (loopInv_t2 (F := F) c i arg2 harg2 arg3 harg3 arg4 harg4 arg5 harg5 arg6 harg6 arg7 harg7 arg8 harg8 arg9 harg9 arg10 harg10 arg14 harg14 h5 v20 f15)
theorem inv2_zero (c : Dev nD) (i : grid0.Coords) (h5 : k0_cond5 i = 1#1) (v20 : Vec F S1x4608 .f32) (f15 : HbBuf (F := F) c scM15) :
    inv2 c i h5 v20 f15 0 ⟨⟩ = iprop(ownPt c scM15 f15 ∗ (∃ W, owes (c : Thread nD τ) 0 W) ∗ (∃ fs, obPt0 c fs ∗ obCell0 c) ∗ (∃ fs, obPt1 c fs ∗ obCell1 c)
      ∗ bigSep (Finset.Ico 0 20) (todo2 (F := F) c i h5) ∗ emp) := by
  unfold inv2
  rw [show sl0 c i h5 v20 f15 0 = iprop(∃ fs, obPt0 c fs ∗ obCell0 c) from if_pos (by omega),
    show sl1 c i h5 v20 f15 0 = iprop(∃ fs, obPt1 c fs ∗ obCell1 c) from if_pos (by omega),
    show Finset.range (0 - 2) = ∅ from rfl, bigSep_empty]; rfl
theorem inv2_end (c : Dev nD) (i : grid0.Coords) (h5 : k0_cond5 i = 1#1) (v20 : Vec F S1x4608 .f32) (f15 : HbBuf (F := F) c scM15) (k : ℕ) (hk : k = 20) (u : PUnit) :
    inv2 c i h5 v20 f15 k u = iprop(ownPt c scM15 f15 ∗ (∃ W, owes (c : Thread nD τ) 0 W)
      ∗ (∃ fd fs, ⌜BlkVal c i h5 v20 f15 ⟨18, by rw [trips2]; omega⟩ fd⌝ ∗ obFl0 c i h5 ⟨18, by rw [trips2]; omega⟩ fd fs)
      ∗ (∃ fd fs, ⌜BlkVal c i h5 v20 f15 ⟨19, by rw [trips2]; omega⟩ fd⌝ ∗ obFl1 c i h5 ⟨19, by rw [trips2]; omega⟩ fd fs)
      ∗ bigSep (Finset.Ico 20 20) (todo2 (F := F) c i h5) ∗ bigSep (Finset.range 18) (done2 c i h5 v20 f15)) := by
  subst hk
  unfold inv2
  rw [show sl0 c i h5 v20 f15 20 = fl0 c i h5 v20 f15 18 from rfl, show sl1 c i h5 v20 f15 20 = fl1 c i h5 v20 f15 19 from rfl]
  unfold fl0 fl1
  rw [dif_pos (by rw [trips2]; omega), dif_pos (by rw [trips2]; omega)]
theorem done2_end (c : Dev nD) (i : grid0.Coords) (h5 : k0_cond5 i = 1#1) (v20 : Vec F S1x4608 .f32) (f15 : HbBuf (F := F) c scM15) :
    bigSep (Finset.range 20) (done2 c i h5 v20 f15)
      = iprop((∃ f, ⌜BlkVal c i h5 v20 f15 ⟨19, by rw [trips2]; omega⟩ f⌝ ∗ blkPt c i h5 ⟨19, by rw [trips2]; omega⟩ f)
        ∗ (∃ f, ⌜BlkVal c i h5 v20 f15 ⟨18, by rw [trips2]; omega⟩ f⌝ ∗ blkPt c i h5 ⟨18, by rw [trips2]; omega⟩ f)
        ∗ bigSep (Finset.range 18) (done2 c i h5 v20 f15)) := by
  rw [bigSep_range_succ, bigSep_range_succ,
    show done2 c i h5 v20 f15 19 = _ from dif_pos (by rw [trips2]; omega), show done2 c i h5 v20 f15 18 = _ from dif_pos (by rw [trips2]; omega)]

end Cert.Proof.Kernel

end
-- ==== Proof.R26.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.Base
public import proofs.«01_k».proof.Proof.Loop2

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The last point of the down phase. -/
noncomputable def run26 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f8 : HbBuf (F := F) c arg8) (f9 : HbBuf (F := F) c arg9) (f10 : HbBuf (F := F) c arg10)
    (f11 : HbBuf (F := F) c hbM11) (f13 : HbBuf (F := F) c hbM13)
    (f15 : HbBuf (F := F) c scM15) (f16 : HbBuf (F := F) c scM16) (f17 : HbBuf (F := F) c scM17) (W : Waits sig Unit)
    (h1 : ¬ cond1 i = 1#1) (h2 : ¬ k0_cond2 i = 1#1) (h3 : ¬ k0_cond3 i = 1#1) (h4 : k0_cond4 i = 1#1) (h5 : k0_cond5 i = 1#1) :
    { L : List (View.Piece (Elt F) S2x640x4608 .f32) //
      ∀ (K : PUnit → sProp 𝕄),
        iprop((arg8.view.loc (c : Thread nD τ) ↦[arg8.view.set]{fullShare} f8)
            ∗ (arg9.view.loc (c : Thread nD τ) ↦[arg9.view.set]{fullShare} f9)
            ∗ (arg10.view.loc (c : Thread nD τ) ↦[arg10.view.set]{fullShare} f10)
            ∗ rest11 c (i 0) f11 ∗ rest13 c (i 0) f13 ∗ ownAct0 c f15 ∗ ownQ c scM16 fullShare.left f16 ∗ ownPt c scM17 f17
            ∗ flight19 c (i 0) f15 f11 ∗ flight20 c (i 0) f13 f16
            ∗ owes (c : Thread nD τ) 0 W
            ∗ (∃ fs, obPt0 c fs ∗ obCell0 c) ∗ (∃ fs, obPt1 c fs ∗ obCell1 c) ∗ bigSep (Finset.Ico 0 20) (todo2 (F := F) c i h5)
            ∗ (((∃ W', owes (c : Thread nD τ) 0 W') ∗ (arg8.view.loc (c : Thread nD τ) ↦[arg8.view.set]{fullShare} f8)
            ∗ (arg9.view.loc (c : Thread nD τ) ↦[arg9.view.set]{fullShare} f9)
            ∗ (arg10.view.loc (c : Thread nD τ) ↦[arg10.view.set]{fullShare} f10)
                ∗ ownPt c hbM11 f11 ∗ ownPt c hbM13 f13 ∗ ownPt c scM15 (scM15.view.writes (Elt F) f15 L) ∗ ownPt c scM16 f16 ∗ ownPt c scM17 f17
                ∗ cell19 c ∗ cell20 c ∗ (∃ fs, obPt0 c fs ∗ obCell0 c) ∗ (∃ fs, obPt1 c fs ∗ obCell1 c)
                ∗ bigSep (Finset.range 20) (done2 c i h5 (View.readAt (Elt F) arg10.view (Rect.unit (s := S1x4608) ![0, 0] S1x4608.size inb_S1x4608_S1x4608_0_0).toLoadRect f10) (scM15.view.writes (Elt F) f15 L))) -∗ K ⟨⟩))
          ⊢ wp frame (wpE (defs₀ (F := F)) Variants.none c none) Set.univ
              (cc0_ffn i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6) K } := by
  have hi := (cond4_iff i).mp h4
  have hi2 : (i 1).val < 27 := (i 1).isLt
  have hs11 : (win11 (i 0)).view.set ⊆ hbM11.view.set := View.set_slice_subset _ _
  have hs13 : (win13 (i 0)).view.set ⊆ hbM13.view.set := View.set_slice_subset _ _
  letI : ClosedOff (k0_off10 i 0#32) := ⟨![0, 0, 512 * ((i 1).val - 18) + 0], off10_eq i ((cond4_iff i).mp h4) 0⟩
  letI : ClosedOff (k0_off10 i 128#32) := ⟨![0, 0, 512 * ((i 1).val - 18) + 128], off10_eq i ((cond4_iff i).mp h4) 1⟩
  letI : ClosedOff (k0_off10 i 256#32) := ⟨![0, 0, 512 * ((i 1).val - 18) + 256], off10_eq i ((cond4_iff i).mp h4) 2⟩
  letI : ClosedOff (k0_off10 i 384#32) := ⟨![0, 0, 512 * ((i 1).val - 18) + 384], off10_eq i ((cond4_iff i).mp h4) 3⟩
  letI : ClosedOff (k0_off11 i 0#32) := ⟨![0, 320, 512 * ((i 1).val - 18) + 0], off11_eq i ((cond4_iff i).mp h4) 0⟩
  letI : ClosedOff (k0_off11 i 128#32) := ⟨![0, 320, 512 * ((i 1).val - 18) + 128], off11_eq i ((cond4_iff i).mp h4) 1⟩
  letI : ClosedOff (k0_off11 i 256#32) := ⟨![0, 320, 512 * ((i 1).val - 18) + 256], off11_eq i ((cond4_iff i).mp h4) 2⟩
  letI : ClosedOff (k0_off11 i 384#32) := ⟨![0, 320, 512 * ((i 1).val - 18) + 384], off11_eq i ((cond4_iff i).mp h4) 3⟩

  refine ⟨?_, fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]

    iintro ⟨H8, H9, H10, H11, H13, H15, H16, H17, C19, C20, HW, S0, S1, T, Hk⟩
    set_option sl_exec.lendShare "H16" in set_option sl_exec.dmaWindow true in set_option sl_exec.dmaWindowSet true in set_option sl_exec.dmaWindowLent true in sl_exec
    ihave I : inv2 c i h5 (View.readAt (Elt F) arg10.view (Rect.unit (s := S1x4608) ![0, 0] S1x4608.size inb_S1x4608_S1x4608_0_0).toLoadRect f10) _ 0 PUnit.unit.{1} $$ [H15 HW S0 S1 T]
    · rw [inv2_zero]
      isplitl [H15]; · iexact H15
      isplitl [HW]; · iexists _; iexact HW
      isplitl [S0]; · iexact S0
      isplitl [S1]; · iexact S1
      isplitl [T]; · iexact T
      iempintro
    iapply (loop2_rule (F := F) c i arg2 harg2 arg3 harg3 arg4 harg4 arg5 harg5 arg6 harg6 arg7 harg7 arg8 harg8 arg9 harg9 arg10 harg10 arg14 harg14 h5 (View.readAt (Elt F) arg10.view (Rect.unit (s := S1x4608) ![0, 0] S1x4608.size inb_S1x4608_S1x4608_0_0).toLoadRect f10) _) $$ I
    iintro %acc I
    ihave ⟨H15, ⟨%W2, HW⟩, ⟨%fd0, %fs0, %hv0, S0⟩, ⟨%fd1, %fs1, %hv1, S1⟩, T, D⟩ := (Entails.of_eq (inv2_end c i h5 (View.readAt (Elt F) arg10.view (Rect.unit (s := S1x4608) ![0, 0] S1x4608.size inb_S1x4608_S1x4608_0_0).toLoadRect f10) _ _ trips2 acc)) $$ I
    sl_exec
    sl_step
    iapply Hk
    isplitl [HW]; · iexists _; iexact HW
    isplitl [H8]; · iexact H8
    isplitl [H9]; · iexact H9
    isplitl [H10]; · iexact H10
    isplitl [H11]; · iexact H11
    isplitl [H13]; · iexact H13
    isplitl [H15]; · iexact H15
    isplitl [H16]; · iexact H16
    isplitl [H17]; · iexact H17
    isplitl [C19]; · iexact C19
    isplitl [C20]; · iexact C20
    isplitl [S0_src S0]
    · iexists fs0; isplitl [S0_src]; · iexact S0_src
      iexact S0
    isplitl [S1_src S1]
    · iexists fs1; isplitl [S1_src]; · iexact S1_src
      iexact S1
    rw [done2_end]
    isplitl [S1_dst]
    · iexists fd1; isplitr; · ipureintro; exact hv1
      iexact S1_dst
    isplitl [S0_dst]
    · iexists fd0; isplitr; · ipureintro; exact hv0
      iexact S0_dst
    iexact D

end Cert.Proof.Kernel

end
-- ==== Proof.State.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.Base
public import proofs.«01_k».proof.Proof.Up
public import proofs.«01_k».proof.Proof.First
public import proofs.«01_k».proof.Proof.Down
public import proofs.«01_k».proof.Proof.R18
public import proofs.«01_k».proof.Proof.R26

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The elements of block `k` of the result. -/
abbrev blkSet (c : Dev nD) (i : grid0.Coords) (h5 : k0_cond5 i = 1#1) (k : Fin k0_t2_loop.trips) : Finset (Idx (hbM12.view.loc (c : Thread nD τ) : Loc nD τ sig)) :=
  (hbM12.slice (Rect.unit (s := S1920x4608) (k0_off21 i k) S32x4608.size (k0_off21_inb i k h5)) (fun _ => rfl) : Memref sig .tc .hbm S32x4608 .bf16).view.set

/-- The first point of a block keeps it. -/
def FirstP (c : Dev nD) (up : ℕ → HbBuf (F := F) c scM15 → HbBuf (F := F) c scM17 → Prop) : Prop :=
  ∀ (t : Fin cfg0.N) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f2 : HbBuf (F := F) c arg2) (f3 : HbBuf (F := F) c arg3) (f4 : HbBuf (F := F) c arg4) (f5 : HbBuf (F := F) c arg5) (f6 : HbBuf (F := F) c arg6) (f7 : HbBuf (F := F) c arg7) (f15 : HbBuf (F := F) c scM15) (f17 : HbBuf (F := F) c scM17) (h1 : cond1 (grid0.coords t) = 1#1) (h2 : k0_cond2 (grid0.coords t) = 1#1) (h3 : ¬ k0_cond3 (grid0.coords t) = 1#1) (h4 : ¬ k0_cond4 (grid0.coords t) = 1#1) (h5 : ¬ k0_cond5 (grid0.coords t) = 1#1),
    arg2.view.read (Elt F) f2 = iblk m c 0 t → arg3.view.read (Elt F) f3 = iblk m c 1 t → arg4.view.read (Elt F) f4 = iblk m c 2 t → arg5.view.read (Elt F) f5 = iblk m c 3 t → arg6.view.read (Elt F) f6 = iblk m c 4 t → arg7.view.read (Elt F) f7 = iblk m c 5 t → up (t.val + 1) (scM15.view.writes (Elt F) f15 (runFirst (F := F) c (grid0.coords t) arg2 harg2 arg3 harg3 arg4 harg4 arg5 harg5 arg6 harg6 arg7 harg7 arg8 harg8 arg9 harg9 arg10 harg10 arg14 harg14 f2 f3 f4 f5 f6 f7 f15 f17 h1 h2 h3 h4 h5).1.1) (runFirst (F := F) c (grid0.coords t) arg2 harg2 arg3 harg3 arg4 harg4 arg5 harg5 arg6 harg6 arg7 harg7 arg8 harg8 arg9 harg9 arg10 harg10 arg14 harg14 f2 f3 f4 f5 f6 f7 f15 f17 h1 h2 h3 h4 h5).1.2

/-- A later point of the up phase keeps it. -/
def StepP (c : Dev nD) (up : ℕ → HbBuf (F := F) c scM15 → HbBuf (F := F) c scM17 → Prop) : Prop :=
  ∀ (t : Fin cfg0.N) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f2 : HbBuf (F := F) c arg2) (f3 : HbBuf (F := F) c arg3) (f4 : HbBuf (F := F) c arg4) (f5 : HbBuf (F := F) c arg5) (f6 : HbBuf (F := F) c arg6) (f7 : HbBuf (F := F) c arg7) (f15 : HbBuf (F := F) c scM15) (f17 : HbBuf (F := F) c scM17) (h1 : ¬ cond1 (grid0.coords t) = 1#1) (h2 : k0_cond2 (grid0.coords t) = 1#1) (h3 : ¬ k0_cond3 (grid0.coords t) = 1#1) (h4 : ¬ k0_cond4 (grid0.coords t) = 1#1) (h5 : ¬ k0_cond5 (grid0.coords t) = 1#1),
    arg2.view.read (Elt F) f2 = iblk m c 0 t → arg3.view.read (Elt F) f3 = iblk m c 1 t → arg4.view.read (Elt F) f4 = iblk m c 2 t → arg5.view.read (Elt F) f5 = iblk m c 3 t → arg6.view.read (Elt F) f6 = iblk m c 4 t → arg7.view.read (Elt F) f7 = iblk m c 5 t → up t.val f15 f17 → up (t.val + 1) (scM15.view.writes (Elt F) f15 (runUp (F := F) c (grid0.coords t) arg2 harg2 arg3 harg3 arg4 harg4 arg5 harg5 arg6 harg6 arg7 harg7 arg8 harg8 arg9 harg9 arg10 harg10 arg14 harg14 f2 f3 f4 f5 f6 f7 f15 f17 h1 h2 h3 h4 h5).1.1) (scM17.view.writes (Elt F) f17 (runUp (F := F) c (grid0.coords t) arg2 harg2 arg3 harg3 arg4 harg4 arg5 harg5 arg6 harg6 arg7 harg7 arg8 harg8 arg9 harg9 arg10 harg10 arg14 harg14 f2 f3 f4 f5 f6 f7 f15 f17 h1 h2 h3 h4 h5).1.2)

/-- The first point of the down phase keeps it. -/
def TurnP (c : Dev nD) (up : ℕ → HbBuf (F := F) c scM15 → HbBuf (F := F) c scM17 → Prop) (dn : ℕ → HbBuf (F := F) c scM15 → HbBuf (F := F) c scM15 → HbBuf (F := F) c scM16 → HbBuf (F := F) c scM17 → Prop) (c4 : ℕ → HbBuf (F := F) c hbM13 → Prop) (s4 : ℕ → Vec F S1x1x640 .f32 → Prop) : Prop :=
  ∀ (t : Fin cfg0.N) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f8 : HbBuf (F := F) c arg8) (f9 : HbBuf (F := F) c arg9) (f14 : HbBuf (F := F) c arg14) (f13 : HbBuf (F := F) c hbM13) (f15 : HbBuf (F := F) c scM15) (f16 : HbBuf (F := F) c scM16) (f17 : HbBuf (F := F) c scM17) (h1 : ¬ cond1 (grid0.coords t) = 1#1) (h2 : ¬ k0_cond2 (grid0.coords t) = 1#1) (h3 : k0_cond3 (grid0.coords t) = 1#1) (h4 : k0_cond4 (grid0.coords t) = 1#1) (h5 : ¬ k0_cond5 (grid0.coords t) = 1#1),
    arg8.view.read (Elt F) f8 = iblk m c 6 t → arg9.view.read (Elt F) f9 = iblk m c 7 t → up t.val f15 f17 → c4 (t.val / 27) f13 →
      dn (t.val + 1) (scM15.view.writes (Elt F) (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.2.2.2.2.1 (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.1) (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.2.2.2.2.1 (scM16.view.writes (Elt F) f16 (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.2.2.1) (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.2.1
      ∧ c4 (t.val / 27 + 1) (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.2.2.2.1 ∧ s4 (t.val / 27) (arg14.view.read (Elt F) (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.2.2.2.2.2)

/-- A later point of the down phase keeps it. -/
def DownP (c : Dev nD) (dn : ℕ → HbBuf (F := F) c scM15 → HbBuf (F := F) c scM15 → HbBuf (F := F) c scM16 → HbBuf (F := F) c scM17 → Prop) : Prop :=
  ∀ (t : Fin cfg0.N) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f8 : HbBuf (F := F) c arg8) (f9 : HbBuf (F := F) c arg9) (f15 : HbBuf (F := F) c scM15) (g15 : HbBuf (F := F) c scM15) (f16 : HbBuf (F := F) c scM16) (f17 : HbBuf (F := F) c scM17) (h1 : ¬ cond1 (grid0.coords t) = 1#1) (h2 : ¬ k0_cond2 (grid0.coords t) = 1#1) (h3 : ¬ k0_cond3 (grid0.coords t) = 1#1) (h4 : k0_cond4 (grid0.coords t) = 1#1) (h5 : ¬ k0_cond5 (grid0.coords t) = 1#1),
    arg8.view.read (Elt F) f8 = iblk m c 6 t → arg9.view.read (Elt F) f9 = iblk m c 7 t → dn t.val f15 g15 f16 f17 → dn (t.val + 1) (scM15.view.writes (Elt F) f15 (runDown (F := F) c (grid0.coords t) arg2 harg2 arg3 harg3 arg4 harg4 arg5 harg5 arg6 harg6 arg7 harg7 arg8 harg8 arg9 harg9 arg10 harg10 arg14 harg14 f8 f9 f15 f16 f17 h1 h2 h3 h4 h5).1) g15 f16 f17

/-- The last point of a block keeps it. -/
def LastP (c : Dev nD) (dn : ℕ → HbBuf (F := F) c scM15 → HbBuf (F := F) c scM15 → HbBuf (F := F) c scM16 → HbBuf (F := F) c scM17 → Prop) (out : ℕ → HbBuf (F := F) c hbM12 → Prop) : Prop :=
  ∀ (t : Fin cfg0.N) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f8 : HbBuf (F := F) c arg8) (f9 : HbBuf (F := F) c arg9) (f10 : HbBuf (F := F) c arg10) (f13 : HbBuf (F := F) c hbM13) (d15 g15 f15 : HbBuf (F := F) c scM15) (f16 : HbBuf (F := F) c scM16) (f17 : HbBuf (F := F) c scM17) (W : Waits sig Unit) (h1 : ¬ cond1 (grid0.coords t) = 1#1) (h2 : ¬ k0_cond2 (grid0.coords t) = 1#1) (h3 : ¬ k0_cond3 (grid0.coords t) = 1#1) (h4 : k0_cond4 (grid0.coords t) = 1#1) (h5 : k0_cond5 (grid0.coords t) = 1#1),
    arg8.view.read (Elt F) f8 = iblk m c 6 t → arg9.view.read (Elt F) f9 = iblk m c 7 t → arg10.view.read (Elt F) f10 = iblk m c 8 t → dn t.val d15 g15 f16 f17 → f15 = slot1.view.set.piecewise g15 d15 →
    ∀ (f12 g12 : HbBuf (F := F) c hbM12), out (t.val / 27) f12 →
      (∀ e, (∀ k, e ∉ blkSet c (grid0.coords t) h5 k) → g12 e = f12 e) →
      (∀ k, ∃ fd, BlkVal c (grid0.coords t) h5 (View.readAt (Elt F) arg10.view (Rect.unit (s := S1x4608) ![0, 0] S1x4608.size inb_S1x4608_S1x4608_0_0).toLoadRect f10) (scM15.view.writes (Elt F) f15 (run26 (F := F) c (grid0.coords t) arg2 harg2 arg3 harg3 arg4 harg4 arg5 harg5 arg6 harg6 arg7 harg7 arg8 harg8 arg9 harg9 arg10 harg10 arg14 harg14 f8 f9 f10 (V m c main_arg9) f13 f15 f16 f17 W h1 h2 h3 h4 h5).1) k fd ∧ ∀ e ∈ blkSet c (grid0.coords t) h5 k, g12 e = fd e) →
      out (t.val / 27 + 1) g12

/-- What is known of the buffers between two points: predicates on their contents, kept by the five kinds of point. The frame takes
    all of them true; the value proof states the arithmetic in them. -/
structure Spec (c : Dev nD) where
  /-- Before point `t` of the up phase: the activations so far, and their running maximum. -/
  up : ℕ → HbBuf (F := F) c scM15 → HbBuf (F := F) c scM17 → Prop
  /-- Before point `t` of the down phase: the down products so far, `h1`'s rows, the codes, the scale. -/
  dn : ℕ → HbBuf (F := F) c scM15 → HbBuf (F := F) c scM15 → HbBuf (F := F) c scM16 → HbBuf (F := F) c scM17 → Prop
  /-- The first blocks of 640 rows of the codes, of the result, and one block of the scales. -/
  c4 : ℕ → HbBuf (F := F) c hbM13 → Prop
  out : ℕ → HbBuf (F := F) c hbM12 → Prop
  s4 : ℕ → Vec F S1x1x640 .f32 → Prop
  c4_zero : ∀ f, c4 0 f
  out_zero : ∀ f, out 0 f
  first : FirstP m c up
  step : StepP m c up
  turn : TurnP m c up dn c4 s4
  down : DownP m c dn
  last : LastP m c dn out

/-- Nothing is known. -/
def Spec.none (c : Dev nD) : Spec (F := F) m c where
  up _ _ _ := True
  dn _ _ _ _ _ := True
  c4 _ _ := True
  out _ _ := True
  s4 _ _ := True
  c4_zero _ := trivial
  out_zero _ := trivial
  first := by unfold FirstP; intros; trivial
  step := by unfold StepP; intros; trivial
  turn := by unfold TurnP; intros; exact ⟨trivial, trivial, trivial⟩
  down := by unfold DownP; intros; trivial
  last := by unfold LastP; intros; trivial

variable {m}

/-- The block of rows point `n` works on. -/
def blkOf (n : ℕ) : Fin 3 := ⟨n / 27 % 3, Nat.mod_lt _ (by decide)⟩

/-- Held throughout: the generator register, the two slots of the output buffer with their cells, and the result in HBM. -/
def common {c : Dev nD} (S : Spec m c) (n : ℕ) : sProp 𝕄 :=
  iprop((∃ r, prngReg c r) ∗ (∃ fs, obPt0 (F := F) c fs ∗ obCell0 c) ∗ (∃ fs, obPt1 (F := F) c fs ∗ obCell1 c)
    ∗ (∃ f12, ⌜S.out (n / 27) f12⌝ ∗ ownPt c hbM12 f12))
/-- Held besides, in the up phase. -/
def stUp {c : Dev nD} (S : Spec m c) (n : ℕ) : sProp 𝕄 :=
  iprop(∃ f15 f16 f17 f13, ⌜(n % 27 ≠ 0 → S.up n f15 f17) ∧ S.c4 (n / 27) f13⌝ ∗ ownPt c scM15 f15 ∗ ownPt c scM16 f16 ∗ ownPt c scM17 f17
    ∗ cell19 c ∗ cell20 c ∗ ownPt c hbM11 (V m c main_arg9) ∗ ownPt c hbM13 f13)
/-- Held besides, in the down phase. -/
def stDn {c : Dev nD} (S : Spec m c) (b : Fin 3) (n : ℕ) : sProp 𝕄 :=
  iprop(∃ f15 g15 f16 f17 f13, ⌜S.dn n f15 g15 f16 f17 ∧ S.c4 (n / 27 + 1) f13⌝ ∗ rest11 c b (V m c main_arg9) ∗ rest13 c b f13 ∗ ownAct0 c f15
    ∗ ownQ c scM16 fullShare.left f16 ∗ ownPt c scM17 f17 ∗ flight19 c b g15 (V m c main_arg9) ∗ flight20 c b f13 f16)
def st {c : Dev nD} (S : Spec m c) (n : ℕ) : sProp 𝕄 :=
  if n % 27 ≤ 18 then stUp S n else stDn S (blkOf n) n

theorem co0 : ∀ t : Fin cfg0.N, ((grid0.coords t) 0).val = t.val / 27 := by decide +kernel
theorem co1 : ∀ t : Fin cfg0.N, ((grid0.coords t) 1).val = t.val % 27 := by decide +kernel
theorem coB (t : Fin cfg0.N) : (grid0.coords t) 0 = blkOf t.val := Fin.ext (by
  rw [co0]; have h : t.val < 81 := t.isLt; show _ = t.val / 27 % 3; omega)

end Cert.Proof.Kernel

end
-- ==== Proof.Bodies.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.State

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {m : (ℓ : Loc nD τ sig) → Buf (Elt F) ℓ}

set_option maxHeartbeats 1000000 in
/-- The first point of a block. -/
theorem body_first {c : Dev nD} (S : Spec m c) (t : Fin cfg0.N) (Y : (w : Fin cfg0.W) → (cfg0.win w).block.Idx → Elt F (cfg0.win w).elt) (hY0 : Y 0 = iblk m c 0 t) (hY1 : Y 1 = iblk m c 1 t) (hY2 : Y 2 = iblk m c 2 t) (hY3 : Y 3 = iblk m c 3 t) (hY4 : Y 4 = iblk m c 4 t) (hY5 : Y 5 = iblk m c 5 t) (ht : t.val % 27 = 0) (K : PUnit → sProp 𝕄) :
    iprop(stUp S t.val ∗ owns (c : Thread nD τ) (st0_0 t) fullShare (Y 0)
            ∗ owns (c : Thread nD τ) (st0_1 t) fullShare (Y 1)
            ∗ owns (c : Thread nD τ) (st0_2 t) fullShare (Y 2)
            ∗ owns (c : Thread nD τ) (st0_3 t) fullShare (Y 3)
            ∗ owns (c : Thread nD τ) (st0_4 t) fullShare (Y 4)
            ∗ owns (c : Thread nD τ) (st0_5 t) fullShare (Y 5)
            ∗ ((stUp S (t.val + 1) ∗ owns (c : Thread nD τ) (st0_0 t) fullShare (Y 0)
            ∗ owns (c : Thread nD τ) (st0_1 t) fullShare (Y 1)
            ∗ owns (c : Thread nD τ) (st0_2 t) fullShare (Y 2)
            ∗ owns (c : Thread nD τ) (st0_3 t) fullShare (Y 3)
            ∗ owns (c : Thread nD τ) (st0_4 t) fullShare (Y 4)
            ∗ owns (c : Thread nD τ) (st0_5 t) fullShare (Y 5)) -∗ K ⟨⟩))
      ⊢ wp frame (wpE (defs₀ (F := F)) Variants.none c none) Set.univ (bodyAt0 t) K := by
  have h1 : cond1 (grid0.coords t) = 1#1 := (cond1_iff _).mpr (by rw [co1]; omega)
  have h2 : k0_cond2 (grid0.coords t) = 1#1 := (cond2_iff _).mpr (by rw [co1]; omega)
  have h3 : ¬ k0_cond3 (grid0.coords t) = 1#1 := fun h => by have := (cond3_iff _).mp h; rw [co1] at this; omega
  have h4 : ¬ k0_cond4 (grid0.coords t) = 1#1 := fun h => by have := (cond4_iff _).mp h; rw [co1] at this; omega
  have h5 : ¬ k0_cond5 (grid0.coords t) = 1#1 := fun h => by have := (cond5_iff _).mp h; rw [co1] at this; omega
  unfold stUp owns
  iintro ⟨⟨%f15, %f16, %f17, %f13, %hp, H15, H16, H17, C19, C20, H11, H13⟩, ⟨%f2, %e2, H2⟩, ⟨%f3, %e3, H3⟩, ⟨%f4, %e4, H4⟩, ⟨%f5, %e5, H5⟩, ⟨%f6, %e6, H6⟩, ⟨%f7, %e7, H7⟩, Hk⟩
  have hs := S.first t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f2 f3 f4 f5 f6 f7 f15 f17 h1 h2 h3 h4 h5 (e2.trans hY0) (e3.trans hY1) (e4.trans hY2) (e5.trans hY3) (e6.trans hY4) (e7.trans hY5)
  iapply ((runFirst (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f2 f3 f4 f5 f6 f7 f15 f17 h1 h2 h3 h4 h5).2 K)
  isplitl [H2]; · iexact H2
  isplitl [H3]; · iexact H3
  isplitl [H4]; · iexact H4
  isplitl [H5]; · iexact H5
  isplitl [H6]; · iexact H6
  isplitl [H7]; · iexact H7
  isplitl [H15]; · iexact H15
  isplitl [H17]; · iexact H17
  iintro ⟨H2, H3, H4, H5, H6, H7, H15, H17⟩
  iapply Hk
  isplitl [H15 H16 H17 C19 C20 H11 H13]
  · iexists _, f16, _, f13
    isplitr
    · ipureintro
      exact ⟨fun _ => hs, by rw [show (t.val + 1) / 27 = t.val / 27 by omega]; exact hp.2⟩
    isplitl [H15]; · iexact H15
    isplitl [H16]; · iexact H16
    isplitl [H17]; · iexact H17
    isplitl [C19]; · iexact C19
    isplitl [C20]; · iexact C20
    isplitl [H11]; · iexact H11
    iexact H13
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  iexists f7; isplitr
  · ipureintro; exact e7
  iexact H7

set_option maxHeartbeats 1000000 in
/-- A later point of the up phase. -/
theorem body_step {c : Dev nD} (S : Spec m c) (t : Fin cfg0.N) (Y : (w : Fin cfg0.W) → (cfg0.win w).block.Idx → Elt F (cfg0.win w).elt) (hY0 : Y 0 = iblk m c 0 t) (hY1 : Y 1 = iblk m c 1 t) (hY2 : Y 2 = iblk m c 2 t) (hY3 : Y 3 = iblk m c 3 t) (hY4 : Y 4 = iblk m c 4 t) (hY5 : Y 5 = iblk m c 5 t) (ht0 : t.val % 27 ≠ 0) (ht : t.val % 27 < 18) (K : PUnit → sProp 𝕄) :
    iprop(stUp S t.val ∗ owns (c : Thread nD τ) (st0_0 t) fullShare (Y 0)
            ∗ owns (c : Thread nD τ) (st0_1 t) fullShare (Y 1)
            ∗ owns (c : Thread nD τ) (st0_2 t) fullShare (Y 2)
            ∗ owns (c : Thread nD τ) (st0_3 t) fullShare (Y 3)
            ∗ owns (c : Thread nD τ) (st0_4 t) fullShare (Y 4)
            ∗ owns (c : Thread nD τ) (st0_5 t) fullShare (Y 5)
            ∗ ((stUp S (t.val + 1) ∗ owns (c : Thread nD τ) (st0_0 t) fullShare (Y 0)
            ∗ owns (c : Thread nD τ) (st0_1 t) fullShare (Y 1)
            ∗ owns (c : Thread nD τ) (st0_2 t) fullShare (Y 2)
            ∗ owns (c : Thread nD τ) (st0_3 t) fullShare (Y 3)
            ∗ owns (c : Thread nD τ) (st0_4 t) fullShare (Y 4)
            ∗ owns (c : Thread nD τ) (st0_5 t) fullShare (Y 5)) -∗ K ⟨⟩))
      ⊢ wp frame (wpE (defs₀ (F := F)) Variants.none c none) Set.univ (bodyAt0 t) K := by
  have h1 : ¬ cond1 (grid0.coords t) = 1#1 := fun h => by have := (cond1_iff _).mp h; rw [co1] at this; omega
  have h2 : k0_cond2 (grid0.coords t) = 1#1 := (cond2_iff _).mpr (by rw [co1]; omega)
  have h3 : ¬ k0_cond3 (grid0.coords t) = 1#1 := fun h => by have := (cond3_iff _).mp h; rw [co1] at this; omega
  have h4 : ¬ k0_cond4 (grid0.coords t) = 1#1 := fun h => by have := (cond4_iff _).mp h; rw [co1] at this; omega
  have h5 : ¬ k0_cond5 (grid0.coords t) = 1#1 := fun h => by have := (cond5_iff _).mp h; rw [co1] at this; omega
  unfold stUp owns
  iintro ⟨⟨%f15, %f16, %f17, %f13, %hp, H15, H16, H17, C19, C20, H11, H13⟩, ⟨%f2, %e2, H2⟩, ⟨%f3, %e3, H3⟩, ⟨%f4, %e4, H4⟩, ⟨%f5, %e5, H5⟩, ⟨%f6, %e6, H6⟩, ⟨%f7, %e7, H7⟩, Hk⟩
  have hs := S.step t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f2 f3 f4 f5 f6 f7 f15 f17 h1 h2 h3 h4 h5 (e2.trans hY0) (e3.trans hY1) (e4.trans hY2) (e5.trans hY3) (e6.trans hY4) (e7.trans hY5) (hp.1 ht0)
  iapply ((runUp (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f2 f3 f4 f5 f6 f7 f15 f17 h1 h2 h3 h4 h5).2 K)
  isplitl [H2]; · iexact H2
  isplitl [H3]; · iexact H3
  isplitl [H4]; · iexact H4
  isplitl [H5]; · iexact H5
  isplitl [H6]; · iexact H6
  isplitl [H7]; · iexact H7
  isplitl [H15]; · iexact H15
  isplitl [H17]; · iexact H17
  iintro ⟨H2, H3, H4, H5, H6, H7, H15, H17⟩
  iapply Hk
  isplitl [H15 H16 H17 C19 C20 H11 H13]
  · iexists _, f16, _, f13
    isplitr
    · ipureintro
      exact ⟨fun _ => hs, by rw [show (t.val + 1) / 27 = t.val / 27 by omega]; exact hp.2⟩
    isplitl [H15]; · iexact H15
    isplitl [H16]; · iexact H16
    isplitl [H17]; · iexact H17
    isplitl [C19]; · iexact C19
    isplitl [C20]; · iexact C20
    isplitl [H11]; · iexact H11
    iexact H13
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  iexists f7; isplitr
  · ipureintro; exact e7
  iexact H7

set_option maxHeartbeats 1000000 in
/-- The first point of the down phase. -/
theorem body_turn {c : Dev nD} (S : Spec m c) (t : Fin cfg0.N) (Y : (w : Fin cfg0.W) → (cfg0.win w).block.Idx → Elt F (cfg0.win w).elt) (hY6 : Y 6 = iblk m c 6 t) (hY7 : Y 7 = iblk m c 7 t) (ht : t.val % 27 = 18) (K : PUnit → sProp 𝕄) :
    iprop(stUp S t.val ∗ owns (c : Thread nD τ) (st0_6 t) fullShare (Y 6)
            ∗ owns (c : Thread nD τ) (st0_7 t) fullShare (Y 7)
            ∗ owns (c : Thread nD τ) (st0_9 t) fullShare (Y 9)
            ∗ ((stDn S ((grid0.coords t) 0) (t.val + 1) ∗ owns (c : Thread nD τ) (st0_6 t) fullShare (Y 6)
            ∗ owns (c : Thread nD τ) (st0_7 t) fullShare (Y 7) ∗ (∃ X, ⌜S.s4 (t.val / 27) X⌝ ∗ owns (c : Thread nD τ) (st0_9 t) fullShare X)) -∗ K ⟨⟩))
      ⊢ wp frame (wpE (defs₀ (F := F)) Variants.none c none) Set.univ (bodyAt0 t) K := by
  have h1 : ¬ cond1 (grid0.coords t) = 1#1 := fun h => by have := (cond1_iff _).mp h; rw [co1] at this; omega
  have h2 : ¬ k0_cond2 (grid0.coords t) = 1#1 := fun h => by have := (cond2_iff _).mp h; rw [co1] at this; omega
  have h3 : k0_cond3 (grid0.coords t) = 1#1 := (cond3_iff _).mpr (by rw [co1]; omega)
  have h4 : k0_cond4 (grid0.coords t) = 1#1 := (cond4_iff _).mpr (by rw [co1]; omega)
  have h5 : ¬ k0_cond5 (grid0.coords t) = 1#1 := fun h => by have := (cond5_iff _).mp h; rw [co1] at this; omega
  unfold stUp stDn owns
  iintro ⟨⟨%f15, %f16, %f17, %f13, %hp, H15, H16, H17, C19, C20, H11, H13⟩, ⟨%f8, %e8, H8⟩, ⟨%f9, %e9, H9⟩, ⟨%f14, %e14, H14⟩, Hk⟩
  have hs := S.turn t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f14 f13 f15 f16 f17 h1 h2 h3 h4 h5 (e8.trans hY6) (e9.trans hY7) (hp.1 (by omega)) hp.2
  iapply ((run18 (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f14 (V m c main_arg9) f13 f15 f16 f17 h1 h2 h3 h4 h5).2 K)
  isplitl [H8]; · iexact H8
  isplitl [H9]; · iexact H9
  isplitl [H14]; · iexact H14
  isplitl [H11]; · iexact H11
  isplitl [H13]; · iexact H13
  isplitl [H15]; · iexact H15
  isplitl [H16]; · iexact H16
  isplitl [H17]; · iexact H17
  isplitl [C19]; · iexact C19
  isplitl [C20]; · iexact C20
  iintro ⟨H8, H9, H14, R11, R13, H15, H16, H17, S19, S20⟩
  iapply Hk
  isplitl [R11 R13 H15 H16 H17 S19 S20]
  · iexists _, _, _, _, _
    isplitr
    · ipureintro
      exact ⟨hs.1, by rw [show (t.val + 1) / 27 = t.val / 27 by omega]; exact hs.2.1⟩
    isplitl [R11]
    · iapply (Entails.of_eq (rest11_off c ((grid0.coords t) 0) _ (off9_eq _) (k0_off9_inb (grid0.coords t) h3) _))
      iexact R11
    isplitl [R13]
    · iapply (Entails.of_eq (rest13_off c ((grid0.coords t) 0) _ (off8_eq _) (k0_off8_inb (grid0.coords t) h3) _))
      iexact R13
    isplitl [H15]; · iexact H15
    isplitl [H16]; · iexact H16
    isplitl [H17]; · iexact H17
    isplitl [S19]
    · iapply (Entails.of_eq (flight19_off c ((grid0.coords t) 0) _ (off9_eq _) (k0_off9_inb (grid0.coords t) h3) _ _))
      iexact S19
    iapply (Entails.of_eq (flight20_off c ((grid0.coords t) 0) _ (off8_eq _) (k0_off8_inb (grid0.coords t) h3) _ _))
    iexact S20
  isplitl [H8]
  · iexists f8; isplitr
    · ipureintro; exact e8
    iexact H8
  isplitl [H9]
  · iexists f9; isplitr
    · ipureintro; exact e9
    iexact H9
  iexists _
  isplitr
  · ipureintro; exact hs.2.2
  iexists _; isplitr
  · ipureintro; rfl
  iexact H14

set_option maxHeartbeats 1000000 in
/-- A point strictly inside the down phase. -/
theorem body_down {c : Dev nD} (S : Spec m c) (b : Fin 3) (t : Fin cfg0.N) (Y : (w : Fin cfg0.W) → (cfg0.win w).block.Idx → Elt F (cfg0.win w).elt) (hY6 : Y 6 = iblk m c 6 t) (hY7 : Y 7 = iblk m c 7 t) (ht : 18 < t.val % 27) (ht' : t.val % 27 < 26) (K : PUnit → sProp 𝕄) :
    iprop(stDn S b t.val ∗ owns (c : Thread nD τ) (st0_6 t) fullShare (Y 6)
            ∗ owns (c : Thread nD τ) (st0_7 t) fullShare (Y 7)
            ∗ ((stDn S b (t.val + 1) ∗ owns (c : Thread nD τ) (st0_6 t) fullShare (Y 6)
            ∗ owns (c : Thread nD τ) (st0_7 t) fullShare (Y 7)) -∗ K ⟨⟩))
      ⊢ wp frame (wpE (defs₀ (F := F)) Variants.none c none) Set.univ (bodyAt0 t) K := by
  have h1 : ¬ cond1 (grid0.coords t) = 1#1 := fun h => by have := (cond1_iff _).mp h; rw [co1] at this; omega
  have h2 : ¬ k0_cond2 (grid0.coords t) = 1#1 := fun h => by have := (cond2_iff _).mp h; rw [co1] at this; omega
  have h3 : ¬ k0_cond3 (grid0.coords t) = 1#1 := fun h => by have := (cond3_iff _).mp h; rw [co1] at this; omega
  have h4 : k0_cond4 (grid0.coords t) = 1#1 := (cond4_iff _).mpr (by rw [co1]; omega)
  have h5 : ¬ k0_cond5 (grid0.coords t) = 1#1 := fun h => by have := (cond5_iff _).mp h; rw [co1] at this; omega
  unfold stDn owns
  iintro ⟨⟨%f15, %g15, %f16, %f17, %f13, %hp, R11, R13, H15, H16, H17, S19, S20⟩, ⟨%f8, %e8, H8⟩, ⟨%f9, %e9, H9⟩, Hk⟩
  have hs := S.down t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f15 g15 f16 f17 h1 h2 h3 h4 h5 (e8.trans hY6) (e9.trans hY7) hp.1
  iapply ((runDown (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f15 f16 f17 h1 h2 h3 h4 h5).2 K)
  isplitl [H8]; · iexact H8
  isplitl [H9]; · iexact H9
  isplitl [H15]; · iexact H15
  isplitl [H16]; · iexact H16
  isplitl [H17]; · iexact H17
  iintro ⟨H8, H9, H15, H16, H17⟩
  iapply Hk
  isplitl [R11 R13 H15 H16 H17 S19 S20]
  · iexists _, g15, f16, f17, f13
    isplitr
    · ipureintro
      exact ⟨hs, by rw [show (t.val + 1) / 27 = t.val / 27 by omega]; exact hp.2⟩
    isplitl [R11]; · iexact R11
    isplitl [R13]; · iexact R13
    isplitl [H15]; · iexact H15
    isplitl [H16]; · iexact H16
    isplitl [H17]; · iexact H17
    isplitl [S19]; · iexact S19
    iexact S20
  isplitl [H8]
  · iexists f8; isplitr
    · ipureintro; exact e8
    iexact H8
  iexists f9; isplitr
  · ipureintro; exact e9
  iexact H9

/-- The copy in flight sees of the scratch only its second slot. -/
theorem flight19_piecewise (c : Dev nD) (b : Fin 3) (g15 d15 : HbBuf (F := F) c scM15) (f11 : HbBuf (F := F) c hbM11) :
    flight19 c b g15 f11 = flight19 c b (slot1.view.set.piecewise g15 d15) f11 := by
  unfold flight19
  rw [show (scM15.view.loc (c : Thread nD τ) ↦[slot1.view.set]{fullShare} g15 : sProp 𝕄) = (scM15.view.loc (c : Thread nD τ) ↦[slot1.view.set]{fullShare} slot1.view.set.piecewise g15 d15) from
    pointsTo_congr fun e he => (Finset.piecewise_eq_of_mem _ _ _ he).symm]
set_option maxHeartbeats 4000000 in
theorem off21_eq : ∀ (i : grid0.Coords) (k : Fin k0_t2_loop.trips), k0_off21 i k = ![640 * (i 0).val + 32 * k.val, 0] := by decide +kernel

theorem blkRect_disjoint (i : grid0.Coords) (h5 : k0_cond5 i = 1#1) (k k' : Fin k0_t2_loop.trips) (h : k ≠ k') :
    Disjoint (Rect.unit (s := S1920x4608) (k0_off21 i k) S32x4608.size (k0_off21_inb i k h5)).set (Rect.unit (s := S1920x4608) (k0_off21 i k') S32x4608.size (k0_off21_inb i k' h5)).set := by
  rw [Finset.disjoint_left]
  intro x hx hx'
  have a := (Rect.mem_set_unit.mp hx) 0
  have b := (Rect.mem_set_unit.mp hx') 0
  have e := congrFun (off21_eq i k) 0
  have e' := congrFun (off21_eq i k') 0
  simp only [Matrix.cons_val_zero] at e e'
  rw [e] at a
  rw [e'] at b
  have z : S32x4608.size 0 = 32 := rfl
  rw [z] at a b
  exact h (Fin.ext (by omega))
/-- The blocks of one point do not meet. -/
theorem blkSet_disjoint (c : Dev nD) (i : grid0.Coords) (h5 : k0_cond5 i = 1#1) (k k' : Fin k0_t2_loop.trips) (h : k ≠ k') :
    Disjoint (blkSet c i h5 k) (blkSet c i h5 k') := by
  have e : ∀ k, blkSet c i h5 k = (Rect.unit (s := S1920x4608) (k0_off21 i k) S32x4608.size (k0_off21_inb i k h5)).set.map hbM12.view.emb := fun k => View.set_slice _ _
  rw [e, e]
  exact (Finset.disjoint_map _).mpr (blkRect_disjoint i h5 k k' h)
/-- The blocks all together. -/
abbrev blkAll (c : Dev nD) (i : grid0.Coords) (h5 : k0_cond5 i = 1#1) : Finset (Idx (hbM12.view.loc (c : Thread nD τ) : Loc nD τ sig)) :=
  (Finset.univ : Finset (Fin k0_t2_loop.trips)).biUnion (blkSet c i h5)
theorem blkAll_subset (c : Dev nD) (i : grid0.Coords) (h5 : k0_cond5 i = 1#1) : blkAll c i h5 ⊆ hbM12.view.set :=
  Finset.biUnion_subset.mpr fun k _ => View.set_slice_subset _ _
theorem fin_map_range (n : ℕ) : (Finset.univ : Finset (Fin n)).map Fin.valEmbedding = Finset.range n := by
  ext x; simp [Fin.exists_iff]

/-- The result split into the blocks a point writes, and what it leaves. -/
theorem blocks_split (c : Dev nD) (i : grid0.Coords) (h5 : k0_cond5 i = 1#1) (f : HbBuf (F := F) c hbM12) :
    ownPt c hbM12 f ⊢ (iprop(bigSep (Finset.Ico 0 20) (todo2 (F := F) c i h5)
      ∗ (hbM12.view.loc (c : Thread nD τ) ↦[hbM12.view.set \ blkAll c i h5]{fullShare} f)) : sProp 𝕄) := by
  refine (pointsTo_split_subset (blkAll_subset c i h5)).1.trans ?_
  refine sep_mono ?_ .rfl
  rw [pointsTo_biUnion _ _ fun k _ k' _ h => blkSet_disjoint c i h5 k k' h]
  rw [show Finset.Ico 0 20 = Finset.range k0_t2_loop.trips by rw [trips2]; rfl, ← fin_map_range, bigSep_map]
  refine bigSep_mono fun k _ => ?_
  show _ ⊢ todo2 c i h5 k.val
  rw [show todo2 (F := F) c i h5 k.val = iprop(∃ f, blkPt c i h5 k f) from dif_pos k.isLt]
  iintro H
  iexists f; iexact H
set_option maxHeartbeats 1000000 in
/-- And joined again, once each block holds what was stored into it. -/
theorem blocks_join (c : Dev nD) (i : grid0.Coords) (h5 : k0_cond5 i = 1#1) (v20 : Vec F S1x4608 .f32) (f15 : HbBuf (F := F) c scM15) (f : HbBuf (F := F) c hbM12) :
    iprop(bigSep (Finset.range 20) (done2 (F := F) c i h5 v20 f15)
      ∗ (hbM12.view.loc (c : Thread nD τ) ↦[hbM12.view.set \ blkAll c i h5]{fullShare} f))
    ⊢ (iprop(∃ g, ⌜(∀ e, (∀ k, e ∉ blkSet c i h5 k) → g e = f e) ∧ (∀ k, ∃ fd, BlkVal c i h5 v20 f15 k fd ∧ ∀ e ∈ blkSet c i h5 k, g e = fd e)⌝ ∗ ownPt c hbM12 g) : sProp 𝕄) := by
  have hD : bigSep (Finset.range 20) (done2 (F := F) c i h5 v20 f15) ⊢ (iprop(∃ fs : (k : Fin k0_t2_loop.trips) → HbBuf (F := F) c hbM12, ⌜∀ k ∈ Finset.univ, BlkVal c i h5 v20 f15 k (fs k)⌝ ∗ bigSep Finset.univ fun k => (hbM12.view.loc (c : Thread nD τ) ↦[blkSet c i h5 k]{fullShare} fs k)) : sProp 𝕄) := by
    rw [show Finset.range 20 = Finset.range k0_t2_loop.trips by rw [trips2], ← fin_map_range, bigSep_map]
    haveI : ∀ k : Fin k0_t2_loop.trips, Nonempty (HbBuf (F := F) c hbM12) := fun _ => ⟨f⟩
    refine BIBase.Entails.trans (bigSep_mono (Ψ := fun k : Fin k0_t2_loop.trips => iprop(∃ fd : HbBuf (F := F) c hbM12, ⌜BlkVal c i h5 v20 f15 k fd⌝ ∗ (hbM12.view.loc (c : Thread nD τ) ↦[blkSet c i h5 k]{fullShare} fd))) fun k _ => ?_) ?_
    · show done2 c i h5 v20 f15 k.val ⊢ _
      rw [show done2 c i h5 v20 f15 k.val = iprop(∃ f, ⌜BlkVal c i h5 v20 f15 k f⌝ ∗ blkPt c i h5 k f) from dif_pos k.isLt]
    refine (BI.bigSep_exists_pi Finset.univ fun (k : Fin k0_t2_loop.trips) (fd : HbBuf (F := F) c hbM12) => iprop(⌜BlkVal c i h5 v20 f15 k fd⌝ ∗ (hbM12.view.loc (c : Thread nD τ) ↦[blkSet c i h5 k]{fullShare} fd))).trans ?_
    iintro ⟨%fs, H⟩
    iexists fs
    iapply (BI.bigSep_pure_sep Finset.univ (fun k => BlkVal c i h5 v20 f15 k (fs k)) (fun k => (hbM12.view.loc (c : Thread nD τ) ↦[blkSet c i h5 k]{fullShare} fs k)))
    iexact H
  refine (sep_mono hD .rfl).trans ?_
  iintro ⟨⟨%fs, %hb, H⟩, Hr⟩
  ihave H' := (pointsTo_biUnion_join Finset.univ (blkSet c i h5) fs f (fun k _ k' _ h => blkSet_disjoint c i h5 k k' h)) $$ H
  icases H' with ⟨%g, %hg, H'⟩
  iexists (blkAll c i h5).piecewise g f
  isplitr
  · ipureintro
    refine ⟨fun e he => ?_, fun k => ⟨fs k, hb k (Finset.mem_univ _), fun e he => ?_⟩⟩
    · refine Finset.piecewise_eq_of_notMem _ _ _ fun h => ?_
      obtain ⟨k, -, hk⟩ := Finset.mem_biUnion.mp h
      exact he k hk
    · rw [Finset.piecewise_eq_of_mem _ _ _ (Finset.mem_biUnion.mpr ⟨k, Finset.mem_univ _, he⟩)]
      exact hg k (Finset.mem_univ _) e he
  iapply (pointsTo_join_subset (blkAll_subset c i h5))
  isplitl [H']; · iexact H'
  iexact Hr

set_option maxHeartbeats 1000000 in
/-- The last point of a block. -/
theorem body_last {c : Dev nD} (S : Spec m c) (t : Fin cfg0.N) (Y : (w : Fin cfg0.W) → (cfg0.win w).block.Idx → Elt F (cfg0.win w).elt) (hY6 : Y 6 = iblk m c 6 t) (hY7 : Y 7 = iblk m c 7 t) (hY8 : Y 8 = iblk m c 8 t) (ht : t.val % 27 = 26) (K : PUnit → sProp 𝕄) :
    iprop(stDn S ((grid0.coords t) 0) t.val ∗ common S t.val ∗ (∃ W, owes (c : Thread nD τ) 0 W) ∗ owns (c : Thread nD τ) (st0_6 t) fullShare (Y 6)
            ∗ owns (c : Thread nD τ) (st0_7 t) fullShare (Y 7)
            ∗ owns (c : Thread nD τ) (st0_8 t) fullShare (Y 8)
            ∗ ((stUp S (t.val + 1) ∗ common S (t.val + 1) ∗ (∃ W, owes (c : Thread nD τ) 0 W) ∗ owns (c : Thread nD τ) (st0_6 t) fullShare (Y 6)
            ∗ owns (c : Thread nD τ) (st0_7 t) fullShare (Y 7)
            ∗ owns (c : Thread nD τ) (st0_8 t) fullShare (Y 8)) -∗ K ⟨⟩))
      ⊢ wp frame (wpE (defs₀ (F := F)) Variants.none c none) Set.univ (bodyAt0 t) K := by
  have h1 : ¬ cond1 (grid0.coords t) = 1#1 := fun h => by have := (cond1_iff _).mp h; rw [co1] at this; omega
  have h2 : ¬ k0_cond2 (grid0.coords t) = 1#1 := fun h => by have := (cond2_iff _).mp h; rw [co1] at this; omega
  have h3 : ¬ k0_cond3 (grid0.coords t) = 1#1 := fun h => by have := (cond3_iff _).mp h; rw [co1] at this; omega
  have h4 : k0_cond4 (grid0.coords t) = 1#1 := (cond4_iff _).mpr (by rw [co1]; omega)
  have h5 : k0_cond5 (grid0.coords t) = 1#1 := (cond5_iff _).mpr (by rw [co1]; omega)
  have hq : (t.val + 1) / 27 = t.val / 27 + 1 := by omega
  unfold stDn stUp common owns
  iintro ⟨⟨%d15, %g15, %f16, %f17, %f13, %hp, R11, R13, H15, H16, H17, S19, S20⟩, ⟨Hg, O0, O1, ⟨%f12, %h12, H12⟩⟩, ⟨%W, HW⟩, ⟨%f8, %e8, H8⟩, ⟨%f9, %e9, H9⟩, ⟨%f10, %e10, H10⟩, Hk⟩
  have hs := S.last t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f10 f13 d15 g15 (slot1.view.set.piecewise g15 d15) f16 f17 W h1 h2 h3 h4 h5 (e8.trans hY6) (e9.trans hY7) (e10.trans hY8) hp.1 rfl f12
  ihave ⟨T, Hr⟩ := (blocks_split c (grid0.coords t) h5 f12) $$ H12
  iapply ((run26 (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f10 (V m c main_arg9) f13 (slot1.view.set.piecewise g15 d15) f16 f17 W h1 h2 h3 h4 h5).2 K)
  isplitl [H8]; · iexact H8
  isplitl [H9]; · iexact H9
  isplitl [H10]; · iexact H10
  isplitl [R11]; · iexact R11
  isplitl [R13]; · iexact R13
  isplitl [H15]
  · iapply (Entails.of_eq (show ownAct0 c d15 = ownAct0 c (slot1.view.set.piecewise g15 d15) from pointsTo_congr fun e he => (Finset.piecewise_eq_of_notMem _ _ _ (Finset.mem_sdiff.mp he).2).symm))
    iexact H15
  isplitl [H16]; · iexact H16
  isplitl [H17]; · iexact H17
  isplitl [S19]
  · iapply (Entails.of_eq (flight19_piecewise c _ g15 d15 _))
    iexact S19
  isplitl [S20]; · iexact S20
  isplitl [HW]; · iexact HW
  isplitl [O0]; · iexact O0
  isplitl [O1]; · iexact O1
  isplitl [T]; · iexact T
  iintro ⟨HW, H8, H9, H10, H11, H13, H15, H16, H17, C19, C20, O0, O1, D⟩
  ihave ⟨%g12, %hg, H12⟩ := (blocks_join c (grid0.coords t) h5 _ _ f12) $$ [D Hr]
  · isplitl [D]; · iexact D
    iexact Hr
  iapply Hk
  isplitl [H15 H16 H17 C19 C20 H11 H13]
  · iexists (scM15.view.writes (Elt F) (slot1.view.set.piecewise g15 d15) (run26 (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f10 (V m c main_arg9) f13 (slot1.view.set.piecewise g15 d15) f16 f17 W h1 h2 h3 h4 h5).1), f16, f17, f13
    isplitr
    · ipureintro
      exact ⟨fun h => absurd (by omega) h, by rw [hq]; exact hp.2⟩
    isplitl [H15]; · iexact H15
    isplitl [H16]; · iexact H16
    isplitl [H17]; · iexact H17
    isplitl [C19]; · iexact C19
    isplitl [C20]; · iexact C20
    isplitl [H11]; · iexact H11
    iexact H13
  isplitl [Hg O0 O1 H12]
  · isplitl [Hg]; · iexact Hg
    isplitl [O0]; · iexact O0
    isplitl [O1]; · iexact O1
    iexists g12
    isplitr
    · ipureintro; rw [hq]; exact hs g12 h12 hg.1 hg.2
    iexact H12
  isplitl [HW]; · iexact HW
  isplitl [H8]
  · iexists f8; isplitr
    · ipureintro; exact e8
    iexact H8
  isplitl [H9]
  · iexists f9; isplitr
    · ipureintro; exact e9
    iexact H9
  iexists f10; isplitr
  · ipureintro; exact e10
  iexact H10

end Cert.Proof.Kernel

end
-- ==== Proof.Points.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.Bodies

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {m : (ℓ : Loc nD τ sig) → Buf (Elt F) ℓ}

/-- The proof data: the arrays as the region finds them, the nine inputs kept, the scales' block known from the first point of the
    down phase on, and the buffers of the body as `common` and `st` say. -/
def rdat (S : (c : Dev nD) → Spec (F := F) m c) (c : Dev nD) : Pipeline.RDat τ (Elt F) Unit ℕ (Pipeline.UD sig nD τ) ℕ cfg0 c where
  A w := V m c (Pipeline.arrRef spec0 w)
  after w t Y X := match w with
    | ⟨9, _⟩ => 18 ≤ t.val % 27 → (S c).s4 (t.val / 27) X
    | ⟨_, _⟩ => X = Y
  Φ n := iprop(common (S c) n.val ∗ st (S c) n.val)
  q _ := fullShare
  owed _ := 0

theorem defs₀_row (t : Fin cfg0.N) :
    defs₀ (F := F) .tc cfg0.body (cfg0.bodyArgs t (cfg0.slots t)) = bodyAt0 t := by
  unfold defs₀; rw [Defs.onTc_tc]

variable (S : (c : Dev nD) → Spec (F := F) m c) (c : Dev nD)

theorem finds_0 (t : Fin cfg0.N) (Y : (cfg0.win 0).block.Idx → Elt F (cfg0.win 0).elt) (h : (rdat S c).Finds 0 t Y) : Y = iblk m c 0 t := by
  obtain ⟨d, e⟩ := (rdat S c).finds_in_eq_fetched 0 rfl (fun _ _ _ => rfl) (fun _ _ _ h => h) t Y h
  rw [e]; unfold Pipeline.RDat.fetched Pipeline.RDat.blockOf iblk; rfl
theorem finds_1 (t : Fin cfg0.N) (Y : (cfg0.win 1).block.Idx → Elt F (cfg0.win 1).elt) (h : (rdat S c).Finds 1 t Y) : Y = iblk m c 1 t := by
  obtain ⟨d, e⟩ := (rdat S c).finds_in_eq_fetched 1 rfl (fun _ _ _ => rfl) (fun _ _ _ h => h) t Y h
  rw [e]; unfold Pipeline.RDat.fetched Pipeline.RDat.blockOf iblk; rfl
theorem finds_2 (t : Fin cfg0.N) (Y : (cfg0.win 2).block.Idx → Elt F (cfg0.win 2).elt) (h : (rdat S c).Finds 2 t Y) : Y = iblk m c 2 t := by
  obtain ⟨d, e⟩ := (rdat S c).finds_in_eq_fetched 2 rfl (fun _ _ _ => rfl) (fun _ _ _ h => h) t Y h
  rw [e]; unfold Pipeline.RDat.fetched Pipeline.RDat.blockOf iblk; rfl
theorem finds_3 (t : Fin cfg0.N) (Y : (cfg0.win 3).block.Idx → Elt F (cfg0.win 3).elt) (h : (rdat S c).Finds 3 t Y) : Y = iblk m c 3 t := by
  obtain ⟨d, e⟩ := (rdat S c).finds_in_eq_fetched 3 rfl (fun _ _ _ => rfl) (fun _ _ _ h => h) t Y h
  rw [e]; unfold Pipeline.RDat.fetched Pipeline.RDat.blockOf iblk; rfl
theorem finds_4 (t : Fin cfg0.N) (Y : (cfg0.win 4).block.Idx → Elt F (cfg0.win 4).elt) (h : (rdat S c).Finds 4 t Y) : Y = iblk m c 4 t := by
  obtain ⟨d, e⟩ := (rdat S c).finds_in_eq_fetched 4 rfl (fun _ _ _ => rfl) (fun _ _ _ h => h) t Y h
  rw [e]; unfold Pipeline.RDat.fetched Pipeline.RDat.blockOf iblk; rfl
theorem finds_5 (t : Fin cfg0.N) (Y : (cfg0.win 5).block.Idx → Elt F (cfg0.win 5).elt) (h : (rdat S c).Finds 5 t Y) : Y = iblk m c 5 t := by
  obtain ⟨d, e⟩ := (rdat S c).finds_in_eq_fetched 5 rfl (fun _ _ _ => rfl) (fun _ _ _ h => h) t Y h
  rw [e]; unfold Pipeline.RDat.fetched Pipeline.RDat.blockOf iblk; rfl
theorem finds_6 (t : Fin cfg0.N) (Y : (cfg0.win 6).block.Idx → Elt F (cfg0.win 6).elt) (h : (rdat S c).Finds 6 t Y) : Y = iblk m c 6 t := by
  obtain ⟨d, e⟩ := (rdat S c).finds_in_eq_fetched 6 rfl (fun _ _ _ => rfl) (fun _ _ _ h => h) t Y h
  rw [e]; unfold Pipeline.RDat.fetched Pipeline.RDat.blockOf iblk; rfl
theorem finds_7 (t : Fin cfg0.N) (Y : (cfg0.win 7).block.Idx → Elt F (cfg0.win 7).elt) (h : (rdat S c).Finds 7 t Y) : Y = iblk m c 7 t := by
  obtain ⟨d, e⟩ := (rdat S c).finds_in_eq_fetched 7 rfl (fun _ _ _ => rfl) (fun _ _ _ h => h) t Y h
  rw [e]; unfold Pipeline.RDat.fetched Pipeline.RDat.blockOf iblk; rfl
theorem finds_8 (t : Fin cfg0.N) (Y : (cfg0.win 8).block.Idx → Elt F (cfg0.win 8).elt) (h : (rdat S c).Finds 8 t Y) : Y = iblk m c 8 t := by
  obtain ⟨d, e⟩ := (rdat S c).finds_in_eq_fetched 8 rfl (fun _ _ _ => rfl) (fun _ _ _ h => h) t Y h
  rw [e]; unfold Pipeline.RDat.fetched Pipeline.RDat.blockOf iblk; rfl
/-- After the first point of the down phase the scales' block is what that point left. -/
theorem finds_9 (t : Fin cfg0.N) (ht : 18 < t.val % 27) (Y : (cfg0.win 9).block.Idx → Elt F (cfg0.win 9).elt) (h : (rdat S c).Finds 9 t Y) : (S c).s4 (t.val / 27) Y := by
  have hf : (cfg0.win 9).fetch t = false := by simp [Pipeline.Window.fetch, show (cfg0.win 9).isOut = true from rfl]
  rcases ((rdat S c).finds_of_pos hf (by omega) Y).mp h with h | ⟨Y', -, h⟩
  · have := (flush0_9 _).mp h
    simp only at this; omega
  · have h' : 18 ≤ (t.val - 1) % 27 → (S c).s4 ((t.val - 1) / 27) Y := h
    have := h' (by omega)
    rwa [show (t.val - 1) / 27 = t.val / 27 by omega] at this

abbrev stageOwns (t : Fin cfg0.N) (Y : (w : Fin cfg0.W) → (cfg0.win w).block.Idx → Elt F (cfg0.win w).elt) : sProp 𝕄 :=
  iprop(owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9))
def bodyPre (t : Fin cfg0.N) (Y : (w : Fin cfg0.W) → (cfg0.win w).block.Idx → Elt F (cfg0.win w).elt) : sProp 𝕄 :=
  iprop((common (S c) t.val ∗ st (S c) t.val) ∗ (rdat S c).owesAt () t.castSucc ∗ stageOwns c t Y)
def bodyPost (t : Fin cfg0.N) (Y : (w : Fin cfg0.W) → (cfg0.win w).block.Idx → Elt F (cfg0.win w).elt) : sProp 𝕄 :=
  iprop((common (S c) (t.val + 1) ∗ st (S c) (t.val + 1)) ∗ (rdat S c).owesAt () t.succ
    ∗ (∃ X, ⌜(rdat S c).after 0 t (Y 0) X⌝ ∗ owns (c : Thread nD τ) (st0_0 t) fullShare X) ∗ (∃ X, ⌜(rdat S c).after 1 t (Y 1) X⌝ ∗ owns (c : Thread nD τ) (st0_1 t) fullShare X) ∗ (∃ X, ⌜(rdat S c).after 2 t (Y 2) X⌝ ∗ owns (c : Thread nD τ) (st0_2 t) fullShare X) ∗ (∃ X, ⌜(rdat S c).after 3 t (Y 3) X⌝ ∗ owns (c : Thread nD τ) (st0_3 t) fullShare X) ∗ (∃ X, ⌜(rdat S c).after 4 t (Y 4) X⌝ ∗ owns (c : Thread nD τ) (st0_4 t) fullShare X) ∗ (∃ X, ⌜(rdat S c).after 5 t (Y 5) X⌝ ∗ owns (c : Thread nD τ) (st0_5 t) fullShare X) ∗ (∃ X, ⌜(rdat S c).after 6 t (Y 6) X⌝ ∗ owns (c : Thread nD τ) (st0_6 t) fullShare X) ∗ (∃ X, ⌜(rdat S c).after 7 t (Y 7) X⌝ ∗ owns (c : Thread nD τ) (st0_7 t) fullShare X) ∗ (∃ X, ⌜(rdat S c).after 8 t (Y 8) X⌝ ∗ owns (c : Thread nD τ) (st0_8 t) fullShare X) ∗ (∃ X, ⌜(rdat S c).after 9 t (Y 9) X⌝ ∗ owns (c : Thread nD τ) (st0_9 t) fullShare X))

theorem common_next (n : ℕ) (h : n % 27 ≠ 26) : common (S c) (n + 1) = common (S c) n := by
  unfold common; rw [show (n + 1) / 27 = n / 27 by omega]
theorem st_up (n : ℕ) (h : n % 27 ≤ 18) : st (S c) n = stUp (S c) n := if_pos h
theorem st_dn (n : ℕ) (h : 18 < n % 27) : st (S c) n = stDn (S c) (blkOf n) n := if_neg (by omega)
theorem blkOf_next (n : ℕ) (h : n % 27 ≠ 26) : blkOf (n + 1) = blkOf n := by
  unfold blkOf; exact Fin.ext (by show (n + 1) / 27 % 3 = n / 27 % 3; rw [show (n + 1) / 27 = n / 27 by omega])

set_option maxHeartbeats 1000000 in
theorem point_first (t : Fin cfg0.N) (Y : (w : Fin cfg0.W) → (cfg0.win w).block.Idx → Elt F (cfg0.win w).elt) (hF : ∀ w, (rdat S c).Finds w t (Y w)) (ht : t.val % 27 = 0) :
    bodyPre S c t Y ⊢ wp frame (wpE (defs₀ (F := F)) Variants.none c none) Set.univ (bodyAt0 t) (fun _ => bodyPost S c t Y) := by
  unfold bodyPre bodyPost
  rw [common_next S c _ (by omega), st_up S c _ (by omega), st_up S c _ (by omega)]
  unfold Pipeline.RDat.owesAt Pipeline.owesWithin
  rw [show (rdat S c).owed t.castSucc = 0 from rfl, show (rdat S c).owed t.succ = 0 from rfl]
  iintro ⟨⟨HC, HS⟩, ⟨%W, -, HW⟩, H0, H1, H2, H3, H4, H5, H6, H7, H8, H9⟩
  iapply (body_first (S c) t Y (finds_0 S c t _ (hF 0)) (finds_1 S c t _ (hF 1)) (finds_2 S c t _ (hF 2)) (finds_3 S c t _ (hF 3)) (finds_4 S c t _ (hF 4)) (finds_5 S c t _ (hF 5)) ht)
  isplitl [HS]; · iexact HS
  isplitl [H0]; · iexact H0
  isplitl [H1]; · iexact H1
  isplitl [H2]; · iexact H2
  isplitl [H3]; · iexact H3
  isplitl [H4]; · iexact H4
  isplitl [H5]; · iexact H5
  iintro ⟨HS, H0, H1, H2, H3, H4, H5⟩
  isplitl [HC HS]
  · isplitl [HC]; · iexact HC
    iexact HS
  isplitl [HW]
  · iexists W; isplitr; · ipureintro; exact fun _ _ => Or.inl trivial
    iexact HW
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  iexists (Y 9); isplitr; · ipureintro; exact fun h => absurd h (by omega)
  iexact H9

set_option maxHeartbeats 1000000 in
theorem point_step (t : Fin cfg0.N) (Y : (w : Fin cfg0.W) → (cfg0.win w).block.Idx → Elt F (cfg0.win w).elt) (hF : ∀ w, (rdat S c).Finds w t (Y w)) (ht0 : t.val % 27 ≠ 0) (ht : t.val % 27 < 18) :
    bodyPre S c t Y ⊢ wp frame (wpE (defs₀ (F := F)) Variants.none c none) Set.univ (bodyAt0 t) (fun _ => bodyPost S c t Y) := by
  unfold bodyPre bodyPost
  rw [common_next S c _ (by omega), st_up S c _ (by omega), st_up S c _ (by omega)]
  unfold Pipeline.RDat.owesAt Pipeline.owesWithin
  rw [show (rdat S c).owed t.castSucc = 0 from rfl, show (rdat S c).owed t.succ = 0 from rfl]
  iintro ⟨⟨HC, HS⟩, ⟨%W, -, HW⟩, H0, H1, H2, H3, H4, H5, H6, H7, H8, H9⟩
  iapply (body_step (S c) t Y (finds_0 S c t _ (hF 0)) (finds_1 S c t _ (hF 1)) (finds_2 S c t _ (hF 2)) (finds_3 S c t _ (hF 3)) (finds_4 S c t _ (hF 4)) (finds_5 S c t _ (hF 5)) ht0 ht)
  isplitl [HS]; · iexact HS
  isplitl [H0]; · iexact H0
  isplitl [H1]; · iexact H1
  isplitl [H2]; · iexact H2
  isplitl [H3]; · iexact H3
  isplitl [H4]; · iexact H4
  isplitl [H5]; · iexact H5
  iintro ⟨HS, H0, H1, H2, H3, H4, H5⟩
  isplitl [HC HS]
  · isplitl [HC]; · iexact HC
    iexact HS
  isplitl [HW]
  · iexists W; isplitr; · ipureintro; exact fun _ _ => Or.inl trivial
    iexact HW
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  iexists (Y 9); isplitr; · ipureintro; exact fun h => absurd h (by omega)
  iexact H9

set_option maxHeartbeats 1000000 in
theorem point_turn (t : Fin cfg0.N) (Y : (w : Fin cfg0.W) → (cfg0.win w).block.Idx → Elt F (cfg0.win w).elt) (hF : ∀ w, (rdat S c).Finds w t (Y w)) (ht : t.val % 27 = 18) :
    bodyPre S c t Y ⊢ wp frame (wpE (defs₀ (F := F)) Variants.none c none) Set.univ (bodyAt0 t) (fun _ => bodyPost S c t Y) := by
  unfold bodyPre bodyPost
  rw [common_next S c _ (by omega), st_up S c _ (by omega), st_dn S c _ (by omega), blkOf_next _ (by omega), ← coB]
  unfold Pipeline.RDat.owesAt Pipeline.owesWithin
  rw [show (rdat S c).owed t.castSucc = 0 from rfl, show (rdat S c).owed t.succ = 0 from rfl]
  iintro ⟨⟨HC, HS⟩, ⟨%W, -, HW⟩, H0, H1, H2, H3, H4, H5, H6, H7, H8, H9⟩
  iapply (body_turn (S c) t Y (finds_6 S c t _ (hF 6)) (finds_7 S c t _ (hF 7)) ht)
  isplitl [HS]; · iexact HS
  isplitl [H6]; · iexact H6
  isplitl [H7]; · iexact H7
  isplitl [H9]; · iexact H9
  iintro ⟨HS, H6, H7, ⟨%X, %hX, H9⟩⟩
  isplitl [HC HS]
  · isplitl [HC]; · iexact HC
    iexact HS
  isplitl [HW]
  · iexists W; isplitr; · ipureintro; exact fun _ _ => Or.inl trivial
    iexact HW
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  iexists X; isplitr; · ipureintro; exact fun _ => hX
  iexact H9

set_option maxHeartbeats 1000000 in
theorem point_down (t : Fin cfg0.N) (Y : (w : Fin cfg0.W) → (cfg0.win w).block.Idx → Elt F (cfg0.win w).elt) (hF : ∀ w, (rdat S c).Finds w t (Y w)) (ht : 18 < t.val % 27) (ht' : t.val % 27 < 26) :
    bodyPre S c t Y ⊢ wp frame (wpE (defs₀ (F := F)) Variants.none c none) Set.univ (bodyAt0 t) (fun _ => bodyPost S c t Y) := by
  unfold bodyPre bodyPost
  rw [common_next S c _ (by omega), st_dn S c _ (by omega), st_dn S c _ (by omega), blkOf_next _ (by omega)]
  unfold Pipeline.RDat.owesAt Pipeline.owesWithin
  rw [show (rdat S c).owed t.castSucc = 0 from rfl, show (rdat S c).owed t.succ = 0 from rfl]
  iintro ⟨⟨HC, HS⟩, ⟨%W, -, HW⟩, H0, H1, H2, H3, H4, H5, H6, H7, H8, H9⟩
  iapply (body_down (S c) (blkOf t.val) t Y (finds_6 S c t _ (hF 6)) (finds_7 S c t _ (hF 7)) ht ht')
  isplitl [HS]; · iexact HS
  isplitl [H6]; · iexact H6
  isplitl [H7]; · iexact H7
  iintro ⟨HS, H6, H7⟩
  isplitl [HC HS]
  · isplitl [HC]; · iexact HC
    iexact HS
  isplitl [HW]
  · iexists W; isplitr; · ipureintro; exact fun _ _ => Or.inl trivial
    iexact HW
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  iexists (Y 9); isplitr; · ipureintro; exact fun _ => finds_9 S c t ht _ (hF 9)
  iexact H9

set_option maxHeartbeats 1000000 in
theorem point_last (t : Fin cfg0.N) (Y : (w : Fin cfg0.W) → (cfg0.win w).block.Idx → Elt F (cfg0.win w).elt) (hF : ∀ w, (rdat S c).Finds w t (Y w)) (ht : t.val % 27 = 26) :
    bodyPre S c t Y ⊢ wp frame (wpE (defs₀ (F := F)) Variants.none c none) Set.univ (bodyAt0 t) (fun _ => bodyPost S c t Y) := by
  unfold bodyPre bodyPost
  rw [st_dn S c _ (by omega), st_up S c _ (by omega), ← coB]
  unfold Pipeline.RDat.owesAt Pipeline.owesWithin
  rw [show (rdat S c).owed t.castSucc = 0 from rfl, show (rdat S c).owed t.succ = 0 from rfl]
  iintro ⟨⟨HC, HS⟩, ⟨%W, -, HW⟩, H0, H1, H2, H3, H4, H5, H6, H7, H8, H9⟩
  iapply (body_last (S c) t Y (finds_6 S c t _ (hF 6)) (finds_7 S c t _ (hF 7)) (finds_8 S c t _ (hF 8)) ht)
  isplitl [HS]; · iexact HS
  isplitl [HC]; · iexact HC
  isplitl [HW]; · iexists W; iexact HW
  isplitl [H6]; · iexact H6
  isplitl [H7]; · iexact H7
  isplitl [H8]; · iexact H8
  iintro ⟨HS, HC, ⟨%W, HW⟩, H6, H7, H8⟩
  isplitl [HC HS]
  · isplitl [HC]; · iexact HC
    iexact HS
  isplitl [HW]
  · iexists W; isplitr; · ipureintro; exact fun _ _ => Or.inl trivial
    iexact HW
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  iexists (Y 9); isplitr; · ipureintro; exact fun _ => finds_9 S c t (by omega) _ (hF 9)
  iexact H9

theorem body_obligation : (rdat S c).BodyObligation (defs₀ (F := F)) Variants.none () Set.univ := fun t Y hF => by
  rw [bigSep_W0, bigSep_W0, defs₀_row]
  have h : bodyPre S c t Y ⊢ wp frame (wpE (defs₀ (F := F)) Variants.none c none) Set.univ (bodyAt0 t) (fun _ => bodyPost S c t Y) := by
    rcases Nat.lt_or_ge (t.val % 27) 18 with h | h
    · by_cases h0 : t.val % 27 = 0
      · exact point_first S c t Y hF h0
      · exact point_step S c t Y hF h0 h
    · rcases Nat.eq_or_lt_of_le h with h | h
      · exact point_turn S c t Y hF h.symm
      · by_cases h1 : t.val % 27 = 26
        · exact point_last S c t Y hF h1
        · exact point_down S c t Y hF h (by have := Nat.mod_lt t.val (show 0 < 27 by decide); omega)
  exact triple_restated h rfl .rfl fun _ => .rfl

/-! ## The region's own cells and buffers -/

/-- The body's four copy cells. -/
abbrev osem0 : Fin 4 → SemLoc sig := fun j => (![SemLoc.dma 19, SemLoc.dma 20, SemLoc.dma 21, SemLoc.dma 22] : Fin 4 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(cell19 c ∗ cell20 c ∗ obCell0 c ∗ obCell1 c) := by
  rw [Pipeline.ownSems0_eq_of_list c osem0 [0, 1, 2, 3] (by decide) (by decide)]; rfl
/-- The operand the body reads by its own copies, and the two results it writes so. -/
def H0 : Finset (Ref sig .tc) := {main_arg9}
def R0 : Finset (Ref sig .tc) := {main_v6_0, main_v6_1}
theorem H0_sub : H0 ⊆ Pipeline.restRefs sig spec0 := by decide
theorem R0_sub : R0 ⊆ Pipeline.restRefs sig spec0 \ H0 := by decide
theorem hbmPts0_eq :
    (bigSep H0 (fun b => ((c : Thread nD τ).loc b) ↦{fullShare} V m c b) : sProp 𝕄) = hbPt c hbM11 (V m c main_arg9) := by
  rw [BI.bigSep_eq_bigSepL_of_eq [main_arg9] (by decide) (by decide)]; rfl
theorem ownedPts0_eq : (Pipeline.owned R0 c : sProp 𝕄) = iprop((∃ f, hbPt (F := F) c hbM12 f) ∗ (∃ f, hbPt (F := F) c hbM13 f)) := by
  unfold Pipeline.owned; rw [BI.bigSep_eq_bigSepL_of_eq [main_v6_0, main_v6_1] (by decide) (by decide)]; rfl
theorem routedPts0_eq (G : (b : Ref sig .tc) → Buf (Elt F) ((c.tc : Thread nD τ).loc b)) :
    (Pipeline.routed R0 c G : sProp 𝕄) = iprop(hbPt (F := F) c hbM12 (G main_v6_0) ∗ hbPt (F := F) c hbM13 (G main_v6_1)) := by
  unfold Pipeline.routed; rw [BI.bigSep_eq_bigSepL_of_eq [main_v6_0, main_v6_1] (by decide) (by decide)]; rfl
theorem pt11 (f : HbBuf (F := F) c hbM11) : ownPt c hbM11 f = hbPt c hbM11 f := by unfold ownPt hbPt; rw [View.set_whole]
theorem pt12 (f : HbBuf (F := F) c hbM12) : ownPt c hbM12 f = hbPt c hbM12 f := by unfold ownPt hbPt; rw [View.set_whole]
theorem pt13 (f : HbBuf (F := F) c hbM13) : ownPt c hbM13 f = hbPt c hbM13 f := by unfold ownPt hbPt; rw [View.set_whole]
theorem pt15 (f : HbBuf (F := F) c scM15) : ownPt c scM15 f = hbPt c scM15 f := by unfold ownPt hbPt; rw [View.set_whole]
theorem pt16 (f : HbBuf (F := F) c scM16) : ownPt c scM16 f = hbPt c scM16 f := by unfold ownPt hbPt; rw [View.set_whole]
theorem pt17 (f : HbBuf (F := F) c scM17) : ownPt c scM17 f = hbPt c scM17 f := by unfold ownPt hbPt; rw [View.set_whole]
theorem pt18 (f : HbBuf (F := F) c scM18) : ownPt c scM18 f = hbPt c scM18 f := by unfold ownPt hbPt; rw [View.set_whole]

/-- The output buffer is its two slots. -/
theorem slots_split (f : HbBuf (F := F) c scM18) : hbPt c scM18 f ⊢ iprop(obPt0 c f ∗ obPt1 c f) := by
  rw [obPt0_eq, ← pt18]
  refine (pointsTo_split_subset (I := ((scM18.slice (Rect.unit (s := S2x32x4608) ![1, 0, 0] S1x32x4608.size inb_S2x32x4608_S1x32x4608_1_0_0) (fun _ => rfl)).squeeze S32x4608 squeezes_S1x32x4608_S32x4608 : Memref sig .tc .vmem S32x4608 .bf16).view.set) (by rw [Memref.set_view_squeeze]; exact View.set_slice_subset _ _)).1.trans ?_
  iintro ⟨A, B⟩
  isplitl [B]; · iexact B
  iexact A
theorem slots_join (f g : HbBuf (F := F) c scM18) : iprop(obPt0 c f ∗ obPt1 c g) ⊢ iprop(∃ f, hbPt (F := F) c scM18 f) := by
  rw [obPt0_eq]
  iintro ⟨A, B⟩
  iexists (((scM18.slice (Rect.unit (s := S2x32x4608) ![1, 0, 0] S1x32x4608.size inb_S2x32x4608_S1x32x4608_1_0_0) (fun _ => rfl)).squeeze S32x4608 squeezes_S1x32x4608_S32x4608 : Memref sig .tc .vmem S32x4608 .bf16).view.set).piecewise g f
  rw [← pt18]
  iapply (pointsTo_join_subset (by rw [Memref.set_view_squeeze]; exact View.set_slice_subset _ _))
  isplitl [B]; · iexact B
  iexact A

/-- What the body holds before the first point, from what the region hands it. -/
theorem enter (f12 : HbBuf (F := F) c hbM12) (f13 : HbBuf (F := F) c hbM13) :
    iprop(Pipeline.scopedRest (Ix := Unit) (Name := ℕ) (U := Pipeline.UD sig nD τ) (Lvl := ℕ) (Val := Elt F) spec0 c ∗ (∃ r, prngReg c r)
      ∗ iprop(cell19 c ∗ cell20 c ∗ obCell0 c ∗ obCell1 c) ∗ hbPt c hbM11 (V m c main_arg9) ∗ iprop(hbPt c hbM12 f12 ∗ hbPt c hbM13 f13))
    ⊢ iprop(common (S c) 0 ∗ st (S c) 0) := by
  rw [scopedRest0_eq, st_up S c 0 (by decide), ← pt11, ← pt12, ← pt13]
  unfold common stUp
  iintro ⟨⟨⟨%f15, H15⟩, ⟨%f16, H16⟩, ⟨%f17, H17⟩, ⟨%f18, H18⟩⟩, Hg, ⟨C19, C20, C21, C22⟩, H11, H12, H13⟩
  ihave ⟨O0, O1⟩ := (slots_split c f18) $$ H18
  isplitl [Hg C21 C22 O0 O1 H12]
  · isplitl [Hg]; · iexact Hg
    isplitl [C21 O0]
    · iexists f18; isplitl [O0]; · iexact O0
      iexact C21
    isplitl [C22 O1]
    · iexists f18; isplitl [O1]; · iexact O1
      iexact C22
    iexists f12
    isplitr; · ipureintro; exact (S c).out_zero f12
    iexact H12
  iexists f15, f16, f17, f13
  isplitr; · ipureintro; exact ⟨fun h => absurd rfl h, (S c).c4_zero f13⟩
  isplitl [H15]; · iapply (Entails.of_eq (pt15 c f15).symm); iexact H15
  isplitl [H16]; · iapply (Entails.of_eq (pt16 c f16).symm); iexact H16
  isplitl [H17]; · iapply (Entails.of_eq (pt17 c f17).symm); iexact H17
  isplitl [C19]; · iexact C19
  isplitl [C20]; · iexact C20
  isplitl [H11]; · iexact H11
  iexact H13
/-- What the region takes back after the last point. -/
theorem leave :
    iprop(common (S c) 81 ∗ st (S c) 81)
    ⊢ iprop(Pipeline.scopedRest (Ix := Unit) (Name := ℕ) (U := Pipeline.UD sig nD τ) (Lvl := ℕ) (Val := Elt F) spec0 c ∗ (∃ r, prngReg c r)
      ∗ iprop(cell19 c ∗ cell20 c ∗ obCell0 c ∗ obCell1 c) ∗ hbPt c hbM11 (V m c main_arg9)
      ∗ iprop((∃ f12, ⌜(S c).out 3 f12⌝ ∗ hbPt c hbM12 f12) ∗ (∃ f13, ⌜(S c).c4 3 f13⌝ ∗ hbPt c hbM13 f13))) := by
  rw [scopedRest0_eq, st_up S c 81 (by decide), ← pt11]
  unfold common stUp
  iintro ⟨⟨Hg, ⟨%fs, O0, C21⟩, ⟨%gs, O1, C22⟩, ⟨%f12, %h12, H12⟩⟩, ⟨%f15, %f16, %f17, %f13, %hp, H15, H16, H17, C19, C20, H11, H13⟩⟩
  ihave H18 := (slots_join c fs gs) $$ [O0 O1]
  · isplitl [O0]; · iexact O0
    iexact O1
  isplitl [H15 H16 H17 H18]
  · isplitl [H15]; · iexists f15; iapply (Entails.of_eq (pt15 c f15)); iexact H15
    isplitl [H16]; · iexists f16; iapply (Entails.of_eq (pt16 c f16)); iexact H16
    isplitl [H17]; · iexists f17; iapply (Entails.of_eq (pt17 c f17)); iexact H17
    iexact H18
  isplitl [Hg]; · iexact Hg
  isplitl [C19 C20 C21 C22]
  · isplitl [C19]; · iexact C19
    isplitl [C20]; · iexact C20
    isplitl [C21]; · iexact C21
    iexact C22
  isplitl [H11]; · iexact H11
  isplitl [H12]
  · iexists f12; isplitr; · ipureintro; exact h12
    iapply (Entails.of_eq (pt12 c f12)); iexact H12
  iexists f13; isplitr; · ipureintro; exact hp.2
  iapply (Entails.of_eq (pt13 c f13)); iexact H13

/-! ## The runs -/

variable (m) (ρ : Dev nD → PrngReg)
set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_frame : θ_run defs (onTc (τ := τ) (main (F := F))) (s₀ m ρ) (fun r => Pipeline.RDat.FramePostR cfg0 (rdat S) R0 (V m) r ∧ r.2.sem = fun _ => 0) :=
  Pipeline.RDat.θ_run_frame_dmaR (Q' := _) cfgs (0 : Fin 1) launch0 osem0 defs₀ Variants.none (rdat S) ownSemFacts0 H0 R0 H0_sub R0_sub m ρ main
    (hbody := body_obligation S) (hshare := fun c w => by unfold Pipeline.RDat.share; split <;> rfl)
    (howed := fun _ _ => rfl) (V := V m) (hmain := hmainD m Variants.none) (hA := fun _ _ => rfl)
    (hin := fun c => by
      rw [Pipeline.ΦDR_eq, ownSems00_eq, hbmPts0_eq, ownedPts0_eq]
      show _ ⊢ iprop(common (S c) 0 ∗ st (S c) 0)
      iintro ⟨A, B, C, D, ⟨%f12, E⟩, ⟨%f13, E'⟩⟩
      iapply (enter S c f12 f13)
      isplitl [A]; · iexact A
      isplitl [B]; · iexact B
      isplitl [C]; · iexact C
      isplitl [D]; · iexact D
      isplitl [E]; · iexact E
      iexact E')
    (hout := fun c => by
      rw [Pipeline.ΦDR_eq, ownSems00_eq, hbmPts0_eq, ownedPts0_eq]
      refine (leave S c).trans ?_
      iintro ⟨A, B, C, D, ⟨%f12, -, E⟩, ⟨%f13, -, E'⟩⟩
      isplitl [A]; · iexact A
      isplitl [B]; · iexact B
      isplitl [C]; · iexact C
      isplitl [D]; · iexact D
      isplitl [E]; · iexists f12; iexact E
      iexists f13; iexact E')

set_option backward.isDefEq.respectTransparency.types false in
/-- The same with the two results the body writes named: whatever satisfies the predicates at the end is `G`. -/
theorem run_value (G : (c : Dev nD) → (b : Ref sig .tc) → Buf (Elt F) ((c.tc : Thread nD τ).loc b))
    (hG12 : ∀ c f12, (S c).out 3 f12 → f12 = G c main_v6_0) (hG13 : ∀ c f13, (S c).c4 3 f13 → f13 = G c main_v6_1) :
    θ_run defs (onTc (τ := τ) (main (F := F))) (s₀ m ρ) (fun r => Pipeline.RDat.FramePostRG cfg0 (rdat S) R0 (V m) G r ∧ r.2.sem = fun _ => 0) :=
  Pipeline.RDat.θ_run_frame_dmaRG (Q' := _) cfgs (0 : Fin 1) launch0 osem0 defs₀ Variants.none (rdat S) ownSemFacts0 H0 R0 H0_sub R0_sub m ρ main
    (hbody := body_obligation S) (hshare := fun c w => by unfold Pipeline.RDat.share; split <;> rfl)
    (howed := fun _ _ => rfl) (V := V m) (hmain := hmainD m Variants.none) (hA := fun _ _ => rfl) (G := G)
    (hin := fun c => by
      rw [Pipeline.ΦDRG_eq, ownSems00_eq, hbmPts0_eq, routedPts0_eq]
      exact enter S c _ _)
    (hout := fun c => by
      rw [Pipeline.ΦDRG_eq, ownSems00_eq, hbmPts0_eq, routedPts0_eq]
      refine (leave S c).trans ?_
      iintro ⟨A, B, C, D, ⟨%f12, %h12, E⟩, ⟨%f13, %h13, E'⟩⟩
      rw [← hG12 c f12 h12, ← hG13 c f13 h13]
      isplitl [A]; · iexact A
      isplitl [B]; · iexact B
      isplitl [C]; · iexact C
      isplitl [D]; · iexact D
      isplitl [E]; · iexact E
      iexact E')

/-- The argument arrays at the end are as launched. -/
theorem args_unchanged (r : PUnit × MemSt nD τ sig (Elt F)) (h : Pipeline.RDat.FramePostR cfg0 (rdat S) R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨(h.arr_in c 0 rfl).trans (V_main_arg0 m c),
   ((h c).2 main_arg1 (Finset.mem_sdiff.mpr ⟨Pipeline.mem_restRefs_of main_arg1 (by decide) (by decide), by decide⟩)).trans (V_main_arg1 m c),
   (h.arr_in c 2 rfl).trans (V_main_arg2 m c),
   ((h c).2 main_arg3 (Finset.mem_sdiff.mpr ⟨Pipeline.mem_restRefs_of main_arg3 (by decide) (by decide), by decide⟩)).trans (V_main_arg3 m c),
   (h.arr_in c 4 rfl).trans (V_main_arg4 m c),
   ((h c).2 main_arg5 (Finset.mem_sdiff.mpr ⟨Pipeline.mem_restRefs_of main_arg5 (by decide) (by decide), by decide⟩)).trans (V_main_arg5 m c),
   (h.arr_in c 6 rfl).trans (V_main_arg6 m c),
   ((h c).2 main_arg7 (Finset.mem_sdiff.mpr ⟨Pipeline.mem_restRefs_of main_arg7 (by decide) (by decide), by decide⟩)).trans (V_main_arg7 m c),
   ((h c).2 main_arg8 (Finset.mem_sdiff.mpr ⟨Pipeline.mem_restRefs_of main_arg8 (by decide) (by decide), by decide⟩)).trans (V_main_arg8 m c),
   ((h c).2 main_arg9 (Finset.mem_sdiff.mpr ⟨Pipeline.mem_restRefs_of main_arg9 (by decide) (by decide), by decide⟩)).trans (V_main_arg9 m c)⟩

/-- The run, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨args_unchanged m (Spec.none m) r h.1, h.2⟩) (run_frame m (Spec.none m) ρ)

end Cert.Proof.Kernel

end
-- ==== Proof.IBase.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The operands left in HBM (`h1`, and the results `out` and `c4` the body's copies write) and the scratch buffers. -/
abbrev hbM11 : Memref sig .tc .hbm S1920x4608 .f32 := Memref.whole main_arg9
abbrev hbM12 : Memref sig .tc .hbm S1920x4608 .bf16 := Memref.whole main_v6_0
abbrev hbM13 : Memref sig .tc .hbm S1920x9216 .fp8e4m3 := Memref.whole main_v6_1
abbrev scM15 : Memref sig .tc .vmem S2x640x4608 .f32 := Memref.whole cc0_scratch0
abbrev scM16 : Memref sig .tc .vmem S640x9216 .fp8e4m3 := Memref.whole cc0_scratch1
abbrev scM17 : Memref sig .tc .vmem S640x128 .f32 := Memref.whole cc0_scratch2
abbrev scM18 : Memref sig .tc .vmem S2x32x4608 .bf16 := Memref.whole cc0_scratch3
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev ownPt (c : Dev nD) {sp : Space} {S : Shape} {e : EltTy} (M : Memref sig .tc sp S e) (f : HbBuf (F := F) c M) : sProp 𝕄 :=
  M.view.loc (c : Thread nD τ) ↦[M.view.set]{fullShare} f
/-- The elements of `M` at a share. -/
abbrev ownQ (c : Dev nD) {sp : Space} {S : Shape} {e : EltTy} (M : Memref sig .tc sp S e) (q : PosShare TreeShare) (f : HbBuf (F := F) c M) : sProp 𝕄 :=
  M.view.loc (c : Thread nD τ) ↦[M.view.set]{q} f
/-- The second slot of the activation scratch, where `h1`'s rows land. -/
abbrev slot1 : Memref sig .tc .vmem S640x4608 .f32 :=
  (scM15.slice (Rect.unit (s := S2x640x4608) ![1, 0, 0] S1x640x4608.size inb_S2x640x4608_S1x640x4608_1_0_0) (fun _ => rfl)).squeeze S640x4608 squeezes_S1x640x4608_S640x4608
/-- The activation scratch but for its second slot. -/
abbrev ownAct0 (c : Dev nD) (f : HbBuf (F := F) c scM15) : sProp 𝕄 :=
  scM15.view.loc (c : Thread nD τ) ↦[scM15.view.set \ slot1.view.set]{fullShare} f
/-- The rows of one block of 640 in `h1`, and in `c4`. -/
theorem rows_inb11 (b : Fin 3) : ∀ a, (![640 * b.val, 0] : Fin 2 → ℕ) a + S640x4608.size a ≤ S1920x4608.size a := by revert b; decide +kernel
theorem rows_inb13 (b : Fin 3) : ∀ a, (![640 * b.val, 0] : Fin 2 → ℕ) a + S640x9216.size a ≤ S1920x9216.size a := by revert b; decide +kernel
abbrev win11 (b : Fin 3) : Memref sig .tc .hbm S640x4608 .f32 := hbM11.slice (Rect.unit (s := S1920x4608) ![640 * b.val, 0] S640x4608.size (rows_inb11 b)) (fun _ => rfl)
abbrev win13 (b : Fin 3) : Memref sig .tc .hbm S640x9216 .fp8e4m3 := hbM13.slice (Rect.unit (s := S1920x9216) ![640 * b.val, 0] S640x9216.size (rows_inb13 b)) (fun _ => rfl)
/-- The two copies in flight across the down phase: the codes' out, and `h1`'s rows in. -/
abbrev flight20 (c : Dev nD) (b : Fin 3) (f13 : HbBuf (F := F) c hbM13) (f16 : HbBuf (F := F) c scM16) : sProp 𝕄 :=
  Transfers.Flight (countersEmb (U := Pipeline.UD sig nD τ)) (c : Thread nD τ) (SemLoc.dma (sig := sig) cc0_scratch5.sem) () 184320
    iprop((hbM13.view.loc (c : Thread nD τ) ↦[(hbM13.slice (Rect.unit (s := S1920x9216) ![640 * b.val, 0] S640x9216.size (rows_inb13 b)) (fun _ => rfl) : Memref sig .tc .hbm S640x9216 .fp8e4m3).view.set]{fullShare} f13) ∗ (scM16.view.loc (c : Thread nD τ) ↦[scM16.view.set]{fullShare.right} f16))
abbrev flight19 (c : Dev nD) (b : Fin 3) (f15 : HbBuf (F := F) c scM15) (f11 : HbBuf (F := F) c hbM11) : sProp 𝕄 :=
  Transfers.Flight (countersEmb (U := Pipeline.UD sig nD τ)) (c : Thread nD τ) (SemLoc.dma (sig := sig) cc0_scratch4.sem) () 368640
    iprop((scM15.view.loc (c : Thread nD τ) ↦[((scM15.slice (Rect.unit (s := S2x640x4608) ![1, 0, 0] S1x640x4608.size inb_S2x640x4608_S1x640x4608_1_0_0) (fun _ => rfl)).squeeze S640x4608 squeezes_S1x640x4608_S640x4608 : Memref sig .tc .vmem S640x4608 .f32).view.set]{fullShare} f15) ∗ (hbM11.view.loc (c : Thread nD τ) ↦[(hbM11.slice (Rect.unit (s := S1920x4608) ![640 * b.val, 0] S640x4608.size (rows_inb11 b)) (fun _ => rfl) : Memref sig .tc .hbm S640x4608 .f32).view.set]{fullShare} f11))
/-- What the copies leave of `c4` and of `h1`. -/
abbrev rest13 (c : Dev nD) (b : Fin 3) (f : HbBuf (F := F) c hbM13) : sProp 𝕄 :=
  hbM13.view.loc (c : Thread nD τ) ↦[hbM13.view.set \ (hbM13.slice (Rect.unit (s := S1920x9216) ![640 * b.val, 0] S640x9216.size (rows_inb13 b)) (fun _ => rfl) : Memref sig .tc .hbm S640x9216 .fp8e4m3).view.set]{fullShare} f
abbrev rest11 (c : Dev nD) (b : Fin 3) (f : HbBuf (F := F) c hbM11) : sProp 𝕄 :=
  hbM11.view.loc (c : Thread nD τ) ↦[hbM11.view.set \ (hbM11.slice (Rect.unit (s := S1920x4608) ![640 * b.val, 0] S640x4608.size (rows_inb11 b)) (fun _ => rfl) : Memref sig .tc .hbm S640x4608 .f32).view.set]{fullShare} f
abbrev cell19 (c : Dev nD) : sProp 𝕄 := semVal ((c : Thread nD τ), SemLoc.dma (sig := sig) cc0_scratch4.sem) 0
abbrev cell20 (c : Dev nD) : sProp 𝕄 := semVal ((c : Thread nD τ), SemLoc.dma (sig := sig) cc0_scratch5.sem) 0

/-- The first guard of the body as printed: the step is 0. -/
abbrev cond1 (i : grid0.Coords) : BitVec 1 := Scalar.cmpi .ne (Scalar.extui (Scalar.cmpi .eq (BitVec.ofNat 32 (i 1).val) 0#32) : BitVec 32) 0#32

/-! The rows the stores of the two phases address, in closed form. -/
theorem off1_eq : ∀ i : grid0.Coords, ∀ r : Fin 4, k0_off1 i (BitVec.ofNat 32 (128 * r.val)) = ![(i 1).val / 9, 0, 512 * ((i 1).val % 9) + 128 * r.val] := by decide +kernel
theorem off2_eq : ∀ i : grid0.Coords, ∀ r : Fin 4, k0_off2 i (BitVec.ofNat 32 (128 * r.val)) = ![(i 1).val / 9, 320, 512 * ((i 1).val % 9) + 128 * r.val] := by decide +kernel
theorem off10_eq : ∀ i : grid0.Coords, 18 ≤ (i 1).val → ∀ r : Fin 4, k0_off10 i (BitVec.ofNat 32 (128 * r.val)) = ![0, 0, 512 * ((i 1).val - 18) + 128 * r.val] := by decide +kernel
theorem off11_eq : ∀ i : grid0.Coords, 18 ≤ (i 1).val → ∀ r : Fin 4, k0_off11 i (BitVec.ofNat 32 (128 * r.val)) = ![0, 320, 512 * ((i 1).val - 18) + 128 * r.val] := by decide +kernel
instance closedOff1_0 (i : grid0.Coords) : ClosedOff (k0_off1 i 0#32) := ⟨![(i 1).val / 9, 0, 512 * ((i 1).val % 9) + 0], off1_eq i 0⟩
instance closedOff1_1 (i : grid0.Coords) : ClosedOff (k0_off1 i 128#32) := ⟨![(i 1).val / 9, 0, 512 * ((i 1).val % 9) + 128], off1_eq i 1⟩
instance closedOff1_2 (i : grid0.Coords) : ClosedOff (k0_off1 i 256#32) := ⟨![(i 1).val / 9, 0, 512 * ((i 1).val % 9) + 256], off1_eq i 2⟩
instance closedOff1_3 (i : grid0.Coords) : ClosedOff (k0_off1 i 384#32) := ⟨![(i 1).val / 9, 0, 512 * ((i 1).val % 9) + 384], off1_eq i 3⟩
instance closedOff2_0 (i : grid0.Coords) : ClosedOff (k0_off2 i 0#32) := ⟨![(i 1).val / 9, 320, 512 * ((i 1).val % 9) + 0], off2_eq i 0⟩
instance closedOff2_1 (i : grid0.Coords) : ClosedOff (k0_off2 i 128#32) := ⟨![(i 1).val / 9, 320, 512 * ((i 1).val % 9) + 128], off2_eq i 1⟩
instance closedOff2_2 (i : grid0.Coords) : ClosedOff (k0_off2 i 256#32) := ⟨![(i 1).val / 9, 320, 512 * ((i 1).val % 9) + 256], off2_eq i 2⟩
instance closedOff2_3 (i : grid0.Coords) : ClosedOff (k0_off2 i 384#32) := ⟨![(i 1).val / 9, 320, 512 * ((i 1).val % 9) + 384], off2_eq i 3⟩

theorem cond1_iff : ∀ i : grid0.Coords, cond1 i = 1#1 ↔ (i 1).val = 0 := by decide +kernel
theorem cond2_iff : ∀ i : grid0.Coords, k0_cond2 i = 1#1 ↔ (i 1).val < 18 := by decide +kernel
theorem cond3_iff : ∀ i : grid0.Coords, k0_cond3 i = 1#1 ↔ (i 1).val = 18 := by decide +kernel
theorem cond4_iff : ∀ i : grid0.Coords, k0_cond4 i = 1#1 ↔ 18 ≤ (i 1).val := by decide +kernel
theorem cond5_iff : ∀ i : grid0.Coords, k0_cond5 i = 1#1 ↔ (i 1).val = 26 := by decide +kernel
theorem cond6_iff : ∀ k : Fin k0_t2_loop.trips, k0_cond6 k = 1#1 ↔ 2 ≤ k.val := by decide +kernel
theorem trips1 : k0_t1_loop.trips = 20 := by decide +kernel
theorem trips2 : k0_t2_loop.trips = 20 := by decide +kernel

end Cert.Proof.KernelIdeal

end
-- ==== Proof.IUp.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.IBase

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- A point of the up phase after the first one. -/
noncomputable def runUp (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f2 : HbBuf (F := F) c arg2) (f3 : HbBuf (F := F) c arg3) (f4 : HbBuf (F := F) c arg4) (f5 : HbBuf (F := F) c arg5) (f6 : HbBuf (F := F) c arg6) (f7 : HbBuf (F := F) c arg7)
    (f15 : HbBuf (F := F) c scM15) (f17 : HbBuf (F := F) c scM17)
    (h1 : ¬ cond1 i = 1#1) (h2 : k0_cond2 i = 1#1) (h3 : ¬ k0_cond3 i = 1#1) (h4 : ¬ k0_cond4 i = 1#1) (h5 : ¬ k0_cond5 i = 1#1) :
    { L : List (View.Piece (Elt F) S2x640x4608 .f32) × List (View.Piece (Elt F) S640x128 .f32) //
      ∀ (K : PUnit → sProp 𝕄),
        iprop((arg2.view.loc (c : Thread nD τ) ↦[arg2.view.set]{fullShare} f2)
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (arg6.view.loc (c : Thread nD τ) ↦[arg6.view.set]{fullShare} f6)
            ∗ (arg7.view.loc (c : Thread nD τ) ↦[arg7.view.set]{fullShare} f7)
            ∗ ownPt c scM15 f15 ∗ ownPt c scM17 f17
            ∗ (iprop((arg2.view.loc (c : Thread nD τ) ↦[arg2.view.set]{fullShare} f2)
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (arg6.view.loc (c : Thread nD τ) ↦[arg6.view.set]{fullShare} f6)
            ∗ (arg7.view.loc (c : Thread nD τ) ↦[arg7.view.set]{fullShare} f7)
                ∗ ownPt c scM15 (scM15.view.writes (Elt F) f15 L.1) ∗ ownPt c scM17 (scM17.view.writes (Elt F) f17 L.2)) -∗ K ⟨⟩))
          ⊢ wp frame (wpE (defs₀ (F := F)) Variants.none c none) Set.univ
              (cc0_ffn i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6) K } := by
  refine ⟨(?_, ?_), fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    iintro ⟨H2, H3, H4, H5, H6, H7, H15, H17, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H15]; · iexact H15
    iexact H17

end Cert.Proof.KernelIdeal

end
-- ==== Proof.IFirst.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.IBase

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The first point of a block of rows: the maximum is zeroed, then the first up product. -/
noncomputable def runFirst (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f2 : HbBuf (F := F) c arg2) (f3 : HbBuf (F := F) c arg3) (f4 : HbBuf (F := F) c arg4) (f5 : HbBuf (F := F) c arg5) (f6 : HbBuf (F := F) c arg6) (f7 : HbBuf (F := F) c arg7)
    (f15 : HbBuf (F := F) c scM15) (f17 : HbBuf (F := F) c scM17)
    (h1 : cond1 i = 1#1) (h2 : k0_cond2 i = 1#1) (h3 : ¬ k0_cond3 i = 1#1) (h4 : ¬ k0_cond4 i = 1#1) (h5 : ¬ k0_cond5 i = 1#1) :
    { L : List (View.Piece (Elt F) S2x640x4608 .f32) × HbBuf (F := F) c scM17 //
      ∀ (K : PUnit → sProp 𝕄),
        iprop((arg2.view.loc (c : Thread nD τ) ↦[arg2.view.set]{fullShare} f2)
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (arg6.view.loc (c : Thread nD τ) ↦[arg6.view.set]{fullShare} f6)
            ∗ (arg7.view.loc (c : Thread nD τ) ↦[arg7.view.set]{fullShare} f7)
            ∗ ownPt c scM15 f15 ∗ ownPt c scM17 f17
            ∗ (iprop((arg2.view.loc (c : Thread nD τ) ↦[arg2.view.set]{fullShare} f2)
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (arg6.view.loc (c : Thread nD τ) ↦[arg6.view.set]{fullShare} f6)
            ∗ (arg7.view.loc (c : Thread nD τ) ↦[arg7.view.set]{fullShare} f7)
                ∗ ownPt c scM15 (scM15.view.writes (Elt F) f15 L.1) ∗ ownPt c scM17 L.2) -∗ K ⟨⟩))
          ⊢ wp frame (wpE (defs₀ (F := F)) Variants.none c none) Set.univ
              (cc0_ffn i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6) K } := by
  refine ⟨(?_, ?_), fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    iintro ⟨H2, H3, H4, H5, H6, H7, H15, H17, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H15]; · iexact H15
    iexact H17

end Cert.Proof.KernelIdeal

end
-- ==== Proof.IDown.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.IBase

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- A point of the down phase strictly between its first and its last. -/
noncomputable def runDown (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f8 : HbBuf (F := F) c arg8) (f9 : HbBuf (F := F) c arg9)
    (f15 : HbBuf (F := F) c scM15) (f16 : HbBuf (F := F) c scM16) (f17 : HbBuf (F := F) c scM17)
    (h1 : ¬ cond1 i = 1#1) (h2 : ¬ k0_cond2 i = 1#1) (h3 : ¬ k0_cond3 i = 1#1) (h4 : k0_cond4 i = 1#1) (h5 : ¬ k0_cond5 i = 1#1) :
    { L : List (View.Piece (Elt F) S2x640x4608 .f32) //
      ∀ (K : PUnit → sProp 𝕄),
        iprop((arg8.view.loc (c : Thread nD τ) ↦[arg8.view.set]{fullShare} f8)
            ∗ (arg9.view.loc (c : Thread nD τ) ↦[arg9.view.set]{fullShare} f9)
            ∗ ownAct0 c f15 ∗ ownQ c scM16 fullShare.left f16 ∗ ownPt c scM17 f17
            ∗ (iprop((arg8.view.loc (c : Thread nD τ) ↦[arg8.view.set]{fullShare} f8)
            ∗ (arg9.view.loc (c : Thread nD τ) ↦[arg9.view.set]{fullShare} f9)
                ∗ ownAct0 c (scM15.view.writes (Elt F) f15 L) ∗ ownQ c scM16 fullShare.left f16 ∗ ownPt c scM17 f17) -∗ K ⟨⟩))
          ⊢ wp frame (wpE (defs₀ (F := F)) Variants.none c none) Set.univ
              (cc0_ffn i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6) K } := by
  refine ⟨?_, fun K => ?run⟩
  case run =>
    have hi := (cond4_iff i).mp h4
    have hi2 : (i 1).val < 27 := (i 1).isLt
    letI : ClosedOff (k0_off10 i 0#32) := ⟨![0, 0, 512 * ((i 1).val - 18) + 0], off10_eq i ((cond4_iff i).mp h4) 0⟩
    letI : ClosedOff (k0_off10 i 128#32) := ⟨![0, 0, 512 * ((i 1).val - 18) + 128], off10_eq i ((cond4_iff i).mp h4) 1⟩
    letI : ClosedOff (k0_off10 i 256#32) := ⟨![0, 0, 512 * ((i 1).val - 18) + 256], off10_eq i ((cond4_iff i).mp h4) 2⟩
    letI : ClosedOff (k0_off10 i 384#32) := ⟨![0, 0, 512 * ((i 1).val - 18) + 384], off10_eq i ((cond4_iff i).mp h4) 3⟩
    letI : ClosedOff (k0_off11 i 0#32) := ⟨![0, 320, 512 * ((i 1).val - 18) + 0], off11_eq i ((cond4_iff i).mp h4) 0⟩
    letI : ClosedOff (k0_off11 i 128#32) := ⟨![0, 320, 512 * ((i 1).val - 18) + 128], off11_eq i ((cond4_iff i).mp h4) 1⟩
    letI : ClosedOff (k0_off11 i 256#32) := ⟨![0, 320, 512 * ((i 1).val - 18) + 256], off11_eq i ((cond4_iff i).mp h4) 2⟩
    letI : ClosedOff (k0_off11 i 384#32) := ⟨![0, 320, 512 * ((i 1).val - 18) + 384], off11_eq i ((cond4_iff i).mp h4) 3⟩

    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    iintro ⟨H8, H9, H15, H16, H17, Hk⟩
    sl_exec
    sl_step
    iapply Hk
    isplitl [H8]; · iexact H8
    isplitl [H9]; · iexact H9
    isplitl [H15]; · iexact H15
    isplitl [H16]; · iexact H16
    iexact H17

end Cert.Proof.KernelIdeal

end
-- ==== Proof.ILoop1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.IBase

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ### `k0_t1_loop`: the generated invariant (classifier: affine) -/

/-- One trip's resources: what the region reads (arg15, arg17) at its contents, what it writes
   (arg16) at any. -/
abbrev Trip_t1 (c : Dev nD) (arg15 : Memref sig .tc .vmem S2x640x4608 .f32) (arg17 : Memref sig .tc .vmem S640x128 .f32) (arg16 : Memref sig .tc .vmem S640x9216 .fp8e4m3) (X_arg15 : BufTy.Contents (Elt F) arg15.view.ty) (X_arg17 : BufTy.Contents (Elt F) arg17.view.ty) (f_arg16 : BufTy.Contents (Elt F) arg16.view.ty) : sProp 𝕄 :=
  iprop((arg15.view.loc (c : Thread nD τ) ↦[arg15.view.set]{fullShare} X_arg15) ∗ (arg17.view.loc (c : Thread nD τ) ↦[arg17.view.set]{fullShare} X_arg17) ∗ (arg16.view.loc (c : Thread nD τ) ↦[arg16.view.set]{fullShare} f_arg16))

/-- ONE TRIP of `k0_t1_loop` at a symbolic `k`, run by `sl_exec` (its rectangles' offsets closed
   forms of `k`, their geometry linear arithmetic): the pieces it writes into arg16 are the run's
   own finds — the witnesses `sl_close` assigns handing the buffers to the continuation.
   `@[irreducible]`: cited, never unfolded. -/
def trip_t1 (𝒱 : Variants) (c : Dev nD) (bd : Option 𝒱.V) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) (k : Fin k0_t1_loop.trips) :
    { L_arg16 : List (View.Piece (Elt F) S640x9216 .fp8e4m3) // ∀ (E : Set ℕ) (f_arg16 : BufTy.Contents (Elt F) arg16.view.ty),
      Trip_t1 (F := F) c arg15 arg17 arg16 X_arg15 X_arg17 f_arg16
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 k PUnit.unit)
          (fun _ => Trip_t1 (F := F) c arg15 arg17 arg16 X_arg15 X_arg17 (arg16.view.writes (Elt F) f_arg16 L_arg16)) } := by
  have hk : k.val < 20 := Nat.lt_of_lt_of_le k.isLt k0_t1_abs.2.1
  refine ⟨?_, fun E f_arg16 => ?run⟩
  case run =>
    unfold k0_t1_body
    iintro ⟨HR_arg15, HR_arg17, HW_arg16⟩
    sl_exec
    sl_step
    sl_close

/-- The trip's piece lists (plain projections of `trip_…`, for the recursion below to cite without
   its proof). -/
abbrev tripL_t1 (𝒱 : Variants) (c : Dev nD) (bd : Option 𝒱.V) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) (k : Fin k0_t1_loop.trips) : List (View.Piece (Elt F) S640x9216 .fp8e4m3) :=
  (trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k).1

/-- Trip `k`'s contribution to the state the recursion `pb_t1` below carries (`prev`): its pieces
   in front, per written memref; past the last trip, `prev` itself. -/
@[irreducible] def pb_t1Step (𝒱 : Variants) (c : Dev nD) (bd : Option 𝒱.V) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) (k : ℕ) (prev : List (View.Piece (Elt F) S640x9216 .fp8e4m3)) : List (View.Piece (Elt F) S640x9216 .fp8e4m3) :=
  if h : k < k0_t1_loop.trips then
    (tripL_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 ⟨k, h⟩) ++ prev
  else prev

/-- The pieces of the trips before `k` (last first), per written memref. -/
def pb_t1 (𝒱 : Variants) (c : Dev nD) (bd : Option 𝒱.V) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) : ℕ → List (View.Piece (Elt F) S640x9216 .fp8e4m3)
  | 0 => []
  | k + 1 => pb_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k (pb_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k)

theorem pb_t1_succ (𝒱 : Variants) (c : Dev nD) (bd : Option 𝒱.V) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) (k : Fin k0_t1_loop.trips) :
    pb_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 (k.val + 1)
      = (tripL_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k) ++ (pb_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k.val) := by
  rw [pb_t1.eq_2]; unfold pb_t1Step; exact dif_pos k.isLt

/-- THE INVARIANT before trip `k`: arg15, arg17 read at `X_·`; arg16 holding the pieces of the trips
   before `k` written over the contents at loop entry `G_·` (stated `∃ f, … ∗ ⌜f = …⌝`, so that a
   hypothesis of any contents matches and the equation is what is proved). -/
abbrev inv_t1 (𝒱 : Variants) (c : Dev nD) (bd : Option 𝒱.V) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) (G_arg16 : BufTy.Contents (Elt F) arg16.view.ty) (k : ℕ) (_u : PUnit) : sProp 𝕄 :=
  iprop((arg15.view.loc (c : Thread nD τ) ↦[arg15.view.set]{fullShare} X_arg15) ∗ (arg17.view.loc (c : Thread nD τ) ↦[arg17.view.set]{fullShare} X_arg17) ∗ (∃ f, (arg16.view.loc (c : Thread nD τ) ↦[arg16.view.set]{fullShare} f) ∗ ⌜f = arg16.view.writes (Elt F) G_arg16 (pb_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_t1 (𝒱 : Variants) (c : Dev nD) (bd : Option 𝒱.V) (E : Set ℕ) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt F) arg15.view.ty) (X_arg17 : BufTy.Contents (Elt F) arg17.view.ty) (G_arg16 : BufTy.Contents (Elt F) arg16.view.ty) :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 where
  inv := inv_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 G_arg16
  step k acc := by
    iintro ⟨HR_arg15, HR_arg17, ⟨%f_arg16, HW_arg16, %h_arg16⟩⟩
    iapply (wp_wand_r Idealize.ShloMosaic.frame (wpE (defs₀ (F := F)) 𝒱 (c : Thread nD τ) bd) E)
    isplitl [HR_arg15 HR_arg17 HW_arg16]
    · iapply ((trip_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k).2 E f_arg16)
      isplitl [HR_arg15]; · iexact HR_arg15
      isplitl [HR_arg17]; · iexact HR_arg17
      iexact HW_arg16
    · iintro %_ ⟨HR_arg15, HR_arg17, HW_arg16⟩
      isplitl [HR_arg15]; · iexact HR_arg15
      isplitl [HR_arg17]; · iexact HR_arg17
      rw [pb_t1_succ]
      iexists _; isplitl [HW_arg16]; · iexact HW_arg16
      ipureintro; rw [h_arg16, ← View.writes_append]

end Cert.Proof.KernelIdeal

end
-- ==== Proof.IR18.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.IBase
public import proofs.«01_k».proof.Proof.ILoop1

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The copies' windows at any spelling of the block's rows. -/
abbrev flight20o (c : Dev nD) (o : Fin 2 → ℕ) (p : ∀ a, o a + S640x9216.size a ≤ S1920x9216.size a) (f13 : HbBuf (F := F) c hbM13) (f16 : HbBuf (F := F) c scM16) : sProp 𝕄 :=
  Transfers.Flight (countersEmb (U := Pipeline.UD sig nD τ)) (c : Thread nD τ) (SemLoc.dma (sig := sig) cc0_scratch5.sem) () 184320
    iprop((hbM13.view.loc (c : Thread nD τ) ↦[(hbM13.slice (Rect.unit (s := S1920x9216) o S640x9216.size p) (fun _ => rfl) : Memref sig .tc .hbm S640x9216 .fp8e4m3).view.set]{fullShare} f13) ∗ (scM16.view.loc (c : Thread nD τ) ↦[scM16.view.set]{fullShare.right} f16))
abbrev flight19o (c : Dev nD) (o : Fin 2 → ℕ) (p : ∀ a, o a + S640x4608.size a ≤ S1920x4608.size a) (f15 : HbBuf (F := F) c scM15) (f11 : HbBuf (F := F) c hbM11) : sProp 𝕄 :=
  Transfers.Flight (countersEmb (U := Pipeline.UD sig nD τ)) (c : Thread nD τ) (SemLoc.dma (sig := sig) cc0_scratch4.sem) () 368640
    iprop((scM15.view.loc (c : Thread nD τ) ↦[((scM15.slice (Rect.unit (s := S2x640x4608) ![1, 0, 0] S1x640x4608.size inb_S2x640x4608_S1x640x4608_1_0_0) (fun _ => rfl)).squeeze S640x4608 squeezes_S1x640x4608_S640x4608 : Memref sig .tc .vmem S640x4608 .f32).view.set]{fullShare} f15) ∗ (hbM11.view.loc (c : Thread nD τ) ↦[(hbM11.slice (Rect.unit (s := S1920x4608) o S640x4608.size p) (fun _ => rfl) : Memref sig .tc .hbm S640x4608 .f32).view.set]{fullShare} f11))
abbrev rest13o (c : Dev nD) (o : Fin 2 → ℕ) (p : ∀ a, o a + S640x9216.size a ≤ S1920x9216.size a) (f : HbBuf (F := F) c hbM13) : sProp 𝕄 :=
  hbM13.view.loc (c : Thread nD τ) ↦[hbM13.view.set \ (hbM13.slice (Rect.unit (s := S1920x9216) o S640x9216.size p) (fun _ => rfl) : Memref sig .tc .hbm S640x9216 .fp8e4m3).view.set]{fullShare} f
abbrev rest11o (c : Dev nD) (o : Fin 2 → ℕ) (p : ∀ a, o a + S640x4608.size a ≤ S1920x4608.size a) (f : HbBuf (F := F) c hbM11) : sProp 𝕄 :=
  hbM11.view.loc (c : Thread nD τ) ↦[hbM11.view.set \ (hbM11.slice (Rect.unit (s := S1920x4608) o S640x4608.size p) (fun _ => rfl) : Memref sig .tc .hbm S640x4608 .f32).view.set]{fullShare} f
theorem flight20_off (c : Dev nD) (b : Fin 3) (o : Fin 2 → ℕ) (h : o = ![640 * b.val, 0]) (p) (f13 : HbBuf (F := F) c hbM13) (f16 : HbBuf (F := F) c scM16) :
    flight20o c o p f13 f16 = flight20 c b f13 f16 := by subst h; rfl
theorem flight19_off (c : Dev nD) (b : Fin 3) (o : Fin 2 → ℕ) (h : o = ![640 * b.val, 0]) (p) (f15 : HbBuf (F := F) c scM15) (f11 : HbBuf (F := F) c hbM11) :
    flight19o c o p f15 f11 = flight19 c b f15 f11 := by subst h; rfl
theorem rest13_off (c : Dev nD) (b : Fin 3) (o : Fin 2 → ℕ) (h : o = ![640 * b.val, 0]) (p) (f : HbBuf (F := F) c hbM13) :
    rest13o c o p f = rest13 c b f := by subst h; rfl
theorem rest11_off (c : Dev nD) (b : Fin 3) (o : Fin 2 → ℕ) (h : o = ![640 * b.val, 0]) (p) (f : HbBuf (F := F) c hbM11) :
    rest11o c o p f = rest11 c b f := by subst h; rfl
theorem off8_eq : ∀ i : grid0.Coords, k0_off8 i = ![640 * (i 0).val, 0] := by decide +kernel
theorem off9_eq : ∀ i : grid0.Coords, k0_off9 i = ![640 * (i 0).val, 0] := by decide +kernel

set_option maxHeartbeats 400000 in
/-- The first point of the down phase: the scale, the codes, the two copies started, and the first down product. -/
noncomputable def run18 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f8 : HbBuf (F := F) c arg8) (f9 : HbBuf (F := F) c arg9) (f14 : HbBuf (F := F) c arg14)
    (f11 : HbBuf (F := F) c hbM11) (f13 : HbBuf (F := F) c hbM13)
    (f15 : HbBuf (F := F) c scM15) (f16 : HbBuf (F := F) c scM16) (f17 : HbBuf (F := F) c scM17)
    (h1 : ¬ cond1 i = 1#1) (h2 : ¬ k0_cond2 i = 1#1) (h3 : k0_cond3 i = 1#1) (h4 : k0_cond4 i = 1#1) (h5 : ¬ k0_cond5 i = 1#1) :
    { L : List (View.Piece (Elt F) S2x640x4608 .f32) × HbBuf (F := F) c scM17 × List (View.Piece (Elt F) S640x9216 .fp8e4m3) × HbBuf (F := F) c hbM13 × HbBuf (F := F) c scM15 × HbBuf (F := F) c arg14 //
      ∀ (K : PUnit → sProp 𝕄),
        iprop((arg8.view.loc (c : Thread nD τ) ↦[arg8.view.set]{fullShare} f8)
            ∗ (arg9.view.loc (c : Thread nD τ) ↦[arg9.view.set]{fullShare} f9)
            ∗ (arg14.view.loc (c : Thread nD τ) ↦[arg14.view.set]{fullShare} f14)
            ∗ ownPt c hbM11 f11 ∗ ownPt c hbM13 f13 ∗ ownPt c scM15 f15 ∗ ownPt c scM16 f16 ∗ ownPt c scM17 f17
            ∗ semVal ((c : Thread nD τ), SemLoc.dma (sig := sig) cc0_scratch4.sem) 0 ∗ semVal ((c : Thread nD τ), SemLoc.dma (sig := sig) cc0_scratch5.sem) 0
            ∗ (iprop((arg8.view.loc (c : Thread nD τ) ↦[arg8.view.set]{fullShare} f8)
            ∗ (arg9.view.loc (c : Thread nD τ) ↦[arg9.view.set]{fullShare} f9) ∗ ownPt c arg14 L.2.2.2.2.2
                ∗ rest11o c (k0_off9 i) (k0_off9_inb i h3) f11 ∗ rest13o c (k0_off8 i) (k0_off8_inb i h3) L.2.2.2.1 ∗ ownAct0 c (scM15.view.writes (Elt F) L.2.2.2.2.1 L.1) ∗ ownQ c scM16 fullShare.left (scM16.view.writes (Elt F) f16 L.2.2.1) ∗ ownPt c scM17 L.2.1
                ∗ flight19o c (k0_off9 i) (k0_off9_inb i h3) L.2.2.2.2.1 f11 ∗ flight20o c (k0_off8 i) (k0_off8_inb i h3) L.2.2.2.1 (scM16.view.writes (Elt F) f16 L.2.2.1)) -∗ K ⟨⟩))
          ⊢ wp frame (wpE (defs₀ (F := F)) Variants.none c none) Set.univ
              (cc0_ffn i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6) K } := by
  have hi := (cond4_iff i).mp h4
  have hi2 : (i 1).val < 27 := (i 1).isLt
  letI : ClosedOff (k0_off10 i 0#32) := ⟨![0, 0, 512 * ((i 1).val - 18) + 0], off10_eq i ((cond4_iff i).mp h4) 0⟩
  letI : ClosedOff (k0_off10 i 128#32) := ⟨![0, 0, 512 * ((i 1).val - 18) + 128], off10_eq i ((cond4_iff i).mp h4) 1⟩
  letI : ClosedOff (k0_off10 i 256#32) := ⟨![0, 0, 512 * ((i 1).val - 18) + 256], off10_eq i ((cond4_iff i).mp h4) 2⟩
  letI : ClosedOff (k0_off10 i 384#32) := ⟨![0, 0, 512 * ((i 1).val - 18) + 384], off10_eq i ((cond4_iff i).mp h4) 3⟩
  letI : ClosedOff (k0_off11 i 0#32) := ⟨![0, 320, 512 * ((i 1).val - 18) + 0], off11_eq i ((cond4_iff i).mp h4) 0⟩
  letI : ClosedOff (k0_off11 i 128#32) := ⟨![0, 320, 512 * ((i 1).val - 18) + 128], off11_eq i ((cond4_iff i).mp h4) 1⟩
  letI : ClosedOff (k0_off11 i 256#32) := ⟨![0, 320, 512 * ((i 1).val - 18) + 256], off11_eq i ((cond4_iff i).mp h4) 2⟩
  letI : ClosedOff (k0_off11 i 384#32) := ⟨![0, 320, 512 * ((i 1).val - 18) + 384], off11_eq i ((cond4_iff i).mp h4) 3⟩

  refine ⟨(?_, ?_, ?_, ?_, ?_, ?_), fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]

    iintro ⟨H8, H9, H14, H11, H13, H15, H16, H17, C19, C20, Hk⟩
    set_option sl_exec.lendShare "H16" in set_option sl_exec.dmaWindow true in set_option sl_exec.dmaWindowSet true in set_option sl_exec.dmaWindowLent true in sl_exec
    sl_step
    iapply Hk
    isplitl [H8]; · iexact H8
    isplitl [H9]; · iexact H9
    isplitl [H14]; · iexact H14
    isplitl [H11]; · iexact H11
    isplitl [H13]; · iexact H13
    isplitl [H15]; · iexact H15
    isplitl [H16]; · iexact H16
    isplitl [H17]; · iexact H17
    isplitl [C19]; · iexact C19
    iexact C20

end Cert.Proof.KernelIdeal

end
-- ==== Proof.ILoop2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.IBase
public import Idealize.SL.BI.BigOpNat

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A block of 32 rows of `out`, held. -/
abbrev blkPt (c : Dev nD) (i : grid0.Coords) (h5 : k0_cond5 i = 1#1) (k : Fin k0_t2_loop.trips) (f : HbBuf (F := F) c hbM12) : sProp 𝕄 :=
  (hbM12.slice (Rect.unit (s := S1920x4608) (k0_off21 i k) S32x4608.size (k0_off21_inb i k h5)) (fun _ => rfl) : Memref sig .tc .hbm S32x4608 .bf16).view.loc (c : Thread nD τ) ↦[(hbM12.slice (Rect.unit (s := S1920x4608) (k0_off21 i k) S32x4608.size (k0_off21_inb i k h5)) (fun _ => rfl) : Memref sig .tc .hbm S32x4608 .bf16).view.set]{fullShare} f
theorem slice_compl {sp : Space} {s : Shape} {e : EltTy} (v : View sig .tc sp s e) (r r' : Rect s) (h : r.set = Finset.univ \ r'.set) : (v.slice r).set = v.set \ (v.slice r').set := by
  rw [View.set_slice, View.set_slice, h, View.set, Finset.map_sdiff]
/-- The output buffer less one of its slots is the other slot. -/
theorem obSet (p q : Fin 2) (hpq : p ≠ q) (hp : ∀ a, (![p.val, 0, 0] : Fin 3 → ℕ) a + S1x32x4608.size a ≤ S2x32x4608.size a) (hq : ∀ a, (![q.val, 0, 0] : Fin 3 → ℕ) a + S1x32x4608.size a ≤ S2x32x4608.size a) :
    ((scM18.slice (Rect.unit (s := S2x32x4608) ![p.val, 0, 0] S1x32x4608.size hp) (fun _ => rfl)).squeeze S32x4608 squeezes_S1x32x4608_S32x4608 : Memref sig .tc .vmem S32x4608 .bf16).view.set
      = scM18.view.set \ ((scM18.slice (Rect.unit (s := S2x32x4608) ![q.val, 0, 0] S1x32x4608.size hq) (fun _ => rfl)).squeeze S32x4608 squeezes_S1x32x4608_S32x4608 : Memref sig .tc .vmem S32x4608 .bf16).view.set := by
  have h : (Rect.unit (s := S2x32x4608) ![p.val, 0, 0] S1x32x4608.size hp).set = Finset.univ \ (Rect.unit (s := S2x32x4608) ![q.val, 0, 0] S1x32x4608.size hq).set := by
    ext x
    simp only [Finset.mem_sdiff, Finset.mem_univ, true_and, Rect.mem_set_unit]
    have h0 : (x 0).val < 2 := (x 0).isLt
    have h1 : (x 1).val < 32 := (x 1).isLt
    have h2 : (x 2).val < 4608 := (x 2).isLt
    have e : ∀ r : Fin 2, (∀ a, (![r.val, 0, 0] : Fin 3 → ℕ) a ≤ (x a).val ∧ (x a).val < (![r.val, 0, 0] : Fin 3 → ℕ) a + S1x32x4608.size a) ↔ (x 0).val = r.val := by
      intro r
      constructor
      · intro h; have := h 0; simp [S1x32x4608] at this; omega
      · intro h a; fin_cases a <;> simp [S1x32x4608] <;> omega
    have hv : p.val ≠ q.val := fun h => hpq (Fin.ext h)
    rw [e p, e q]; omega
  rw [Memref.set_view_squeeze, Memref.set_view_squeeze]
  exact slice_compl scM18.view _ _ h

/-- Slot 0 of the output buffer, held; and the copy of it in flight into block `j`. -/
abbrev obPt0 (c : Dev nD) (f : HbBuf (F := F) c scM18) : sProp 𝕄 :=
  scM18.view.loc (c : Thread nD τ) ↦[((scM18.slice (Rect.unit (s := S2x32x4608) ![0, 0, 0] S1x32x4608.size inb_S2x32x4608_S1x32x4608_0_0_0) (fun _ => rfl)).squeeze S32x4608 squeezes_S1x32x4608_S32x4608 : Memref sig .tc .vmem S32x4608 .bf16).view.set]{fullShare} f
abbrev obR0 (c : Dev nD) (f : HbBuf (F := F) c scM18) : sProp 𝕄 :=
  scM18.view.loc (c : Thread nD τ) ↦[scM18.view.set \ ((scM18.slice (Rect.unit (s := S2x32x4608) ![1, 0, 0] S1x32x4608.size inb_S2x32x4608_S1x32x4608_1_0_0) (fun _ => rfl)).squeeze S32x4608 squeezes_S1x32x4608_S32x4608 : Memref sig .tc .vmem S32x4608 .bf16).view.set]{fullShare} f
theorem obPt0_eq (c : Dev nD) (f : HbBuf (F := F) c scM18) : obPt0 c f = obR0 c f := by
  exact congrArg (fun S => (scM18.view.loc (c : Thread nD τ) ↦[S]{fullShare} f : sProp 𝕄)) (obSet 0 1 (by decide) _ _)
abbrev obFl0 (c : Dev nD) (i : grid0.Coords) (h5 : k0_cond5 i = 1#1) (j : Fin k0_t2_loop.trips) (fd : HbBuf (F := F) c hbM12) (fs : HbBuf (F := F) c scM18) : sProp 𝕄 :=
  Transfers.Flight (countersEmb (U := Pipeline.UD sig nD τ)) (c : Thread nD τ) (SemLoc.dma (sig := sig) ⟨21, by decide⟩) () 9216
    iprop((hbM12.view.loc (c : Thread nD τ) ↦[(hbM12.slice (Rect.unit (s := S1920x4608) (k0_off21 i j) S32x4608.size (k0_off21_inb i j h5)) (fun _ => rfl) : Memref sig .tc .hbm S32x4608 .bf16).view.set]{fullShare} fd) ∗ (scM18.view.loc (c : Thread nD τ) ↦[((scM18.slice (Rect.unit (s := S2x32x4608) ![0, 0, 0] S1x32x4608.size inb_S2x32x4608_S1x32x4608_0_0_0) (fun _ => rfl)).squeeze S32x4608 squeezes_S1x32x4608_S32x4608 : Memref sig .tc .vmem S32x4608 .bf16).view.set]{fullShare} fs))
abbrev obCell0 (c : Dev nD) : sProp 𝕄 := semVal ((c : Thread nD τ), SemLoc.dma (sig := sig) ⟨21, by decide⟩) 0

/-- Slot 1 of the output buffer, held; and the copy of it in flight into block `j`. -/
abbrev obPt1 (c : Dev nD) (f : HbBuf (F := F) c scM18) : sProp 𝕄 :=
  scM18.view.loc (c : Thread nD τ) ↦[((scM18.slice (Rect.unit (s := S2x32x4608) ![1, 0, 0] S1x32x4608.size inb_S2x32x4608_S1x32x4608_1_0_0) (fun _ => rfl)).squeeze S32x4608 squeezes_S1x32x4608_S32x4608 : Memref sig .tc .vmem S32x4608 .bf16).view.set]{fullShare} f
abbrev obR1 (c : Dev nD) (f : HbBuf (F := F) c scM18) : sProp 𝕄 :=
  scM18.view.loc (c : Thread nD τ) ↦[scM18.view.set \ ((scM18.slice (Rect.unit (s := S2x32x4608) ![0, 0, 0] S1x32x4608.size inb_S2x32x4608_S1x32x4608_0_0_0) (fun _ => rfl)).squeeze S32x4608 squeezes_S1x32x4608_S32x4608 : Memref sig .tc .vmem S32x4608 .bf16).view.set]{fullShare} f
theorem obPt1_eq (c : Dev nD) (f : HbBuf (F := F) c scM18) : obPt1 c f = obR1 c f := by
  exact congrArg (fun S => (scM18.view.loc (c : Thread nD τ) ↦[S]{fullShare} f : sProp 𝕄)) (obSet 1 0 (by decide) _ _)
abbrev obFl1 (c : Dev nD) (i : grid0.Coords) (h5 : k0_cond5 i = 1#1) (j : Fin k0_t2_loop.trips) (fd : HbBuf (F := F) c hbM12) (fs : HbBuf (F := F) c scM18) : sProp 𝕄 :=
  Transfers.Flight (countersEmb (U := Pipeline.UD sig nD τ)) (c : Thread nD τ) (SemLoc.dma (sig := sig) ⟨22, by decide⟩) () 9216
    iprop((hbM12.view.loc (c : Thread nD τ) ↦[(hbM12.slice (Rect.unit (s := S1920x4608) (k0_off21 i j) S32x4608.size (k0_off21_inb i j h5)) (fun _ => rfl) : Memref sig .tc .hbm S32x4608 .bf16).view.set]{fullShare} fd) ∗ (scM18.view.loc (c : Thread nD τ) ↦[((scM18.slice (Rect.unit (s := S2x32x4608) ![1, 0, 0] S1x32x4608.size inb_S2x32x4608_S1x32x4608_1_0_0) (fun _ => rfl)).squeeze S32x4608 squeezes_S1x32x4608_S32x4608 : Memref sig .tc .vmem S32x4608 .bf16).view.set]{fullShare} fs))
abbrev obCell1 (c : Dev nD) : sProp 𝕄 := semVal ((c : Thread nD τ), SemLoc.dma (sig := sig) ⟨22, by decide⟩) 0

/-- Slot 0 of the output buffer after trip `k` has stored into it. -/
abbrev outC0 (c : Dev nD) (i : grid0.Coords) (h5 : k0_cond5 i = 1#1) (k : Fin k0_t2_loop.trips) (v20 : Vec F S1x4608 .f32) (f15 : HbBuf (F := F) c scM15) (fs : HbBuf (F := F) c scM18) : HbBuf (F := F) c scM18 :=
  scM18.view.writes (Elt F) fs [⟨Rect.unit (s := S2x32x4608) ![0, 0, 0] S1x32x4608.size inb_S2x32x4608_S1x32x4608_0_0_0,
    k0_pay12 v20 (View.readAt (Elt F) scM15.view (Rect.unit (s := S2x640x4608) (k0_off17 k) S1x32x4608.size (k0_off17_inb i k h5)).toLoadRect f15)
      (View.readAt (Elt F) scM15.view (Rect.unit (s := S2x640x4608) (k0_off18 k) S1x32x4608.size (k0_off18_inb i k h5)).toLoadRect f15)⟩]

/-- Slot 1 of the output buffer after trip `k` has stored into it. -/
abbrev outC1 (c : Dev nD) (i : grid0.Coords) (h5 : k0_cond5 i = 1#1) (k : Fin k0_t2_loop.trips) (v20 : Vec F S1x4608 .f32) (f15 : HbBuf (F := F) c scM15) (fs : HbBuf (F := F) c scM18) : HbBuf (F := F) c scM18 :=
  scM18.view.writes (Elt F) fs [⟨Rect.unit (s := S2x32x4608) ![1, 0, 0] S1x32x4608.size inb_S2x32x4608_S1x32x4608_1_0_0,
    k0_pay12 v20 (View.readAt (Elt F) scM15.view (Rect.unit (s := S2x640x4608) (k0_off17 k) S1x32x4608.size (k0_off17_inb i k h5)).toLoadRect f15)
      (View.readAt (Elt F) scM15.view (Rect.unit (s := S2x640x4608) (k0_off18 k) S1x32x4608.size (k0_off18_inb i k h5)).toLoadRect f15)⟩]

/-- Block `k` of `out` holds what trip `k` stored. -/
def BlkVal (c : Dev nD) (i : grid0.Coords) (h5 : k0_cond5 i = 1#1) (v20 : Vec F S1x4608 .f32) (f15 : HbBuf (F := F) c scM15) (k : Fin k0_t2_loop.trips) (fd : HbBuf (F := F) c hbM12) : Prop :=
  (∃ fb fs, fd = (hbM12.slice (Rect.unit (s := S1920x4608) (k0_off21 i k) S32x4608.size (k0_off21_inb i k h5)) (fun _ => rfl) : Memref sig .tc .hbm S32x4608 .bf16).view.writes (Elt F) fb [⟨Rect.whole (Rect.unit (s := S1920x4608) (k0_off21 i k) S32x4608.size (k0_off21_inb i k h5)).shape, View.read (Elt F) ((scM18.slice (Rect.unit (s := S2x32x4608) ![0, 0, 0] S1x32x4608.size inb_S2x32x4608_S1x32x4608_0_0_0) (fun _ => rfl)).squeeze S32x4608 squeezes_S1x32x4608_S32x4608 : Memref sig .tc .vmem S32x4608 .bf16).view (outC0 c i h5 k v20 f15 fs)⟩])
  ∨ (∃ fb fs, fd = (hbM12.slice (Rect.unit (s := S1920x4608) (k0_off21 i k) S32x4608.size (k0_off21_inb i k h5)) (fun _ => rfl) : Memref sig .tc .hbm S32x4608 .bf16).view.writes (Elt F) fb [⟨Rect.whole (Rect.unit (s := S1920x4608) (k0_off21 i k) S32x4608.size (k0_off21_inb i k h5)).shape, View.read (Elt F) ((scM18.slice (Rect.unit (s := S2x32x4608) ![1, 0, 0] S1x32x4608.size inb_S2x32x4608_S1x32x4608_1_0_0) (fun _ => rfl)).squeeze S32x4608 squeezes_S1x32x4608_S32x4608 : Memref sig .tc .vmem S32x4608 .bf16).view (outC1 c i h5 k v20 f15 fs)⟩])

set_option maxHeartbeats 400000 in
theorem trip2_wait0 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (k j : Fin k0_t2_loop.trips)
    (f15 : HbBuf (F := F) c scM15) (fd fb : HbBuf (F := F) c hbM12) (fs : HbBuf (F := F) c scM18) (W : Waits sig Unit)
    (hk2 : 2 ≤ k.val) (hp : k.val % 2 = 0) (K : PUnit → sProp 𝕄) :
    iprop(ownPt c scM15 f15 ∗ owes (c : Thread nD τ) 0 W ∗ obFl0 c i h5 j fd fs ∗ blkPt c i h5 k fb
      ∗ ((∃ W' fd' fs', ⌜BlkVal c i h5 v20 f15 k fd'⌝ ∗ ownPt c scM15 f15 ∗ owes (c : Thread nD τ) 0 W' ∗ obFl0 c i h5 k fd' fs' ∗ blkPt c i h5 j fd) -∗ K ⟨⟩))
    ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) K := by
  have hk : k.val < 20 := trips2 ▸ k.isLt
  have h6 : k0_cond6 k = 1#1 := (cond6_iff k).mpr hk2
  unfold k0_t2_body
  simp -proj only [dif_pos h6, pure_bind]
  generalize_proofs
  have e14 := k0_off14_eq k
  have e16 := k0_off16_eq k
  have e19 := k0_off19_eq k
  have e20 := k0_off20_eq k
  have e22 := k0_off22_eq k
  rw [hp] at e14 e16 e19 e20 e22
  generalize k0_off14 k = o14, k0_off16 k = o16, k0_off19 k = o19, k0_off20 k = o20, k0_off22 k = o22 at *
  subst e14 e16 e19 e20 e22
  iintro ⟨H15, HW, S, H12, Hk⟩
  sl_exec
  ihave S_src : obR0 c fs $$ [S_src]
  · rw [← obPt0_eq]; iexact S_src
  sl_exec
  sl_step
  sl_unfold_run_names
  iapply Hk
  iexists _, _, _
  isplitr; · ipureintro; exact Or.inl ⟨fb, fs, rfl⟩
  isplitl [H15]; · iexact H15
  isplitl [HW]; · iexact HW
  isplitl [S]; · iexact S
  iexact S_dst

set_option maxHeartbeats 400000 in
theorem trip2_wait1 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (k j : Fin k0_t2_loop.trips)
    (f15 : HbBuf (F := F) c scM15) (fd fb : HbBuf (F := F) c hbM12) (fs : HbBuf (F := F) c scM18) (W : Waits sig Unit)
    (hk2 : 2 ≤ k.val) (hp : k.val % 2 = 1) (K : PUnit → sProp 𝕄) :
    iprop(ownPt c scM15 f15 ∗ owes (c : Thread nD τ) 0 W ∗ obFl1 c i h5 j fd fs ∗ blkPt c i h5 k fb
      ∗ ((∃ W' fd' fs', ⌜BlkVal c i h5 v20 f15 k fd'⌝ ∗ ownPt c scM15 f15 ∗ owes (c : Thread nD τ) 0 W' ∗ obFl1 c i h5 k fd' fs' ∗ blkPt c i h5 j fd) -∗ K ⟨⟩))
    ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) K := by
  have hk : k.val < 20 := trips2 ▸ k.isLt
  have h6 : k0_cond6 k = 1#1 := (cond6_iff k).mpr hk2
  unfold k0_t2_body
  simp -proj only [dif_pos h6, pure_bind]
  generalize_proofs
  have e14 := k0_off14_eq k
  have e16 := k0_off16_eq k
  have e19 := k0_off19_eq k
  have e20 := k0_off20_eq k
  have e22 := k0_off22_eq k
  rw [hp] at e14 e16 e19 e20 e22
  generalize k0_off14 k = o14, k0_off16 k = o16, k0_off19 k = o19, k0_off20 k = o20, k0_off22 k = o22 at *
  subst e14 e16 e19 e20 e22
  iintro ⟨H15, HW, S, H12, Hk⟩
  sl_exec
  ihave S_src : obR1 c fs $$ [S_src]
  · rw [← obPt1_eq]; iexact S_src
  sl_exec
  sl_step
  sl_unfold_run_names
  iapply Hk
  iexists _, _, _
  isplitr; · ipureintro; exact Or.inr ⟨fb, fs, rfl⟩
  isplitl [H15]; · iexact H15
  isplitl [HW]; · iexact HW
  isplitl [S]; · iexact S
  iexact S_dst

set_option maxHeartbeats 400000 in
theorem trip2_free0 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (k j : Fin k0_t2_loop.trips)
    (f15 : HbBuf (F := F) c scM15) (fd fb : HbBuf (F := F) c hbM12) (fs : HbBuf (F := F) c scM18) (W : Waits sig Unit)
    (hk2 : k.val < 2) (hp : k.val % 2 = 0) (K : PUnit → sProp 𝕄) :
    iprop(ownPt c scM15 f15 ∗ owes (c : Thread nD τ) 0 W ∗ obPt0 c fs ∗ obCell0 c ∗ blkPt c i h5 k fb
      ∗ ((∃ W' fd' fs', ⌜BlkVal c i h5 v20 f15 k fd'⌝ ∗ ownPt c scM15 f15 ∗ owes (c : Thread nD τ) 0 W' ∗ obFl0 c i h5 k fd' fs' ) -∗ K ⟨⟩))
    ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) K := by
  have hk : k.val < 20 := trips2 ▸ k.isLt
  have h6 : ¬ k0_cond6 k = 1#1 := fun h => absurd ((cond6_iff k).mp h) (by omega)
  unfold k0_t2_body
  simp -proj only [dif_neg h6, pure_bind]
  generalize_proofs
  have e19 := k0_off19_eq k
  have e20 := k0_off20_eq k
  have e22 := k0_off22_eq k
  rw [hp] at e19 e20 e22
  generalize k0_off19 k = o19, k0_off20 k = o20, k0_off22 k = o22 at *
  subst e19 e20 e22
  iintro ⟨H15, HW, S, C, H12, Hk⟩
  ihave S : obR0 c fs $$ [S]
  · rw [← obPt0_eq]; iexact S
  sl_exec
  sl_step
  sl_unfold_run_names
  iapply Hk
  iexists _, _, _
  isplitr; · ipureintro; exact Or.inl ⟨fb, fs, rfl⟩
  isplitl [H15]; · iexact H15
  isplitl [HW]; · iexact HW
  iexact C

set_option maxHeartbeats 400000 in
theorem trip2_free1 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (k j : Fin k0_t2_loop.trips)
    (f15 : HbBuf (F := F) c scM15) (fd fb : HbBuf (F := F) c hbM12) (fs : HbBuf (F := F) c scM18) (W : Waits sig Unit)
    (hk2 : k.val < 2) (hp : k.val % 2 = 1) (K : PUnit → sProp 𝕄) :
    iprop(ownPt c scM15 f15 ∗ owes (c : Thread nD τ) 0 W ∗ obPt1 c fs ∗ obCell1 c ∗ blkPt c i h5 k fb
      ∗ ((∃ W' fd' fs', ⌜BlkVal c i h5 v20 f15 k fd'⌝ ∗ ownPt c scM15 f15 ∗ owes (c : Thread nD τ) 0 W' ∗ obFl1 c i h5 k fd' fs' ) -∗ K ⟨⟩))
    ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) K := by
  have hk : k.val < 20 := trips2 ▸ k.isLt
  have h6 : ¬ k0_cond6 k = 1#1 := fun h => absurd ((cond6_iff k).mp h) (by omega)
  unfold k0_t2_body
  simp -proj only [dif_neg h6, pure_bind]
  generalize_proofs
  have e19 := k0_off19_eq k
  have e20 := k0_off20_eq k
  have e22 := k0_off22_eq k
  rw [hp] at e19 e20 e22
  generalize k0_off19 k = o19, k0_off20 k = o20, k0_off22 k = o22 at *
  subst e19 e20 e22
  iintro ⟨H15, HW, S, C, H12, Hk⟩
  ihave S : obR1 c fs $$ [S]
  · rw [← obPt1_eq]; iexact S
  sl_exec
  sl_step
  sl_unfold_run_names
  iapply Hk
  iexists _, _, _
  isplitr; · ipureintro; exact Or.inr ⟨fb, fs, rfl⟩
  isplitl [H15]; · iexact H15
  isplitl [HW]; · iexact HW
  iexact C

/-- The loop's state before trip `k`: blocks from `k` on not yet written, blocks below `k - 2` delivered, and each slot free or in flight into the last block of its parity. -/
def todo2 (c : Dev nD) (i : grid0.Coords) (h5 : k0_cond5 i = 1#1) (j : ℕ) : sProp 𝕄 :=
  if h : j < k0_t2_loop.trips then iprop(∃ f, blkPt c i h5 ⟨j, h⟩ f) else iprop(emp)
def done2 (c : Dev nD) (i : grid0.Coords) (h5 : k0_cond5 i = 1#1) (v20 : Vec F S1x4608 .f32) (f15 : HbBuf (F := F) c scM15) (j : ℕ) : sProp 𝕄 :=
  if h : j < k0_t2_loop.trips then iprop(∃ f, ⌜BlkVal c i h5 v20 f15 ⟨j, h⟩ f⌝ ∗ blkPt c i h5 ⟨j, h⟩ f) else iprop(emp)

def fl0 (c : Dev nD) (i : grid0.Coords) (h5 : k0_cond5 i = 1#1) (v20 : Vec F S1x4608 .f32) (f15 : HbBuf (F := F) c scM15) (j : ℕ) : sProp 𝕄 :=
  if h : j < k0_t2_loop.trips then iprop(∃ fd fs, ⌜BlkVal c i h5 v20 f15 ⟨j, h⟩ fd⌝ ∗ obFl0 c i h5 ⟨j, h⟩ fd fs) else iprop(emp)
/-- Slot 0 of the output buffer before trip `k`. -/
def sl0 (c : Dev nD) (i : grid0.Coords) (h5 : k0_cond5 i = 1#1) (v20 : Vec F S1x4608 .f32) (f15 : HbBuf (F := F) c scM15) (k : ℕ) : sProp 𝕄 :=
  if k ≤ 0 then iprop(∃ fs, obPt0 c fs ∗ obCell0 c) else fl0 c i h5 v20 f15 (if (k - 1) % 2 = 0 then k - 1 else k - 2)

def fl1 (c : Dev nD) (i : grid0.Coords) (h5 : k0_cond5 i = 1#1) (v20 : Vec F S1x4608 .f32) (f15 : HbBuf (F := F) c scM15) (j : ℕ) : sProp 𝕄 :=
  if h : j < k0_t2_loop.trips then iprop(∃ fd fs, ⌜BlkVal c i h5 v20 f15 ⟨j, h⟩ fd⌝ ∗ obFl1 c i h5 ⟨j, h⟩ fd fs) else iprop(emp)
/-- Slot 1 of the output buffer before trip `k`. -/
def sl1 (c : Dev nD) (i : grid0.Coords) (h5 : k0_cond5 i = 1#1) (v20 : Vec F S1x4608 .f32) (f15 : HbBuf (F := F) c scM15) (k : ℕ) : sProp 𝕄 :=
  if k ≤ 1 then iprop(∃ fs, obPt1 c fs ∗ obCell1 c) else fl1 c i h5 v20 f15 (if (k - 1) % 2 = 1 then k - 1 else k - 2)

def inv2 (c : Dev nD) (i : grid0.Coords) (h5 : k0_cond5 i = 1#1) (v20 : Vec F S1x4608 .f32) (f15 : HbBuf (F := F) c scM15) (k : ℕ) (_u : PUnit) : sProp 𝕄 :=
  iprop(ownPt c scM15 f15 ∗ (∃ W, owes (c : Thread nD τ) 0 W) ∗ sl0 c i h5 v20 f15 k ∗ sl1 c i h5 v20 f15 k
    ∗ bigSep (Finset.Ico k 20) (todo2 (F := F) c i h5) ∗ bigSep (Finset.range (k - 2)) (done2 c i h5 v20 f15))

theorem step2_wait0 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (f15 : HbBuf (F := F) c scM15) (k : Fin k0_t2_loop.trips)
    (hk2 : 2 ≤ k.val) (hp : k.val % 2 = 0) :
    inv2 c i h5 v20 f15 k.val ⟨⟩ ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) (inv2 c i h5 v20 f15 (k.val + 1)) := by
  have hk : k.val < 20 := trips2 ▸ k.isLt
  have e1 : sl0 c i h5 v20 f15 k.val = fl0 c i h5 v20 f15 (k.val - 2) := by
    unfold sl0; rw [if_neg (by omega), if_neg (by omega)]
  have e3 : sl1 c i h5 v20 f15 k.val = fl1 c i h5 v20 f15 (k.val - 1) := by
    unfold sl1; rw [if_neg (by omega), if_pos (by omega)]
  have e4 : sl1 c i h5 v20 f15 (k.val + 1) = fl1 c i h5 v20 f15 (k.val - 1) := by
    unfold sl1; rw [if_neg (by omega), if_neg (by omega)]; congr 1
  have e2 : sl0 c i h5 v20 f15 (k.val + 1) = iprop(∃ fd fs, ⌜BlkVal c i h5 v20 f15 k fd⌝ ∗ obFl0 c i h5 k fd fs) := by
    unfold sl0; rw [if_neg (by omega), if_pos (by omega)]; unfold fl0; rw [dif_pos (by simpa using k.isLt)]; rfl
  unfold inv2
  rw [bigSep_Ico_succ_bot hk, e1, e2, e3, e4]
  rw [show todo2 (F := F) c i h5 k.val = iprop(∃ f, blkPt c i h5 k f) from dif_pos k.isLt]
  rw [show k.val + 1 - 2 = (k.val - 2) + 1 by omega, bigSep_range_succ]
  rw [show fl0 c i h5 v20 f15 (k.val - 2) = iprop(∃ fd fs, ⌜BlkVal c i h5 v20 f15 ⟨k.val - 2, by have := k.isLt; omega⟩ fd⌝ ∗ obFl0 c i h5 ⟨k.val - 2, by have := k.isLt; omega⟩ fd fs) from dif_pos (by have := k.isLt; omega)]
  rw [show done2 c i h5 v20 f15 (k.val - 2) = iprop(∃ f, ⌜BlkVal c i h5 v20 f15 ⟨k.val - 2, by have := k.isLt; omega⟩ f⌝ ∗ blkPt c i h5 ⟨k.val - 2, by have := k.isLt; omega⟩ f) from dif_pos (by have := k.isLt; omega)]
  iintro ⟨H15, ⟨%W, HW⟩, ⟨%fd, %fs, %hv, S0⟩, S1, ⟨⟨%fb, B⟩, T⟩, D⟩
  iapply (trip2_wait0 c i arg2 harg2 arg3 harg3 arg4 harg4 arg5 harg5 arg6 harg6 arg7 harg7 arg8 harg8 arg9 harg9 arg10 harg10 arg14 harg14 h5 v20 k ⟨k.val - 2, by have := k.isLt; omega⟩ f15 fd fb fs W hk2 hp)
  isplitl [H15]; · iexact H15
  isplitl [HW]; · iexact HW
  isplitl [S0]; · iexact S0
  isplitl [B]; · iexact B
  iintro ⟨%W', %fd', %fs', %hv', H15, HW, S0, B⟩
  isplitl [H15]; · iexact H15
  isplitl [HW]; · iexists _; iexact HW
  isplitl [S0]; · iexists fd', fs'; isplitr; · ipureintro; exact hv'
                  iexact S0
  isplitl [S1]; ·
                  iexact S1
  isplitl [T]; · iexact T
  isplitl [B]
  · iexists fd; isplitr; · ipureintro; exact hv
    iexact B
  iexact D

theorem step2_wait1 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (f15 : HbBuf (F := F) c scM15) (k : Fin k0_t2_loop.trips)
    (hk2 : 2 ≤ k.val) (hp : k.val % 2 = 1) :
    inv2 c i h5 v20 f15 k.val ⟨⟩ ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) (inv2 c i h5 v20 f15 (k.val + 1)) := by
  have hk : k.val < 20 := trips2 ▸ k.isLt
  have e1 : sl1 c i h5 v20 f15 k.val = fl1 c i h5 v20 f15 (k.val - 2) := by
    unfold sl1; rw [if_neg (by omega), if_neg (by omega)]
  have e3 : sl0 c i h5 v20 f15 k.val = fl0 c i h5 v20 f15 (k.val - 1) := by
    unfold sl0; rw [if_neg (by omega), if_pos (by omega)]
  have e4 : sl0 c i h5 v20 f15 (k.val + 1) = fl0 c i h5 v20 f15 (k.val - 1) := by
    unfold sl0; rw [if_neg (by omega), if_neg (by omega)]; congr 1
  have e2 : sl1 c i h5 v20 f15 (k.val + 1) = iprop(∃ fd fs, ⌜BlkVal c i h5 v20 f15 k fd⌝ ∗ obFl1 c i h5 k fd fs) := by
    unfold sl1; rw [if_neg (by omega), if_pos (by omega)]; unfold fl1; rw [dif_pos (by simpa using k.isLt)]; rfl
  unfold inv2
  rw [bigSep_Ico_succ_bot hk, e1, e2, e3, e4]
  rw [show todo2 (F := F) c i h5 k.val = iprop(∃ f, blkPt c i h5 k f) from dif_pos k.isLt]
  rw [show k.val + 1 - 2 = (k.val - 2) + 1 by omega, bigSep_range_succ]
  rw [show fl1 c i h5 v20 f15 (k.val - 2) = iprop(∃ fd fs, ⌜BlkVal c i h5 v20 f15 ⟨k.val - 2, by have := k.isLt; omega⟩ fd⌝ ∗ obFl1 c i h5 ⟨k.val - 2, by have := k.isLt; omega⟩ fd fs) from dif_pos (by have := k.isLt; omega)]
  rw [show done2 c i h5 v20 f15 (k.val - 2) = iprop(∃ f, ⌜BlkVal c i h5 v20 f15 ⟨k.val - 2, by have := k.isLt; omega⟩ f⌝ ∗ blkPt c i h5 ⟨k.val - 2, by have := k.isLt; omega⟩ f) from dif_pos (by have := k.isLt; omega)]
  iintro ⟨H15, ⟨%W, HW⟩, S0, ⟨%fd, %fs, %hv, S1⟩, ⟨⟨%fb, B⟩, T⟩, D⟩
  iapply (trip2_wait1 c i arg2 harg2 arg3 harg3 arg4 harg4 arg5 harg5 arg6 harg6 arg7 harg7 arg8 harg8 arg9 harg9 arg10 harg10 arg14 harg14 h5 v20 k ⟨k.val - 2, by have := k.isLt; omega⟩ f15 fd fb fs W hk2 hp)
  isplitl [H15]; · iexact H15
  isplitl [HW]; · iexact HW
  isplitl [S1]; · iexact S1
  isplitl [B]; · iexact B
  iintro ⟨%W', %fd', %fs', %hv', H15, HW, S1, B⟩
  isplitl [H15]; · iexact H15
  isplitl [HW]; · iexists _; iexact HW
  isplitl [S0]; ·
                  iexact S0
  isplitl [S1]; · iexists fd', fs'; isplitr; · ipureintro; exact hv'
                  iexact S1
  isplitl [T]; · iexact T
  isplitl [B]
  · iexists fd; isplitr; · ipureintro; exact hv
    iexact B
  iexact D

theorem step2_free0 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (f15 : HbBuf (F := F) c scM15) (k : Fin k0_t2_loop.trips)
    (hk2 : k.val < 2) (hp : k.val % 2 = 0) :
    inv2 c i h5 v20 f15 k.val ⟨⟩ ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) (inv2 c i h5 v20 f15 (k.val + 1)) := by
  have hk : k.val < 20 := trips2 ▸ k.isLt
  have hkv : k.val = 0 := by omega
  have e1 : sl0 c i h5 v20 f15 k.val = iprop(∃ fs, obPt0 c fs ∗ obCell0 c) := by
    unfold sl0; rw [if_pos (by omega)]
  have e3 : sl1 c i h5 v20 f15 k.val = iprop(∃ fs, obPt1 c fs ∗ obCell1 c) := by
    unfold sl1; rw [if_pos (by omega)]
  have e4 : sl1 c i h5 v20 f15 (k.val + 1) = iprop(∃ fs, obPt1 c fs ∗ obCell1 c) := by
    unfold sl1; rw [if_pos (by omega)]
  have e2 : sl0 c i h5 v20 f15 (k.val + 1) = iprop(∃ fd fs, ⌜BlkVal c i h5 v20 f15 k fd⌝ ∗ obFl0 c i h5 k fd fs) := by
    unfold sl0; rw [if_neg (by omega), if_pos (by omega)]; unfold fl0; rw [dif_pos (by simpa using k.isLt)]; rfl
  unfold inv2
  rw [bigSep_Ico_succ_bot hk, e1, e2, e3, e4]
  rw [show todo2 (F := F) c i h5 k.val = iprop(∃ f, blkPt c i h5 k f) from dif_pos k.isLt]
  rw [show k.val + 1 - 2 = 0 by omega, show k.val - 2 = 0 by omega]
  iintro ⟨H15, ⟨%W, HW⟩, ⟨%fs, S0, C⟩, S1, ⟨⟨%fb, B⟩, T⟩, D⟩
  iapply (trip2_free0 c i arg2 harg2 arg3 harg3 arg4 harg4 arg5 harg5 arg6 harg6 arg7 harg7 arg8 harg8 arg9 harg9 arg10 harg10 arg14 harg14 h5 v20 k k f15 fb fb fs W hk2 hp)
  isplitl [H15]; · iexact H15
  isplitl [HW]; · iexact HW
  isplitl [S0]; · iexact S0
  isplitl [C]; · iexact C
  isplitl [B]; · iexact B
  iintro ⟨%W', %fd', %fs', %hv', H15, HW, S0⟩
  isplitl [H15]; · iexact H15
  isplitl [HW]; · iexists _; iexact HW
  isplitl [S0]; · iexists fd', fs'; isplitr; · ipureintro; exact hv'
                  iexact S0
  isplitl [S1]; ·
                  iexact S1
  isplitl [T]; · iexact T
  iexact D

theorem step2_free1 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (f15 : HbBuf (F := F) c scM15) (k : Fin k0_t2_loop.trips)
    (hk2 : k.val < 2) (hp : k.val % 2 = 1) :
    inv2 c i h5 v20 f15 k.val ⟨⟩ ⊢ wp frame (wpE (defs₀ (F := F)) Variants.none c none) Set.univ
        (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 k ⟨⟩) (inv2 c i h5 v20 f15 (k.val + 1)) := by
  have hk : k.val < 20 := trips2 ▸ k.isLt
  have hkv : k.val = 1 := by omega
  have e1 : sl1 c i h5 v20 f15 k.val = iprop(∃ fs, obPt1 c fs ∗ obCell1 c) := by
    unfold sl1; rw [if_pos (by omega)]
  have e3 : sl0 c i h5 v20 f15 k.val = fl0 c i h5 v20 f15 0 := by
    unfold sl0; rw [if_neg (by omega), if_pos (by omega), hkv]
  have e4 : sl0 c i h5 v20 f15 (k.val + 1) = fl0 c i h5 v20 f15 0 := by
    unfold sl0; rw [if_neg (by omega), if_neg (by omega), hkv]
  have e2 : sl1 c i h5 v20 f15 (k.val + 1) = iprop(∃ fd fs, ⌜BlkVal c i h5 v20 f15 k fd⌝ ∗ obFl1 c i h5 k fd fs) := by
    unfold sl1; rw [if_neg (by omega), if_pos (by omega)]; unfold fl1; rw [dif_pos (by simpa using k.isLt)]; rfl
  unfold inv2
  rw [bigSep_Ico_succ_bot hk, e1, e2, e3, e4]
  rw [show todo2 (F := F) c i h5 k.val = iprop(∃ f, blkPt c i h5 k f) from dif_pos k.isLt]
  rw [show k.val + 1 - 2 = 0 by omega, show k.val - 2 = 0 by omega]
  iintro ⟨H15, ⟨%W, HW⟩, S0, ⟨%fs, S1, C⟩, ⟨⟨%fb, B⟩, T⟩, D⟩
  iapply (trip2_free1 c i arg2 harg2 arg3 harg3 arg4 harg4 arg5 harg5 arg6 harg6 arg7 harg7 arg8 harg8 arg9 harg9 arg10 harg10 arg14 harg14 h5 v20 k k f15 fb fb fs W hk2 hp)
  isplitl [H15]; · iexact H15
  isplitl [HW]; · iexact HW
  isplitl [S1]; · iexact S1
  isplitl [C]; · iexact C
  isplitl [B]; · iexact B
  iintro ⟨%W', %fd', %fs', %hv', H15, HW, S1⟩
  isplitl [H15]; · iexact H15
  isplitl [HW]; · iexists _; iexact HW
  isplitl [S0]; ·
                  iexact S0
  isplitl [S1]; · iexists fd', fs'; isplitr; · ipureintro; exact hv'
                  iexact S1
  isplitl [T]; · iexact T
  iexact D

set_option warn.classDefReducibility false in
/-- The loop by its invariant. -/
def loopInv_t2 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (f15 : HbBuf (F := F) c scM15) :
    LoopInvTy_k0_t2 (F := F) Unit ℕ (Pipeline.UD sig nD τ) ℕ Variants.none c none Set.univ i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20 where
  inv := inv2 c i h5 v20 f15
  step k acc := by
    rcases Nat.lt_or_ge k.val 2 with h2 | h2
    · rcases Nat.mod_two_eq_zero_or_one k.val with hp | hp
      · exact step2_free0 c i arg2 harg2 arg3 harg3 arg4 harg4 arg5 harg5 arg6 harg6 arg7 harg7 arg8 harg8 arg9 harg9 arg10 harg10 arg14 harg14 h5 v20 f15 k h2 hp
      · exact step2_free1 c i arg2 harg2 arg3 harg3 arg4 harg4 arg5 harg5 arg6 harg6 arg7 harg7 arg8 harg8 arg9 harg9 arg10 harg10 arg14 harg14 h5 v20 f15 k h2 hp
    · rcases Nat.mod_two_eq_zero_or_one k.val with hp | hp
      · exact step2_wait0 c i arg2 harg2 arg3 harg3 arg4 harg4 arg5 harg5 arg6 harg6 arg7 harg7 arg8 harg8 arg9 harg9 arg10 harg10 arg14 harg14 h5 v20 f15 k h2 hp
      · exact step2_wait1 c i arg2 harg2 arg3 harg3 arg4 harg4 arg5 harg5 arg6 harg6 arg7 harg7 arg8 harg8 arg9 harg9 arg10 harg10 arg14 harg14 h5 v20 f15 k h2 hp

theorem loop2_rule (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (h5 : k0_cond5 i = 1#1) (v20 : Vec F S1x4608 .f32) (f15 : HbBuf (F := F) c scM15)
    {kk : PUnit → Prog (TpuEff nD τ sig (Elt F) Λ₀ .tc) PUnit} {Q : PUnit → sProp 𝕄} :
    inv2 c i h5 v20 f15 0 ⟨⟩ ⊢ iprop((∀ acc, inv2 c i h5 v20 f15 k0_t2_loop.trips acc -∗ wp frame (wpE (defs₀ (F := F)) Variants.none c none) Set.univ (kk acc) Q)
      -∗ wp frame (wpE (defs₀ (F := F)) Variants.none c none) Set.univ (Scf.Loop.for k0_t2_loop (k0_t2_ok i h5) ⟨⟩ (k0_t2_body i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h5 v20) >>= kk) Q) :=
  exec_loop frame (wpE (defs₀ (F := F)) Variants.none c none) Set.univ _ _ _ _ _ _ (loopInv_t2 (F := F) c i arg2 harg2 arg3 harg3 arg4 harg4 arg5 harg5 arg6 harg6 arg7 harg7 arg8 harg8 arg9 harg9 arg10 harg10 arg14 harg14 h5 v20 f15)
theorem inv2_zero (c : Dev nD) (i : grid0.Coords) (h5 : k0_cond5 i = 1#1) (v20 : Vec F S1x4608 .f32) (f15 : HbBuf (F := F) c scM15) :
    inv2 c i h5 v20 f15 0 ⟨⟩ = iprop(ownPt c scM15 f15 ∗ (∃ W, owes (c : Thread nD τ) 0 W) ∗ (∃ fs, obPt0 c fs ∗ obCell0 c) ∗ (∃ fs, obPt1 c fs ∗ obCell1 c)
      ∗ bigSep (Finset.Ico 0 20) (todo2 (F := F) c i h5) ∗ emp) := by
  unfold inv2
  rw [show sl0 c i h5 v20 f15 0 = iprop(∃ fs, obPt0 c fs ∗ obCell0 c) from if_pos (by omega),
    show sl1 c i h5 v20 f15 0 = iprop(∃ fs, obPt1 c fs ∗ obCell1 c) from if_pos (by omega),
    show Finset.range (0 - 2) = ∅ from rfl, bigSep_empty]; rfl
theorem inv2_end (c : Dev nD) (i : grid0.Coords) (h5 : k0_cond5 i = 1#1) (v20 : Vec F S1x4608 .f32) (f15 : HbBuf (F := F) c scM15) (k : ℕ) (hk : k = 20) (u : PUnit) :
    inv2 c i h5 v20 f15 k u = iprop(ownPt c scM15 f15 ∗ (∃ W, owes (c : Thread nD τ) 0 W)
      ∗ (∃ fd fs, ⌜BlkVal c i h5 v20 f15 ⟨18, by rw [trips2]; omega⟩ fd⌝ ∗ obFl0 c i h5 ⟨18, by rw [trips2]; omega⟩ fd fs)
      ∗ (∃ fd fs, ⌜BlkVal c i h5 v20 f15 ⟨19, by rw [trips2]; omega⟩ fd⌝ ∗ obFl1 c i h5 ⟨19, by rw [trips2]; omega⟩ fd fs)
      ∗ bigSep (Finset.Ico 20 20) (todo2 (F := F) c i h5) ∗ bigSep (Finset.range 18) (done2 c i h5 v20 f15)) := by
  subst hk
  unfold inv2
  rw [show sl0 c i h5 v20 f15 20 = fl0 c i h5 v20 f15 18 from rfl, show sl1 c i h5 v20 f15 20 = fl1 c i h5 v20 f15 19 from rfl]
  unfold fl0 fl1
  rw [dif_pos (by rw [trips2]; omega), dif_pos (by rw [trips2]; omega)]
theorem done2_end (c : Dev nD) (i : grid0.Coords) (h5 : k0_cond5 i = 1#1) (v20 : Vec F S1x4608 .f32) (f15 : HbBuf (F := F) c scM15) :
    bigSep (Finset.range 20) (done2 c i h5 v20 f15)
      = iprop((∃ f, ⌜BlkVal c i h5 v20 f15 ⟨19, by rw [trips2]; omega⟩ f⌝ ∗ blkPt c i h5 ⟨19, by rw [trips2]; omega⟩ f)
        ∗ (∃ f, ⌜BlkVal c i h5 v20 f15 ⟨18, by rw [trips2]; omega⟩ f⌝ ∗ blkPt c i h5 ⟨18, by rw [trips2]; omega⟩ f)
        ∗ bigSep (Finset.range 18) (done2 c i h5 v20 f15)) := by
  rw [bigSep_range_succ, bigSep_range_succ,
    show done2 c i h5 v20 f15 19 = _ from dif_pos (by rw [trips2]; omega), show done2 c i h5 v20 f15 18 = _ from dif_pos (by rw [trips2]; omega)]

end Cert.Proof.KernelIdeal

end
-- ==== Proof.IR26.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.IBase
public import proofs.«01_k».proof.Proof.ILoop2

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The last point of the down phase. -/
noncomputable def run26 (c : Dev nD) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f8 : HbBuf (F := F) c arg8) (f9 : HbBuf (F := F) c arg9) (f10 : HbBuf (F := F) c arg10)
    (f11 : HbBuf (F := F) c hbM11) (f13 : HbBuf (F := F) c hbM13)
    (f15 : HbBuf (F := F) c scM15) (f16 : HbBuf (F := F) c scM16) (f17 : HbBuf (F := F) c scM17) (W : Waits sig Unit)
    (h1 : ¬ cond1 i = 1#1) (h2 : ¬ k0_cond2 i = 1#1) (h3 : ¬ k0_cond3 i = 1#1) (h4 : k0_cond4 i = 1#1) (h5 : k0_cond5 i = 1#1) :
    { L : List (View.Piece (Elt F) S2x640x4608 .f32) //
      ∀ (K : PUnit → sProp 𝕄),
        iprop((arg8.view.loc (c : Thread nD τ) ↦[arg8.view.set]{fullShare} f8)
            ∗ (arg9.view.loc (c : Thread nD τ) ↦[arg9.view.set]{fullShare} f9)
            ∗ (arg10.view.loc (c : Thread nD τ) ↦[arg10.view.set]{fullShare} f10)
            ∗ rest11 c (i 0) f11 ∗ rest13 c (i 0) f13 ∗ ownAct0 c f15 ∗ ownQ c scM16 fullShare.left f16 ∗ ownPt c scM17 f17
            ∗ flight19 c (i 0) f15 f11 ∗ flight20 c (i 0) f13 f16
            ∗ owes (c : Thread nD τ) 0 W
            ∗ (∃ fs, obPt0 c fs ∗ obCell0 c) ∗ (∃ fs, obPt1 c fs ∗ obCell1 c) ∗ bigSep (Finset.Ico 0 20) (todo2 (F := F) c i h5)
            ∗ (((∃ W', owes (c : Thread nD τ) 0 W') ∗ (arg8.view.loc (c : Thread nD τ) ↦[arg8.view.set]{fullShare} f8)
            ∗ (arg9.view.loc (c : Thread nD τ) ↦[arg9.view.set]{fullShare} f9)
            ∗ (arg10.view.loc (c : Thread nD τ) ↦[arg10.view.set]{fullShare} f10)
                ∗ ownPt c hbM11 f11 ∗ ownPt c hbM13 f13 ∗ ownPt c scM15 (scM15.view.writes (Elt F) f15 L) ∗ ownPt c scM16 f16 ∗ ownPt c scM17 f17
                ∗ cell19 c ∗ cell20 c ∗ (∃ fs, obPt0 c fs ∗ obCell0 c) ∗ (∃ fs, obPt1 c fs ∗ obCell1 c)
                ∗ bigSep (Finset.range 20) (done2 c i h5 (View.readAt (Elt F) arg10.view (Rect.unit (s := S1x4608) ![0, 0] S1x4608.size inb_S1x4608_S1x4608_0_0).toLoadRect f10) (scM15.view.writes (Elt F) f15 L))) -∗ K ⟨⟩))
          ⊢ wp frame (wpE (defs₀ (F := F)) Variants.none c none) Set.univ
              (cc0_ffn i arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6) K } := by
  have hi := (cond4_iff i).mp h4
  have hi2 : (i 1).val < 27 := (i 1).isLt
  have hs11 : (win11 (i 0)).view.set ⊆ hbM11.view.set := View.set_slice_subset _ _
  have hs13 : (win13 (i 0)).view.set ⊆ hbM13.view.set := View.set_slice_subset _ _
  letI : ClosedOff (k0_off10 i 0#32) := ⟨![0, 0, 512 * ((i 1).val - 18) + 0], off10_eq i ((cond4_iff i).mp h4) 0⟩
  letI : ClosedOff (k0_off10 i 128#32) := ⟨![0, 0, 512 * ((i 1).val - 18) + 128], off10_eq i ((cond4_iff i).mp h4) 1⟩
  letI : ClosedOff (k0_off10 i 256#32) := ⟨![0, 0, 512 * ((i 1).val - 18) + 256], off10_eq i ((cond4_iff i).mp h4) 2⟩
  letI : ClosedOff (k0_off10 i 384#32) := ⟨![0, 0, 512 * ((i 1).val - 18) + 384], off10_eq i ((cond4_iff i).mp h4) 3⟩
  letI : ClosedOff (k0_off11 i 0#32) := ⟨![0, 320, 512 * ((i 1).val - 18) + 0], off11_eq i ((cond4_iff i).mp h4) 0⟩
  letI : ClosedOff (k0_off11 i 128#32) := ⟨![0, 320, 512 * ((i 1).val - 18) + 128], off11_eq i ((cond4_iff i).mp h4) 1⟩
  letI : ClosedOff (k0_off11 i 256#32) := ⟨![0, 320, 512 * ((i 1).val - 18) + 256], off11_eq i ((cond4_iff i).mp h4) 2⟩
  letI : ClosedOff (k0_off11 i 384#32) := ⟨![0, 320, 512 * ((i 1).val - 18) + 384], off11_eq i ((cond4_iff i).mp h4) 3⟩

  refine ⟨?_, fun K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]

    iintro ⟨H8, H9, H10, H11, H13, H15, H16, H17, C19, C20, HW, S0, S1, T, Hk⟩
    set_option sl_exec.lendShare "H16" in set_option sl_exec.dmaWindow true in set_option sl_exec.dmaWindowSet true in set_option sl_exec.dmaWindowLent true in sl_exec
    ihave I : inv2 c i h5 (View.readAt (Elt F) arg10.view (Rect.unit (s := S1x4608) ![0, 0] S1x4608.size inb_S1x4608_S1x4608_0_0).toLoadRect f10) _ 0 PUnit.unit.{1} $$ [H15 HW S0 S1 T]
    · rw [inv2_zero]
      isplitl [H15]; · iexact H15
      isplitl [HW]; · iexists _; iexact HW
      isplitl [S0]; · iexact S0
      isplitl [S1]; · iexact S1
      isplitl [T]; · iexact T
      iempintro
    iapply (loop2_rule (F := F) c i arg2 harg2 arg3 harg3 arg4 harg4 arg5 harg5 arg6 harg6 arg7 harg7 arg8 harg8 arg9 harg9 arg10 harg10 arg14 harg14 h5 (View.readAt (Elt F) arg10.view (Rect.unit (s := S1x4608) ![0, 0] S1x4608.size inb_S1x4608_S1x4608_0_0).toLoadRect f10) _) $$ I
    iintro %acc I
    ihave ⟨H15, ⟨%W2, HW⟩, ⟨%fd0, %fs0, %hv0, S0⟩, ⟨%fd1, %fs1, %hv1, S1⟩, T, D⟩ := (Entails.of_eq (inv2_end c i h5 (View.readAt (Elt F) arg10.view (Rect.unit (s := S1x4608) ![0, 0] S1x4608.size inb_S1x4608_S1x4608_0_0).toLoadRect f10) _ _ trips2 acc)) $$ I
    sl_exec
    sl_step
    iapply Hk
    isplitl [HW]; · iexists _; iexact HW
    isplitl [H8]; · iexact H8
    isplitl [H9]; · iexact H9
    isplitl [H10]; · iexact H10
    isplitl [H11]; · iexact H11
    isplitl [H13]; · iexact H13
    isplitl [H15]; · iexact H15
    isplitl [H16]; · iexact H16
    isplitl [H17]; · iexact H17
    isplitl [C19]; · iexact C19
    isplitl [C20]; · iexact C20
    isplitl [S0_src S0]
    · iexists fs0; isplitl [S0_src]; · iexact S0_src
      iexact S0
    isplitl [S1_src S1]
    · iexists fs1; isplitl [S1_src]; · iexact S1_src
      iexact S1
    rw [done2_end]
    isplitl [S1_dst]
    · iexists fd1; isplitr; · ipureintro; exact hv1
      iexact S1_dst
    isplitl [S0_dst]
    · iexists fd0; isplitr; · ipureintro; exact hv0
      iexact S0_dst
    iexact D

end Cert.Proof.KernelIdeal

end
-- ==== Proof.IState.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.IBase
public import proofs.«01_k».proof.Proof.IUp
public import proofs.«01_k».proof.Proof.IFirst
public import proofs.«01_k».proof.Proof.IDown
public import proofs.«01_k».proof.Proof.IR18
public import proofs.«01_k».proof.Proof.IR26

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The elements of block `k` of the result. -/
abbrev blkSet (c : Dev nD) (i : grid0.Coords) (h5 : k0_cond5 i = 1#1) (k : Fin k0_t2_loop.trips) : Finset (Idx (hbM12.view.loc (c : Thread nD τ) : Loc nD τ sig)) :=
  (hbM12.slice (Rect.unit (s := S1920x4608) (k0_off21 i k) S32x4608.size (k0_off21_inb i k h5)) (fun _ => rfl) : Memref sig .tc .hbm S32x4608 .bf16).view.set

/-- The first point of a block keeps it. -/
def FirstP (c : Dev nD) (up : ℕ → HbBuf (F := F) c scM15 → HbBuf (F := F) c scM17 → Prop) : Prop :=
  ∀ (t : Fin cfg0.N) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f2 : HbBuf (F := F) c arg2) (f3 : HbBuf (F := F) c arg3) (f4 : HbBuf (F := F) c arg4) (f5 : HbBuf (F := F) c arg5) (f6 : HbBuf (F := F) c arg6) (f7 : HbBuf (F := F) c arg7) (f15 : HbBuf (F := F) c scM15) (f17 : HbBuf (F := F) c scM17) (h1 : cond1 (grid0.coords t) = 1#1) (h2 : k0_cond2 (grid0.coords t) = 1#1) (h3 : ¬ k0_cond3 (grid0.coords t) = 1#1) (h4 : ¬ k0_cond4 (grid0.coords t) = 1#1) (h5 : ¬ k0_cond5 (grid0.coords t) = 1#1),
    arg2.view.read (Elt F) f2 = iblk m c 0 t → arg3.view.read (Elt F) f3 = iblk m c 1 t → arg4.view.read (Elt F) f4 = iblk m c 2 t → arg5.view.read (Elt F) f5 = iblk m c 3 t → arg6.view.read (Elt F) f6 = iblk m c 4 t → arg7.view.read (Elt F) f7 = iblk m c 5 t → up (t.val + 1) (scM15.view.writes (Elt F) f15 (runFirst (F := F) c (grid0.coords t) arg2 harg2 arg3 harg3 arg4 harg4 arg5 harg5 arg6 harg6 arg7 harg7 arg8 harg8 arg9 harg9 arg10 harg10 arg14 harg14 f2 f3 f4 f5 f6 f7 f15 f17 h1 h2 h3 h4 h5).1.1) (runFirst (F := F) c (grid0.coords t) arg2 harg2 arg3 harg3 arg4 harg4 arg5 harg5 arg6 harg6 arg7 harg7 arg8 harg8 arg9 harg9 arg10 harg10 arg14 harg14 f2 f3 f4 f5 f6 f7 f15 f17 h1 h2 h3 h4 h5).1.2

/-- A later point of the up phase keeps it. -/
def StepP (c : Dev nD) (up : ℕ → HbBuf (F := F) c scM15 → HbBuf (F := F) c scM17 → Prop) : Prop :=
  ∀ (t : Fin cfg0.N) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f2 : HbBuf (F := F) c arg2) (f3 : HbBuf (F := F) c arg3) (f4 : HbBuf (F := F) c arg4) (f5 : HbBuf (F := F) c arg5) (f6 : HbBuf (F := F) c arg6) (f7 : HbBuf (F := F) c arg7) (f15 : HbBuf (F := F) c scM15) (f17 : HbBuf (F := F) c scM17) (h1 : ¬ cond1 (grid0.coords t) = 1#1) (h2 : k0_cond2 (grid0.coords t) = 1#1) (h3 : ¬ k0_cond3 (grid0.coords t) = 1#1) (h4 : ¬ k0_cond4 (grid0.coords t) = 1#1) (h5 : ¬ k0_cond5 (grid0.coords t) = 1#1),
    arg2.view.read (Elt F) f2 = iblk m c 0 t → arg3.view.read (Elt F) f3 = iblk m c 1 t → arg4.view.read (Elt F) f4 = iblk m c 2 t → arg5.view.read (Elt F) f5 = iblk m c 3 t → arg6.view.read (Elt F) f6 = iblk m c 4 t → arg7.view.read (Elt F) f7 = iblk m c 5 t → up t.val f15 f17 → up (t.val + 1) (scM15.view.writes (Elt F) f15 (runUp (F := F) c (grid0.coords t) arg2 harg2 arg3 harg3 arg4 harg4 arg5 harg5 arg6 harg6 arg7 harg7 arg8 harg8 arg9 harg9 arg10 harg10 arg14 harg14 f2 f3 f4 f5 f6 f7 f15 f17 h1 h2 h3 h4 h5).1.1) (scM17.view.writes (Elt F) f17 (runUp (F := F) c (grid0.coords t) arg2 harg2 arg3 harg3 arg4 harg4 arg5 harg5 arg6 harg6 arg7 harg7 arg8 harg8 arg9 harg9 arg10 harg10 arg14 harg14 f2 f3 f4 f5 f6 f7 f15 f17 h1 h2 h3 h4 h5).1.2)

/-- The first point of the down phase keeps it. -/
def TurnP (c : Dev nD) (up : ℕ → HbBuf (F := F) c scM15 → HbBuf (F := F) c scM17 → Prop) (dn : ℕ → HbBuf (F := F) c scM15 → HbBuf (F := F) c scM15 → HbBuf (F := F) c scM16 → HbBuf (F := F) c scM17 → Prop) (c4 : ℕ → HbBuf (F := F) c hbM13 → Prop) (s4 : ℕ → Vec F S1x1x640 .f32 → Prop) : Prop :=
  ∀ (t : Fin cfg0.N) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f8 : HbBuf (F := F) c arg8) (f9 : HbBuf (F := F) c arg9) (f14 : HbBuf (F := F) c arg14) (f13 : HbBuf (F := F) c hbM13) (f15 : HbBuf (F := F) c scM15) (f16 : HbBuf (F := F) c scM16) (f17 : HbBuf (F := F) c scM17) (h1 : ¬ cond1 (grid0.coords t) = 1#1) (h2 : ¬ k0_cond2 (grid0.coords t) = 1#1) (h3 : k0_cond3 (grid0.coords t) = 1#1) (h4 : k0_cond4 (grid0.coords t) = 1#1) (h5 : ¬ k0_cond5 (grid0.coords t) = 1#1),
    arg8.view.read (Elt F) f8 = iblk m c 6 t → arg9.view.read (Elt F) f9 = iblk m c 7 t → up t.val f15 f17 → c4 (t.val / 27) f13 →
      dn (t.val + 1) (scM15.view.writes (Elt F) (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.2.2.2.2.1 (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.1) (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.2.2.2.2.1 (scM16.view.writes (Elt F) f16 (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.2.2.1) (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.2.1
      ∧ c4 (t.val / 27 + 1) (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.2.2.2.1 ∧ s4 (t.val / 27) (arg14.view.read (Elt F) (run18 (F := F) c (grid0.coords t) arg2 harg2 arg3 harg3 arg4 harg4 arg5 harg5 arg6 harg6 arg7 harg7 arg8 harg8 arg9 harg9 arg10 harg10 arg14 harg14 f8 f9 f14 (V m c main_arg9) f13 f15 f16 f17 h1 h2 h3 h4 h5).1.2.2.2.2.2)

/-- A later point of the down phase keeps it. -/
def DownP (c : Dev nD) (dn : ℕ → HbBuf (F := F) c scM15 → HbBuf (F := F) c scM15 → HbBuf (F := F) c scM16 → HbBuf (F := F) c scM17 → Prop) : Prop :=
  ∀ (t : Fin cfg0.N) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f8 : HbBuf (F := F) c arg8) (f9 : HbBuf (F := F) c arg9) (f15 : HbBuf (F := F) c scM15) (g15 : HbBuf (F := F) c scM15) (f16 : HbBuf (F := F) c scM16) (f17 : HbBuf (F := F) c scM17) (h1 : ¬ cond1 (grid0.coords t) = 1#1) (h2 : ¬ k0_cond2 (grid0.coords t) = 1#1) (h3 : ¬ k0_cond3 (grid0.coords t) = 1#1) (h4 : k0_cond4 (grid0.coords t) = 1#1) (h5 : ¬ k0_cond5 (grid0.coords t) = 1#1),
    arg8.view.read (Elt F) f8 = iblk m c 6 t → arg9.view.read (Elt F) f9 = iblk m c 7 t → dn t.val f15 g15 f16 f17 → dn (t.val + 1) (scM15.view.writes (Elt F) f15 (runDown (F := F) c (grid0.coords t) arg2 harg2 arg3 harg3 arg4 harg4 arg5 harg5 arg6 harg6 arg7 harg7 arg8 harg8 arg9 harg9 arg10 harg10 arg14 harg14 f8 f9 f15 f16 f17 h1 h2 h3 h4 h5).1) g15 f16 f17

/-- The last point of a block keeps it. -/
def LastP (c : Dev nD) (dn : ℕ → HbBuf (F := F) c scM15 → HbBuf (F := F) c scM15 → HbBuf (F := F) c scM16 → HbBuf (F := F) c scM17 → Prop) (out : ℕ → HbBuf (F := F) c hbM12 → Prop) : Prop :=
  ∀ (t : Fin cfg0.N) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg14 : Memref sig .tc .vmem S1x1x640 .f32) (harg14 : arg14.IsWhole) (f8 : HbBuf (F := F) c arg8) (f9 : HbBuf (F := F) c arg9) (f10 : HbBuf (F := F) c arg10) (f13 : HbBuf (F := F) c hbM13) (d15 g15 f15 : HbBuf (F := F) c scM15) (f16 : HbBuf (F := F) c scM16) (f17 : HbBuf (F := F) c scM17) (W : Waits sig Unit) (h1 : ¬ cond1 (grid0.coords t) = 1#1) (h2 : ¬ k0_cond2 (grid0.coords t) = 1#1) (h3 : ¬ k0_cond3 (grid0.coords t) = 1#1) (h4 : k0_cond4 (grid0.coords t) = 1#1) (h5 : k0_cond5 (grid0.coords t) = 1#1),
    arg8.view.read (Elt F) f8 = iblk m c 6 t → arg9.view.read (Elt F) f9 = iblk m c 7 t → arg10.view.read (Elt F) f10 = iblk m c 8 t → dn t.val d15 g15 f16 f17 → f15 = slot1.view.set.piecewise g15 d15 →
    ∀ (f12 g12 : HbBuf (F := F) c hbM12), out (t.val / 27) f12 →
      (∀ e, (∀ k, e ∉ blkSet c (grid0.coords t) h5 k) → g12 e = f12 e) →
      (∀ k, ∃ fd, BlkVal c (grid0.coords t) h5 (View.readAt (Elt F) arg10.view (Rect.unit (s := S1x4608) ![0, 0] S1x4608.size inb_S1x4608_S1x4608_0_0).toLoadRect f10) (scM15.view.writes (Elt F) f15 (run26 (F := F) c (grid0.coords t) arg2 harg2 arg3 harg3 arg4 harg4 arg5 harg5 arg6 harg6 arg7 harg7 arg8 harg8 arg9 harg9 arg10 harg10 arg14 harg14 f8 f9 f10 (V m c main_arg9) f13 f15 f16 f17 W h1 h2 h3 h4 h5).1) k fd ∧ ∀ e ∈ blkSet c (grid0.coords t) h5 k, g12 e = fd e) →
      out (t.val / 27 + 1) g12

/-- What is known of the buffers between two points: predicates on their contents, kept by the five kinds of point. The frame takes
    all of them true; the value proof states the arithmetic in them. -/
structure Spec (c : Dev nD) where
  /-- Before point `t` of the up phase: the activations so far, and their running maximum. -/
  up : ℕ → HbBuf (F := F) c scM15 → HbBuf (F := F) c scM17 → Prop
  /-- Before point `t` of the down phase: the down products so far, `h1`'s rows, the codes, the scale. -/
  dn : ℕ → HbBuf (F := F) c scM15 → HbBuf (F := F) c scM15 → HbBuf (F := F) c scM16 → HbBuf (F := F) c scM17 → Prop
  /-- The first blocks of 640 rows of the codes, of the result, and one block of the scales. -/
  c4 : ℕ → HbBuf (F := F) c hbM13 → Prop
  out : ℕ → HbBuf (F := F) c hbM12 → Prop
  s4 : ℕ → Vec F S1x1x640 .f32 → Prop
  c4_zero : ∀ f, c4 0 f
  out_zero : ∀ f, out 0 f
  first : FirstP m c up
  step : StepP m c up
  turn : TurnP m c up dn c4 s4
  down : DownP m c dn
  last : LastP m c dn out

/-- Nothing is known. -/
def Spec.none (c : Dev nD) : Spec (F := F) m c where
  up _ _ _ := True
  dn _ _ _ _ _ := True
  c4 _ _ := True
  out _ _ := True
  s4 _ _ := True
  c4_zero _ := trivial
  out_zero _ := trivial
  first := by unfold FirstP; intros; trivial
  step := by unfold StepP; intros; trivial
  turn := by unfold TurnP; intros; exact ⟨trivial, trivial, trivial⟩
  down := by unfold DownP; intros; trivial
  last := by unfold LastP; intros; trivial

variable {m}

/-- The block of rows point `n` works on. -/
def blkOf (n : ℕ) : Fin 3 := ⟨n / 27 % 3, Nat.mod_lt _ (by decide)⟩

/-- Held throughout: the generator register, the two slots of the output buffer with their cells, and the result in HBM. -/
def common {c : Dev nD} (S : Spec m c) (n : ℕ) : sProp 𝕄 :=
  iprop((∃ r, prngReg c r) ∗ (∃ fs, obPt0 (F := F) c fs ∗ obCell0 c) ∗ (∃ fs, obPt1 (F := F) c fs ∗ obCell1 c)
    ∗ (∃ f12, ⌜S.out (n / 27) f12⌝ ∗ ownPt c hbM12 f12))
/-- Held besides, in the up phase. -/
def stUp {c : Dev nD} (S : Spec m c) (n : ℕ) : sProp 𝕄 :=
  iprop(∃ f15 f16 f17 f13, ⌜(n % 27 ≠ 0 → S.up n f15 f17) ∧ S.c4 (n / 27) f13⌝ ∗ ownPt c scM15 f15 ∗ ownPt c scM16 f16 ∗ ownPt c scM17 f17
    ∗ cell19 c ∗ cell20 c ∗ ownPt c hbM11 (V m c main_arg9) ∗ ownPt c hbM13 f13)
/-- Held besides, in the down phase. -/
def stDn {c : Dev nD} (S : Spec m c) (b : Fin 3) (n : ℕ) : sProp 𝕄 :=
  iprop(∃ f15 g15 f16 f17 f13, ⌜S.dn n f15 g15 f16 f17 ∧ S.c4 (n / 27 + 1) f13⌝ ∗ rest11 c b (V m c main_arg9) ∗ rest13 c b f13 ∗ ownAct0 c f15
    ∗ ownQ c scM16 fullShare.left f16 ∗ ownPt c scM17 f17 ∗ flight19 c b g15 (V m c main_arg9) ∗ flight20 c b f13 f16)
def st {c : Dev nD} (S : Spec m c) (n : ℕ) : sProp 𝕄 :=
  if n % 27 ≤ 18 then stUp S n else stDn S (blkOf n) n

theorem co0 : ∀ t : Fin cfg0.N, ((grid0.coords t) 0).val = t.val / 27 := by decide +kernel
theorem co1 : ∀ t : Fin cfg0.N, ((grid0.coords t) 1).val = t.val % 27 := by decide +kernel
theorem coB (t : Fin cfg0.N) : (grid0.coords t) 0 = blkOf t.val := Fin.ext (by
  rw [co0]; have h : t.val < 81 := t.isLt; show _ = t.val / 27 % 3; omega)

end Cert.Proof.KernelIdeal

end
-- ==== Proof.IBodies.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.IState

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {m : (ℓ : Loc nD τ sig) → Buf (Elt F) ℓ}

set_option maxHeartbeats 1000000 in
/-- The first point of a block. -/
theorem body_first {c : Dev nD} (S : Spec m c) (t : Fin cfg0.N) (Y : (w : Fin cfg0.W) → (cfg0.win w).block.Idx → Elt F (cfg0.win w).elt) (hY0 : Y 0 = iblk m c 0 t) (hY1 : Y 1 = iblk m c 1 t) (hY2 : Y 2 = iblk m c 2 t) (hY3 : Y 3 = iblk m c 3 t) (hY4 : Y 4 = iblk m c 4 t) (hY5 : Y 5 = iblk m c 5 t) (ht : t.val % 27 = 0) (K : PUnit → sProp 𝕄) :
    iprop(stUp S t.val ∗ owns (c : Thread nD τ) (st0_0 t) fullShare (Y 0)
            ∗ owns (c : Thread nD τ) (st0_1 t) fullShare (Y 1)
            ∗ owns (c : Thread nD τ) (st0_2 t) fullShare (Y 2)
            ∗ owns (c : Thread nD τ) (st0_3 t) fullShare (Y 3)
            ∗ owns (c : Thread nD τ) (st0_4 t) fullShare (Y 4)
            ∗ owns (c : Thread nD τ) (st0_5 t) fullShare (Y 5)
            ∗ ((stUp S (t.val + 1) ∗ owns (c : Thread nD τ) (st0_0 t) fullShare (Y 0)
            ∗ owns (c : Thread nD τ) (st0_1 t) fullShare (Y 1)
            ∗ owns (c : Thread nD τ) (st0_2 t) fullShare (Y 2)
            ∗ owns (c : Thread nD τ) (st0_3 t) fullShare (Y 3)
            ∗ owns (c : Thread nD τ) (st0_4 t) fullShare (Y 4)
            ∗ owns (c : Thread nD τ) (st0_5 t) fullShare (Y 5)) -∗ K ⟨⟩))
      ⊢ wp frame (wpE (defs₀ (F := F)) Variants.none c none) Set.univ (bodyAt0 t) K := by
  have h1 : cond1 (grid0.coords t) = 1#1 := (cond1_iff _).mpr (by rw [co1]; omega)
  have h2 : k0_cond2 (grid0.coords t) = 1#1 := (cond2_iff _).mpr (by rw [co1]; omega)
  have h3 : ¬ k0_cond3 (grid0.coords t) = 1#1 := fun h => by have := (cond3_iff _).mp h; rw [co1] at this; omega
  have h4 : ¬ k0_cond4 (grid0.coords t) = 1#1 := fun h => by have := (cond4_iff _).mp h; rw [co1] at this; omega
  have h5 : ¬ k0_cond5 (grid0.coords t) = 1#1 := fun h => by have := (cond5_iff _).mp h; rw [co1] at this; omega
  unfold stUp owns
  iintro ⟨⟨%f15, %f16, %f17, %f13, %hp, H15, H16, H17, C19, C20, H11, H13⟩, ⟨%f2, %e2, H2⟩, ⟨%f3, %e3, H3⟩, ⟨%f4, %e4, H4⟩, ⟨%f5, %e5, H5⟩, ⟨%f6, %e6, H6⟩, ⟨%f7, %e7, H7⟩, Hk⟩
  have hs := S.first t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f2 f3 f4 f5 f6 f7 f15 f17 h1 h2 h3 h4 h5 (e2.trans hY0) (e3.trans hY1) (e4.trans hY2) (e5.trans hY3) (e6.trans hY4) (e7.trans hY5)
  iapply ((runFirst (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f2 f3 f4 f5 f6 f7 f15 f17 h1 h2 h3 h4 h5).2 K)
  isplitl [H2]; · iexact H2
  isplitl [H3]; · iexact H3
  isplitl [H4]; · iexact H4
  isplitl [H5]; · iexact H5
  isplitl [H6]; · iexact H6
  isplitl [H7]; · iexact H7
  isplitl [H15]; · iexact H15
  isplitl [H17]; · iexact H17
  iintro ⟨H2, H3, H4, H5, H6, H7, H15, H17⟩
  iapply Hk
  isplitl [H15 H16 H17 C19 C20 H11 H13]
  · iexists _, f16, _, f13
    isplitr
    · ipureintro
      exact ⟨fun _ => hs, by rw [show (t.val + 1) / 27 = t.val / 27 by omega]; exact hp.2⟩
    isplitl [H15]; · iexact H15
    isplitl [H16]; · iexact H16
    isplitl [H17]; · iexact H17
    isplitl [C19]; · iexact C19
    isplitl [C20]; · iexact C20
    isplitl [H11]; · iexact H11
    iexact H13
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  iexists f7; isplitr
  · ipureintro; exact e7
  iexact H7

set_option maxHeartbeats 1000000 in
/-- A later point of the up phase. -/
theorem body_step {c : Dev nD} (S : Spec m c) (t : Fin cfg0.N) (Y : (w : Fin cfg0.W) → (cfg0.win w).block.Idx → Elt F (cfg0.win w).elt) (hY0 : Y 0 = iblk m c 0 t) (hY1 : Y 1 = iblk m c 1 t) (hY2 : Y 2 = iblk m c 2 t) (hY3 : Y 3 = iblk m c 3 t) (hY4 : Y 4 = iblk m c 4 t) (hY5 : Y 5 = iblk m c 5 t) (ht0 : t.val % 27 ≠ 0) (ht : t.val % 27 < 18) (K : PUnit → sProp 𝕄) :
    iprop(stUp S t.val ∗ owns (c : Thread nD τ) (st0_0 t) fullShare (Y 0)
            ∗ owns (c : Thread nD τ) (st0_1 t) fullShare (Y 1)
            ∗ owns (c : Thread nD τ) (st0_2 t) fullShare (Y 2)
            ∗ owns (c : Thread nD τ) (st0_3 t) fullShare (Y 3)
            ∗ owns (c : Thread nD τ) (st0_4 t) fullShare (Y 4)
            ∗ owns (c : Thread nD τ) (st0_5 t) fullShare (Y 5)
            ∗ ((stUp S (t.val + 1) ∗ owns (c : Thread nD τ) (st0_0 t) fullShare (Y 0)
            ∗ owns (c : Thread nD τ) (st0_1 t) fullShare (Y 1)
            ∗ owns (c : Thread nD τ) (st0_2 t) fullShare (Y 2)
            ∗ owns (c : Thread nD τ) (st0_3 t) fullShare (Y 3)
            ∗ owns (c : Thread nD τ) (st0_4 t) fullShare (Y 4)
            ∗ owns (c : Thread nD τ) (st0_5 t) fullShare (Y 5)) -∗ K ⟨⟩))
      ⊢ wp frame (wpE (defs₀ (F := F)) Variants.none c none) Set.univ (bodyAt0 t) K := by
  have h1 : ¬ cond1 (grid0.coords t) = 1#1 := fun h => by have := (cond1_iff _).mp h; rw [co1] at this; omega
  have h2 : k0_cond2 (grid0.coords t) = 1#1 := (cond2_iff _).mpr (by rw [co1]; omega)
  have h3 : ¬ k0_cond3 (grid0.coords t) = 1#1 := fun h => by have := (cond3_iff _).mp h; rw [co1] at this; omega
  have h4 : ¬ k0_cond4 (grid0.coords t) = 1#1 := fun h => by have := (cond4_iff _).mp h; rw [co1] at this; omega
  have h5 : ¬ k0_cond5 (grid0.coords t) = 1#1 := fun h => by have := (cond5_iff _).mp h; rw [co1] at this; omega
  unfold stUp owns
  iintro ⟨⟨%f15, %f16, %f17, %f13, %hp, H15, H16, H17, C19, C20, H11, H13⟩, ⟨%f2, %e2, H2⟩, ⟨%f3, %e3, H3⟩, ⟨%f4, %e4, H4⟩, ⟨%f5, %e5, H5⟩, ⟨%f6, %e6, H6⟩, ⟨%f7, %e7, H7⟩, Hk⟩
  have hs := S.step t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f2 f3 f4 f5 f6 f7 f15 f17 h1 h2 h3 h4 h5 (e2.trans hY0) (e3.trans hY1) (e4.trans hY2) (e5.trans hY3) (e6.trans hY4) (e7.trans hY5) (hp.1 ht0)
  iapply ((runUp (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f2 f3 f4 f5 f6 f7 f15 f17 h1 h2 h3 h4 h5).2 K)
  isplitl [H2]; · iexact H2
  isplitl [H3]; · iexact H3
  isplitl [H4]; · iexact H4
  isplitl [H5]; · iexact H5
  isplitl [H6]; · iexact H6
  isplitl [H7]; · iexact H7
  isplitl [H15]; · iexact H15
  isplitl [H17]; · iexact H17
  iintro ⟨H2, H3, H4, H5, H6, H7, H15, H17⟩
  iapply Hk
  isplitl [H15 H16 H17 C19 C20 H11 H13]
  · iexists _, f16, _, f13
    isplitr
    · ipureintro
      exact ⟨fun _ => hs, by rw [show (t.val + 1) / 27 = t.val / 27 by omega]; exact hp.2⟩
    isplitl [H15]; · iexact H15
    isplitl [H16]; · iexact H16
    isplitl [H17]; · iexact H17
    isplitl [C19]; · iexact C19
    isplitl [C20]; · iexact C20
    isplitl [H11]; · iexact H11
    iexact H13
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  iexists f7; isplitr
  · ipureintro; exact e7
  iexact H7

set_option maxHeartbeats 1000000 in
/-- The first point of the down phase. -/
theorem body_turn {c : Dev nD} (S : Spec m c) (t : Fin cfg0.N) (Y : (w : Fin cfg0.W) → (cfg0.win w).block.Idx → Elt F (cfg0.win w).elt) (hY6 : Y 6 = iblk m c 6 t) (hY7 : Y 7 = iblk m c 7 t) (ht : t.val % 27 = 18) (K : PUnit → sProp 𝕄) :
    iprop(stUp S t.val ∗ owns (c : Thread nD τ) (st0_6 t) fullShare (Y 6)
            ∗ owns (c : Thread nD τ) (st0_7 t) fullShare (Y 7)
            ∗ owns (c : Thread nD τ) (st0_9 t) fullShare (Y 9)
            ∗ ((stDn S ((grid0.coords t) 0) (t.val + 1) ∗ owns (c : Thread nD τ) (st0_6 t) fullShare (Y 6)
            ∗ owns (c : Thread nD τ) (st0_7 t) fullShare (Y 7) ∗ (∃ X, ⌜S.s4 (t.val / 27) X⌝ ∗ owns (c : Thread nD τ) (st0_9 t) fullShare X)) -∗ K ⟨⟩))
      ⊢ wp frame (wpE (defs₀ (F := F)) Variants.none c none) Set.univ (bodyAt0 t) K := by
  have h1 : ¬ cond1 (grid0.coords t) = 1#1 := fun h => by have := (cond1_iff _).mp h; rw [co1] at this; omega
  have h2 : ¬ k0_cond2 (grid0.coords t) = 1#1 := fun h => by have := (cond2_iff _).mp h; rw [co1] at this; omega
  have h3 : k0_cond3 (grid0.coords t) = 1#1 := (cond3_iff _).mpr (by rw [co1]; omega)
  have h4 : k0_cond4 (grid0.coords t) = 1#1 := (cond4_iff _).mpr (by rw [co1]; omega)
  have h5 : ¬ k0_cond5 (grid0.coords t) = 1#1 := fun h => by have := (cond5_iff _).mp h; rw [co1] at this; omega
  unfold stUp stDn owns
  iintro ⟨⟨%f15, %f16, %f17, %f13, %hp, H15, H16, H17, C19, C20, H11, H13⟩, ⟨%f8, %e8, H8⟩, ⟨%f9, %e9, H9⟩, ⟨%f14, %e14, H14⟩, Hk⟩
  have hs := S.turn t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f14 f13 f15 f16 f17 h1 h2 h3 h4 h5 (e8.trans hY6) (e9.trans hY7) (hp.1 (by omega)) hp.2
  iapply ((run18 (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f14 (V m c main_arg9) f13 f15 f16 f17 h1 h2 h3 h4 h5).2 K)
  isplitl [H8]; · iexact H8
  isplitl [H9]; · iexact H9
  isplitl [H14]; · iexact H14
  isplitl [H11]; · iexact H11
  isplitl [H13]; · iexact H13
  isplitl [H15]; · iexact H15
  isplitl [H16]; · iexact H16
  isplitl [H17]; · iexact H17
  isplitl [C19]; · iexact C19
  isplitl [C20]; · iexact C20
  iintro ⟨H8, H9, H14, R11, R13, H15, H16, H17, S19, S20⟩
  iapply Hk
  isplitl [R11 R13 H15 H16 H17 S19 S20]
  · iexists _, _, _, _, _
    isplitr
    · ipureintro
      exact ⟨hs.1, by rw [show (t.val + 1) / 27 = t.val / 27 by omega]; exact hs.2.1⟩
    isplitl [R11]
    · iapply (Entails.of_eq (rest11_off c ((grid0.coords t) 0) _ (off9_eq _) (k0_off9_inb (grid0.coords t) h3) _))
      iexact R11
    isplitl [R13]
    · iapply (Entails.of_eq (rest13_off c ((grid0.coords t) 0) _ (off8_eq _) (k0_off8_inb (grid0.coords t) h3) _))
      iexact R13
    isplitl [H15]; · iexact H15
    isplitl [H16]; · iexact H16
    isplitl [H17]; · iexact H17
    isplitl [S19]
    · iapply (Entails.of_eq (flight19_off c ((grid0.coords t) 0) _ (off9_eq _) (k0_off9_inb (grid0.coords t) h3) _ _))
      iexact S19
    iapply (Entails.of_eq (flight20_off c ((grid0.coords t) 0) _ (off8_eq _) (k0_off8_inb (grid0.coords t) h3) _ _))
    iexact S20
  isplitl [H8]
  · iexists f8; isplitr
    · ipureintro; exact e8
    iexact H8
  isplitl [H9]
  · iexists f9; isplitr
    · ipureintro; exact e9
    iexact H9
  iexists _
  isplitr
  · ipureintro; exact hs.2.2
  iexists _; isplitr
  · ipureintro; rfl
  iexact H14

set_option maxHeartbeats 1000000 in
/-- A point strictly inside the down phase. -/
theorem body_down {c : Dev nD} (S : Spec m c) (b : Fin 3) (t : Fin cfg0.N) (Y : (w : Fin cfg0.W) → (cfg0.win w).block.Idx → Elt F (cfg0.win w).elt) (hY6 : Y 6 = iblk m c 6 t) (hY7 : Y 7 = iblk m c 7 t) (ht : 18 < t.val % 27) (ht' : t.val % 27 < 26) (K : PUnit → sProp 𝕄) :
    iprop(stDn S b t.val ∗ owns (c : Thread nD τ) (st0_6 t) fullShare (Y 6)
            ∗ owns (c : Thread nD τ) (st0_7 t) fullShare (Y 7)
            ∗ ((stDn S b (t.val + 1) ∗ owns (c : Thread nD τ) (st0_6 t) fullShare (Y 6)
            ∗ owns (c : Thread nD τ) (st0_7 t) fullShare (Y 7)) -∗ K ⟨⟩))
      ⊢ wp frame (wpE (defs₀ (F := F)) Variants.none c none) Set.univ (bodyAt0 t) K := by
  have h1 : ¬ cond1 (grid0.coords t) = 1#1 := fun h => by have := (cond1_iff _).mp h; rw [co1] at this; omega
  have h2 : ¬ k0_cond2 (grid0.coords t) = 1#1 := fun h => by have := (cond2_iff _).mp h; rw [co1] at this; omega
  have h3 : ¬ k0_cond3 (grid0.coords t) = 1#1 := fun h => by have := (cond3_iff _).mp h; rw [co1] at this; omega
  have h4 : k0_cond4 (grid0.coords t) = 1#1 := (cond4_iff _).mpr (by rw [co1]; omega)
  have h5 : ¬ k0_cond5 (grid0.coords t) = 1#1 := fun h => by have := (cond5_iff _).mp h; rw [co1] at this; omega
  unfold stDn owns
  iintro ⟨⟨%f15, %g15, %f16, %f17, %f13, %hp, R11, R13, H15, H16, H17, S19, S20⟩, ⟨%f8, %e8, H8⟩, ⟨%f9, %e9, H9⟩, Hk⟩
  have hs := S.down t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f15 g15 f16 f17 h1 h2 h3 h4 h5 (e8.trans hY6) (e9.trans hY7) hp.1
  iapply ((runDown (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f15 f16 f17 h1 h2 h3 h4 h5).2 K)
  isplitl [H8]; · iexact H8
  isplitl [H9]; · iexact H9
  isplitl [H15]; · iexact H15
  isplitl [H16]; · iexact H16
  isplitl [H17]; · iexact H17
  iintro ⟨H8, H9, H15, H16, H17⟩
  iapply Hk
  isplitl [R11 R13 H15 H16 H17 S19 S20]
  · iexists _, g15, f16, f17, f13
    isplitr
    · ipureintro
      exact ⟨hs, by rw [show (t.val + 1) / 27 = t.val / 27 by omega]; exact hp.2⟩
    isplitl [R11]; · iexact R11
    isplitl [R13]; · iexact R13
    isplitl [H15]; · iexact H15
    isplitl [H16]; · iexact H16
    isplitl [H17]; · iexact H17
    isplitl [S19]; · iexact S19
    iexact S20
  isplitl [H8]
  · iexists f8; isplitr
    · ipureintro; exact e8
    iexact H8
  iexists f9; isplitr
  · ipureintro; exact e9
  iexact H9

/-- The copy in flight sees of the scratch only its second slot. -/
theorem flight19_piecewise (c : Dev nD) (b : Fin 3) (g15 d15 : HbBuf (F := F) c scM15) (f11 : HbBuf (F := F) c hbM11) :
    flight19 c b g15 f11 = flight19 c b (slot1.view.set.piecewise g15 d15) f11 := by
  unfold flight19
  rw [show (scM15.view.loc (c : Thread nD τ) ↦[slot1.view.set]{fullShare} g15 : sProp 𝕄) = (scM15.view.loc (c : Thread nD τ) ↦[slot1.view.set]{fullShare} slot1.view.set.piecewise g15 d15) from
    pointsTo_congr fun e he => (Finset.piecewise_eq_of_mem _ _ _ he).symm]
set_option maxHeartbeats 4000000 in
theorem off21_eq : ∀ (i : grid0.Coords) (k : Fin k0_t2_loop.trips), k0_off21 i k = ![640 * (i 0).val + 32 * k.val, 0] := by decide +kernel

theorem blkRect_disjoint (i : grid0.Coords) (h5 : k0_cond5 i = 1#1) (k k' : Fin k0_t2_loop.trips) (h : k ≠ k') :
    Disjoint (Rect.unit (s := S1920x4608) (k0_off21 i k) S32x4608.size (k0_off21_inb i k h5)).set (Rect.unit (s := S1920x4608) (k0_off21 i k') S32x4608.size (k0_off21_inb i k' h5)).set := by
  rw [Finset.disjoint_left]
  intro x hx hx'
  have a := (Rect.mem_set_unit.mp hx) 0
  have b := (Rect.mem_set_unit.mp hx') 0
  have e := congrFun (off21_eq i k) 0
  have e' := congrFun (off21_eq i k') 0
  simp only [Matrix.cons_val_zero] at e e'
  rw [e] at a
  rw [e'] at b
  have z : S32x4608.size 0 = 32 := rfl
  rw [z] at a b
  exact h (Fin.ext (by omega))
/-- The blocks of one point do not meet. -/
theorem blkSet_disjoint (c : Dev nD) (i : grid0.Coords) (h5 : k0_cond5 i = 1#1) (k k' : Fin k0_t2_loop.trips) (h : k ≠ k') :
    Disjoint (blkSet c i h5 k) (blkSet c i h5 k') := by
  have e : ∀ k, blkSet c i h5 k = (Rect.unit (s := S1920x4608) (k0_off21 i k) S32x4608.size (k0_off21_inb i k h5)).set.map hbM12.view.emb := fun k => View.set_slice _ _
  rw [e, e]
  exact (Finset.disjoint_map _).mpr (blkRect_disjoint i h5 k k' h)
/-- The blocks all together. -/
abbrev blkAll (c : Dev nD) (i : grid0.Coords) (h5 : k0_cond5 i = 1#1) : Finset (Idx (hbM12.view.loc (c : Thread nD τ) : Loc nD τ sig)) :=
  (Finset.univ : Finset (Fin k0_t2_loop.trips)).biUnion (blkSet c i h5)
theorem blkAll_subset (c : Dev nD) (i : grid0.Coords) (h5 : k0_cond5 i = 1#1) : blkAll c i h5 ⊆ hbM12.view.set :=
  Finset.biUnion_subset.mpr fun k _ => View.set_slice_subset _ _
theorem fin_map_range (n : ℕ) : (Finset.univ : Finset (Fin n)).map Fin.valEmbedding = Finset.range n := by
  ext x; simp [Fin.exists_iff]

/-- The result split into the blocks a point writes, and what it leaves. -/
theorem blocks_split (c : Dev nD) (i : grid0.Coords) (h5 : k0_cond5 i = 1#1) (f : HbBuf (F := F) c hbM12) :
    ownPt c hbM12 f ⊢ (iprop(bigSep (Finset.Ico 0 20) (todo2 (F := F) c i h5)
      ∗ (hbM12.view.loc (c : Thread nD τ) ↦[hbM12.view.set \ blkAll c i h5]{fullShare} f)) : sProp 𝕄) := by
  refine (pointsTo_split_subset (blkAll_subset c i h5)).1.trans ?_
  refine sep_mono ?_ .rfl
  rw [pointsTo_biUnion _ _ fun k _ k' _ h => blkSet_disjoint c i h5 k k' h]
  rw [show Finset.Ico 0 20 = Finset.range k0_t2_loop.trips by rw [trips2]; rfl, ← fin_map_range, bigSep_map]
  refine bigSep_mono fun k _ => ?_
  show _ ⊢ todo2 c i h5 k.val
  rw [show todo2 (F := F) c i h5 k.val = iprop(∃ f, blkPt c i h5 k f) from dif_pos k.isLt]
  iintro H
  iexists f; iexact H
set_option maxHeartbeats 1000000 in
/-- And joined again, once each block holds what was stored into it. -/
theorem blocks_join (c : Dev nD) (i : grid0.Coords) (h5 : k0_cond5 i = 1#1) (v20 : Vec F S1x4608 .f32) (f15 : HbBuf (F := F) c scM15) (f : HbBuf (F := F) c hbM12) :
    iprop(bigSep (Finset.range 20) (done2 (F := F) c i h5 v20 f15)
      ∗ (hbM12.view.loc (c : Thread nD τ) ↦[hbM12.view.set \ blkAll c i h5]{fullShare} f))
    ⊢ (iprop(∃ g, ⌜(∀ e, (∀ k, e ∉ blkSet c i h5 k) → g e = f e) ∧ (∀ k, ∃ fd, BlkVal c i h5 v20 f15 k fd ∧ ∀ e ∈ blkSet c i h5 k, g e = fd e)⌝ ∗ ownPt c hbM12 g) : sProp 𝕄) := by
  have hD : bigSep (Finset.range 20) (done2 (F := F) c i h5 v20 f15) ⊢ (iprop(∃ fs : (k : Fin k0_t2_loop.trips) → HbBuf (F := F) c hbM12, ⌜∀ k ∈ Finset.univ, BlkVal c i h5 v20 f15 k (fs k)⌝ ∗ bigSep Finset.univ fun k => (hbM12.view.loc (c : Thread nD τ) ↦[blkSet c i h5 k]{fullShare} fs k)) : sProp 𝕄) := by
    rw [show Finset.range 20 = Finset.range k0_t2_loop.trips by rw [trips2], ← fin_map_range, bigSep_map]
    haveI : ∀ k : Fin k0_t2_loop.trips, Nonempty (HbBuf (F := F) c hbM12) := fun _ => ⟨f⟩
    refine BIBase.Entails.trans (bigSep_mono (Ψ := fun k : Fin k0_t2_loop.trips => iprop(∃ fd : HbBuf (F := F) c hbM12, ⌜BlkVal c i h5 v20 f15 k fd⌝ ∗ (hbM12.view.loc (c : Thread nD τ) ↦[blkSet c i h5 k]{fullShare} fd))) fun k _ => ?_) ?_
    · show done2 c i h5 v20 f15 k.val ⊢ _
      rw [show done2 c i h5 v20 f15 k.val = iprop(∃ f, ⌜BlkVal c i h5 v20 f15 k f⌝ ∗ blkPt c i h5 k f) from dif_pos k.isLt]
    refine (BI.bigSep_exists_pi Finset.univ fun (k : Fin k0_t2_loop.trips) (fd : HbBuf (F := F) c hbM12) => iprop(⌜BlkVal c i h5 v20 f15 k fd⌝ ∗ (hbM12.view.loc (c : Thread nD τ) ↦[blkSet c i h5 k]{fullShare} fd))).trans ?_
    iintro ⟨%fs, H⟩
    iexists fs
    iapply (BI.bigSep_pure_sep Finset.univ (fun k => BlkVal c i h5 v20 f15 k (fs k)) (fun k => (hbM12.view.loc (c : Thread nD τ) ↦[blkSet c i h5 k]{fullShare} fs k)))
    iexact H
  refine (sep_mono hD .rfl).trans ?_
  iintro ⟨⟨%fs, %hb, H⟩, Hr⟩
  ihave H' := (pointsTo_biUnion_join Finset.univ (blkSet c i h5) fs f (fun k _ k' _ h => blkSet_disjoint c i h5 k k' h)) $$ H
  icases H' with ⟨%g, %hg, H'⟩
  iexists (blkAll c i h5).piecewise g f
  isplitr
  · ipureintro
    refine ⟨fun e he => ?_, fun k => ⟨fs k, hb k (Finset.mem_univ _), fun e he => ?_⟩⟩
    · refine Finset.piecewise_eq_of_notMem _ _ _ fun h => ?_
      obtain ⟨k, -, hk⟩ := Finset.mem_biUnion.mp h
      exact he k hk
    · rw [Finset.piecewise_eq_of_mem _ _ _ (Finset.mem_biUnion.mpr ⟨k, Finset.mem_univ _, he⟩)]
      exact hg k (Finset.mem_univ _) e he
  iapply (pointsTo_join_subset (blkAll_subset c i h5))
  isplitl [H']; · iexact H'
  iexact Hr

set_option maxHeartbeats 1000000 in
/-- The last point of a block. -/
theorem body_last {c : Dev nD} (S : Spec m c) (t : Fin cfg0.N) (Y : (w : Fin cfg0.W) → (cfg0.win w).block.Idx → Elt F (cfg0.win w).elt) (hY6 : Y 6 = iblk m c 6 t) (hY7 : Y 7 = iblk m c 7 t) (hY8 : Y 8 = iblk m c 8 t) (ht : t.val % 27 = 26) (K : PUnit → sProp 𝕄) :
    iprop(stDn S ((grid0.coords t) 0) t.val ∗ common S t.val ∗ (∃ W, owes (c : Thread nD τ) 0 W) ∗ owns (c : Thread nD τ) (st0_6 t) fullShare (Y 6)
            ∗ owns (c : Thread nD τ) (st0_7 t) fullShare (Y 7)
            ∗ owns (c : Thread nD τ) (st0_8 t) fullShare (Y 8)
            ∗ ((stUp S (t.val + 1) ∗ common S (t.val + 1) ∗ (∃ W, owes (c : Thread nD τ) 0 W) ∗ owns (c : Thread nD τ) (st0_6 t) fullShare (Y 6)
            ∗ owns (c : Thread nD τ) (st0_7 t) fullShare (Y 7)
            ∗ owns (c : Thread nD τ) (st0_8 t) fullShare (Y 8)) -∗ K ⟨⟩))
      ⊢ wp frame (wpE (defs₀ (F := F)) Variants.none c none) Set.univ (bodyAt0 t) K := by
  have h1 : ¬ cond1 (grid0.coords t) = 1#1 := fun h => by have := (cond1_iff _).mp h; rw [co1] at this; omega
  have h2 : ¬ k0_cond2 (grid0.coords t) = 1#1 := fun h => by have := (cond2_iff _).mp h; rw [co1] at this; omega
  have h3 : ¬ k0_cond3 (grid0.coords t) = 1#1 := fun h => by have := (cond3_iff _).mp h; rw [co1] at this; omega
  have h4 : k0_cond4 (grid0.coords t) = 1#1 := (cond4_iff _).mpr (by rw [co1]; omega)
  have h5 : k0_cond5 (grid0.coords t) = 1#1 := (cond5_iff _).mpr (by rw [co1]; omega)
  have hq : (t.val + 1) / 27 = t.val / 27 + 1 := by omega
  unfold stDn stUp common owns
  iintro ⟨⟨%d15, %g15, %f16, %f17, %f13, %hp, R11, R13, H15, H16, H17, S19, S20⟩, ⟨Hg, O0, O1, ⟨%f12, %h12, H12⟩⟩, ⟨%W, HW⟩, ⟨%f8, %e8, H8⟩, ⟨%f9, %e9, H9⟩, ⟨%f10, %e10, H10⟩, Hk⟩
  have hs := S.last t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f10 f13 d15 g15 (slot1.view.set.piecewise g15 d15) f16 f17 W h1 h2 h3 h4 h5 (e8.trans hY6) (e9.trans hY7) (e10.trans hY8) hp.1 rfl f12
  ihave ⟨T, Hr⟩ := (blocks_split c (grid0.coords t) h5 f12) $$ H12
  iapply ((run26 (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f10 (V m c main_arg9) f13 (slot1.view.set.piecewise g15 d15) f16 f17 W h1 h2 h3 h4 h5).2 K)
  isplitl [H8]; · iexact H8
  isplitl [H9]; · iexact H9
  isplitl [H10]; · iexact H10
  isplitl [R11]; · iexact R11
  isplitl [R13]; · iexact R13
  isplitl [H15]
  · iapply (Entails.of_eq (show ownAct0 c d15 = ownAct0 c (slot1.view.set.piecewise g15 d15) from pointsTo_congr fun e he => (Finset.piecewise_eq_of_notMem _ _ _ (Finset.mem_sdiff.mp he).2).symm))
    iexact H15
  isplitl [H16]; · iexact H16
  isplitl [H17]; · iexact H17
  isplitl [S19]
  · iapply (Entails.of_eq (flight19_piecewise c _ g15 d15 _))
    iexact S19
  isplitl [S20]; · iexact S20
  isplitl [HW]; · iexact HW
  isplitl [O0]; · iexact O0
  isplitl [O1]; · iexact O1
  isplitl [T]; · iexact T
  iintro ⟨HW, H8, H9, H10, H11, H13, H15, H16, H17, C19, C20, O0, O1, D⟩
  ihave ⟨%g12, %hg, H12⟩ := (blocks_join c (grid0.coords t) h5 _ _ f12) $$ [D Hr]
  · isplitl [D]; · iexact D
    iexact Hr
  iapply Hk
  isplitl [H15 H16 H17 C19 C20 H11 H13]
  · iexists (scM15.view.writes (Elt F) (slot1.view.set.piecewise g15 d15) (run26 (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) f8 f9 f10 (V m c main_arg9) f13 (slot1.view.set.piecewise g15 d15) f16 f17 W h1 h2 h3 h4 h5).1), f16, f17, f13
    isplitr
    · ipureintro
      exact ⟨fun h => absurd (by omega) h, by rw [hq]; exact hp.2⟩
    isplitl [H15]; · iexact H15
    isplitl [H16]; · iexact H16
    isplitl [H17]; · iexact H17
    isplitl [C19]; · iexact C19
    isplitl [C20]; · iexact C20
    isplitl [H11]; · iexact H11
    iexact H13
  isplitl [Hg O0 O1 H12]
  · isplitl [Hg]; · iexact Hg
    isplitl [O0]; · iexact O0
    isplitl [O1]; · iexact O1
    iexists g12
    isplitr
    · ipureintro; rw [hq]; exact hs g12 h12 hg.1 hg.2
    iexact H12
  isplitl [HW]; · iexact HW
  isplitl [H8]
  · iexists f8; isplitr
    · ipureintro; exact e8
    iexact H8
  isplitl [H9]
  · iexists f9; isplitr
    · ipureintro; exact e9
    iexact H9
  iexists f10; isplitr
  · ipureintro; exact e10
  iexact H10

end Cert.Proof.KernelIdeal

end
-- ==== Proof.IPoints.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import proofs.«01_k».proof.Proof.IBodies

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {m : (ℓ : Loc nD τ sig) → Buf (Elt F) ℓ}

/-- The proof data: the arrays as the region finds them, the nine inputs kept, the scales' block known from the first point of the
    down phase on, and the buffers of the body as `common` and `st` say. -/
def rdat (S : (c : Dev nD) → Spec (F := F) m c) (c : Dev nD) : Pipeline.RDat τ (Elt F) Unit ℕ (Pipeline.UD sig nD τ) ℕ cfg0 c where
  A w := V m c (Pipeline.arrRef spec0 w)
  after w t Y X := match w with
    | ⟨9, _⟩ => 18 ≤ t.val % 27 → (S c).s4 (t.val / 27) X
    | ⟨_, _⟩ => X = Y
  Φ n := iprop(common (S c) n.val ∗ st (S c) n.val)
  q _ := fullShare
  owed _ := 0

theorem defs₀_row (t : Fin cfg0.N) :
    defs₀ (F := F) .tc cfg0.body (cfg0.bodyArgs t (cfg0.slots t)) = bodyAt0 t := by
  unfold defs₀; rw [Defs.onTc_tc]

variable (S : (c : Dev nD) → Spec (F := F) m c) (c : Dev nD)

theorem finds_0 (t : Fin cfg0.N) (Y : (cfg0.win 0).block.Idx → Elt F (cfg0.win 0).elt) (h : (rdat S c).Finds 0 t Y) : Y = iblk m c 0 t := by
  obtain ⟨d, e⟩ := (rdat S c).finds_in_eq_fetched 0 rfl (fun _ _ _ => rfl) (fun _ _ _ h => h) t Y h
  rw [e]; unfold Pipeline.RDat.fetched Pipeline.RDat.blockOf iblk; rfl
theorem finds_1 (t : Fin cfg0.N) (Y : (cfg0.win 1).block.Idx → Elt F (cfg0.win 1).elt) (h : (rdat S c).Finds 1 t Y) : Y = iblk m c 1 t := by
  obtain ⟨d, e⟩ := (rdat S c).finds_in_eq_fetched 1 rfl (fun _ _ _ => rfl) (fun _ _ _ h => h) t Y h
  rw [e]; unfold Pipeline.RDat.fetched Pipeline.RDat.blockOf iblk; rfl
theorem finds_2 (t : Fin cfg0.N) (Y : (cfg0.win 2).block.Idx → Elt F (cfg0.win 2).elt) (h : (rdat S c).Finds 2 t Y) : Y = iblk m c 2 t := by
  obtain ⟨d, e⟩ := (rdat S c).finds_in_eq_fetched 2 rfl (fun _ _ _ => rfl) (fun _ _ _ h => h) t Y h
  rw [e]; unfold Pipeline.RDat.fetched Pipeline.RDat.blockOf iblk; rfl
theorem finds_3 (t : Fin cfg0.N) (Y : (cfg0.win 3).block.Idx → Elt F (cfg0.win 3).elt) (h : (rdat S c).Finds 3 t Y) : Y = iblk m c 3 t := by
  obtain ⟨d, e⟩ := (rdat S c).finds_in_eq_fetched 3 rfl (fun _ _ _ => rfl) (fun _ _ _ h => h) t Y h
  rw [e]; unfold Pipeline.RDat.fetched Pipeline.RDat.blockOf iblk; rfl
theorem finds_4 (t : Fin cfg0.N) (Y : (cfg0.win 4).block.Idx → Elt F (cfg0.win 4).elt) (h : (rdat S c).Finds 4 t Y) : Y = iblk m c 4 t := by
  obtain ⟨d, e⟩ := (rdat S c).finds_in_eq_fetched 4 rfl (fun _ _ _ => rfl) (fun _ _ _ h => h) t Y h
  rw [e]; unfold Pipeline.RDat.fetched Pipeline.RDat.blockOf iblk; rfl
theorem finds_5 (t : Fin cfg0.N) (Y : (cfg0.win 5).block.Idx → Elt F (cfg0.win 5).elt) (h : (rdat S c).Finds 5 t Y) : Y = iblk m c 5 t := by
  obtain ⟨d, e⟩ := (rdat S c).finds_in_eq_fetched 5 rfl (fun _ _ _ => rfl) (fun _ _ _ h => h) t Y h
  rw [e]; unfold Pipeline.RDat.fetched Pipeline.RDat.blockOf iblk; rfl
theorem finds_6 (t : Fin cfg0.N) (Y : (cfg0.win 6).block.Idx → Elt F (cfg0.win 6).elt) (h : (rdat S c).Finds 6 t Y) : Y = iblk m c 6 t := by
  obtain ⟨d, e⟩ := (rdat S c).finds_in_eq_fetched 6 rfl (fun _ _ _ => rfl) (fun _ _ _ h => h) t Y h
  rw [e]; unfold Pipeline.RDat.fetched Pipeline.RDat.blockOf iblk; rfl
theorem finds_7 (t : Fin cfg0.N) (Y : (cfg0.win 7).block.Idx → Elt F (cfg0.win 7).elt) (h : (rdat S c).Finds 7 t Y) : Y = iblk m c 7 t := by
  obtain ⟨d, e⟩ := (rdat S c).finds_in_eq_fetched 7 rfl (fun _ _ _ => rfl) (fun _ _ _ h => h) t Y h
  rw [e]; unfold Pipeline.RDat.fetched Pipeline.RDat.blockOf iblk; rfl
theorem finds_8 (t : Fin cfg0.N) (Y : (cfg0.win 8).block.Idx → Elt F (cfg0.win 8).elt) (h : (rdat S c).Finds 8 t Y) : Y = iblk m c 8 t := by
  obtain ⟨d, e⟩ := (rdat S c).finds_in_eq_fetched 8 rfl (fun _ _ _ => rfl) (fun _ _ _ h => h) t Y h
  rw [e]; unfold Pipeline.RDat.fetched Pipeline.RDat.blockOf iblk; rfl
/-- After the first point of the down phase the scales' block is what that point left. -/
theorem finds_9 (t : Fin cfg0.N) (ht : 18 < t.val % 27) (Y : (cfg0.win 9).block.Idx → Elt F (cfg0.win 9).elt) (h : (rdat S c).Finds 9 t Y) : (S c).s4 (t.val / 27) Y := by
  have hf : (cfg0.win 9).fetch t = false := by simp [Pipeline.Window.fetch, show (cfg0.win 9).isOut = true from rfl]
  rcases ((rdat S c).finds_of_pos hf (by omega) Y).mp h with h | ⟨Y', -, h⟩
  · have := (flush0_9 _).mp h
    simp only at this; omega
  · have h' : 18 ≤ (t.val - 1) % 27 → (S c).s4 ((t.val - 1) / 27) Y := h
    have := h' (by omega)
    rwa [show (t.val - 1) / 27 = t.val / 27 by omega] at this

abbrev stageOwns (t : Fin cfg0.N) (Y : (w : Fin cfg0.W) → (cfg0.win w).block.Idx → Elt F (cfg0.win w).elt) : sProp 𝕄 :=
  iprop(owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9))
def bodyPre (t : Fin cfg0.N) (Y : (w : Fin cfg0.W) → (cfg0.win w).block.Idx → Elt F (cfg0.win w).elt) : sProp 𝕄 :=
  iprop((common (S c) t.val ∗ st (S c) t.val) ∗ (rdat S c).owesAt () t.castSucc ∗ stageOwns c t Y)
def bodyPost (t : Fin cfg0.N) (Y : (w : Fin cfg0.W) → (cfg0.win w).block.Idx → Elt F (cfg0.win w).elt) : sProp 𝕄 :=
  iprop((common (S c) (t.val + 1) ∗ st (S c) (t.val + 1)) ∗ (rdat S c).owesAt () t.succ
    ∗ (∃ X, ⌜(rdat S c).after 0 t (Y 0) X⌝ ∗ owns (c : Thread nD τ) (st0_0 t) fullShare X) ∗ (∃ X, ⌜(rdat S c).after 1 t (Y 1) X⌝ ∗ owns (c : Thread nD τ) (st0_1 t) fullShare X) ∗ (∃ X, ⌜(rdat S c).after 2 t (Y 2) X⌝ ∗ owns (c : Thread nD τ) (st0_2 t) fullShare X) ∗ (∃ X, ⌜(rdat S c).after 3 t (Y 3) X⌝ ∗ owns (c : Thread nD τ) (st0_3 t) fullShare X) ∗ (∃ X, ⌜(rdat S c).after 4 t (Y 4) X⌝ ∗ owns (c : Thread nD τ) (st0_4 t) fullShare X) ∗ (∃ X, ⌜(rdat S c).after 5 t (Y 5) X⌝ ∗ owns (c : Thread nD τ) (st0_5 t) fullShare X) ∗ (∃ X, ⌜(rdat S c).after 6 t (Y 6) X⌝ ∗ owns (c : Thread nD τ) (st0_6 t) fullShare X) ∗ (∃ X, ⌜(rdat S c).after 7 t (Y 7) X⌝ ∗ owns (c : Thread nD τ) (st0_7 t) fullShare X) ∗ (∃ X, ⌜(rdat S c).after 8 t (Y 8) X⌝ ∗ owns (c : Thread nD τ) (st0_8 t) fullShare X) ∗ (∃ X, ⌜(rdat S c).after 9 t (Y 9) X⌝ ∗ owns (c : Thread nD τ) (st0_9 t) fullShare X))

theorem common_next (n : ℕ) (h : n % 27 ≠ 26) : common (S c) (n + 1) = common (S c) n := by
  unfold common; rw [show (n + 1) / 27 = n / 27 by omega]
theorem st_up (n : ℕ) (h : n % 27 ≤ 18) : st (S c) n = stUp (S c) n := if_pos h
theorem st_dn (n : ℕ) (h : 18 < n % 27) : st (S c) n = stDn (S c) (blkOf n) n := if_neg (by omega)
theorem blkOf_next (n : ℕ) (h : n % 27 ≠ 26) : blkOf (n + 1) = blkOf n := by
  unfold blkOf; exact Fin.ext (by show (n + 1) / 27 % 3 = n / 27 % 3; rw [show (n + 1) / 27 = n / 27 by omega])

set_option maxHeartbeats 1000000 in
theorem point_first (t : Fin cfg0.N) (Y : (w : Fin cfg0.W) → (cfg0.win w).block.Idx → Elt F (cfg0.win w).elt) (hF : ∀ w, (rdat S c).Finds w t (Y w)) (ht : t.val % 27 = 0) :
    bodyPre S c t Y ⊢ wp frame (wpE (defs₀ (F := F)) Variants.none c none) Set.univ (bodyAt0 t) (fun _ => bodyPost S c t Y) := by
  unfold bodyPre bodyPost
  rw [common_next S c _ (by omega), st_up S c _ (by omega), st_up S c _ (by omega)]
  unfold Pipeline.RDat.owesAt Pipeline.owesWithin
  rw [show (rdat S c).owed t.castSucc = 0 from rfl, show (rdat S c).owed t.succ = 0 from rfl]
  iintro ⟨⟨HC, HS⟩, ⟨%W, -, HW⟩, H0, H1, H2, H3, H4, H5, H6, H7, H8, H9⟩
  iapply (body_first (S c) t Y (finds_0 S c t _ (hF 0)) (finds_1 S c t _ (hF 1)) (finds_2 S c t _ (hF 2)) (finds_3 S c t _ (hF 3)) (finds_4 S c t _ (hF 4)) (finds_5 S c t _ (hF 5)) ht)
  isplitl [HS]; · iexact HS
  isplitl [H0]; · iexact H0
  isplitl [H1]; · iexact H1
  isplitl [H2]; · iexact H2
  isplitl [H3]; · iexact H3
  isplitl [H4]; · iexact H4
  isplitl [H5]; · iexact H5
  iintro ⟨HS, H0, H1, H2, H3, H4, H5⟩
  isplitl [HC HS]
  · isplitl [HC]; · iexact HC
    iexact HS
  isplitl [HW]
  · iexists W; isplitr; · ipureintro; exact fun _ _ => Or.inl trivial
    iexact HW
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  iexists (Y 9); isplitr; · ipureintro; exact fun h => absurd h (by omega)
  iexact H9

set_option maxHeartbeats 1000000 in
theorem point_step (t : Fin cfg0.N) (Y : (w : Fin cfg0.W) → (cfg0.win w).block.Idx → Elt F (cfg0.win w).elt) (hF : ∀ w, (rdat S c).Finds w t (Y w)) (ht0 : t.val % 27 ≠ 0) (ht : t.val % 27 < 18) :
    bodyPre S c t Y ⊢ wp frame (wpE (defs₀ (F := F)) Variants.none c none) Set.univ (bodyAt0 t) (fun _ => bodyPost S c t Y) := by
  unfold bodyPre bodyPost
  rw [common_next S c _ (by omega), st_up S c _ (by omega), st_up S c _ (by omega)]
  unfold Pipeline.RDat.owesAt Pipeline.owesWithin
  rw [show (rdat S c).owed t.castSucc = 0 from rfl, show (rdat S c).owed t.succ = 0 from rfl]
  iintro ⟨⟨HC, HS⟩, ⟨%W, -, HW⟩, H0, H1, H2, H3, H4, H5, H6, H7, H8, H9⟩
  iapply (body_step (S c) t Y (finds_0 S c t _ (hF 0)) (finds_1 S c t _ (hF 1)) (finds_2 S c t _ (hF 2)) (finds_3 S c t _ (hF 3)) (finds_4 S c t _ (hF 4)) (finds_5 S c t _ (hF 5)) ht0 ht)
  isplitl [HS]; · iexact HS
  isplitl [H0]; · iexact H0
  isplitl [H1]; · iexact H1
  isplitl [H2]; · iexact H2
  isplitl [H3]; · iexact H3
  isplitl [H4]; · iexact H4
  isplitl [H5]; · iexact H5
  iintro ⟨HS, H0, H1, H2, H3, H4, H5⟩
  isplitl [HC HS]
  · isplitl [HC]; · iexact HC
    iexact HS
  isplitl [HW]
  · iexists W; isplitr; · ipureintro; exact fun _ _ => Or.inl trivial
    iexact HW
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  iexists (Y 9); isplitr; · ipureintro; exact fun h => absurd h (by omega)
  iexact H9

set_option maxHeartbeats 1000000 in
theorem point_turn (t : Fin cfg0.N) (Y : (w : Fin cfg0.W) → (cfg0.win w).block.Idx → Elt F (cfg0.win w).elt) (hF : ∀ w, (rdat S c).Finds w t (Y w)) (ht : t.val % 27 = 18) :
    bodyPre S c t Y ⊢ wp frame (wpE (defs₀ (F := F)) Variants.none c none) Set.univ (bodyAt0 t) (fun _ => bodyPost S c t Y) := by
  unfold bodyPre bodyPost
  rw [common_next S c _ (by omega), st_up S c _ (by omega), st_dn S c _ (by omega), blkOf_next _ (by omega), ← coB]
  unfold Pipeline.RDat.owesAt Pipeline.owesWithin
  rw [show (rdat S c).owed t.castSucc = 0 from rfl, show (rdat S c).owed t.succ = 0 from rfl]
  iintro ⟨⟨HC, HS⟩, ⟨%W, -, HW⟩, H0, H1, H2, H3, H4, H5, H6, H7, H8, H9⟩
  iapply (body_turn (S c) t Y (finds_6 S c t _ (hF 6)) (finds_7 S c t _ (hF 7)) ht)
  isplitl [HS]; · iexact HS
  isplitl [H6]; · iexact H6
  isplitl [H7]; · iexact H7
  isplitl [H9]; · iexact H9
  iintro ⟨HS, H6, H7, ⟨%X, %hX, H9⟩⟩
  isplitl [HC HS]
  · isplitl [HC]; · iexact HC
    iexact HS
  isplitl [HW]
  · iexists W; isplitr; · ipureintro; exact fun _ _ => Or.inl trivial
    iexact HW
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  iexists X; isplitr; · ipureintro; exact fun _ => hX
  iexact H9

set_option maxHeartbeats 1000000 in
theorem point_down (t : Fin cfg0.N) (Y : (w : Fin cfg0.W) → (cfg0.win w).block.Idx → Elt F (cfg0.win w).elt) (hF : ∀ w, (rdat S c).Finds w t (Y w)) (ht : 18 < t.val % 27) (ht' : t.val % 27 < 26) :
    bodyPre S c t Y ⊢ wp frame (wpE (defs₀ (F := F)) Variants.none c none) Set.univ (bodyAt0 t) (fun _ => bodyPost S c t Y) := by
  unfold bodyPre bodyPost
  rw [common_next S c _ (by omega), st_dn S c _ (by omega), st_dn S c _ (by omega), blkOf_next _ (by omega)]
  unfold Pipeline.RDat.owesAt Pipeline.owesWithin
  rw [show (rdat S c).owed t.castSucc = 0 from rfl, show (rdat S c).owed t.succ = 0 from rfl]
  iintro ⟨⟨HC, HS⟩, ⟨%W, -, HW⟩, H0, H1, H2, H3, H4, H5, H6, H7, H8, H9⟩
  iapply (body_down (S c) (blkOf t.val) t Y (finds_6 S c t _ (hF 6)) (finds_7 S c t _ (hF 7)) ht ht')
  isplitl [HS]; · iexact HS
  isplitl [H6]; · iexact H6
  isplitl [H7]; · iexact H7
  iintro ⟨HS, H6, H7⟩
  isplitl [HC HS]
  · isplitl [HC]; · iexact HC
    iexact HS
  isplitl [HW]
  · iexists W; isplitr; · ipureintro; exact fun _ _ => Or.inl trivial
    iexact HW
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  iexists (Y 9); isplitr; · ipureintro; exact fun _ => finds_9 S c t ht _ (hF 9)
  iexact H9

set_option maxHeartbeats 1000000 in
theorem point_last (t : Fin cfg0.N) (Y : (w : Fin cfg0.W) → (cfg0.win w).block.Idx → Elt F (cfg0.win w).elt) (hF : ∀ w, (rdat S c).Finds w t (Y w)) (ht : t.val % 27 = 26) :
    bodyPre S c t Y ⊢ wp frame (wpE (defs₀ (F := F)) Variants.none c none) Set.univ (bodyAt0 t) (fun _ => bodyPost S c t Y) := by
  unfold bodyPre bodyPost
  rw [st_dn S c _ (by omega), st_up S c _ (by omega), ← coB]
  unfold Pipeline.RDat.owesAt Pipeline.owesWithin
  rw [show (rdat S c).owed t.castSucc = 0 from rfl, show (rdat S c).owed t.succ = 0 from rfl]
  iintro ⟨⟨HC, HS⟩, ⟨%W, -, HW⟩, H0, H1, H2, H3, H4, H5, H6, H7, H8, H9⟩
  iapply (body_last (S c) t Y (finds_6 S c t _ (hF 6)) (finds_7 S c t _ (hF 7)) (finds_8 S c t _ (hF 8)) ht)
  isplitl [HS]; · iexact HS
  isplitl [HC]; · iexact HC
  isplitl [HW]; · iexists W; iexact HW
  isplitl [H6]; · iexact H6
  isplitl [H7]; · iexact H7
  isplitl [H8]; · iexact H8
  iintro ⟨HS, HC, ⟨%W, HW⟩, H6, H7, H8⟩
  isplitl [HC HS]
  · isplitl [HC]; · iexact HC
    iexact HS
  isplitl [HW]
  · iexists W; isplitr; · ipureintro; exact fun _ _ => Or.inl trivial
    iexact HW
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (Y 4); isplitr; · ipureintro; exact rfl
    iexact H4
  isplitl [H5]
  · iexists (Y 5); isplitr; · ipureintro; exact rfl
    iexact H5
  isplitl [H6]
  · iexists (Y 6); isplitr; · ipureintro; exact rfl
    iexact H6
  isplitl [H7]
  · iexists (Y 7); isplitr; · ipureintro; exact rfl
    iexact H7
  isplitl [H8]
  · iexists (Y 8); isplitr; · ipureintro; exact rfl
    iexact H8
  iexists (Y 9); isplitr; · ipureintro; exact fun _ => finds_9 S c t (by omega) _ (hF 9)
  iexact H9

theorem body_obligation : (rdat S c).BodyObligation (defs₀ (F := F)) Variants.none () Set.univ := fun t Y hF => by
  rw [bigSep_W0, bigSep_W0, defs₀_row]
  have h : bodyPre S c t Y ⊢ wp frame (wpE (defs₀ (F := F)) Variants.none c none) Set.univ (bodyAt0 t) (fun _ => bodyPost S c t Y) := by
    rcases Nat.lt_or_ge (t.val % 27) 18 with h | h
    · by_cases h0 : t.val % 27 = 0
      · exact point_first S c t Y hF h0
      · exact point_step S c t Y hF h0 h
    · rcases Nat.eq_or_lt_of_le h with h | h
      · exact point_turn S c t Y hF h.symm
      · by_cases h1 : t.val % 27 = 26
        · exact point_last S c t Y hF h1
        · exact point_down S c t Y hF h (by have := Nat.mod_lt t.val (show 0 < 27 by decide); omega)
  exact triple_restated h rfl .rfl fun _ => .rfl

/-! ## The region's own cells and buffers -/

/-- The body's four copy cells. -/
abbrev osem0 : Fin 4 → SemLoc sig := fun j => (![SemLoc.dma 19, SemLoc.dma 20, SemLoc.dma 21, SemLoc.dma 22] : Fin 4 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(cell19 c ∗ cell20 c ∗ obCell0 c ∗ obCell1 c) := by
  rw [Pipeline.ownSems0_eq_of_list c osem0 [0, 1, 2, 3] (by decide) (by decide)]; rfl
/-- The operand the body reads by its own copies, and the two results it writes so. -/
def H0 : Finset (Ref sig .tc) := {main_arg9}
def R0 : Finset (Ref sig .tc) := {main_v6_0, main_v6_1}
theorem H0_sub : H0 ⊆ Pipeline.restRefs sig spec0 := by decide
theorem R0_sub : R0 ⊆ Pipeline.restRefs sig spec0 \ H0 := by decide
theorem hbmPts0_eq :
    (bigSep H0 (fun b => ((c : Thread nD τ).loc b) ↦{fullShare} V m c b) : sProp 𝕄) = hbPt c hbM11 (V m c main_arg9) := by
  rw [BI.bigSep_eq_bigSepL_of_eq [main_arg9] (by decide) (by decide)]; rfl
theorem ownedPts0_eq : (Pipeline.owned R0 c : sProp 𝕄) = iprop((∃ f, hbPt (F := F) c hbM12 f) ∗ (∃ f, hbPt (F := F) c hbM13 f)) := by
  unfold Pipeline.owned; rw [BI.bigSep_eq_bigSepL_of_eq [main_v6_0, main_v6_1] (by decide) (by decide)]; rfl
theorem routedPts0_eq (G : (b : Ref sig .tc) → Buf (Elt F) ((c.tc : Thread nD τ).loc b)) :
    (Pipeline.routed R0 c G : sProp 𝕄) = iprop(hbPt (F := F) c hbM12 (G main_v6_0) ∗ hbPt (F := F) c hbM13 (G main_v6_1)) := by
  unfold Pipeline.routed; rw [BI.bigSep_eq_bigSepL_of_eq [main_v6_0, main_v6_1] (by decide) (by decide)]; rfl
theorem pt11 (f : HbBuf (F := F) c hbM11) : ownPt c hbM11 f = hbPt c hbM11 f := by unfold ownPt hbPt; rw [View.set_whole]
theorem pt12 (f : HbBuf (F := F) c hbM12) : ownPt c hbM12 f = hbPt c hbM12 f := by unfold ownPt hbPt; rw [View.set_whole]
theorem pt13 (f : HbBuf (F := F) c hbM13) : ownPt c hbM13 f = hbPt c hbM13 f := by unfold ownPt hbPt; rw [View.set_whole]
theorem pt15 (f : HbBuf (F := F) c scM15) : ownPt c scM15 f = hbPt c scM15 f := by unfold ownPt hbPt; rw [View.set_whole]
theorem pt16 (f : HbBuf (F := F) c scM16) : ownPt c scM16 f = hbPt c scM16 f := by unfold ownPt hbPt; rw [View.set_whole]
theorem pt17 (f : HbBuf (F := F) c scM17) : ownPt c scM17 f = hbPt c scM17 f := by unfold ownPt hbPt; rw [View.set_whole]
theorem pt18 (f : HbBuf (F := F) c scM18) : ownPt c scM18 f = hbPt c scM18 f := by unfold ownPt hbPt; rw [View.set_whole]

/-- The output buffer is its two slots. -/
theorem slots_split (f : HbBuf (F := F) c scM18) : hbPt c scM18 f ⊢ iprop(obPt0 c f ∗ obPt1 c f) := by
  rw [obPt0_eq, ← pt18]
  refine (pointsTo_split_subset (I := ((scM18.slice (Rect.unit (s := S2x32x4608) ![1, 0, 0] S1x32x4608.size inb_S2x32x4608_S1x32x4608_1_0_0) (fun _ => rfl)).squeeze S32x4608 squeezes_S1x32x4608_S32x4608 : Memref sig .tc .vmem S32x4608 .bf16).view.set) (by rw [Memref.set_view_squeeze]; exact View.set_slice_subset _ _)).1.trans ?_
  iintro ⟨A, B⟩
  isplitl [B]; · iexact B
  iexact A
theorem slots_join (f g : HbBuf (F := F) c scM18) : iprop(obPt0 c f ∗ obPt1 c g) ⊢ iprop(∃ f, hbPt (F := F) c scM18 f) := by
  rw [obPt0_eq]
  iintro ⟨A, B⟩
  iexists (((scM18.slice (Rect.unit (s := S2x32x4608) ![1, 0, 0] S1x32x4608.size inb_S2x32x4608_S1x32x4608_1_0_0) (fun _ => rfl)).squeeze S32x4608 squeezes_S1x32x4608_S32x4608 : Memref sig .tc .vmem S32x4608 .bf16).view.set).piecewise g f
  rw [← pt18]
  iapply (pointsTo_join_subset (by rw [Memref.set_view_squeeze]; exact View.set_slice_subset _ _))
  isplitl [B]; · iexact B
  iexact A

/-- What the body holds before the first point, from what the region hands it. -/
theorem enter (f12 : HbBuf (F := F) c hbM12) (f13 : HbBuf (F := F) c hbM13) :
    iprop(Pipeline.scopedRest (Ix := Unit) (Name := ℕ) (U := Pipeline.UD sig nD τ) (Lvl := ℕ) (Val := Elt F) spec0 c ∗ (∃ r, prngReg c r)
      ∗ iprop(cell19 c ∗ cell20 c ∗ obCell0 c ∗ obCell1 c) ∗ hbPt c hbM11 (V m c main_arg9) ∗ iprop(hbPt c hbM12 f12 ∗ hbPt c hbM13 f13))
    ⊢ iprop(common (S c) 0 ∗ st (S c) 0) := by
  rw [scopedRest0_eq, st_up S c 0 (by decide), ← pt11, ← pt12, ← pt13]
  unfold common stUp
  iintro ⟨⟨⟨%f15, H15⟩, ⟨%f16, H16⟩, ⟨%f17, H17⟩, ⟨%f18, H18⟩⟩, Hg, ⟨C19, C20, C21, C22⟩, H11, H12, H13⟩
  ihave ⟨O0, O1⟩ := (slots_split c f18) $$ H18
  isplitl [Hg C21 C22 O0 O1 H12]
  · isplitl [Hg]; · iexact Hg
    isplitl [C21 O0]
    · iexists f18; isplitl [O0]; · iexact O0
      iexact C21
    isplitl [C22 O1]
    · iexists f18; isplitl [O1]; · iexact O1
      iexact C22
    iexists f12
    isplitr; · ipureintro; exact (S c).out_zero f12
    iexact H12
  iexists f15, f16, f17, f13
  isplitr; · ipureintro; exact ⟨fun h => absurd rfl h, (S c).c4_zero f13⟩
  isplitl [H15]; · iapply (Entails.of_eq (pt15 c f15).symm); iexact H15
  isplitl [H16]; · iapply (Entails.of_eq (pt16 c f16).symm); iexact H16
  isplitl [H17]; · iapply (Entails.of_eq (pt17 c f17).symm); iexact H17
  isplitl [C19]; · iexact C19
  isplitl [C20]; · iexact C20
  isplitl [H11]; · iexact H11
  iexact H13
/-- What the region takes back after the last point. -/
theorem leave :
    iprop(common (S c) 81 ∗ st (S c) 81)
    ⊢ iprop(Pipeline.scopedRest (Ix := Unit) (Name := ℕ) (U := Pipeline.UD sig nD τ) (Lvl := ℕ) (Val := Elt F) spec0 c ∗ (∃ r, prngReg c r)
      ∗ iprop(cell19 c ∗ cell20 c ∗ obCell0 c ∗ obCell1 c) ∗ hbPt c hbM11 (V m c main_arg9)
      ∗ iprop((∃ f12, ⌜(S c).out 3 f12⌝ ∗ hbPt c hbM12 f12) ∗ (∃ f13, ⌜(S c).c4 3 f13⌝ ∗ hbPt c hbM13 f13))) := by
  rw [scopedRest0_eq, st_up S c 81 (by decide), ← pt11]
  unfold common stUp
  iintro ⟨⟨Hg, ⟨%fs, O0, C21⟩, ⟨%gs, O1, C22⟩, ⟨%f12, %h12, H12⟩⟩, ⟨%f15, %f16, %f17, %f13, %hp, H15, H16, H17, C19, C20, H11, H13⟩⟩
  ihave H18 := (slots_join c fs gs) $$ [O0 O1]
  · isplitl [O0]; · iexact O0
    iexact O1
  isplitl [H15 H16 H17 H18]
  · isplitl [H15]; · iexists f15; iapply (Entails.of_eq (pt15 c f15)); iexact H15
    isplitl [H16]; · iexists f16; iapply (Entails.of_eq (pt16 c f16)); iexact H16
    isplitl [H17]; · iexists f17; iapply (Entails.of_eq (pt17 c f17)); iexact H17
    iexact H18
  isplitl [Hg]; · iexact Hg
  isplitl [C19 C20 C21 C22]
  · isplitl [C19]; · iexact C19
    isplitl [C20]; · iexact C20
    isplitl [C21]; · iexact C21
    iexact C22
  isplitl [H11]; · iexact H11
  isplitl [H12]
  · iexists f12; isplitr; · ipureintro; exact h12
    iapply (Entails.of_eq (pt12 c f12)); iexact H12
  iexists f13; isplitr; · ipureintro; exact hp.2
  iapply (Entails.of_eq (pt13 c f13)); iexact H13

/-! ## The runs -/

variable (m) (ρ : Dev nD → PrngReg)
set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_frame : θ_run defs (onTc (τ := τ) (main (F := F))) (s₀ m ρ) (fun r => Pipeline.RDat.FramePostR cfg0 (rdat S) R0 (V m) r ∧ r.2.sem = fun _ => 0) :=
  Pipeline.RDat.θ_run_frame_dmaR (Q' := _) cfgs (0 : Fin 1) launch0 osem0 defs₀ Variants.none (rdat S) ownSemFacts0 H0 R0 H0_sub R0_sub m ρ main
    (hbody := body_obligation S) (hshare := fun c w => by unfold Pipeline.RDat.share; split <;> rfl)
    (howed := fun _ _ => rfl) (V := V m) (hmain := hmainD m Variants.none) (hA := fun _ _ => rfl)
    (hin := fun c => by
      rw [Pipeline.ΦDR_eq, ownSems00_eq, hbmPts0_eq, ownedPts0_eq]
      show _ ⊢ iprop(common (S c) 0 ∗ st (S c) 0)
      iintro ⟨A, B, C, D, ⟨%f12, E⟩, ⟨%f13, E'⟩⟩
      iapply (enter S c f12 f13)
      isplitl [A]; · iexact A
      isplitl [B]; · iexact B
      isplitl [C]; · iexact C
      isplitl [D]; · iexact D
      isplitl [E]; · iexact E
      iexact E')
    (hout := fun c => by
      rw [Pipeline.ΦDR_eq, ownSems00_eq, hbmPts0_eq, ownedPts0_eq]
      refine (leave S c).trans ?_
      iintro ⟨A, B, C, D, ⟨%f12, -, E⟩, ⟨%f13, -, E'⟩⟩
      isplitl [A]; · iexact A
      isplitl [B]; · iexact B
      isplitl [C]; · iexact C
      isplitl [D]; · iexact D
      isplitl [E]; · iexists f12; iexact E
      iexists f13; iexact E')

set_option backward.isDefEq.respectTransparency.types false in
/-- The same with the two results the body writes named: whatever satisfies the predicates at the end is `G`. -/
theorem run_value (G : (c : Dev nD) → (b : Ref sig .tc) → Buf (Elt F) ((c.tc : Thread nD τ).loc b))
    (hG12 : ∀ c f12, (S c).out 3 f12 → f12 = G c main_v6_0) (hG13 : ∀ c f13, (S c).c4 3 f13 → f13 = G c main_v6_1) :
    θ_run defs (onTc (τ := τ) (main (F := F))) (s₀ m ρ) (fun r => Pipeline.RDat.FramePostRG cfg0 (rdat S) R0 (V m) G r ∧ r.2.sem = fun _ => 0) :=
  Pipeline.RDat.θ_run_frame_dmaRG (Q' := _) cfgs (0 : Fin 1) launch0 osem0 defs₀ Variants.none (rdat S) ownSemFacts0 H0 R0 H0_sub R0_sub m ρ main
    (hbody := body_obligation S) (hshare := fun c w => by unfold Pipeline.RDat.share; split <;> rfl)
    (howed := fun _ _ => rfl) (V := V m) (hmain := hmainD m Variants.none) (hA := fun _ _ => rfl) (G := G)
    (hin := fun c => by
      rw [Pipeline.ΦDRG_eq, ownSems00_eq, hbmPts0_eq, routedPts0_eq]
      exact enter S c _ _)
    (hout := fun c => by
      rw [Pipeline.ΦDRG_eq, ownSems00_eq, hbmPts0_eq, routedPts0_eq]
      refine (leave S c).trans ?_
      iintro ⟨A, B, C, D, ⟨%f12, %h12, E⟩, ⟨%f13, %h13, E'⟩⟩
      rw [← hG12 c f12 h12, ← hG13 c f13 h13]
      isplitl [A]; · iexact A
      isplitl [B]; · iexact B
      isplitl [C]; · iexact C
      isplitl [D]; · iexact D
      isplitl [E]; · iexact E
      iexact E')

/-- The argument arrays at the end are as launched. -/
theorem args_unchanged (r : PUnit × MemSt nD τ sig (Elt F)) (h : Pipeline.RDat.FramePostR cfg0 (rdat S) R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨(h.arr_in c 0 rfl).trans (V_main_arg0 m c),
   ((h c).2 main_arg1 (Finset.mem_sdiff.mpr ⟨Pipeline.mem_restRefs_of main_arg1 (by decide) (by decide), by decide⟩)).trans (V_main_arg1 m c),
   (h.arr_in c 2 rfl).trans (V_main_arg2 m c),
   ((h c).2 main_arg3 (Finset.mem_sdiff.mpr ⟨Pipeline.mem_restRefs_of main_arg3 (by decide) (by decide), by decide⟩)).trans (V_main_arg3 m c),
   (h.arr_in c 4 rfl).trans (V_main_arg4 m c),
   ((h c).2 main_arg5 (Finset.mem_sdiff.mpr ⟨Pipeline.mem_restRefs_of main_arg5 (by decide) (by decide), by decide⟩)).trans (V_main_arg5 m c),
   (h.arr_in c 6 rfl).trans (V_main_arg6 m c),
   ((h c).2 main_arg7 (Finset.mem_sdiff.mpr ⟨Pipeline.mem_restRefs_of main_arg7 (by decide) (by decide), by decide⟩)).trans (V_main_arg7 m c),
   ((h c).2 main_arg8 (Finset.mem_sdiff.mpr ⟨Pipeline.mem_restRefs_of main_arg8 (by decide) (by decide), by decide⟩)).trans (V_main_arg8 m c),
   ((h c).2 main_arg9 (Finset.mem_sdiff.mpr ⟨Pipeline.mem_restRefs_of main_arg9 (by decide) (by decide), by decide⟩)).trans (V_main_arg9 m c)⟩

/-- The run, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨args_unchanged m (Spec.none m) r h.1, h.2⟩) (run_frame m (Spec.none m) ρ)

end Cert.Proof.KernelIdeal

end
-- ==== Proof.VMath.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import proofs.«01_k».proof.Proof.IState

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The ten arguments of the call as functions of row and column numbers. -/
structure Args where
  /-- The codes of the input and the scale of each of its rows. -/
  c3 : ℕ → ℕ → EReal
  s3 : ℕ → EReal
  /-- The codes of the three weights, each with the scale of its columns. -/
  wg : ℕ → ℕ → EReal
  wgs : ℕ → EReal
  wu : ℕ → ℕ → EReal
  wus : ℕ → EReal
  wd : ℕ → ℕ → EReal
  wds : ℕ → EReal
  /-- The weight of the norm, and what the result is added to. -/
  g : ℕ → EReal
  h1 : ℕ → ℕ → EReal

/-- The magnitude. -/
def absE (x : EReal) : EReal := max x (-x)

/-- `gelu`, by its `tanh` form. -/
def geluE (x : EReal) : EReal :=
  x * (Ideal.ofBits .f32 0x3F000000#32 * (1 + Ideal.tanh (Ideal.ofBits .f32 0x3F4C422A#32 * (x + Ideal.ofBits .f32 0x3D372713#32 * (x * x * x)))))

/-- The gated activation at row `r`, column `j`. -/
def Args.act (A : Args) (r j : ℕ) : EReal :=
  geluE ((∑ k : Fin 4608, A.c3 r k * A.wg k j) * A.s3 r * A.wgs j) * ((∑ k : Fin 4608, A.c3 r k * A.wu k j) * A.s3 r * A.wus j)

/-- The largest magnitude of row `r` of the activations. -/
def Args.rowMax (A : Args) (r : ℕ) : EReal := (Finset.univ : Finset (Fin 9216)).fold max ⊥ fun j : Fin 9216 => absE (A.act r j)

/-- The largest magnitude among the first `q` columns `l, 128 + l, 256 + l, …` of row `r`, and zero. -/
def Args.laneMax (A : Args) (r l : ℕ) : ℕ → EReal
  | 0 => 0
  | q + 1 => max (A.laneMax r l q) (absE (A.act r (128 * q + l)))

theorem absE_nonneg (x : EReal) : 0 ≤ absE x := by
  unfold absE
  rcases le_total 0 x with h | h
  · exact le_max_of_le_left h
  · exact le_max_of_le_right (EReal.neg_nonneg.mpr h)

theorem Args.laneMax_le {A : Args} {r : ℕ} {z : EReal} {l : ℕ} : ∀ {q : ℕ}, A.laneMax r l q ≤ z ↔ 0 ≤ z ∧ ∀ p < q, absE (A.act r (128 * p + l)) ≤ z
  | 0 => by simp [Args.laneMax]
  | q + 1 => by
    simp only [Args.laneMax, max_le_iff, Args.laneMax_le (q := q)]
    constructor
    · rintro ⟨⟨h0, h⟩, h'⟩
      exact ⟨h0, fun p hp => by rcases Nat.lt_succ_iff_lt_or_eq.mp hp with h1 | rfl; exacts [h p h1, h']⟩
    · rintro ⟨h0, h⟩
      exact ⟨⟨h0, fun p hp => h p (by omega)⟩, h q (by omega)⟩

/-- The largest of the 128 lane maxima is the largest magnitude of the row. -/
theorem Args.fold_laneMax (A : Args) (r : ℕ) : ((Finset.univ : Finset (Fin 128)).fold max ⊥ fun l : Fin 128 => A.laneMax r l 72) = A.rowMax r := by
  refine le_antisymm ?_ ?_
  · rw [Finset.fold_max_le]
    refine ⟨bot_le, fun l _ => Args.laneMax_le.mpr ⟨?_, fun p hp => ?_⟩⟩
    · exact (absE_nonneg (A.act r 0)).trans ((Finset.le_fold_max _).mpr (.inr ⟨⟨0, by omega⟩, Finset.mem_univ _, le_rfl⟩))
    · exact (Finset.le_fold_max _).mpr (.inr ⟨⟨128 * p + l, by omega⟩, Finset.mem_univ _, le_rfl⟩)
  · unfold Args.rowMax
    rw [Finset.fold_max_le]
    refine ⟨bot_le, fun j _ => (Finset.le_fold_max _).mpr (.inr ⟨⟨j % 128, by omega⟩, Finset.mem_univ _, ?_⟩)⟩
    have h := (Args.laneMax_le (A := A) (r := r) (l := j % 128) (q := 72)).mp le_rfl
    have := h.2 (j / 128) (by omega)
    rwa [Nat.div_add_mod] at this

end Cert.Proof.KernelIdeal

end
-- ==== Proof.VTile.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import proofs.«01_k».proof.Proof.VMath

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What the six blocks of an up point read: rows from `R` on, columns from `C` on. -/
structure UpReads (A : Args) (R C : ℕ) (c : Dev nD) (arg2 : Memref sig .tc .vmem S640x4608 .fp8e4m3) (arg3 : Memref sig .tc .vmem S640x128 .f32) (arg4 : Memref sig .tc .vmem S4608x512 .fp8e4m3) (arg5 : Memref sig .tc .vmem S1x512 .f32) (arg6 : Memref sig .tc .vmem S4608x512 .fp8e4m3) (arg7 : Memref sig .tc .vmem S1x512 .f32) (f2 : HbBuf (F := Ideal) c arg2) (f3 : HbBuf (F := Ideal) c arg3) (f4 : HbBuf (F := Ideal) c arg4) (f5 : HbBuf (F := Ideal) c arg5) (f6 : HbBuf (F := Ideal) c arg6) (f7 : HbBuf (F := Ideal) c arg7) : Prop where
  h2 : ∀ (r : Fin 640) (k : Fin 4608), arg2.view.read (Elt Ideal) f2 (ix2 r k) = A.c3 (R + r) k
  h3 : ∀ (r : Fin 640) (l : Fin 128), arg3.view.read (Elt Ideal) f3 (ix2 r l) = A.s3 (R + r)
  h4 : ∀ (k : Fin 4608) (j : Fin 512), arg4.view.read (Elt Ideal) f4 (ix2 k j) = A.wg k (C + j)
  h5 : ∀ (j : Fin 512), arg5.view.read (Elt Ideal) f5 (ix2 0 j) = A.wgs (C + j)
  h6 : ∀ (k : Fin 4608) (j : Fin 512), arg6.view.read (Elt Ideal) f6 (ix2 k j) = A.wu k (C + j)
  h7 : ∀ (j : Fin 512), arg7.view.read (Elt Ideal) f7 (ix2 0 j) = A.wus (C + j)

/-- A running maximum after a tile with first row `R`, first column `C`. -/
def mx (A : Args) (R C : ℕ) (v : Vec Ideal S320x128 .f32) : Vec Ideal S320x128 .f32 :=
  fun y => max (v y) (absE (A.act (R + (y 0).val) (C + (y 1).val)))

section
variable (c : Dev nD) (arg2 : Memref sig .tc .vmem S640x4608 .fp8e4m3) (arg3 : Memref sig .tc .vmem S640x128 .f32) (arg4 : Memref sig .tc .vmem S4608x512 .fp8e4m3) (arg5 : Memref sig .tc .vmem S1x512 .f32) (arg6 : Memref sig .tc .vmem S4608x512 .fp8e4m3) (arg7 : Memref sig .tc .vmem S1x512 .f32) (f2 : HbBuf (F := Ideal) c arg2) (f3 : HbBuf (F := Ideal) c arg3) (f4 : HbBuf (F := Ideal) c arg4) (f5 : HbBuf (F := Ideal) c arg5) (f6 : HbBuf (F := Ideal) c arg6) (f7 : HbBuf (F := Ideal) c arg7)
  {A : Args} {R C : ℕ} (U : UpReads A R C c arg2 arg3 arg4 arg5 arg6 arg7 f2 f3 f4 f5 f6 f7)
include U

/-- The tile at row 0, column 0. -/
theorem up_tile_0_0 (p : Fin 320) (l : Fin 128) : k0_pay20 (runUp.sl.r_2 c arg2 arg3 arg4 arg5 f2 f3 f4 f5) (runUp.sl.r_3 c arg2 arg3 arg6 f2 f3 f6) (runUp.sl.r_4 c arg7 f7) (ix3 0 p l) = A.act (R + (0 + (p : ℕ))) (C + (0 + (l : ℕ))) := by
  obtain ⟨h2, h3, h4, h5, h6, h7⟩ := U
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  rfl

/-- The running maximum with it. -/
theorem up_mx_0_0 (v : Vec Ideal S320x128 .f32) : k0_pay21 (runUp.sl.r_2 c arg2 arg3 arg4 arg5 f2 f3 f4 f5) (runUp.sl.r_3 c arg2 arg3 arg6 f2 f3 f6) (runUp.sl.r_4 c arg7 f7) v = mx A (R + 0) (C + 0) v := by
  obtain ⟨h2, h3, h4, h5, h6, h7⟩ := U
  funext y
  obtain ⟨p, l, rfl⟩ : ∃ (p : Fin 320) (l : Fin 128), y = ix2 p l := ⟨y 0, y 1, eq_ix2 y⟩
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  unfold mx
  simp only [Nat.add_assoc, Nat.zero_add]
  rfl

/-- The tile at row 0, column 128. -/
theorem up_tile_0_128 (p : Fin 320) (l : Fin 128) : k0_pay27 (runUp.sl.r_5 c arg2 arg3 arg4 arg5 f2 f3 f4 f5) (runUp.sl.r_6 c arg2 arg3 arg6 f2 f3 f6) (runUp.sl.r_7 c arg7 f7) (ix3 0 p l) = A.act (R + (0 + (p : ℕ))) (C + (128 + (l : ℕ))) := by
  obtain ⟨h2, h3, h4, h5, h6, h7⟩ := U
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  rfl

/-- The running maximum with it. -/
theorem up_mx_0_128 (v : Vec Ideal S320x128 .f32) : k0_pay28 (runUp.sl.r_5 c arg2 arg3 arg4 arg5 f2 f3 f4 f5) (runUp.sl.r_6 c arg2 arg3 arg6 f2 f3 f6) (runUp.sl.r_7 c arg7 f7) v = mx A (R + 0) (C + 128) v := by
  obtain ⟨h2, h3, h4, h5, h6, h7⟩ := U
  funext y
  obtain ⟨p, l, rfl⟩ : ∃ (p : Fin 320) (l : Fin 128), y = ix2 p l := ⟨y 0, y 1, eq_ix2 y⟩
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  unfold mx
  simp only [Nat.add_assoc, Nat.zero_add]
  rfl

/-- The tile at row 320, column 0. -/
theorem up_tile_320_0 (p : Fin 320) (l : Fin 128) : k0_pay34 (runUp.sl.r_9 c arg2 arg6 f2 f6) (runUp.sl.r_10 c arg3 f3) (runUp.sl.r_11 c arg2 arg3 arg4 f2 f3 f4) (View.readAt (Elt Ideal) arg5.view (Rect.unit (s := S1x512) ![0, 0] S1x128.size inb_S1x512_S1x128_0_0).toLoadRect f5) (View.readAt (Elt Ideal) arg7.view (Rect.unit (s := S1x512) ![0, 0] S1x128.size inb_S1x512_S1x128_0_0).toLoadRect f7) (ix3 0 p l) = A.act (R + (320 + (p : ℕ))) (C + (0 + (l : ℕ))) := by
  obtain ⟨h2, h3, h4, h5, h6, h7⟩ := U
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  rfl

/-- The running maximum with it. -/
theorem up_mx_320_0 (v : Vec Ideal S320x128 .f32) : k0_pay35 (runUp.sl.r_9 c arg2 arg6 f2 f6) (runUp.sl.r_10 c arg3 f3) (runUp.sl.r_11 c arg2 arg3 arg4 f2 f3 f4) (View.readAt (Elt Ideal) arg5.view (Rect.unit (s := S1x512) ![0, 0] S1x128.size inb_S1x512_S1x128_0_0).toLoadRect f5) (View.readAt (Elt Ideal) arg7.view (Rect.unit (s := S1x512) ![0, 0] S1x128.size inb_S1x512_S1x128_0_0).toLoadRect f7) v = mx A (R + 320) (C + 0) v := by
  obtain ⟨h2, h3, h4, h5, h6, h7⟩ := U
  funext y
  obtain ⟨p, l, rfl⟩ : ∃ (p : Fin 320) (l : Fin 128), y = ix2 p l := ⟨y 0, y 1, eq_ix2 y⟩
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  unfold mx
  simp only [Nat.add_assoc, Nat.zero_add]
  rfl

/-- The tile at row 320, column 128. -/
theorem up_tile_320_128 (p : Fin 320) (l : Fin 128) : k0_pay39 (runUp.sl.r_9 c arg2 arg6 f2 f6) (runUp.sl.r_12 c arg3 f3) (runUp.sl.r_13 c arg2 arg3 arg4 f2 f3 f4) (View.readAt (Elt Ideal) arg5.view (Rect.unit (s := S1x512) ![0, 128] S1x128.size inb_S1x512_S1x128_0_128).toLoadRect f5) (View.readAt (Elt Ideal) arg7.view (Rect.unit (s := S1x512) ![0, 128] S1x128.size inb_S1x512_S1x128_0_128).toLoadRect f7) (ix3 0 p l) = A.act (R + (320 + (p : ℕ))) (C + (128 + (l : ℕ))) := by
  obtain ⟨h2, h3, h4, h5, h6, h7⟩ := U
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  rfl

/-- The running maximum with it. -/
theorem up_mx_320_128 (v : Vec Ideal S320x128 .f32) : k0_pay40 (runUp.sl.r_9 c arg2 arg6 f2 f6) (runUp.sl.r_12 c arg3 f3) (runUp.sl.r_13 c arg2 arg3 arg4 f2 f3 f4) (View.readAt (Elt Ideal) arg5.view (Rect.unit (s := S1x512) ![0, 128] S1x128.size inb_S1x512_S1x128_0_128).toLoadRect f5) (View.readAt (Elt Ideal) arg7.view (Rect.unit (s := S1x512) ![0, 128] S1x128.size inb_S1x512_S1x128_0_128).toLoadRect f7) v = mx A (R + 320) (C + 128) v := by
  obtain ⟨h2, h3, h4, h5, h6, h7⟩ := U
  funext y
  obtain ⟨p, l, rfl⟩ : ∃ (p : Fin 320) (l : Fin 128), y = ix2 p l := ⟨y 0, y 1, eq_ix2 y⟩
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  unfold mx
  simp only [Nat.add_assoc, Nat.zero_add]
  rfl

/-- The tile at row 0, column 256. -/
theorem up_tile_0_256 (p : Fin 320) (l : Fin 128) : k0_pay44 (runUp.sl.r_14 c arg2 f2) (runUp.sl.r_15 c arg2 arg4 f2 f4) (View.readAt (Elt Ideal) arg6.view (Rect.unit (s := S4608x512) ![0, 256] S4608x256.size inb_S4608x512_S4608x256_0_256).toLoadRect f6) (View.readAt (Elt Ideal) arg3.view (Rect.unit (s := S640x128) ![0, 0] S320x128.size inb_S640x128_S320x128_0_0).toLoadRect f3) (View.readAt (Elt Ideal) arg5.view (Rect.unit (s := S1x512) ![0, 256] S1x128.size inb_S1x512_S1x128_0_256).toLoadRect f5) (View.readAt (Elt Ideal) arg7.view (Rect.unit (s := S1x512) ![0, 256] S1x128.size inb_S1x512_S1x128_0_256).toLoadRect f7) (ix3 0 p l) = A.act (R + (0 + (p : ℕ))) (C + (256 + (l : ℕ))) := by
  obtain ⟨h2, h3, h4, h5, h6, h7⟩ := U
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  rfl

/-- The running maximum with it. -/
theorem up_mx_0_256 (v : Vec Ideal S320x128 .f32) : k0_pay46 (k0_pay45 (runUp.sl.r_14 c arg2 f2) (runUp.sl.r_15 c arg2 arg4 f2 f4) (View.readAt (Elt Ideal) arg6.view (Rect.unit (s := S4608x512) ![0, 256] S4608x256.size inb_S4608x512_S4608x256_0_256).toLoadRect f6) (View.readAt (Elt Ideal) arg3.view (Rect.unit (s := S640x128) ![0, 0] S320x128.size inb_S640x128_S320x128_0_0).toLoadRect f3) (View.readAt (Elt Ideal) arg5.view (Rect.unit (s := S1x512) ![0, 256] S1x128.size inb_S1x512_S1x128_0_256).toLoadRect f5) (View.readAt (Elt Ideal) arg7.view (Rect.unit (s := S1x512) ![0, 256] S1x128.size inb_S1x512_S1x128_0_256).toLoadRect f7) v) = mx A (R + 0) (C + 256) v := by
  obtain ⟨h2, h3, h4, h5, h6, h7⟩ := U
  funext y
  obtain ⟨p, l, rfl⟩ : ∃ (p : Fin 320) (l : Fin 128), y = ix2 p l := ⟨y 0, y 1, eq_ix2 y⟩
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  unfold mx
  simp only [Nat.add_assoc, Nat.zero_add]
  rfl

/-- The tile at row 0, column 384. -/
theorem up_tile_0_384 (p : Fin 320) (l : Fin 128) : k0_pay48 (runUp.sl.r_15 c arg2 arg4 f2 f4) (runUp.sl.r_16 c arg2 arg6 f2 f6) (View.readAt (Elt Ideal) arg3.view (Rect.unit (s := S640x128) ![0, 0] S320x128.size inb_S640x128_S320x128_0_0).toLoadRect f3) (View.readAt (Elt Ideal) arg5.view (Rect.unit (s := S1x512) ![0, 384] S1x128.size inb_S1x512_S1x128_0_384).toLoadRect f5) (View.readAt (Elt Ideal) arg7.view (Rect.unit (s := S1x512) ![0, 384] S1x128.size inb_S1x512_S1x128_0_384).toLoadRect f7) (ix3 0 p l) = A.act (R + (0 + (p : ℕ))) (C + (384 + (l : ℕ))) := by
  obtain ⟨h2, h3, h4, h5, h6, h7⟩ := U
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  rfl

/-- The running maximum with it. -/
theorem up_mx_0_384 (v : Vec Ideal S320x128 .f32) : k0_pay50 (k0_pay49 (runUp.sl.r_15 c arg2 arg4 f2 f4) (runUp.sl.r_16 c arg2 arg6 f2 f6) (View.readAt (Elt Ideal) arg3.view (Rect.unit (s := S640x128) ![0, 0] S320x128.size inb_S640x128_S320x128_0_0).toLoadRect f3) (View.readAt (Elt Ideal) arg5.view (Rect.unit (s := S1x512) ![0, 384] S1x128.size inb_S1x512_S1x128_0_384).toLoadRect f5) (View.readAt (Elt Ideal) arg7.view (Rect.unit (s := S1x512) ![0, 384] S1x128.size inb_S1x512_S1x128_0_384).toLoadRect f7) v) = mx A (R + 0) (C + 384) v := by
  obtain ⟨h2, h3, h4, h5, h6, h7⟩ := U
  funext y
  obtain ⟨p, l, rfl⟩ : ∃ (p : Fin 320) (l : Fin 128), y = ix2 p l := ⟨y 0, y 1, eq_ix2 y⟩
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  unfold mx
  simp only [Nat.add_assoc, Nat.zero_add]
  rfl

/-- The tile at row 320, column 256. -/
theorem up_tile_320_256 (p : Fin 320) (l : Fin 128) : k0_pay54 (runUp.sl.r_21 c arg2 arg3 arg4 arg5 arg6 arg7 f2 f3 f4 f5 f6 f7) (ix3 0 p l) = A.act (R + (320 + (p : ℕ))) (C + (256 + (l : ℕ))) := by
  obtain ⟨h2, h3, h4, h5, h6, h7⟩ := U
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  rfl

/-- The running maximum with it. -/
theorem up_mx_320_256 (v : Vec Ideal S320x128 .f32) : k0_pay55 (runUp.sl.r_21 c arg2 arg3 arg4 arg5 arg6 arg7 f2 f3 f4 f5 f6 f7) v = mx A (R + 320) (C + 256) v := by
  obtain ⟨h2, h3, h4, h5, h6, h7⟩ := U
  funext y
  obtain ⟨p, l, rfl⟩ : ∃ (p : Fin 320) (l : Fin 128), y = ix2 p l := ⟨y 0, y 1, eq_ix2 y⟩
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  unfold mx
  simp only [Nat.add_assoc, Nat.zero_add]
  rfl

/-- The tile at row 320, column 384. -/
theorem up_tile_320_384 (p : Fin 320) (l : Fin 128) : k0_pay2 (runUp.sl.r_22 c arg2 arg3 arg4 arg5 arg6 arg7 f2 f3 f4 f5 f6 f7) (ix3 0 p l) = A.act (R + (320 + (p : ℕ))) (C + (384 + (l : ℕ))) := by
  obtain ⟨h2, h3, h4, h5, h6, h7⟩ := U
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  rfl

/-- The running maximum with it. -/
theorem up_mx_320_384 (v : Vec Ideal S320x128 .f32) : k0_pay3 (runUp.sl.r_22 c arg2 arg3 arg4 arg5 arg6 arg7 f2 f3 f4 f5 f6 f7) v = mx A (R + 320) (C + 384) v := by
  obtain ⟨h2, h3, h4, h5, h6, h7⟩ := U
  funext y
  obtain ⟨p, l, rfl⟩ : ∃ (p : Fin 320) (l : Fin 128), y = ix2 p l := ⟨y 0, y 1, eq_ix2 y⟩
  simp only [runUp.sl.r, runUp.sl.r_1, runUp.sl.r_2, runUp.sl.r_3, runUp.sl.r_4, runUp.sl.r_5, runUp.sl.r_6, runUp.sl.r_7, runUp.sl.r_8, runUp.sl.r_9, runUp.sl.r_10, runUp.sl.r_11, runUp.sl.r_12, runUp.sl.r_13, runUp.sl.r_14, runUp.sl.r_15, runUp.sl.r_16, runUp.sl.r_19, runUp.sl.r_20, runUp.sl.r_21, runUp.sl.r_22, View.readAt_eq_ld]
  unfold_payloads
  pointwise
  simp only [h2, h3, h4, h5, h6, h7, Nat.zero_add, show 256 + (128 + (l : ℕ)) = 384 + l by omega]
  unfold mx
  simp only [Nat.add_assoc, Nat.zero_add]
  rfl
end

end Cert.Proof.KernelIdeal

end
-- ==== Proof.VDown.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.Pipeline.ValueKit
public import proofs.«01_k».proof.Proof.VTile

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The scale of row `r`: its largest magnitude over 448, or one. -/
def Args.sc (A : Args) (r : ℕ) : EReal :=
  if A.rowMax r = 0 then 1 else Ideal.div (A.rowMax r) (Ideal.ofBits .f32 0x43E00000#32)

/-- The code of the activation at row `r`, column `j`. -/
def Args.code (A : Args) (r j : ℕ) : EReal :=
  min (Ideal.ofBits .f32 0x43E00000#32) (max (Ideal.ofBits .f32 0xC3E00000#32) (Ideal.div (A.act r j) (A.sc r)))

/-- The down product at row `r`, column `j`. -/
def Args.dn (A : Args) (r j : ℕ) : EReal := (∑ k : Fin 9216, A.code r k * A.wd k j) * A.sc r * A.wds j

/-- The result at row `r`, column `j`: the residual and the normalised down product. -/
def Args.out (A : Args) (r j : ℕ) : EReal :=
  A.h1 r j + Ideal.div (A.dn r j) (Ideal.sqrt (Ideal.div (∑ k : Fin 4608, A.dn r k * A.dn r k) (Ideal.ofBits .f32 0x45900000#32) + Ideal.ofBits .f32 0x358637BD#32)) * (1 + A.g j)

/-- The starting value of a maximum is the least value. -/
theorem negInf_eq : Ideal.ofBits .f32 0xFF800000#32 = ⊥ := by
  simp [Ideal.ofBits, Ideal.ieee]

section
variable (A : Args) (R : ℕ) (v : Vec Ideal S640x128 .f32) (hv : ∀ (r : Fin 640) (l : Fin 128), v (ix2 r l) = A.laneMax (R + r) l 72)
include hv

/-- The scales, one row of 128 equal lanes each. -/
theorem pay5_sc (r : Fin 640) (l : Fin 128) : k0_pay5 v (ix2 r l) = A.sc (R + r) := by
  unfold_payloads
  pointwise
  simp only [hv, negInf_eq, Args.fold_laneMax]
  rfl

/-- The scales as one row. -/
theorem pay6_sc (r : Fin 640) : k0_pay6 v (ix3 0 0 r) = A.sc (R + r) := by
  unfold_payloads
  pointwise
  simp only [hv, negInf_eq, Args.fold_laneMax]
  rfl

end

/-- What a down point reads: the codes and scales of two halves of 320 rows, and its columns of the weight. -/
structure DnReads (A : Args) (R C : ℕ) (cl ch : Vec Ideal S320x9216 .fp8e4m3) (sl sh : Vec Ideal S320x128 .f32) (c : Dev nD) (arg8 : Memref sig .tc .vmem S9216x512 .fp8e4m3) (arg9 : Memref sig .tc .vmem S1x512 .f32) (f8 : HbBuf (F := Ideal) c arg8) (f9 : HbBuf (F := Ideal) c arg9) : Prop where
  cl : ∀ (p : Fin 320) (k : Fin 9216), cl (ix2 p k) = A.code (R + (0 + p)) k
  ch : ∀ (p : Fin 320) (k : Fin 9216), ch (ix2 p k) = A.code (R + (320 + p)) k
  sl : ∀ (p : Fin 320) (l : Fin 128), sl (ix2 p l) = A.sc (R + (0 + p))
  sh : ∀ (p : Fin 320) (l : Fin 128), sh (ix2 p l) = A.sc (R + (320 + p))
  h8 : ∀ (k : Fin 9216) (j : Fin 512), arg8.view.read (Elt Ideal) f8 (ix2 k j) = A.wd k (C + j)
  h9 : ∀ (j : Fin 512), arg9.view.read (Elt Ideal) f9 (ix2 0 j) = A.wds (C + j)

section
variable {A : Args} {R C : ℕ} {cl ch : Vec Ideal S320x9216 .fp8e4m3} {sl sh : Vec Ideal S320x128 .f32} {c : Dev nD} {arg8 : Memref sig .tc .vmem S9216x512 .fp8e4m3} {arg9 : Memref sig .tc .vmem S1x512 .f32} {f8 : HbBuf (F := Ideal) c arg8} {f9 : HbBuf (F := Ideal) c arg9}
  (U : DnReads A R C cl ch sl sh c arg8 arg9 f8 f9)
include U

/-- The tile at row 0, column 0. -/
theorem dn_tile_0_0 (p : Fin 320) (l : Fin 128) : k0_pay58 cl (View.readAt (Elt Ideal) arg8.view (Rect.unit (s := S9216x512) ![0, 0] S9216x256.size inb_S9216x512_S9216x256_0_0).toLoadRect f8) sl (View.readAt (Elt Ideal) arg9.view (Rect.unit (s := S1x512) ![0, 0] S1x128.size inb_S1x512_S1x128_0_0).toLoadRect f9) (ix3 0 p l) = A.dn (R + (0 + (p : ℕ))) (C + (0 + (l : ℕ))) := by
  obtain ⟨hcl, hch, hsl, hsh, h8, h9⟩ := U
  simp only [View.readAt_eq_ld]
  unfold_payloads
  pointwise
  simp only [hcl, hch, hsl, hsh, h8, h9, Nat.zero_add, show 256 + (128 + (l : ℕ)) = 384 + l by omega]
  rfl

/-- The tile at row 0, column 128. -/
theorem dn_tile_0_128 (p : Fin 320) (l : Fin 128) : k0_pay59 cl (View.readAt (Elt Ideal) arg8.view (Rect.unit (s := S9216x512) ![0, 0] S9216x256.size inb_S9216x512_S9216x256_0_0).toLoadRect f8) sl (View.readAt (Elt Ideal) arg9.view (Rect.unit (s := S1x512) ![0, 128] S1x128.size inb_S1x512_S1x128_0_128).toLoadRect f9) (ix3 0 p l) = A.dn (R + (0 + (p : ℕ))) (C + (128 + (l : ℕ))) := by
  obtain ⟨hcl, hch, hsl, hsh, h8, h9⟩ := U
  simp only [View.readAt_eq_ld]
  unfold_payloads
  pointwise
  simp only [hcl, hch, hsl, hsh, h8, h9, Nat.zero_add, show 256 + (128 + (l : ℕ)) = 384 + l by omega]
  rfl

/-- The tile at row 320, column 0. -/
theorem dn_tile_320_0 (p : Fin 320) (l : Fin 128) : k0_pay61 ch (View.readAt (Elt Ideal) arg8.view (Rect.unit (s := S9216x512) ![0, 0] S9216x256.size inb_S9216x512_S9216x256_0_0).toLoadRect f8) sh (View.readAt (Elt Ideal) arg9.view (Rect.unit (s := S1x512) ![0, 0] S1x128.size inb_S1x512_S1x128_0_0).toLoadRect f9) (ix3 0 p l) = A.dn (R + (320 + (p : ℕ))) (C + (0 + (l : ℕ))) := by
  obtain ⟨hcl, hch, hsl, hsh, h8, h9⟩ := U
  simp only [View.readAt_eq_ld]
  unfold_payloads
  pointwise
  simp only [hcl, hch, hsl, hsh, h8, h9, Nat.zero_add, show 256 + (128 + (l : ℕ)) = 384 + l by omega]
  rfl

/-- The tile at row 320, column 128. -/
theorem dn_tile_320_128 (p : Fin 320) (l : Fin 128) : k0_pay62 ch (View.readAt (Elt Ideal) arg8.view (Rect.unit (s := S9216x512) ![0, 0] S9216x256.size inb_S9216x512_S9216x256_0_0).toLoadRect f8) sh (View.readAt (Elt Ideal) arg9.view (Rect.unit (s := S1x512) ![0, 128] S1x128.size inb_S1x512_S1x128_0_128).toLoadRect f9) (ix3 0 p l) = A.dn (R + (320 + (p : ℕ))) (C + (128 + (l : ℕ))) := by
  obtain ⟨hcl, hch, hsl, hsh, h8, h9⟩ := U
  simp only [View.readAt_eq_ld]
  unfold_payloads
  pointwise
  simp only [hcl, hch, hsl, hsh, h8, h9, Nat.zero_add, show 256 + (128 + (l : ℕ)) = 384 + l by omega]
  rfl

/-- The tile at row 0, column 256. -/
theorem dn_tile_0_256 (p : Fin 320) (l : Fin 128) : k0_pay65 (k0_pay64 cl (View.readAt (Elt Ideal) arg8.view (Rect.unit (s := S9216x512) ![0, 256] S9216x256.size inb_S9216x512_S9216x256_0_256).toLoadRect f8) sl) (View.readAt (Elt Ideal) arg9.view (Rect.unit (s := S1x512) ![0, 256] S1x128.size inb_S1x512_S1x128_0_256).toLoadRect f9) (ix3 0 p l) = A.dn (R + (0 + (p : ℕ))) (C + (256 + (l : ℕ))) := by
  obtain ⟨hcl, hch, hsl, hsh, h8, h9⟩ := U
  simp only [View.readAt_eq_ld]
  unfold_payloads
  pointwise
  simp only [hcl, hch, hsl, hsh, h8, h9, Nat.zero_add, show 256 + (128 + (l : ℕ)) = 384 + l by omega]
  rfl

/-- The tile at row 0, column 384. -/
theorem dn_tile_0_384 (p : Fin 320) (l : Fin 128) : k0_pay66 (k0_pay63 cl (View.readAt (Elt Ideal) arg8.view (Rect.unit (s := S9216x512) ![0, 256] S9216x256.size inb_S9216x512_S9216x256_0_256).toLoadRect f8)) sl (View.readAt (Elt Ideal) arg9.view (Rect.unit (s := S1x512) ![0, 384] S1x128.size inb_S1x512_S1x128_0_384).toLoadRect f9) (ix3 0 p l) = A.dn (R + (0 + (p : ℕ))) (C + (384 + (l : ℕ))) := by
  obtain ⟨hcl, hch, hsl, hsh, h8, h9⟩ := U
  simp only [View.readAt_eq_ld]
  unfold_payloads
  pointwise
  simp only [hcl, hch, hsl, hsh, h8, h9, Nat.zero_add, show 256 + (128 + (l : ℕ)) = 384 + l by omega]
  rfl

/-- The tile at row 320, column 256. -/
theorem dn_tile_320_256 (p : Fin 320) (l : Fin 128) : k0_pay10 (k0_pay68 ch (View.readAt (Elt Ideal) arg8.view (Rect.unit (s := S9216x512) ![0, 256] S9216x256.size inb_S9216x512_S9216x256_0_256).toLoadRect f8) sh (View.readAt (Elt Ideal) arg9.view (Rect.unit (s := S1x512) ![0, 256] S1x128.size inb_S1x512_S1x128_0_256).toLoadRect f9)) (ix3 0 p l) = A.dn (R + (320 + (p : ℕ))) (C + (256 + (l : ℕ))) := by
  obtain ⟨hcl, hch, hsl, hsh, h8, h9⟩ := U
  simp only [View.readAt_eq_ld]
  unfold_payloads
  pointwise
  simp only [hcl, hch, hsl, hsh, h8, h9, Nat.zero_add, show 256 + (128 + (l : ℕ)) = 384 + l by omega]
  rfl

/-- The tile at row 320, column 384. -/
theorem dn_tile_320_384 (p : Fin 320) (l : Fin 128) : k0_pay11 (k0_pay67 ch (View.readAt (Elt Ideal) arg8.view (Rect.unit (s := S9216x512) ![0, 256] S9216x256.size inb_S9216x512_S9216x256_0_256).toLoadRect f8)) sh (View.readAt (Elt Ideal) arg9.view (Rect.unit (s := S1x512) ![0, 384] S1x128.size inb_S1x512_S1x128_0_384).toLoadRect f9) (ix3 0 p l) = A.dn (R + (320 + (p : ℕ))) (C + (384 + (l : ℕ))) := by
  obtain ⟨hcl, hch, hsl, hsh, h8, h9⟩ := U
  simp only [View.readAt_eq_ld]
  unfold_payloads
  pointwise
  simp only [hcl, hch, hsl, hsh, h8, h9, Nat.zero_add, show 256 + (128 + (l : ℕ)) = 384 + l by omega]
  rfl

end

end Cert.Proof.KernelIdeal

end
-- ==== Proof.VPieces.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.Pipeline.ValueKit
public import proofs.«01_k».proof.Proof.VMath

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The activations of a block of rows, by half of the columns, row and column of the half. -/
def actG (A : Args) (R : ℕ) (y : S2x640x4608.Idx) : EReal := A.act (R + (y 1).val) (4608 * (y 0).val + (y 2).val)

/-- One tile of 320 rows by 128 columns, written at its place, holds the activations of that place. -/
theorem piece15 (A : Args) (R : ℕ) (n h o : ℕ) (off : Fin 3 → ℕ) (inb : ∀ a, off a + (![1, 320, 128] : Fin 3 → ℕ) a ≤ S2x640x4608.size a) (heq : off = ![n / 9, h, 512 * (n % 9) + o])
    (w : FVec Ideal S1x320x128 .f32) (hw : ∀ (p : Fin 320) (l : Fin 128), w (ix3 0 p l) = A.act (R + (h + p)) (512 * n + (o + l))) :
    ∀ x : (Rect.unit (s := S2x640x4608) off ![1, 320, 128] inb).shape.Idx, w x = actG A R ((Rect.unit (s := S2x640x4608) off ![1, 320, 128] inb).emb x) := by
  intro x
  obtain ⟨u, p, l, rfl⟩ : ∃ (u : Fin 1) (p : Fin 320) (l : Fin 128), x = ix3 u p l := ⟨x 0, x 1, x 2, eq_ix3 x⟩
  obtain rfl : u = 0 := Subsingleton.elim _ _
  subst heq
  rw [hw]
  unfold actG
  simp only [ValueKit.rect_emb_unit_val]
  congr 1
  show 512 * n + (o + (l : ℕ)) = 4608 * (n / 9 + 0) + (512 * (n % 9) + o + (l : ℕ)); omega

section
variable (i : grid0.Coords) (A : Args) (R : ℕ)
variable (w0 w1 w2 w3 w4 w5 w6 w7 : FVec Ideal S1x320x128 .f32)
  (b0 : ∀ a, k0_off2 i 384#32 a + (![1, 320, 128] : Fin 3 → ℕ) a ≤ S2x640x4608.size a) (hw0 : ∀ (p : Fin 320) (l : Fin 128), w0 (ix3 0 p l) = A.act (R + (320 + (p : ℕ))) (512 * (i 1).val + (384 + (l : ℕ))))
  (b1 : ∀ a, k0_off2 i 256#32 a + (![1, 320, 128] : Fin 3 → ℕ) a ≤ S2x640x4608.size a) (hw1 : ∀ (p : Fin 320) (l : Fin 128), w1 (ix3 0 p l) = A.act (R + (320 + (p : ℕ))) (512 * (i 1).val + (256 + (l : ℕ))))
  (b2 : ∀ a, k0_off1 i 384#32 a + (![1, 320, 128] : Fin 3 → ℕ) a ≤ S2x640x4608.size a) (hw2 : ∀ (p : Fin 320) (l : Fin 128), w2 (ix3 0 p l) = A.act (R + (0 + (p : ℕ))) (512 * (i 1).val + (384 + (l : ℕ))))
  (b3 : ∀ a, k0_off1 i 256#32 a + (![1, 320, 128] : Fin 3 → ℕ) a ≤ S2x640x4608.size a) (hw3 : ∀ (p : Fin 320) (l : Fin 128), w3 (ix3 0 p l) = A.act (R + (0 + (p : ℕ))) (512 * (i 1).val + (256 + (l : ℕ))))
  (b4 : ∀ a, k0_off2 i 128#32 a + (![1, 320, 128] : Fin 3 → ℕ) a ≤ S2x640x4608.size a) (hw4 : ∀ (p : Fin 320) (l : Fin 128), w4 (ix3 0 p l) = A.act (R + (320 + (p : ℕ))) (512 * (i 1).val + (128 + (l : ℕ))))
  (b5 : ∀ a, k0_off2 i 0#32 a + (![1, 320, 128] : Fin 3 → ℕ) a ≤ S2x640x4608.size a) (hw5 : ∀ (p : Fin 320) (l : Fin 128), w5 (ix3 0 p l) = A.act (R + (320 + (p : ℕ))) (512 * (i 1).val + (0 + (l : ℕ))))
  (b6 : ∀ a, k0_off1 i 128#32 a + (![1, 320, 128] : Fin 3 → ℕ) a ≤ S2x640x4608.size a) (hw6 : ∀ (p : Fin 320) (l : Fin 128), w6 (ix3 0 p l) = A.act (R + (0 + (p : ℕ))) (512 * (i 1).val + (128 + (l : ℕ))))
  (b7 : ∀ a, k0_off1 i 0#32 a + (![1, 320, 128] : Fin 3 → ℕ) a ≤ S2x640x4608.size a) (hw7 : ∀ (p : Fin 320) (l : Fin 128), w7 (ix3 0 p l) = A.act (R + (0 + (p : ℕ))) (512 * (i 1).val + (0 + (l : ℕ))))
include hw0 hw1 hw2 hw3 hw4 hw5 hw6 hw7

/-- The eight tiles of an up point leave the activations of its 512 columns, and what was there elsewhere. -/
theorem pieces15 {c : Dev nD} (f15 : HbBuf (F := Ideal) c scM15) (y : S2x640x4608.Idx)
    (hy : 4608 * (y 0).val + (y 2).val < 512 * ((i 1).val + 1))
    (hold : 4608 * (y 0).val + (y 2).val < 512 * (i 1).val → scM15.view.read (Elt Ideal) f15 y = actG A R y) :
    scM15.view.read (Elt Ideal) (scM15.view.writes (Elt Ideal) f15 [(⟨Rect.unit (s := S2x640x4608) (k0_off2 i 384#32) ![1, 320, 128] b0, w0⟩ : View.Piece (Elt Ideal) S2x640x4608 .f32), (⟨Rect.unit (s := S2x640x4608) (k0_off2 i 256#32) ![1, 320, 128] b1, w1⟩ : View.Piece (Elt Ideal) S2x640x4608 .f32), (⟨Rect.unit (s := S2x640x4608) (k0_off1 i 384#32) ![1, 320, 128] b2, w2⟩ : View.Piece (Elt Ideal) S2x640x4608 .f32), (⟨Rect.unit (s := S2x640x4608) (k0_off1 i 256#32) ![1, 320, 128] b3, w3⟩ : View.Piece (Elt Ideal) S2x640x4608 .f32), (⟨Rect.unit (s := S2x640x4608) (k0_off2 i 128#32) ![1, 320, 128] b4, w4⟩ : View.Piece (Elt Ideal) S2x640x4608 .f32), (⟨Rect.unit (s := S2x640x4608) (k0_off2 i 0#32) ![1, 320, 128] b5, w5⟩ : View.Piece (Elt Ideal) S2x640x4608 .f32), (⟨Rect.unit (s := S2x640x4608) (k0_off1 i 128#32) ![1, 320, 128] b6, w6⟩ : View.Piece (Elt Ideal) S2x640x4608 .f32), (⟨Rect.unit (s := S2x640x4608) (k0_off1 i 0#32) ![1, 320, 128] b7, w7⟩ : View.Piece (Elt Ideal) S2x640x4608 .f32)]) y = actG A R y := by
  have hi : (i 1).val < 27 := (i 1).isLt
  have y0 : (y 0).val < 2 := (y 0).isLt
  have y1 : (y 1).val < 640 := (y 1).isLt
  have y2 : (y 2).val < 4608 := (y 2).isLt
  have e0 : k0_off2 i 384#32 = ![(i 1).val / 9, 320, 512 * ((i 1).val % 9) + 384] := off2_eq i 3
  have e1 : k0_off2 i 256#32 = ![(i 1).val / 9, 320, 512 * ((i 1).val % 9) + 256] := off2_eq i 2
  have e2 : k0_off1 i 384#32 = ![(i 1).val / 9, 0, 512 * ((i 1).val % 9) + 384] := off1_eq i 3
  have e3 : k0_off1 i 256#32 = ![(i 1).val / 9, 0, 512 * ((i 1).val % 9) + 256] := off1_eq i 2
  have e4 : k0_off2 i 128#32 = ![(i 1).val / 9, 320, 512 * ((i 1).val % 9) + 128] := off2_eq i 1
  have e5 : k0_off2 i 0#32 = ![(i 1).val / 9, 320, 512 * ((i 1).val % 9) + 0] := off2_eq i 0
  have e6 : k0_off1 i 128#32 = ![(i 1).val / 9, 0, 512 * ((i 1).val % 9) + 128] := off1_eq i 1
  have e7 : k0_off1 i 0#32 = ![(i 1).val / 9, 0, 512 * ((i 1).val % 9) + 0] := off1_eq i 0
  by_cases hc : 512 * (i 1).val ≤ 4608 * (y 0).val + (y 2).val
  · refine View.read_writes_apply_of_pieces (Val := Elt Ideal) (e := .f32) _ _ (actG A R) _ ?_ y ?_
    · intro p hp
      simp only [List.mem_cons, List.not_mem_nil, _root_.or_false] at hp
      rcases hp with rfl | rfl | rfl | rfl | rfl | rfl | rfl | rfl
      · exact piece15 A R _ 320 384 _ b0 e0 w0 hw0
      · exact piece15 A R _ 320 256 _ b1 e1 w1 hw1
      · exact piece15 A R _ 0 384 _ b2 e2 w2 hw2
      · exact piece15 A R _ 0 256 _ b3 e3 w3 hw3
      · exact piece15 A R _ 320 128 _ b4 e4 w4 hw4
      · exact piece15 A R _ 320 0 _ b5 e5 w5 hw5
      · exact piece15 A R _ 0 128 _ b6 e6 w6 hw6
      · exact piece15 A R _ 0 0 _ b7 e7 w7 hw7
    · simp only [List.mem_cons, List.not_mem_nil, _root_.or_false, exists_eq_or_imp, exists_eq_left, Rect.mem_set_unit, Fin.forall_fin_succ, e0, e1, e2, e3, e4, e5, e6, e7]
      simp [S2x640x4608]
      omega
  · refine (View.read_writes_apply_of_forall_not_mem _ _ y _ ?_).trans (hold (by omega))
    intro p hp
    simp only [List.mem_cons, List.not_mem_nil, _root_.or_false] at hp
    rcases hp with rfl | rfl | rfl | rfl | rfl | rfl | rfl | rfl <;> simp only [Rect.mem_set_unit, e0, e1, e2, e3, e4, e5, e6, e7] <;> intro hm
    all_goals
      have h0 := hm 0
      have h2 := hm 2
      simp at h0 h2
      omega

end

end Cert.Proof.KernelIdeal

end
-- ==== Proof.VQuant.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.Pipeline.ValueKit
public import proofs.«01_k».proof.Proof.VDown
public import proofs.«01_k».proof.Proof.VPieces

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The codes of a block of rows, by row and column. -/
def codeG (A : Args) (R : ℕ) (y : S640x9216.Idx) : EReal := A.code (R + (y 0).val) (y 1).val

section
variable (A : Args) (R k h : ℕ) (w : Vec Ideal S32x128 .f32) (v : Vec Ideal S1x32x4608 .f32)
  (hw : ∀ r : Fin 32, w (ix2 r 0) = A.sc (R + (32 * k + r))) (hv : ∀ (r : Fin 32) (l : Fin 4608), v (ix3 0 r l) = A.act (R + (32 * k + r)) (4608 * h + l))
include hw hv

/-- 32 rows of the first half, coded. -/
theorem pay8_code (r : Fin 32) (l : Fin 4608) : k0_pay8 w v (ix2 r l) = A.code (R + (32 * k + r)) (4608 * h + l) := by
  unfold_payloads
  pointwise
  simp only [hw, hv]
  rfl

/-- 32 rows of the second half, coded. -/
theorem pay9_code (r : Fin 32) (l : Fin 4608) : k0_pay9 w v (ix2 r l) = A.code (R + (32 * k + r)) (4608 * h + l) := by
  unfold_payloads
  pointwise
  simp only [hw, hv]
  rfl

end

/-- A tile of 32 rows by half of the columns, written at its place, holds the codes of that place. -/
theorem pieceCode (A : Args) (R k h : ℕ) (off : Fin 2 → ℕ) (inb : ∀ a, off a + (![32, 4608] : Fin 2 → ℕ) a ≤ S640x9216.size a) (heq : off = ![32 * k, 4608 * h])
    (w : FVec Ideal S32x4608 .fp8e4m3) (hw : ∀ (r : Fin 32) (l : Fin 4608), w (ix2 r l) = A.code (R + (32 * k + r)) (4608 * h + l)) :
    ∀ x : (Rect.unit (s := S640x9216) off ![32, 4608] inb).shape.Idx, w x = codeG A R ((Rect.unit (s := S640x9216) off ![32, 4608] inb).emb x) := by
  intro x
  obtain ⟨r, l, rfl⟩ : ∃ (r : Fin 32) (l : Fin 4608), x = ix2 r l := ⟨x 0, x 1, eq_ix2 x⟩
  subst heq
  rw [hw]
  unfold codeG
  simp only [ValueKit.rect_emb_unit_val]
  rfl

/-- The 32 scales of a trip. -/
theorem quantScale (A : Args) (R k : ℕ) (hk : k < 20) {c : Dev nD} (arg17 : Memref sig .tc .vmem S640x128 .f32) (X : HbBuf (F := Ideal) c arg17) (hX : ∀ (r : Fin 640) (l : Fin 128), arg17.view.read (Elt Ideal) X (ix2 r l) = A.sc (R + r))
    (off : Fin 2 → ℕ) (inb : ∀ a, off a + (![32, 128] : Fin 2 → ℕ) a ≤ S640x128.size a) (heq : off = ![32 * k, 0]) (r : Fin 32) :
    View.readAt (Elt Ideal) arg17.view (Rect.unit (s := S640x128) off ![32, 128] inb).toLoadRect X (ix2 r 0) = A.sc (R + (32 * k + r)) := by
  subst heq
  rw [View.readAt_eq_ld, ← hX ⟨32 * k + r, by omega⟩ 0]
  exact View.ld_unit_apply_of _ _ _ _ _ _ (fun a => by fin_cases a; exacts [rfl, rfl])

/-- The 32 rows of activations of a trip. -/
theorem quantAct (A : Args) (R k : ℕ) (h : Fin 2) (hk : k < 20) {c : Dev nD} (arg15 : Memref sig .tc .vmem S2x640x4608 .f32) (X : HbBuf (F := Ideal) c arg15) (hX : ∀ y : S2x640x4608.Idx, arg15.view.read (Elt Ideal) X y = actG A R y)
    (off : Fin 3 → ℕ) (inb : ∀ a, off a + (![1, 32, 4608] : Fin 3 → ℕ) a ≤ S2x640x4608.size a) (heq : off = ![h.val, 32 * k, 0]) (r : Fin 32) (l : Fin 4608) :
    View.readAt (Elt Ideal) arg15.view (Rect.unit (s := S2x640x4608) off ![1, 32, 4608] inb).toLoadRect X (ix3 0 r l) = A.act (R + (32 * k + r)) (4608 * h + l) := by
  subst heq
  rw [View.readAt_eq_ld]
  refine Eq.trans ?_ (hX (ix3 h ⟨32 * k + r, by omega⟩ l))
  exact View.ld_unit_apply_of _ _ _ _ _ _ (fun a => by fin_cases a; exacts [rfl, rfl, (Nat.zero_add _).symm])

section
variable (𝒱 : Variants) (c : Dev nD) (bd : Option 𝒱.V) (i : grid0.Coords) (arg2 : Memref sig .tc .vmem S640x4608 .fp8e4m3) (harg2 : arg2.IsWhole) (arg3 : Memref sig .tc .vmem S640x128 .f32) (harg3 : arg3.IsWhole) (arg4 : Memref sig .tc .vmem S4608x512 .fp8e4m3) (harg4 : arg4.IsWhole) (arg5 : Memref sig .tc .vmem S1x512 .f32) (harg5 : arg5.IsWhole) (arg6 : Memref sig .tc .vmem S4608x512 .fp8e4m3) (harg6 : arg6.IsWhole) (arg7 : Memref sig .tc .vmem S1x512 .f32) (harg7 : arg7.IsWhole) (arg8 : Memref sig .tc .vmem S9216x512 .fp8e4m3) (harg8 : arg8.IsWhole) (arg9 : Memref sig .tc .vmem S1x512 .f32) (harg9 : arg9.IsWhole) (arg10 : Memref sig .tc .vmem S1x4608 .f32) (harg10 : arg10.IsWhole) (arg11 : Memref sig .tc .hbm S1920x4608 .f32) (harg11 : arg11.IsWhole) (arg12 : Memref sig .tc .hbm S1920x4608 .bf16) (harg12 : arg12.IsWhole) (arg13 : Memref sig .tc .hbm S1920x9216 .fp8e4m3) (harg13 : arg13.IsWhole) (arg14 : Memref sig .tc .vmem S1x1x640 .f32) (harg14 : arg14.IsWhole) (arg15 : Memref sig .tc .vmem S2x640x4608 .f32) (harg15 : arg15.IsWhole) (arg16 : Memref sig .tc .vmem S640x9216 .fp8e4m3) (harg16 : arg16.IsWhole) (arg17 : Memref sig .tc .vmem S640x128 .f32) (harg17 : arg17.IsWhole) (arg18 : Memref sig .tc .vmem S2x32x4608 .bf16) (harg18 : arg18.IsWhole) (arg19 : DmaSems sig S_) (arg20 : DmaSems sig S_) (arg21 : DmaSems sig S2) (k0_h3 : k0_cond3 i = 1#1) (X_arg15 : BufTy.Contents (Elt Ideal) arg15.view.ty) (X_arg17 : BufTy.Contents (Elt Ideal) arg17.view.ty)
  (A : Args) (R : ℕ) (h15 : ∀ y : S2x640x4608.Idx, arg15.view.read (Elt Ideal) X_arg15 y = actG A R y) (h17 : ∀ (r : Fin 640) (l : Fin 128), arg17.view.read (Elt Ideal) X_arg17 (ix2 r l) = A.sc (R + r))
include h15 h17

/-- What the trips before `k` write: codes, and all of those of the rows below `32 * k`. -/
theorem quant_pieces (k : ℕ) (hk : k ≤ 20) :
    (∀ p ∈ pb_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k, ∀ x, p.2 x = codeG A R (p.1.emb x))
      ∧ ∀ y : S640x9216.Idx, (y 0).val < 32 * k → ∃ p ∈ pb_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 k, y ∈ p.1.set := by
  induction k with
  | zero => exact ⟨fun p hp => absurd hp List.not_mem_nil, fun y hy => absurd hy (by omega)⟩
  | succ k ih =>
    obtain ⟨ih1, ih2⟩ := ih (by omega)
    have hk' : k < 20 := by omega
    have e := pb_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 ⟨k, trips1 ▸ hk'⟩
    rw [e]
    unfold tripL_t1 trip_t1
    dsimp only
    refine ⟨fun p hp => ?_, fun y hy => ?_⟩
    · rcases List.mem_append.mp hp with hp | hp
      · simp only [List.mem_cons, List.not_mem_nil, _root_.or_false] at hp
        rcases hp with rfl | rfl
        · refine pieceCode A R k 1 _ (k0_off7_inb i ⟨k, trips1 ▸ hk'⟩ k0_h3) ?_ _ ?_
          · exact k0_off7_eq _
          · refine pay9_code A R k 1 _ _ ?_ ?_
            · exact quantScale A R k hk' (c := c) arg17 X_arg17 h17 _ _ (k0_off3_eq _)
            · exact quantAct A R k 1 hk' (c := c) arg15 X_arg15 h15 _ _ (k0_off6_eq _)
        · refine pieceCode A R k 0 _ (k0_off5_inb i ⟨k, trips1 ▸ hk'⟩ k0_h3) ?_ _ ?_
          · exact k0_off5_eq _
          · refine pay8_code A R k 0 _ _ ?_ ?_
            · exact quantScale A R k hk' (c := c) arg17 X_arg17 h17 _ _ (k0_off3_eq _)
            · exact quantAct A R k 0 hk' (c := c) arg15 X_arg15 h15 _ _ (k0_off4_eq _)
      · exact ih1 p hp
    · by_cases hy' : (y 0).val < 32 * k
      · obtain ⟨p, hp, hm⟩ := ih2 y hy'
        exact ⟨p, List.mem_append.mpr (.inr hp), hm⟩
      · have y1 : (y 1).val < 9216 := (y 1).isLt
        have e7 := k0_off7_eq ⟨k, trips1 ▸ hk'⟩
        have e5 := k0_off5_eq ⟨k, trips1 ▸ hk'⟩
        by_cases hc : 4608 ≤ (y 1).val
        · refine ⟨_, List.mem_append.mpr (.inl (List.mem_cons_self)), ?_⟩
          simp only [Rect.mem_set_unit, Fin.forall_fin_succ, e7]
          simp [S640x9216]
          omega
        · refine ⟨_, List.mem_append.mpr (.inl (List.mem_cons_of_mem _ (List.mem_cons_self))), ?_⟩
          simp only [Rect.mem_set_unit, Fin.forall_fin_succ, e5]
          simp [S640x9216]
          omega

/-- After the loop the buffer of codes holds the codes of the block of rows. -/
theorem quant_codes (f16 : HbBuf (F := Ideal) c arg16) (n : ℕ) (hn : n = 20) (y : S640x9216.Idx) :
    arg16.view.read (Elt Ideal) (arg16.view.writes (Elt Ideal) f16 (pb_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 n)) y = codeG A R y := by
  subst hn
  obtain ⟨p1, p2⟩ := quant_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 X_arg15 X_arg17 A R h15 h17 20 le_rfl
  refine View.read_writes_apply_of_pieces (Val := Elt Ideal) (e := .fp8e4m3) _ _ (codeG A R) _ p1 y (p2 y ?_)
  have : (y 0).val < 640 := (y 0).isLt
  omega

end

end Cert.Proof.KernelIdeal

end
-- ==== Proof.VDnPieces.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.Pipeline.ValueKit
public import proofs.«01_k».proof.Proof.VDown

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The down products of a block of rows, by row and column, in the first half of the buffer. -/
def dnG (A : Args) (R : ℕ) (y : S2x640x4608.Idx) : EReal := A.dn (R + (y 1).val) (y 2).val

/-- One tile of 320 rows by 128 columns, written at its place, holds the down products of that place. -/
theorem pieceDn (A : Args) (R : ℕ) (n h o : ℕ) (off : Fin 3 → ℕ) (inb : ∀ a, off a + (![1, 320, 128] : Fin 3 → ℕ) a ≤ S2x640x4608.size a) (heq : off = ![0, h, 512 * n + o])
    (w : FVec Ideal S1x320x128 .f32) (hw : ∀ (p : Fin 320) (l : Fin 128), w (ix3 0 p l) = A.dn (R + (h + p)) (512 * n + (o + l))) :
    ∀ x : (Rect.unit (s := S2x640x4608) off ![1, 320, 128] inb).shape.Idx, w x = dnG A R ((Rect.unit (s := S2x640x4608) off ![1, 320, 128] inb).emb x) := by
  intro x
  obtain ⟨u, p, l, rfl⟩ : ∃ (u : Fin 1) (p : Fin 320) (l : Fin 128), x = ix3 u p l := ⟨x 0, x 1, x 2, eq_ix3 x⟩
  obtain rfl : u = 0 := Subsingleton.elim _ _
  subst heq
  rw [hw]
  unfold dnG
  simp only [ValueKit.rect_emb_unit_val]
  congr 1
  show 512 * n + (o + (l : ℕ)) = 512 * n + o + (l : ℕ); omega

section
variable (i : grid0.Coords) (h18 : 18 ≤ (i 1).val) (A : Args) (R : ℕ)
variable (w0 w1 w2 w3 w4 w5 w6 w7 : FVec Ideal S1x320x128 .f32)
  (b0 : ∀ a, k0_off11 i 384#32 a + (![1, 320, 128] : Fin 3 → ℕ) a ≤ S2x640x4608.size a) (hw0 : ∀ (p : Fin 320) (l : Fin 128), w0 (ix3 0 p l) = A.dn (R + (320 + (p : ℕ))) (512 * ((i 1).val - 18) + (384 + (l : ℕ))))
  (b1 : ∀ a, k0_off11 i 256#32 a + (![1, 320, 128] : Fin 3 → ℕ) a ≤ S2x640x4608.size a) (hw1 : ∀ (p : Fin 320) (l : Fin 128), w1 (ix3 0 p l) = A.dn (R + (320 + (p : ℕ))) (512 * ((i 1).val - 18) + (256 + (l : ℕ))))
  (b2 : ∀ a, k0_off10 i 384#32 a + (![1, 320, 128] : Fin 3 → ℕ) a ≤ S2x640x4608.size a) (hw2 : ∀ (p : Fin 320) (l : Fin 128), w2 (ix3 0 p l) = A.dn (R + (0 + (p : ℕ))) (512 * ((i 1).val - 18) + (384 + (l : ℕ))))
  (b3 : ∀ a, k0_off10 i 256#32 a + (![1, 320, 128] : Fin 3 → ℕ) a ≤ S2x640x4608.size a) (hw3 : ∀ (p : Fin 320) (l : Fin 128), w3 (ix3 0 p l) = A.dn (R + (0 + (p : ℕ))) (512 * ((i 1).val - 18) + (256 + (l : ℕ))))
  (b4 : ∀ a, k0_off11 i 128#32 a + (![1, 320, 128] : Fin 3 → ℕ) a ≤ S2x640x4608.size a) (hw4 : ∀ (p : Fin 320) (l : Fin 128), w4 (ix3 0 p l) = A.dn (R + (320 + (p : ℕ))) (512 * ((i 1).val - 18) + (128 + (l : ℕ))))
  (b5 : ∀ a, k0_off11 i 0#32 a + (![1, 320, 128] : Fin 3 → ℕ) a ≤ S2x640x4608.size a) (hw5 : ∀ (p : Fin 320) (l : Fin 128), w5 (ix3 0 p l) = A.dn (R + (320 + (p : ℕ))) (512 * ((i 1).val - 18) + (0 + (l : ℕ))))
  (b6 : ∀ a, k0_off10 i 128#32 a + (![1, 320, 128] : Fin 3 → ℕ) a ≤ S2x640x4608.size a) (hw6 : ∀ (p : Fin 320) (l : Fin 128), w6 (ix3 0 p l) = A.dn (R + (0 + (p : ℕ))) (512 * ((i 1).val - 18) + (128 + (l : ℕ))))
  (b7 : ∀ a, k0_off10 i 0#32 a + (![1, 320, 128] : Fin 3 → ℕ) a ≤ S2x640x4608.size a) (hw7 : ∀ (p : Fin 320) (l : Fin 128), w7 (ix3 0 p l) = A.dn (R + (0 + (p : ℕ))) (512 * ((i 1).val - 18) + (0 + (l : ℕ))))
include h18 hw0 hw1 hw2 hw3 hw4 hw5 hw6 hw7

/-- The eight tiles of a down point leave the down products of its 512 columns, and what was there elsewhere. -/
theorem piecesDn {c : Dev nD} (f15 : HbBuf (F := Ideal) c scM15) (y : S2x640x4608.Idx)
    (hy0 : (y 0).val = 0) (hy : (y 2).val < 512 * ((i 1).val - 18 + 1))
    (hold : (y 2).val < 512 * ((i 1).val - 18) → scM15.view.read (Elt Ideal) f15 y = dnG A R y) :
    scM15.view.read (Elt Ideal) (scM15.view.writes (Elt Ideal) f15 [(⟨Rect.unit (s := S2x640x4608) (k0_off11 i 384#32) ![1, 320, 128] b0, w0⟩ : View.Piece (Elt Ideal) S2x640x4608 .f32), (⟨Rect.unit (s := S2x640x4608) (k0_off11 i 256#32) ![1, 320, 128] b1, w1⟩ : View.Piece (Elt Ideal) S2x640x4608 .f32), (⟨Rect.unit (s := S2x640x4608) (k0_off10 i 384#32) ![1, 320, 128] b2, w2⟩ : View.Piece (Elt Ideal) S2x640x4608 .f32), (⟨Rect.unit (s := S2x640x4608) (k0_off10 i 256#32) ![1, 320, 128] b3, w3⟩ : View.Piece (Elt Ideal) S2x640x4608 .f32), (⟨Rect.unit (s := S2x640x4608) (k0_off11 i 128#32) ![1, 320, 128] b4, w4⟩ : View.Piece (Elt Ideal) S2x640x4608 .f32), (⟨Rect.unit (s := S2x640x4608) (k0_off11 i 0#32) ![1, 320, 128] b5, w5⟩ : View.Piece (Elt Ideal) S2x640x4608 .f32), (⟨Rect.unit (s := S2x640x4608) (k0_off10 i 128#32) ![1, 320, 128] b6, w6⟩ : View.Piece (Elt Ideal) S2x640x4608 .f32), (⟨Rect.unit (s := S2x640x4608) (k0_off10 i 0#32) ![1, 320, 128] b7, w7⟩ : View.Piece (Elt Ideal) S2x640x4608 .f32)]) y = dnG A R y := by
  have hi : (i 1).val < 27 := (i 1).isLt
  have y1 : (y 1).val < 640 := (y 1).isLt
  have y2 : (y 2).val < 4608 := (y 2).isLt
  have e0 : k0_off11 i 384#32 = ![0, 320, 512 * ((i 1).val - 18) + 384] := off11_eq i h18 3
  have e1 : k0_off11 i 256#32 = ![0, 320, 512 * ((i 1).val - 18) + 256] := off11_eq i h18 2
  have e2 : k0_off10 i 384#32 = ![0, 0, 512 * ((i 1).val - 18) + 384] := off10_eq i h18 3
  have e3 : k0_off10 i 256#32 = ![0, 0, 512 * ((i 1).val - 18) + 256] := off10_eq i h18 2
  have e4 : k0_off11 i 128#32 = ![0, 320, 512 * ((i 1).val - 18) + 128] := off11_eq i h18 1
  have e5 : k0_off11 i 0#32 = ![0, 320, 512 * ((i 1).val - 18) + 0] := off11_eq i h18 0
  have e6 : k0_off10 i 128#32 = ![0, 0, 512 * ((i 1).val - 18) + 128] := off10_eq i h18 1
  have e7 : k0_off10 i 0#32 = ![0, 0, 512 * ((i 1).val - 18) + 0] := off10_eq i h18 0
  by_cases hc : 512 * ((i 1).val - 18) ≤ (y 2).val
  · refine View.read_writes_apply_of_pieces (Val := Elt Ideal) (e := .f32) _ _ (dnG A R) _ ?_ y ?_
    · intro p hp
      simp only [List.mem_cons, List.not_mem_nil, _root_.or_false] at hp
      rcases hp with rfl | rfl | rfl | rfl | rfl | rfl | rfl | rfl
      · exact pieceDn A R _ 320 384 _ b0 e0 w0 hw0
      · exact pieceDn A R _ 320 256 _ b1 e1 w1 hw1
      · exact pieceDn A R _ 0 384 _ b2 e2 w2 hw2
      · exact pieceDn A R _ 0 256 _ b3 e3 w3 hw3
      · exact pieceDn A R _ 320 128 _ b4 e4 w4 hw4
      · exact pieceDn A R _ 320 0 _ b5 e5 w5 hw5
      · exact pieceDn A R _ 0 128 _ b6 e6 w6 hw6
      · exact pieceDn A R _ 0 0 _ b7 e7 w7 hw7
    · simp only [List.mem_cons, List.not_mem_nil, _root_.or_false, exists_eq_or_imp, exists_eq_left, Rect.mem_set_unit, Fin.forall_fin_succ, e0, e1, e2, e3, e4, e5, e6, e7]
      simp [S2x640x4608]
      omega
  · refine (View.read_writes_apply_of_forall_not_mem _ _ y _ ?_).trans (hold (by omega))
    intro p hp
    simp only [List.mem_cons, List.not_mem_nil, _root_.or_false] at hp
    rcases hp with rfl | rfl | rfl | rfl | rfl | rfl | rfl | rfl <;> simp only [Rect.mem_set_unit, e0, e1, e2, e3, e4, e5, e6, e7] <;> intro hm
    all_goals
      have h0 := hm 0
      have h2 := hm 2
      simp at h0 h2
      omega

/-- The second half of the buffer is not touched. -/
theorem piecesDn_other {c : Dev nD} (f15 : HbBuf (F := Ideal) c scM15) (y : S2x640x4608.Idx) (hy0 : (y 0).val = 1) :
    scM15.view.read (Elt Ideal) (scM15.view.writes (Elt Ideal) f15 [(⟨Rect.unit (s := S2x640x4608) (k0_off11 i 384#32) ![1, 320, 128] b0, w0⟩ : View.Piece (Elt Ideal) S2x640x4608 .f32), (⟨Rect.unit (s := S2x640x4608) (k0_off11 i 256#32) ![1, 320, 128] b1, w1⟩ : View.Piece (Elt Ideal) S2x640x4608 .f32), (⟨Rect.unit (s := S2x640x4608) (k0_off10 i 384#32) ![1, 320, 128] b2, w2⟩ : View.Piece (Elt Ideal) S2x640x4608 .f32), (⟨Rect.unit (s := S2x640x4608) (k0_off10 i 256#32) ![1, 320, 128] b3, w3⟩ : View.Piece (Elt Ideal) S2x640x4608 .f32), (⟨Rect.unit (s := S2x640x4608) (k0_off11 i 128#32) ![1, 320, 128] b4, w4⟩ : View.Piece (Elt Ideal) S2x640x4608 .f32), (⟨Rect.unit (s := S2x640x4608) (k0_off11 i 0#32) ![1, 320, 128] b5, w5⟩ : View.Piece (Elt Ideal) S2x640x4608 .f32), (⟨Rect.unit (s := S2x640x4608) (k0_off10 i 128#32) ![1, 320, 128] b6, w6⟩ : View.Piece (Elt Ideal) S2x640x4608 .f32), (⟨Rect.unit (s := S2x640x4608) (k0_off10 i 0#32) ![1, 320, 128] b7, w7⟩ : View.Piece (Elt Ideal) S2x640x4608 .f32)]) y = scM15.view.read (Elt Ideal) f15 y := by
  have e0 : k0_off11 i 384#32 = ![0, 320, 512 * ((i 1).val - 18) + 384] := off11_eq i h18 3
  have e1 : k0_off11 i 256#32 = ![0, 320, 512 * ((i 1).val - 18) + 256] := off11_eq i h18 2
  have e2 : k0_off10 i 384#32 = ![0, 0, 512 * ((i 1).val - 18) + 384] := off10_eq i h18 3
  have e3 : k0_off10 i 256#32 = ![0, 0, 512 * ((i 1).val - 18) + 256] := off10_eq i h18 2
  have e4 : k0_off11 i 128#32 = ![0, 320, 512 * ((i 1).val - 18) + 128] := off11_eq i h18 1
  have e5 : k0_off11 i 0#32 = ![0, 320, 512 * ((i 1).val - 18) + 0] := off11_eq i h18 0
  have e6 : k0_off10 i 128#32 = ![0, 0, 512 * ((i 1).val - 18) + 128] := off10_eq i h18 1
  have e7 : k0_off10 i 0#32 = ![0, 0, 512 * ((i 1).val - 18) + 0] := off10_eq i h18 0
  refine View.read_writes_apply_of_forall_not_mem _ _ y _ ?_
  intro p hp
  simp only [List.mem_cons, List.not_mem_nil, _root_.or_false] at hp
  rcases hp with rfl | rfl | rfl | rfl | rfl | rfl | rfl | rfl <;> simp only [Rect.mem_set_unit, e0, e1, e2, e3, e4, e5, e6, e7] <;> intro hm
  all_goals
    have h0 := hm 0
    simp at h0
    omega

end

end Cert.Proof.KernelIdeal

end
-- ==== Proof.VBlocks.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.Pipeline.ValueKit
public import proofs.«01_k».proof.Proof.VMath

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- An array of rank 2 as a function of a row and a column number: zero outside it. -/
def at2 {a b : ℕ} (X : (⟨2, ![a, b]⟩ : Shape).Idx → EReal) (r k : ℕ) : EReal := if h : r < a ∧ k < b then X (ix2 ⟨r, h.1⟩ ⟨k, h.2⟩) else 0
/-- An array of rank 1 as a function of a number: zero outside it. -/
def at1 {a : ℕ} (X : (⟨1, ![a]⟩ : Shape).Idx → EReal) (r : ℕ) : EReal := if h : r < a then X (ix1 ⟨r, h⟩) else 0

theorem at2_eq {a b : ℕ} (X : (⟨2, ![a, b]⟩ : Shape).Idx → EReal) (r k : ℕ) (hr : r < a) (hk : k < b) : at2 X r k = X (ix2 ⟨r, hr⟩ ⟨k, hk⟩) := dif_pos ⟨hr, hk⟩
theorem at1_eq {a : ℕ} (X : (⟨1, ![a]⟩ : Shape).Idx → EReal) (r : ℕ) (hr : r < a) : at1 X r = X (ix1 ⟨r, hr⟩) := dif_pos hr

variable (m : (ℓ : Loc nD τ sig) → Buf (Elt Ideal) ℓ)

/-- The arguments as launched. -/
def argsOf (c : Dev nD) : Args where
  c3 := at2 (a := 1920) (b := 4608) (m ((c : Thread nD τ).loc main_arg0))
  s3 := at1 (a := 1920) (m ((c : Thread nD τ).loc main_arg1))
  wg := at2 (a := 4608) (b := 9216) (m ((c : Thread nD τ).loc main_arg2))
  wgs := at1 (a := 9216) (m ((c : Thread nD τ).loc main_arg3))
  wu := at2 (a := 4608) (b := 9216) (m ((c : Thread nD τ).loc main_arg4))
  wus := at1 (a := 9216) (m ((c : Thread nD τ).loc main_arg5))
  wd := at2 (a := 9216) (b := 4608) (m ((c : Thread nD τ).loc main_arg6))
  wds := at1 (a := 4608) (m ((c : Thread nD τ).loc main_arg7))
  g := at1 (a := 4608) (m ((c : Thread nD τ).loc main_arg8))
  h1 := at2 (a := 1920) (b := 4608) (m ((c : Thread nD τ).loc main_arg9))

theorem mod27_lt (n : ℕ) : n % 27 < 27 := Nat.mod_lt _ (by decide)

theorem idx0 : ∀ t : Fin cfg0.N, win0_0.index t = ![t.val / 27, 0] := by decide +kernel
/-- What window 0 holds. -/
theorem blk0 (c : Dev nD) (t : Fin cfg0.N) (r : Fin 640) (k : Fin 4608) : iblk m c 0 t (ix2 r k) = (argsOf m c).c3 (640 * (t.val / 27) + r) k := by
  have ht : t.val < 81 := t.isLt
  have h27 := mod27_lt t.val
  refine .trans ?_ (at2_eq _ _ _ (by omega) (by omega)).symm
  blk_ext [iblk, V, idx0 t] <;> simp only [idx0 t] <;> simp <;> omega

theorem idx1 : ∀ t : Fin cfg0.N, win0_1.index t = ![t.val / 27, 0] := by decide +kernel
/-- What window 1 holds. -/
theorem blk1 (c : Dev nD) (t : Fin cfg0.N) (r : Fin 640) (l : Fin 128) : iblk m c 1 t (ix2 r l) = (argsOf m c).s3 (640 * (t.val / 27) + r) := by
  have ht : t.val < 81 := t.isLt
  have h27 := mod27_lt t.val
  refine .trans ?_ (at1_eq _ _ (by omega)).symm
  unfold iblk
  rw [View.read_apply]
  entry_read
  pointwise
  refine congrArg (m ((c : Thread nD τ).loc main_arg1)) (congrArg ix1 (Fin.ext ?_))
  blk_simp [idx1 t]
  try dsimp only
  try omega

theorem idx2 : ∀ t : Fin cfg0.N, win0_2.index t = ![0, min (t.val % 27) 17] := by decide +kernel
/-- What window 2 holds. -/
theorem blk2 (c : Dev nD) (t : Fin cfg0.N) (h18 : t.val % 27 < 18) (k : Fin 4608) (j : Fin 512) : iblk m c 2 t (ix2 k j) = (argsOf m c).wg k (512 * (t.val % 27) + j) := by
  have ht : t.val < 81 := t.isLt
  have h27 := mod27_lt t.val
  refine .trans ?_ (at2_eq _ _ _ (by omega) (by omega)).symm
  blk_ext [iblk, V, idx2 t] <;> simp only [idx2 t] <;> simp <;> omega

theorem idx3 : ∀ t : Fin cfg0.N, win0_3.index t = ![0, min (t.val % 27) 17] := by decide +kernel
/-- What window 3 holds. -/
theorem blk3 (c : Dev nD) (t : Fin cfg0.N) (h18 : t.val % 27 < 18) (k : Fin 1) (j : Fin 512) : iblk m c 3 t (ix2 k j) = (argsOf m c).wgs (512 * (t.val % 27) + j) := by
  have ht : t.val < 81 := t.isLt
  have h27 := mod27_lt t.val
  refine .trans ?_ (at1_eq _ _ (by omega)).symm
  unfold iblk
  rw [View.read_apply]
  entry_read
  pointwise
  refine congrArg (m ((c : Thread nD τ).loc main_arg3)) (congrArg ix1 (Fin.ext ?_))
  blk_simp [idx3 t]
  try dsimp only
  try omega

theorem idx4 : ∀ t : Fin cfg0.N, win0_4.index t = ![0, min (t.val % 27) 17] := by decide +kernel
/-- What window 4 holds. -/
theorem blk4 (c : Dev nD) (t : Fin cfg0.N) (h18 : t.val % 27 < 18) (k : Fin 4608) (j : Fin 512) : iblk m c 4 t (ix2 k j) = (argsOf m c).wu k (512 * (t.val % 27) + j) := by
  have ht : t.val < 81 := t.isLt
  have h27 := mod27_lt t.val
  refine .trans ?_ (at2_eq _ _ _ (by omega) (by omega)).symm
  blk_ext [iblk, V, idx4 t] <;> simp only [idx4 t] <;> simp <;> omega

theorem idx5 : ∀ t : Fin cfg0.N, win0_5.index t = ![0, min (t.val % 27) 17] := by decide +kernel
/-- What window 5 holds. -/
theorem blk5 (c : Dev nD) (t : Fin cfg0.N) (h18 : t.val % 27 < 18) (k : Fin 1) (j : Fin 512) : iblk m c 5 t (ix2 k j) = (argsOf m c).wus (512 * (t.val % 27) + j) := by
  have ht : t.val < 81 := t.isLt
  have h27 := mod27_lt t.val
  refine .trans ?_ (at1_eq _ _ (by omega)).symm
  unfold iblk
  rw [View.read_apply]
  entry_read
  pointwise
  refine congrArg (m ((c : Thread nD τ).loc main_arg5)) (congrArg ix1 (Fin.ext ?_))
  blk_simp [idx5 t]
  try dsimp only
  try omega

theorem idx6 : ∀ t : Fin cfg0.N, 18 ≤ t.val % 27 → win0_6.index t = ![0, t.val % 27 - 18] := by decide +kernel
/-- What window 6 holds. -/
theorem blk6 (c : Dev nD) (t : Fin cfg0.N) (h18 : 18 ≤ t.val % 27) (k : Fin 9216) (j : Fin 512) : iblk m c 6 t (ix2 k j) = (argsOf m c).wd k (512 * (t.val % 27 - 18) + j) := by
  have ht : t.val < 81 := t.isLt
  have h27 := mod27_lt t.val
  refine .trans ?_ (at2_eq _ _ _ (by omega) (by omega)).symm
  blk_ext [iblk, V, idx6 t h18] <;> simp only [idx6 t h18] <;> simp <;> omega

theorem idx7 : ∀ t : Fin cfg0.N, 18 ≤ t.val % 27 → win0_7.index t = ![0, t.val % 27 - 18] := by decide +kernel
/-- What window 7 holds. -/
theorem blk7 (c : Dev nD) (t : Fin cfg0.N) (h18 : 18 ≤ t.val % 27) (k : Fin 1) (j : Fin 512) : iblk m c 7 t (ix2 k j) = (argsOf m c).wds (512 * (t.val % 27 - 18) + j) := by
  have ht : t.val < 81 := t.isLt
  have h27 := mod27_lt t.val
  refine .trans ?_ (at1_eq _ _ (by omega)).symm
  unfold iblk
  rw [View.read_apply]
  entry_read
  pointwise
  refine congrArg (m ((c : Thread nD τ).loc main_arg7)) (congrArg ix1 (Fin.ext ?_))
  blk_simp [idx7 t h18]
  try dsimp only
  try omega

theorem idx8 : ∀ t : Fin cfg0.N, win0_8.index t = ![0, 0] := by decide +kernel
/-- What window 8 holds. -/
theorem blk8 (c : Dev nD) (t : Fin cfg0.N) (k : Fin 1) (j : Fin 4608) : iblk m c 8 t (ix2 k j) = (argsOf m c).g j := by
  have ht : t.val < 81 := t.isLt
  have h27 := mod27_lt t.val
  refine .trans ?_ (at1_eq _ _ (by omega)).symm
  unfold iblk
  rw [View.read_apply]
  entry_read
  pointwise
  refine congrArg (m ((c : Thread nD τ).loc main_arg8)) (congrArg ix1 (Fin.ext ?_))
  blk_simp [idx8 t]
  try dsimp only
  try omega

end Cert.Proof.KernelIdeal

end
-- ==== Proof.VUp.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.Pipeline.ReadBack
public import Idealize.ShloMosaic.Lib.Pipeline.ValueKit
public import proofs.«01_k».proof.Proof.VTile
public import proofs.«01_k».proof.Proof.VPieces
public import proofs.«01_k».proof.Proof.VBlocks

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Before point `n` of the up phase: the activations of the columns already done, and the lane maxima of them. -/
def upP (A : Args) (c : Dev nD) (n : ℕ) (f15 : HbBuf (F := Ideal) c scM15) (f17 : HbBuf (F := Ideal) c scM17) : Prop :=
  (∀ y : S2x640x4608.Idx, 4608 * (y 0).val + (y 2).val < 512 * (n % 27) → scM15.view.read (Elt Ideal) f15 y = actG A (640 * (n / 27)) y)
    ∧ ∀ (r : Fin 640) (l : Fin 128), scM17.view.read (Elt Ideal) f17 (ix2 r l) = A.laneMax (640 * (n / 27) + r) l (4 * (n % 27))

/-- Four tiles of one half: the maximum moves on by four columns of each lane. -/
theorem mx_four (A : Args) (R q : ℕ) (v : Vec Ideal S320x128 .f32) (p : Fin 320) (l : Fin 128) (hv : v (ix2 p l) = A.laneMax (R + p) l (4 * q)) :
    mx A R (512 * q + 384) (mx A R (512 * q + 256) (mx A R (512 * q + 128) (mx A R (512 * q + 0) v))) (ix2 p l) = A.laneMax (R + p) l (4 * (q + 1)) := by
  show max (max (max (max (v (ix2 p l)) (absE (A.act (R + p) (512 * q + 0 + l)))) (absE (A.act (R + p) (512 * q + 128 + l)))) (absE (A.act (R + p) (512 * q + 256 + l)))) (absE (A.act (R + p) (512 * q + 384 + l))) = _
  rw [hv, show 4 * (q + 1) = 4 * q + 1 + 1 + 1 + 1 by omega]
  simp only [Args.laneMax]
  rw [show 128 * (4 * q) = 512 * q + 0 by omega, show 128 * (4 * q + 1) = 512 * q + 128 by omega, show 128 * (4 * q + 1 + 1) = 512 * q + 256 by omega, show 128 * (4 * q + 1 + 1 + 1) = 512 * q + 384 by omega]

/-- The two halves of the maxima, last written, above older ones. -/
theorem read17 {c : Dev nD} (f17 : HbBuf (F := Ideal) c scM17) (hi lo hi' : Vec Ideal S320x128 .f32) (L : List (View.Piece (Elt Ideal) S640x128 .f32)) (M : ℕ → ℕ → EReal)
    (hhi : ∀ (p : Fin 320) (l : Fin 128), hi (ix2 p l) = M (320 + p) l) (hlo : ∀ (p : Fin 320) (l : Fin 128), lo (ix2 p l) = M p l) (r : Fin 640) (l : Fin 128) :
    scM17.view.read (Elt Ideal) (scM17.view.writes (Elt Ideal) f17 ((⟨Rect.unit (s := S640x128) ![320, 0] ![320, 128] inb_S640x128_S320x128_320_0, hi⟩ : View.Piece (Elt Ideal) S640x128 .f32)
      :: (⟨Rect.unit (s := S640x128) ![320, 0] S320x128.size inb_S640x128_S320x128_320_0, hi'⟩ : View.Piece (Elt Ideal) S640x128 .f32)
      :: (⟨Rect.unit (s := S640x128) ![0, 0] S320x128.size inb_S640x128_S320x128_0_0, lo⟩ : View.Piece (Elt Ideal) S640x128 .f32) :: L)) (ix2 r l) = M r l := by
  by_cases hr : 320 ≤ r.val
  · refine (View.read_writes_cons_rows_of_mem (size := ![320, 128]) _ _ inb_S640x128_S320x128_320_0 hi _ (ix2 r l) (ix2 (⟨r.val - 320, by omega⟩ : Fin 320) l) rfl
      (by show r.val = 320 + (r.val - 320); omega) rfl).trans ?_
    refine (hhi _ _).trans ?_
    show M (320 + (r.val - 320)) l = M r l
    rw [show 320 + (r.val - 320) = r.val by omega]
  · rw [View.read_writes_cons_unit_of_not_mem _ _ _ _ _ _ rfl 0 (.inl (by show r.val < 320; omega)),
      View.read_writes_cons_unit_of_not_mem _ _ _ _ _ _ rfl 0 (.inl (by show r.val < 320; omega))]
    refine (View.read_writes_cons_rows_of_mem (size := S320x128.size) _ _ inb_S640x128_S320x128_0_0 lo _ (ix2 r l) (ix2 (⟨r.val, by omega⟩ : Fin 320) l) rfl
      (by show r.val = 0 + r.val; omega) rfl).trans ?_
    exact hlo _ _

section
variable (c : Dev nD) (arg2 : Memref sig .tc .vmem S640x4608 .fp8e4m3) (arg3 : Memref sig .tc .vmem S640x128 .f32) (arg4 : Memref sig .tc .vmem S4608x512 .fp8e4m3) (arg5 : Memref sig .tc .vmem S1x512 .f32) (arg6 : Memref sig .tc .vmem S4608x512 .fp8e4m3) (arg7 : Memref sig .tc .vmem S1x512 .f32) (f2 : HbBuf (F := Ideal) c arg2) (f3 : HbBuf (F := Ideal) c arg3) (f4 : HbBuf (F := Ideal) c arg4) (f5 : HbBuf (F := Ideal) c arg5) (f6 : HbBuf (F := Ideal) c arg6) (f7 : HbBuf (F := Ideal) c arg7)

theorem first_r2 : runFirst.sl.r_2 c arg2 arg3 arg4 arg5 f2 f3 f4 f5 = runUp.sl.r_2 c arg2 arg3 arg4 arg5 f2 f3 f4 f5 := rfl
theorem first_r3 : runFirst.sl.r_3 c arg2 arg3 arg6 f2 f3 f6 = runUp.sl.r_3 c arg2 arg3 arg6 f2 f3 f6 := rfl
theorem first_r4 : runFirst.sl.r_4 c arg7 f7 = runUp.sl.r_4 c arg7 f7 := rfl
theorem first_r5 : runFirst.sl.r_5 c arg2 arg3 arg4 arg5 f2 f3 f4 f5 = runUp.sl.r_5 c arg2 arg3 arg4 arg5 f2 f3 f4 f5 := rfl
theorem first_r6 : runFirst.sl.r_6 c arg2 arg3 arg6 f2 f3 f6 = runUp.sl.r_6 c arg2 arg3 arg6 f2 f3 f6 := rfl
theorem first_r7 : runFirst.sl.r_7 c arg7 f7 = runUp.sl.r_7 c arg7 f7 := rfl
theorem first_r9 : runFirst.sl.r_9 c arg2 arg6 f2 f6 = runUp.sl.r_9 c arg2 arg6 f2 f6 := rfl
theorem first_r10 : runFirst.sl.r_10 c arg3 f3 = runUp.sl.r_10 c arg3 f3 := rfl
theorem first_r11 : runFirst.sl.r_11 c arg2 arg3 arg4 f2 f3 f4 = runUp.sl.r_11 c arg2 arg3 arg4 f2 f3 f4 := rfl
theorem first_r12 : runFirst.sl.r_12 c arg3 f3 = runUp.sl.r_12 c arg3 f3 := rfl
theorem first_r13 : runFirst.sl.r_13 c arg2 arg3 arg4 f2 f3 f4 = runUp.sl.r_13 c arg2 arg3 arg4 f2 f3 f4 := rfl
theorem first_r14 : runFirst.sl.r_14 c arg2 f2 = runUp.sl.r_14 c arg2 f2 := rfl
theorem first_r15 : runFirst.sl.r_15 c arg2 arg4 f2 f4 = runUp.sl.r_15 c arg2 arg4 f2 f4 := rfl
theorem first_r16 : runFirst.sl.r_16 c arg2 arg6 f2 f6 = runUp.sl.r_16 c arg2 arg6 f2 f6 := rfl
theorem first_r21 : runFirst.sl.r_21 c arg2 arg3 arg4 arg5 arg6 arg7 f2 f3 f4 f5 f6 f7 = runUp.sl.r_21 c arg2 arg3 arg4 arg5 arg6 arg7 f2 f3 f4 f5 f6 f7 := rfl
theorem first_r22 : runFirst.sl.r_22 c arg2 arg3 arg4 arg5 arg6 arg7 f2 f3 f4 f5 f6 f7 = runUp.sl.r_22 c arg2 arg3 arg4 arg5 arg6 arg7 f2 f3 f4 f5 f6 f7 := rfl

variable {A : Args} {R C : ℕ} (U : UpReads A R C c arg2 arg3 arg4 arg5 arg6 arg7 f2 f3 f4 f5 f6 f7) (f17 : HbBuf (F := Ideal) c scM17)
include U

/-- The running maximum of rows 320 and on after the four tiles. -/
theorem up_max_320 : k0_pay3 (runUp.sl.r_22 c arg2 arg3 arg4 arg5 arg6 arg7 f2 f3 f4 f5 f6 f7) (runUp.sl.v378 c arg2 arg3 arg4 arg5 arg6 arg7 f2 f3 f4 f5 f6 f7 f17) = mx A (R + 320) (C + 384) (mx A (R + 320) (C + 256) (mx A (R + 320) (C + 128) (mx A (R + 320) (C + 0) (View.readAt (Elt Ideal) scM17.view (Rect.unit (s := S640x128) ![320, 0] S320x128.size inb_S640x128_S320x128_320_0).toLoadRect f17)))) := by
  simp (disch := decide) only [runUp.sl.H17_1, runUp.sl.H17_3, runUp.sl.H17_4, runUp.sl.H17_5, runUp.sl.H17_6, runUp.sl.H17_7, runUp.sl.v117, runUp.sl.v163, runUp.sl.v204, runUp.sl.v250, runUp.sl.v291, runUp.sl.v337, runUp.sl.v378, runUp.sl.r_17, runUp.sl.r_18, ↓ View.readCov_skip, ↓ View.readCov_cons_toLoadRect, ↓ View.readCov_fill]
  simp only [up_mx_0_0 c arg2 arg3 arg4 arg5 arg6 arg7 f2 f3 f4 f5 f6 f7 U, up_mx_0_128 c arg2 arg3 arg4 arg5 arg6 arg7 f2 f3 f4 f5 f6 f7 U, up_mx_320_0 c arg2 arg3 arg4 arg5 arg6 arg7 f2 f3 f4 f5 f6 f7 U, up_mx_320_128 c arg2 arg3 arg4 arg5 arg6 arg7 f2 f3 f4 f5 f6 f7 U, up_mx_0_256 c arg2 arg3 arg4 arg5 arg6 arg7 f2 f3 f4 f5 f6 f7 U, up_mx_0_384 c arg2 arg3 arg4 arg5 arg6 arg7 f2 f3 f4 f5 f6 f7 U, up_mx_320_256 c arg2 arg3 arg4 arg5 arg6 arg7 f2 f3 f4 f5 f6 f7 U, up_mx_320_384 c arg2 arg3 arg4 arg5 arg6 arg7 f2 f3 f4 f5 f6 f7 U]

/-- The running maximum of rows 0 and on after the four tiles. -/
theorem up_max_0 : k0_pay50 (runUp.sl.r_18 c arg2 arg3 arg4 arg5 arg6 arg7 f2 f3 f4 f5 f6 f7 f17) = mx A (R + 0) (C + 384) (mx A (R + 0) (C + 256) (mx A (R + 0) (C + 128) (mx A (R + 0) (C + 0) (View.readAt (Elt Ideal) scM17.view (Rect.unit (s := S640x128) ![0, 0] S320x128.size inb_S640x128_S320x128_0_0).toLoadRect f17)))) := by
  simp (disch := decide) only [runUp.sl.H17_1, runUp.sl.H17_3, runUp.sl.H17_4, runUp.sl.H17_5, runUp.sl.H17_6, runUp.sl.H17_7, runUp.sl.v117, runUp.sl.v163, runUp.sl.v204, runUp.sl.v250, runUp.sl.v291, runUp.sl.v337, runUp.sl.v378, runUp.sl.r_17, runUp.sl.r_18, ↓ View.readCov_skip, ↓ View.readCov_cons_toLoadRect, ↓ View.readCov_fill]
  simp only [up_mx_0_0 c arg2 arg3 arg4 arg5 arg6 arg7 f2 f3 f4 f5 f6 f7 U, up_mx_0_128 c arg2 arg3 arg4 arg5 arg6 arg7 f2 f3 f4 f5 f6 f7 U, up_mx_320_0 c arg2 arg3 arg4 arg5 arg6 arg7 f2 f3 f4 f5 f6 f7 U, up_mx_320_128 c arg2 arg3 arg4 arg5 arg6 arg7 f2 f3 f4 f5 f6 f7 U, up_mx_0_256 c arg2 arg3 arg4 arg5 arg6 arg7 f2 f3 f4 f5 f6 f7 U, up_mx_0_384 c arg2 arg3 arg4 arg5 arg6 arg7 f2 f3 f4 f5 f6 f7 U, up_mx_320_256 c arg2 arg3 arg4 arg5 arg6 arg7 f2 f3 f4 f5 f6 f7 U, up_mx_320_384 c arg2 arg3 arg4 arg5 arg6 arg7 f2 f3 f4 f5 f6 f7 U]

/-- The running maximum of rows 320 and on after the four tiles. -/
theorem first_max_320 : k0_pay3 (runFirst.sl.r_22 c arg2 arg3 arg4 arg5 arg6 arg7 f2 f3 f4 f5 f6 f7) (runFirst.sl.v378 c arg2 arg3 arg4 arg5 arg6 arg7 f2 f3 f4 f5 f6 f7 ) = mx A (R + 320) (C + 384) (mx A (R + 320) (C + 256) (mx A (R + 320) (C + 128) (mx A (R + 320) (C + 0) (View.ld (k0_pay1 (F := Ideal)) (Rect.unit (s := S640x128) ![320, 0] S320x128.size inb_S640x128_S320x128_320_0))))) := by
  simp (disch := decide) only [runFirst.sl.H17_1, runFirst.sl.H17_2, runFirst.sl.H17_3, runFirst.sl.H17_4, runFirst.sl.H17_5, runFirst.sl.H17_6, runFirst.sl.H17_7, runFirst.sl.H17_8, runFirst.sl.v117, runFirst.sl.v163, runFirst.sl.v204, runFirst.sl.v250, runFirst.sl.v291, runFirst.sl.v337, runFirst.sl.v378, runFirst.sl.v76, runFirst.sl.r_17, runFirst.sl.r_18, first_r2, first_r3, first_r4, first_r5, first_r6, first_r7, first_r9, first_r10, first_r11, first_r12, first_r13, first_r14, first_r15, first_r16, first_r21, first_r22, ↓ View.readCov_skip, ↓ View.readCov_cons_toLoadRect, ↓ View.readCov_fill]
  simp only [up_mx_0_0 c arg2 arg3 arg4 arg5 arg6 arg7 f2 f3 f4 f5 f6 f7 U, up_mx_0_128 c arg2 arg3 arg4 arg5 arg6 arg7 f2 f3 f4 f5 f6 f7 U, up_mx_320_0 c arg2 arg3 arg4 arg5 arg6 arg7 f2 f3 f4 f5 f6 f7 U, up_mx_320_128 c arg2 arg3 arg4 arg5 arg6 arg7 f2 f3 f4 f5 f6 f7 U, up_mx_0_256 c arg2 arg3 arg4 arg5 arg6 arg7 f2 f3 f4 f5 f6 f7 U, up_mx_0_384 c arg2 arg3 arg4 arg5 arg6 arg7 f2 f3 f4 f5 f6 f7 U, up_mx_320_256 c arg2 arg3 arg4 arg5 arg6 arg7 f2 f3 f4 f5 f6 f7 U, up_mx_320_384 c arg2 arg3 arg4 arg5 arg6 arg7 f2 f3 f4 f5 f6 f7 U]

/-- The running maximum of rows 0 and on after the four tiles. -/
theorem first_max_0 : k0_pay50 (runFirst.sl.r_18 c arg2 arg3 arg4 arg5 arg6 arg7 f2 f3 f4 f5 f6 f7 ) = mx A (R + 0) (C + 384) (mx A (R + 0) (C + 256) (mx A (R + 0) (C + 128) (mx A (R + 0) (C + 0) (View.ld (k0_pay1 (F := Ideal)) (Rect.unit (s := S640x128) ![0, 0] S320x128.size inb_S640x128_S320x128_0_0))))) := by
  simp (disch := decide) only [runFirst.sl.H17_1, runFirst.sl.H17_2, runFirst.sl.H17_3, runFirst.sl.H17_4, runFirst.sl.H17_5, runFirst.sl.H17_6, runFirst.sl.H17_7, runFirst.sl.H17_8, runFirst.sl.v117, runFirst.sl.v163, runFirst.sl.v204, runFirst.sl.v250, runFirst.sl.v291, runFirst.sl.v337, runFirst.sl.v378, runFirst.sl.v76, runFirst.sl.r_17, runFirst.sl.r_18, first_r2, first_r3, first_r4, first_r5, first_r6, first_r7, first_r9, first_r10, first_r11, first_r12, first_r13, first_r14, first_r15, first_r16, first_r21, first_r22, ↓ View.readCov_skip, ↓ View.readCov_cons_toLoadRect, ↓ View.readCov_fill]
  simp only [up_mx_0_0 c arg2 arg3 arg4 arg5 arg6 arg7 f2 f3 f4 f5 f6 f7 U, up_mx_0_128 c arg2 arg3 arg4 arg5 arg6 arg7 f2 f3 f4 f5 f6 f7 U, up_mx_320_0 c arg2 arg3 arg4 arg5 arg6 arg7 f2 f3 f4 f5 f6 f7 U, up_mx_320_128 c arg2 arg3 arg4 arg5 arg6 arg7 f2 f3 f4 f5 f6 f7 U, up_mx_0_256 c arg2 arg3 arg4 arg5 arg6 arg7 f2 f3 f4 f5 f6 f7 U, up_mx_0_384 c arg2 arg3 arg4 arg5 arg6 arg7 f2 f3 f4 f5 f6 f7 U, up_mx_320_256 c arg2 arg3 arg4 arg5 arg6 arg7 f2 f3 f4 f5 f6 f7 U, up_mx_320_384 c arg2 arg3 arg4 arg5 arg6 arg7 f2 f3 f4 f5 f6 f7 U]
end

end Cert.Proof.KernelIdeal

end
-- ==== Proof.VDnStep.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.Pipeline.ValueKit
public import proofs.«01_k».proof.Proof.VDnPieces
public import proofs.«01_k».proof.Proof.VUp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- Before point `n` of the down phase: the down products of the columns already done, the rows of the residual, the codes and the scales. -/
def dnP (A : Args) (c : Dev nD) (n : ℕ) (f15 g15 : HbBuf (F := Ideal) c scM15) (f16 : HbBuf (F := Ideal) c scM16) (f17 : HbBuf (F := Ideal) c scM17) : Prop :=
  (∀ y : S2x640x4608.Idx, (y 0).val = 0 → (y 2).val < 512 * (n % 27 - 18) → scM15.view.read (Elt Ideal) f15 y = dnG A (640 * (n / 27)) y)
    ∧ (∀ y : S2x640x4608.Idx, (y 0).val = 1 → scM15.view.read (Elt Ideal) g15 y = A.h1 (640 * (n / 27) + (y 1).val) (y 2).val)
    ∧ (∀ (r : Fin 640) (k : Fin 9216), scM16.view.read (Elt Ideal) f16 (ix2 r k) = A.code (640 * (n / 27) + r) k)
    ∧ ∀ (r : Fin 640) (l : Fin 128), scM17.view.read (Elt Ideal) f17 (ix2 r l) = A.sc (640 * (n / 27) + r)

/-- The codes and scales of a block of rows, read by halves, and the blocks of the weight a down point reads. -/
theorem dnReads (c : Dev nD) (t : Fin cfg0.N) (h18 : 18 ≤ t.val % 27) (arg8 : Memref sig .tc .vmem S9216x512 .fp8e4m3) (arg9 : Memref sig .tc .vmem S1x512 .f32) (f8 : HbBuf (F := Ideal) c arg8) (f9 : HbBuf (F := Ideal) c arg9)
    (f16 : HbBuf (F := Ideal) c scM16) (f17 : HbBuf (F := Ideal) c scM17)
    (e8 : arg8.view.read (Elt Ideal) f8 = iblk m c 6 t) (e9 : arg9.view.read (Elt Ideal) f9 = iblk m c 7 t)
    (h16 : ∀ (r : Fin 640) (k : Fin 9216), scM16.view.read (Elt Ideal) f16 (ix2 r k) = (argsOf m c).code (640 * (t.val / 27) + r) k)
    (h17 : ∀ (r : Fin 640) (l : Fin 128), scM17.view.read (Elt Ideal) f17 (ix2 r l) = (argsOf m c).sc (640 * (t.val / 27) + r)) :
    DnReads (argsOf m c) (640 * (t.val / 27)) (512 * (t.val % 27 - 18))
      (View.readAt (Elt Ideal) scM16.view (Rect.unit (s := S640x9216) ![0, 0] S320x9216.size inb_S640x9216_S320x9216_0_0).toLoadRect f16)
      (View.readAt (Elt Ideal) scM16.view (Rect.unit (s := S640x9216) ![320, 0] S320x9216.size inb_S640x9216_S320x9216_320_0).toLoadRect f16)
      (View.readAt (Elt Ideal) scM17.view (Rect.unit (s := S640x128) ![0, 0] S320x128.size inb_S640x128_S320x128_0_0).toLoadRect f17)
      (View.readAt (Elt Ideal) scM17.view (Rect.unit (s := S640x128) ![320, 0] S320x128.size inb_S640x128_S320x128_320_0).toLoadRect f17)
      c arg8 arg9 f8 f9 where
  cl p k := by
    have := h16 ⟨0 + p.val, by omega⟩ k
    rw [View.readAt_eq_ld, ← this]
    exact View.ld_unit_apply_of _ _ _ _ _ _ (fun a => by fin_cases a; exacts [rfl, (Nat.zero_add _).symm])
  ch p k := by
    have := h16 ⟨320 + p.val, by omega⟩ k
    rw [View.readAt_eq_ld, ← this]
    exact View.ld_unit_apply_of _ _ _ _ _ _ (fun a => by fin_cases a; exacts [rfl, (Nat.zero_add _).symm])
  sl p l := by
    have := h17 ⟨0 + p.val, by omega⟩ l
    rw [View.readAt_eq_ld, ← this]
    exact View.ld_unit_apply_of _ _ _ _ _ _ (fun a => by fin_cases a; exacts [rfl, (Nat.zero_add _).symm])
  sh p l := by
    have := h17 ⟨320 + p.val, by omega⟩ l
    rw [View.readAt_eq_ld, ← this]
    exact View.ld_unit_apply_of _ _ _ _ _ _ (fun a => by fin_cases a; exacts [rfl, (Nat.zero_add _).symm])
  h8 k j := (congrFun e8 _).trans (blk6 m c t h18 k j)
  h9 j := (congrFun e9 _).trans (blk7 m c t h18 0 j)

/-- A later point of the down phase: eight more tiles. -/
theorem downV (c : Dev nD) : DownP m c (dnP (argsOf m c) c) := by
  unfold DownP
  intro t arg2 harg2 arg3 harg3 arg4 harg4 arg5 harg5 arg6 harg6 arg7 harg7 arg8 harg8 arg9 harg9 arg10 harg10 arg14 harg14 f8 f9 f15 g15 f16 f17 h1 h2 h3 h4 h5 e8 e9 hd
  have h18 : 18 ≤ t.val % 27 := by have := (cond4_iff _).mp h4; rwa [co1] at this
  have h26 : t.val % 27 ≠ 26 := by intro h; exact h5 ((cond5_iff _).mpr (by rw [co1]; exact h))
  have hq : (t.val + 1) / 27 = t.val / 27 := by omega
  have hr : (t.val + 1) % 27 - 18 = t.val % 27 - 18 + 1 := by omega
  obtain ⟨hD, hH, hC, hS⟩ := hd
  have U := dnReads m c t h18 arg8 arg9 f8 f9 f16 f17 e8 e9 hC hS
  unfold runDown
  dsimp only
  unfold dnP
  rw [hq, hr]
  refine ⟨fun y y0 hy => ?_, hH, hC, hS⟩
  rw [← co1 t] at hy U hD
  exact piecesDn (grid0.coords t) ((cond4_iff _).mp h4) (argsOf m c) (640 * (t.val / 27)) _ _ _ _ _ _ _ _
    _ (dn_tile_320_384 U) _ (dn_tile_320_256 U) _ (dn_tile_0_384 U) _ (dn_tile_0_256 U)
    _ (dn_tile_320_128 U) _ (dn_tile_320_0 U) _ (dn_tile_0_128 U) _ (dn_tile_0_0 U)
    f15 y y0 hy (hD y y0)

end Cert.Proof.KernelIdeal

end
-- ==== Proof.VTurnA.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.Pipeline.ValueKit
public import Idealize.ShloMosaic.Lib.ValueLayout
public import Idealize.ShloMosaic.Lib.VecWindow
public import proofs.«01_k».proof.Proof.VQuant
public import proofs.«01_k».proof.Proof.VDnStep

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The scales are stored over the maxima. -/
theorem read17_sc (A : Args) (R : ℕ) {c : Dev nD} (f17 g : HbBuf (F := Ideal) c scM17) (hM : ∀ (r : Fin 640) (l : Fin 128), scM17.view.read (Elt Ideal) f17 (ix2 r l) = A.laneMax (R + r) l 72)
    (r : Fin 640) (l : Fin 128) : scM17.view.read (Elt Ideal) (scM17.view.writes (Elt Ideal) g (run18.sl.H17_1 c f17)) (ix2 r l) = A.sc (R + r) := by
  rw [run18.sl.H17_1]
  refine (View.read_writes_cons_rows_of_mem (size := S640x128.size) _ _ inb_S640x128_S640x128_0_0 _ _ (ix2 r l) (ix2 r l) rfl (Nat.zero_add _).symm rfl).trans ?_
  refine pay5_sc A R _ (fun r l => ?_) r l
  rw [View.readAt_eq_ld, ← hM]
  exact View.ld_unit_apply_of _ _ _ _ _ _ (fun a => by fin_cases a; exacts [(Nat.zero_add _).symm, (Nat.zero_add _).symm])

/-- The first `640 * k` rows of the codes in HBM. -/
def c4P (A : Args) (c : Dev nD) (k : ℕ) (f : HbBuf (F := Ideal) c hbM13) : Prop :=
  ∀ (r : Fin 1920) (j : Fin 9216), r.val < 640 * k → hbM13.view.read (Elt Ideal) f (ix2 r j) = A.code r j

/-- A block of the scales. -/
def s4P (A : Args) (k : ℕ) (X : Vec Ideal S1x1x640 .f32) : Prop := ∀ r : Fin 640, X (ix3 0 0 r) = A.sc (640 * k + r)

/-- The rows of the residual, copied into the second half of the buffer. -/
theorem slot1_h1 (c : Dev nD) (b : ℕ) (hb : b < 3) (off : Fin 2 → ℕ) (inb : ∀ a, off a + (![640, 4608] : Fin 2 → ℕ) a ≤ S1920x4608.size a) (heq : off = ![640 * b, 0])
    (hn : S640x4608.numel = (Rect.unit (s := S2x640x4608) ![1, 0, 0] ![1, 640, 4608] inb_S2x640x4608_S1x640x4608_1_0_0).shape.numel)
    (f15 : HbBuf (F := Ideal) c scM15) (y : S2x640x4608.Idx) (y0 : (y 0).val = 1) :
    scM15.view.read (Elt Ideal) (View.write (Elt Ideal) (((View.whole cc0_scratch0).slice (Rect.unit (s := S2x640x4608) ![1, 0, 0] ![1, 640, 4608] inb_S2x640x4608_S1x640x4608_1_0_0)).reshape S640x4608 hn) f15
      (ReadAs.same.apply (View.read (Elt Ideal) ((View.whole main_arg9).slice (Rect.unit (s := S1920x4608) off ![640, 4608] inb)) (V m c main_arg9))) Finset.univ) y
      = (argsOf m c).h1 (640 * b + (y 1).val) (y 2).val := by
  obtain ⟨u, r, j, rfl⟩ : ∃ (u : Fin 2) (r : Fin 640) (j : Fin 4608), y = ix3 u r j := ⟨y 0, y 1, y 2, eq_ix3 y⟩
  obtain rfl : u = 1 := Fin.ext y0
  have e : (ix3 1 r j : S2x640x4608.Idx) = (Rect.unit (s := S2x640x4608) ![1, 0, 0] ![1, 640, 4608] inb_S2x640x4608_S1x640x4608_1_0_0).emb (Shape.reshapeEquiv hn (ix2 r j)) := by
    rw [show Shape.reshapeEquiv hn (ix2 r j) = ix3 (⟨0, Nat.one_pos⟩ : Fin 1) r j from ValueIdx.reshapeEquiv_ix2_1ab hn r j]
    funext a
    refine Fin.ext ?_
    rw [ValueKit.rect_emb_unit_val]
    fin_cases a
    · rfl
    · exact (Nat.zero_add _).symm
    · exact (Nat.zero_add _).symm
  refine (congrArg (scM15.view.read (Elt Ideal) _) e).trans ?_
  refine (View.read_write_of_mem (v := ((View.whole cc0_scratch0).slice (Rect.unit (s := S2x640x4608) ![1, 0, 0] ![1, 640, 4608] inb_S2x640x4608_S1x640x4608_1_0_0)).reshape S640x4608 hn) f15 _ (Finset.mem_univ (ix2 r j))).trans ?_
  subst heq
  refine Eq.trans ?_ (at2_eq (a := 1920) (b := 4608) (m ((c : Thread nD τ).loc main_arg9)) (640 * b + r) j (by omega) j.isLt).symm
  show m ((c : Thread nD τ).loc main_arg9) ((Rect.unit (s := S1920x4608) ![640 * b, 0] ![640, 4608] inb).emb (ix2 r j)) = m ((c : Thread nD τ).loc main_arg9) (ix2 ⟨640 * b + r, by omega⟩ ⟨j, by omega⟩)
  refine congrArg _ (funext fun a => Fin.ext ?_)
  rw [ValueKit.rect_emb_unit_val]
  fin_cases a
  · rfl
  · exact Nat.zero_add _

section
variable {κ : Kind} {sp : Space} {e : EltTy} {N M : ℕ} (v : View sig κ sp ⟨2, ![N, M]⟩ e) (f : v.ty.Contents (Elt Ideal)) (off : Fin 2 → ℕ) (o T : ℕ) (heq : off = ![o, 0])
  (inb : ∀ a, off a + (![T, M] : Fin 2 → ℕ) a ≤ (⟨2, ![N, M]⟩ : Shape).size a) (w : (⟨2, ![T, M]⟩ : Shape).Idx → Elt Ideal e) (r : Fin N) (j : Fin M)

include heq in
/-- A row of a matrix inside the rows just written. -/
theorem read_rows_write_of_mem (h : o ≤ r.val) (h' : r.val < o + T) :
    v.read (Elt Ideal) ((v.slice (Rect.unit (s := ⟨2, ![N, M]⟩) off ![T, M] inb)).write (Elt Ideal) f w Finset.univ) (ix2 r j) = w (ix2 (⟨r.val - o, by omega⟩ : Fin T) j) := by
  subst heq
  have e : (ix2 r j : (⟨2, ![N, M]⟩ : Shape).Idx) = (Rect.unit (s := ⟨2, ![N, M]⟩) ![o, 0] ![T, M] inb).emb (ix2 (⟨r.val - o, by omega⟩ : Fin T) j) := by
    funext a
    refine Fin.ext ?_
    rw [ValueKit.rect_emb_unit_val]
    fin_cases a
    · show r.val = o + (r.val - o); omega
    · exact (Nat.zero_add _).symm
  refine (congrArg (v.read (Elt Ideal) _) e).trans ?_
  exact View.read_slice_write_emb (v := v) (Rect.unit (s := ⟨2, ![N, M]⟩) ![o, 0] ![T, M] inb) f w (Finset.mem_univ _)

include heq in
/-- A row above the rows just written. -/
theorem read_rows_write_of_lt (h : r.val < o) :
    v.read (Elt Ideal) ((v.slice (Rect.unit (s := ⟨2, ![N, M]⟩) off ![T, M] inb)).write (Elt Ideal) f w Finset.univ) (ix2 r j) = v.read (Elt Ideal) f (ix2 r j) := by
  subst heq
  refine View.read_slice_write_of_not_mem (v := v) (Rect.unit (s := ⟨2, ![N, M]⟩) ![o, 0] ![T, M] inb) f w _ ?_
  intro hm
  obtain ⟨x, -, hx⟩ := Finset.mem_map.mp hm
  have h0 : ((Rect.unit (s := ⟨2, ![N, M]⟩) ![o, 0] ![T, M] inb).emb x 0).val = r.val := congrArg (fun y : (⟨2, ![N, M]⟩ : Shape).Idx => (y 0).val) hx
  rw [ValueKit.rect_emb_unit_val] at h0
  have h1 : o + (x 0).val = r.val := h0
  omega

end

/-- The codes of a block of rows copied to HBM, below those already there. -/
theorem c4_next (A : Args) (c : Dev nD) (b : ℕ) (off : Fin 2 → ℕ) (inb : ∀ a, off a + (![640, 9216] : Fin 2 → ℕ) a ≤ S1920x9216.size a) (heq : off = ![640 * b, 0])
    (f13 : HbBuf (F := Ideal) c hbM13) (w : S640x9216.Idx → EReal) (hw : ∀ y, w y = codeG A (640 * b) y) (hc : c4P A c b f13) :
    c4P A c (b + 1) (View.write (Elt Ideal) ((View.whole main_v6_1).slice (Rect.unit (s := S1920x9216) off ![640, 9216] inb)) f13 w Finset.univ) := by
  intro r j hr
  by_cases h : 640 * b ≤ r.val
  · refine (read_rows_write_of_mem (View.whole main_v6_1) f13 off (640 * b) 640 heq inb w r j h (by omega)).trans ?_
    rw [hw]
    show A.code (640 * b + (r.val - 640 * b)) j = A.code r j
    rw [show 640 * b + (r.val - 640 * b) = r.val by omega]
  · exact (read_rows_write_of_lt (View.whole main_v6_1) f13 off (640 * b) 640 heq inb w r j (by omega)).trans (hc r j (by omega))

/-- The block of scales is stored whole. -/
theorem s4_block (A : Args) (b : ℕ) {c : Dev nD} (f17 : HbBuf (F := Ideal) c scM17) (hM : ∀ (r : Fin 640) (l : Fin 128), scM17.view.read (Elt Ideal) f17 (ix2 r l) = A.laneMax (640 * b + r) l 72)
    (arg14 : Memref sig .tc .vmem S1x1x640 .f32) (g : HbBuf (F := Ideal) c arg14) : s4P A b (arg14.view.read (Elt Ideal) (arg14.view.writes (Elt Ideal) g (run18.sl.H14_1 c f17))) := by
  intro r
  rw [run18.sl.H14_1]
  refine (congrFun (View.read_writes_full _ _ inb_S1x1x640_S1x1x640_0_0_0 _ []) (ix3 0 0 r)).trans (pay6_sc A (640 * b) _ (fun r l => ?_) r)
  rw [View.readAt_eq_ld, ← hM]
  exact View.ld_unit_apply_of _ _ _ _ _ _ (fun a => by fin_cases a; exacts [(Nat.zero_add _).symm, (Nat.zero_add _).symm])

end Cert.Proof.KernelIdeal

end
-- ==== Proof.VTurn.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.Pipeline.ValueKit
public import Idealize.ShloMosaic.Lib.ValueLayout
public import Idealize.ShloMosaic.Lib.VecWindow
public import proofs.«01_k».proof.Proof.VTurnA

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The first point of the down phase: scales, codes, the copies, and the first eight tiles. -/
theorem turnV (c : Dev nD) : TurnP m c (upP (argsOf m c) c) (dnP (argsOf m c) c) (c4P (argsOf m c) c) (s4P (argsOf m c)) := by
  unfold TurnP
  intro t arg2 harg2 arg3 harg3 arg4 harg4 arg5 harg5 arg6 harg6 arg7 harg7 arg8 harg8 arg9 harg9 arg10 harg10 arg14 harg14 f8 f9 f14 f13 f15 f16 f17 h1 h2 h3 h4 h5 e8 e9 hu hc4
  have h18 : t.val % 27 = 18 := by have := (cond3_iff _).mp h3; rwa [co1] at this
  have ht : t.val < 81 := t.isLt
  have hq : (t.val + 1) / 27 = t.val / 27 := by omega
  have hr : (t.val + 1) % 27 - 18 = t.val % 27 - 18 + 1 := by omega
  obtain ⟨hA, hM⟩ := hu
  have hA' : ∀ y : S2x640x4608.Idx, scM15.view.read (Elt Ideal) f15 y = actG (argsOf m c) (640 * (t.val / 27)) y := fun y => hA y (by
    have : (y 0).val < 2 := (y 0).isLt
    have : (y 2).val < 4608 := (y 2).isLt
    omega)
  have hM' : ∀ (r : Fin 640) (l : Fin 128), scM17.view.read (Elt Ideal) f17 (ix2 r l) = (argsOf m c).laneMax (640 * (t.val / 27) + r) l 72 := fun r l => by
    rw [hM, h18]
  have h17 := fun g => read17_sc (argsOf m c) (640 * (t.val / 27)) (c := c) f17 g hM'
  have h16 := fun g => quant_codes Variants.none c none (grid0.coords t) arg2 harg2 arg3 harg3 arg4 harg4 arg5 harg5 arg6 harg6 arg7 harg7 arg8 harg8 arg9 harg9 arg10 harg10 hbM11 (Memref.isWhole_whole _) hbM12 (Memref.isWhole_whole _) hbM13 (Memref.isWhole_whole _) arg14 harg14 scM15 (Memref.isWhole_whole _) scM16 (Memref.isWhole_whole _) scM17 (Memref.isWhole_whole _) scM18 (Memref.isWhole_whole _) cc0_scratch4 cc0_scratch5 cc0_scratch6 h3 f15 _ (argsOf m c) (640 * (t.val / 27)) hA' (h17 g) f16 _ trips1
  have U0 := fun g => dnReads m c t (le_of_eq h18.symm) arg8 arg9 f8 f9 _ _ e8 e9 (fun r k => h16 g (ix2 r k)) (h17 g)
  have h22 : ∀ (p : Fin 320) (l : Fin 128), run18.sl.v22 c f17 (ix2 p l) = (argsOf m c).sc (640 * (t.val / 27) + (0 + p)) := fun p l => by
    unfold run18.sl.v22 View.readCov
    exact (U0 scM17.view.junk).sl p l
  have h51 : ∀ (p : Fin 320) (l : Fin 128), run18.sl.v51 c f17 (ix2 p l) = (argsOf m c).sc (640 * (t.val / 27) + (320 + p)) := fun p l => by
    unfold run18.sl.v51 View.readCov
    exact (U0 scM17.view.junk).sh p l
  have U := fun g => (⟨(U0 g).cl, (U0 g).ch, h22, h51, (U0 g).h8, (U0 g).h9⟩ : DnReads (argsOf m c) (640 * (t.val / 27)) (512 * (t.val % 27 - 18)) _ _ (run18.sl.v22 c f17) (run18.sl.v51 c f17) c arg8 arg9 f8 f9)
  unfold run18
  dsimp only
  refine ⟨?_, ?_, ?_⟩
  · unfold dnP
    rw [hq, hr]
    refine ⟨fun y y0 hy => ?_, fun y y0 => ?_, fun r k => h16 _ (ix2 r k), fun r l => h17 _ r l⟩
    · rw [← co1 t] at hy U
      exact piecesDn (c := c) (grid0.coords t) ((cond4_iff _).mp h4) (argsOf m c) (640 * (t.val / 27)) _ _ _ _ _ _ _ _
        _ (dn_tile_320_384 (U _)) _ (dn_tile_320_256 (U _)) _ (dn_tile_0_384 (U _)) _ (dn_tile_0_256 (U _))
        _ (dn_tile_320_128 (U _)) _ (dn_tile_320_0 (U _)) _ (dn_tile_0_128 (U _)) _ (dn_tile_0_0 (U _))
        _ y y0 hy (fun h => absurd h (by rw [co1]; omega))
    · exact slot1_h1 m c (t.val / 27) (by omega) _ _ ((off9_eq _).trans (by rw [co0])) _ f15 y y0
  · exact c4_next (argsOf m c) c (t.val / 27) _ _ ((off8_eq _).trans (by rw [co0])) f13 _ (fun y => h16 _ y) hc4
  · exact s4_block (argsOf m c) (t.val / 27) f17 hM' arg14 _

end Cert.Proof.KernelIdeal

end
-- ==== Proof.VStep.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.Pipeline.ValueKit
public import proofs.«01_k».proof.Proof.VUp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The blocks an up point reads are its rows and columns of the arguments. -/
theorem upReads (c : Dev nD) (t : Fin cfg0.N) (h18 : t.val % 27 < 18) (arg2 : Memref sig .tc .vmem S640x4608 .fp8e4m3) (arg3 : Memref sig .tc .vmem S640x128 .f32) (arg4 : Memref sig .tc .vmem S4608x512 .fp8e4m3) (arg5 : Memref sig .tc .vmem S1x512 .f32) (arg6 : Memref sig .tc .vmem S4608x512 .fp8e4m3) (arg7 : Memref sig .tc .vmem S1x512 .f32) (f2 : HbBuf (F := Ideal) c arg2) (f3 : HbBuf (F := Ideal) c arg3) (f4 : HbBuf (F := Ideal) c arg4) (f5 : HbBuf (F := Ideal) c arg5) (f6 : HbBuf (F := Ideal) c arg6) (f7 : HbBuf (F := Ideal) c arg7)
    (e2 : arg2.view.read (Elt Ideal) f2 = iblk m c 0 t) (e3 : arg3.view.read (Elt Ideal) f3 = iblk m c 1 t) (e4 : arg4.view.read (Elt Ideal) f4 = iblk m c 2 t) (e5 : arg5.view.read (Elt Ideal) f5 = iblk m c 3 t) (e6 : arg6.view.read (Elt Ideal) f6 = iblk m c 4 t) (e7 : arg7.view.read (Elt Ideal) f7 = iblk m c 5 t) :
    UpReads (argsOf m c) (640 * (t.val / 27)) (512 * (t.val % 27)) c arg2 arg3 arg4 arg5 arg6 arg7 f2 f3 f4 f5 f6 f7 where
  h2 r k := (congrFun e2 _).trans (blk0 m c t r k)
  h3 r l := (congrFun e3 _).trans (blk1 m c t r l)
  h4 k j := (congrFun e4 _).trans (blk2 m c t h18 k j)
  h5 j := (congrFun e5 _).trans (blk3 m c t h18 0 j)
  h6 k j := (congrFun e6 _).trans (blk4 m c t h18 k j)
  h7 j := (congrFun e7 _).trans (blk5 m c t h18 0 j)

/-- A later point of the up phase: eight more tiles. -/
theorem stepV (c : Dev nD) : StepP m c (upP (argsOf m c) c) := by
  unfold StepP
  intro t arg2 harg2 arg3 harg3 arg4 harg4 arg5 harg5 arg6 harg6 arg7 harg7 arg8 harg8 arg9 harg9 arg10 harg10 arg14 harg14 f2 f3 f4 f5 f6 f7 f15 f17 h1 h2 h3 h4 h5 e2 e3 e4 e5 e6 e7 hup
  have h18 : t.val % 27 < 18 := by have := (cond2_iff _).mp h2; rwa [co1] at this
  have hq : (t.val + 1) / 27 = t.val / 27 := by omega
  have hr : (t.val + 1) % 27 = t.val % 27 + 1 := by omega
  have U := upReads m c t h18 arg2 arg3 arg4 arg5 arg6 arg7 f2 f3 f4 f5 f6 f7 e2 e3 e4 e5 e6 e7
  obtain ⟨hA, hM⟩ := hup
  unfold runUp
  dsimp only
  refine ⟨fun y hy => ?_, fun r l => ?_⟩
  · rw [hq]
    rw [hr, ← co1 t] at hy
    rw [← co1 t] at U hA
    exact pieces15 (grid0.coords t) (argsOf m c) (640 * (t.val / 27)) _ _ _ _ _ _ _ _
      _ (up_tile_320_384 _ _ _ _ _ _ _ _ _ _ _ _ _ U) _ (up_tile_320_256 _ _ _ _ _ _ _ _ _ _ _ _ _ U) _ (up_tile_0_384 _ _ _ _ _ _ _ _ _ _ _ _ _ U) _ (up_tile_0_256 _ _ _ _ _ _ _ _ _ _ _ _ _ U)
      _ (up_tile_320_128 _ _ _ _ _ _ _ _ _ _ _ _ _ U) _ (up_tile_320_0 _ _ _ _ _ _ _ _ _ _ _ _ _ U) _ (up_tile_0_128 _ _ _ _ _ _ _ _ _ _ _ _ _ U) _ (up_tile_0_0 _ _ _ _ _ _ _ _ _ _ _ _ _ U)
      f15 y hy (hA y)
  · rw [hq, hr, runUp.sl.H17_7, runUp.sl.H17_6]
    refine read17 f17 _ _ _ _ (fun r l => (argsOf m c).laneMax (640 * (t.val / 27) + r) l (4 * (t.val % 27 + 1))) (fun p l => ?_) (fun p l => ?_) r l
    · rw [up_max_320 _ _ _ _ _ _ _ _ _ _ _ _ _ U, ← Nat.add_assoc]
      refine mx_four _ _ _ _ p l ?_
      rw [View.readAt_eq_ld]
      have := hM ⟨320 + p.val, by omega⟩ l
      rw [Nat.add_assoc, ← this]
      exact View.ld_unit_apply_of _ _ _ _ _ _ (fun a => by fin_cases a; exacts [rfl, (Nat.zero_add _).symm])
    · rw [up_max_0 _ _ _ _ _ _ _ _ _ _ _ _ _ U, Nat.add_zero]
      refine mx_four _ _ _ _ p l ?_
      rw [View.readAt_eq_ld]
      have := hM ⟨p.val, by omega⟩ l
      rw [← this]
      exact View.ld_unit_apply_of _ _ _ _ _ _ (fun a => by fin_cases a; exacts [(Nat.zero_add _).symm, (Nat.zero_add _).symm])

/-- The zero fill read at an index. -/
theorem pay1_apply (y : S640x128.Idx) : k0_pay1 (F := Ideal) y = 0 := by
  unfold_payloads
  pointwise

/-- The first point of a block of rows: the lane maxima start from zero. -/
theorem firstV (c : Dev nD) : FirstP m c (upP (argsOf m c) c) := by
  unfold FirstP
  intro t arg2 harg2 arg3 harg3 arg4 harg4 arg5 harg5 arg6 harg6 arg7 harg7 arg8 harg8 arg9 harg9 arg10 harg10 arg14 harg14 f2 f3 f4 f5 f6 f7 f15 f17 h1 h2 h3 h4 h5 e2 e3 e4 e5 e6 e7
  have h0 : t.val % 27 = 0 := by have := (cond1_iff _).mp h1; rwa [co1] at this
  have hq : (t.val + 1) / 27 = t.val / 27 := by omega
  have hr : (t.val + 1) % 27 = t.val % 27 + 1 := by omega
  have U := upReads m c t (by omega) arg2 arg3 arg4 arg5 arg6 arg7 f2 f3 f4 f5 f6 f7 e2 e3 e4 e5 e6 e7
  unfold runFirst
  dsimp only
  refine ⟨fun y hy => ?_, fun r l => ?_⟩
  · rw [hq]
    rw [hr, ← co1 t] at hy
    rw [← co1 t] at U h0
    exact pieces15 (grid0.coords t) (argsOf m c) (640 * (t.val / 27)) _ _ _ _ _ _ _ _
      _ (up_tile_320_384 _ _ _ _ _ _ _ _ _ _ _ _ _ U) _ (up_tile_320_256 _ _ _ _ _ _ _ _ _ _ _ _ _ U) _ (up_tile_0_384 _ _ _ _ _ _ _ _ _ _ _ _ _ U) _ (up_tile_0_256 _ _ _ _ _ _ _ _ _ _ _ _ _ U)
      _ (up_tile_320_128 _ _ _ _ _ _ _ _ _ _ _ _ _ U) _ (up_tile_320_0 _ _ _ _ _ _ _ _ _ _ _ _ _ U) _ (up_tile_0_128 _ _ _ _ _ _ _ _ _ _ _ _ _ U) _ (up_tile_0_0 _ _ _ _ _ _ _ _ _ _ _ _ _ U)
      f15 y hy (fun h => absurd h (by omega))
  · rw [hq, hr, runFirst.sl.H17_8, runFirst.sl.H17_7]
    refine read17 f17 _ _ _ _ (fun r l => (argsOf m c).laneMax (640 * (t.val / 27) + r) l (4 * (t.val % 27 + 1))) (fun p l => ?_) (fun p l => ?_) r l
    · rw [first_max_320 _ _ _ _ _ _ _ _ _ _ _ _ _ U, ← Nat.add_assoc]
      refine mx_four _ _ _ _ p l ?_
      rw [h0]
      exact pay1_apply _
    · rw [first_max_0 _ _ _ _ _ _ _ _ _ _ _ _ _ U, Nat.add_zero]
      refine mx_four _ _ _ _ p l ?_
      rw [h0]
      exact pay1_apply _

end Cert.Proof.KernelIdeal

end
-- ==== Proof.VOut.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.Pipeline.ValueKit
public import Idealize.ShloMosaic.Lib.ValueLayout
public import Idealize.ShloMosaic.Lib.VecWindow
public import proofs.«01_k».proof.Proof.VTurnA

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {κ : Kind} {sp : Space} {e : EltTy}

/-- Rows of a matrix written whole through their slice. -/
theorem read_rows_writes_whole {N M T : ℕ} (v : View sig κ sp ⟨2, ![N, M]⟩ e) (f : v.ty.Contents (Elt Ideal)) (off : Fin 2 → ℕ) (o : ℕ) (heq : off = ![o, 0])
    (inb : ∀ a, off a + (![T, M] : Fin 2 → ℕ) a ≤ (⟨2, ![N, M]⟩ : Shape).size a) (w : (⟨2, ![T, M]⟩ : Shape).Idx → Elt Ideal e) (r : Fin T) (j : Fin M) (h : o + r.val < N) :
    v.read (Elt Ideal) ((v.slice (Rect.unit (s := ⟨2, ![N, M]⟩) off ![T, M] inb)).writes (Elt Ideal) f [⟨Rect.whole (Rect.unit (s := ⟨2, ![N, M]⟩) off ![T, M] inb).shape, w⟩]) (ix2 ⟨o + r.val, h⟩ j) = w (ix2 r j) := by
  subst heq
  have e : (ix2 ⟨o + r.val, h⟩ j : (⟨2, ![N, M]⟩ : Shape).Idx) = (Rect.unit (s := ⟨2, ![N, M]⟩) ![o, 0] ![T, M] inb).emb (ix2 r j) := by
    funext a
    refine Fin.ext ?_
    rw [ValueKit.rect_emb_unit_val]
    fin_cases a
    · rfl
    · exact (Nat.zero_add _).symm
  refine (congrArg (v.read (Elt Ideal) _) e).trans ?_
  exact congrFun (View.read_writes_whole (v.slice (Rect.unit (s := ⟨2, ![N, M]⟩) ![o, 0] ![T, M] inb)) f w) (ix2 r j)

/-- One slot of a stack of matrices, read through its squeezed slice after a store of that slot. -/
theorem read_slot {N A B : ℕ} (v : View sig κ sp ⟨3, ![N, A, B]⟩ e) (f : v.ty.Contents (Elt Ideal)) (off : Fin 3 → ℕ) (inb : ∀ a, off a + (![1, A, B] : Fin 3 → ℕ) a ≤ (⟨3, ![N, A, B]⟩ : Shape).size a)
    (w : (⟨3, ![1, A, B]⟩ : Shape).Idx → Elt Ideal e) (hn : (⟨2, ![A, B]⟩ : Shape).numel = (Rect.unit (s := ⟨3, ![N, A, B]⟩) off ![1, A, B] inb).shape.numel) (r : Fin A) (j : Fin B) :
    View.read (Elt Ideal) ((v.slice (Rect.unit (s := ⟨3, ![N, A, B]⟩) off ![1, A, B] inb)).reshape ⟨2, ![A, B]⟩ hn)
      (v.writes (Elt Ideal) f [⟨Rect.unit (s := ⟨3, ![N, A, B]⟩) off ![1, A, B] inb, w⟩]) (ix2 r j) = w (ix3 (⟨0, Nat.one_pos⟩ : Fin 1) r j) := by
  show v.read (Elt Ideal) _ ((Rect.unit (s := ⟨3, ![N, A, B]⟩) off ![1, A, B] inb).emb (Shape.reshapeEquiv hn (ix2 r j))) = _
  rw [show Shape.reshapeEquiv hn (ix2 r j) = ix3 (⟨0, Nat.one_pos⟩ : Fin 1) r j from ValueIdx.reshapeEquiv_ix2_1ab hn r j]
  exact View.read_writes_cons_emb v f (Rect.unit (s := ⟨3, ![N, A, B]⟩) off ![1, A, B] inb) w [] _

end

/-- The result of 32 rows, from their down products, the rows of the residual and the gain. -/
theorem pay12_out (A : Args) (R : ℕ) (v20 : Vec Ideal S1x4608 .f32) (v43 v46 : Vec Ideal S1x32x4608 .f32) (h20 : ∀ l : Fin 4608, v20 (ix2 0 l) = A.g l)
    (h43 : ∀ (r : Fin 32) (l : Fin 4608), v43 (ix3 0 r l) = A.h1 (R + r) l) (h46 : ∀ (r : Fin 32) (l : Fin 4608), v46 (ix3 0 r l) = A.dn (R + r) l)
    (r : Fin 32) (l : Fin 4608) : k0_pay12 v20 v43 v46 (ix3 0 r l) = A.out (R + r) l := by
  unfold_payloads
  pointwise
  simp only [h20, h43, h46, Nat.zero_add]
  rfl

/-- An element of the buffer lies in its second half just when its first coordinate is one. -/
theorem mem_slot1 (y : S2x640x4608.Idx) : scM15.view.emb y ∈ slot1.view.set ↔ (y 0).val = 1 := by
  rw [Memref.set_view_squeeze]
  have e : (scM15.slice (Rect.unit (s := S2x640x4608) ![1, 0, 0] S1x640x4608.size inb_S2x640x4608_S1x640x4608_1_0_0) (fun _ => rfl)).view.set
      = (Rect.unit (s := S2x640x4608) ![1, 0, 0] S1x640x4608.size inb_S2x640x4608_S1x640x4608_1_0_0).set.map scM15.view.emb := View.set_slice _ _
  rw [e]
  refine (Finset.mem_map' scM15.view.emb).trans ?_
  rw [Rect.mem_set_unit]
  have h0 : (y 0).val < 2 := (y 0).isLt
  have h1 : (y 1).val < 640 := (y 1).isLt
  have h2 : (y 2).val < 4608 := (y 2).isLt
  constructor
  · intro h; have := h 0; simp [S1x640x4608] at this; omega
  · intro h a; fin_cases a <;> simp [S1x640x4608] <;> omega

/-- The two halves put together, read in the first and in the second. -/
theorem read_halves {c : Dev nD} (g d : HbBuf (F := Ideal) c scM15) (y : S2x640x4608.Idx) :
    ((y 0).val = 0 → scM15.view.read (Elt Ideal) (slot1.view.set.piecewise g d) y = scM15.view.read (Elt Ideal) d y)
      ∧ ((y 0).val = 1 → scM15.view.read (Elt Ideal) (slot1.view.set.piecewise g d) y = scM15.view.read (Elt Ideal) g y) := by
  constructor
  · intro h
    exact congrArg _ (Finset.piecewise_eq_of_notMem _ g d (fun hm => by have := (mem_slot1 y).mp hm; omega))
  · intro h
    exact congrArg _ (Finset.piecewise_eq_of_mem _ g d ((mem_slot1 y).mpr h))

/-- The first `640 * k` rows of the result in HBM. -/
def outP (A : Args) (c : Dev nD) (k : ℕ) (f : HbBuf (F := Ideal) c hbM12) : Prop :=
  ∀ (r : Fin 1920) (j : Fin 4608), r.val < 640 * k → hbM12.view.read (Elt Ideal) f (ix2 r j) = A.out r j

/-- What the copy of one block of 32 rows leaves in HBM. -/
theorem blkVal_read {c : Dev nD} {i : grid0.Coords} {h5 : k0_cond5 i = 1#1} {v20 : Vec Ideal S1x4608 .f32} {f15 : HbBuf (F := Ideal) c scM15} {k : Fin k0_t2_loop.trips} {fd : HbBuf (F := Ideal) c hbM12}
    (hv : BlkVal c i h5 v20 f15 k fd) (r : Fin 32) (j : Fin 4608) (h : 640 * (i 0).val + 32 * k.val + r.val < 1920) :
    hbM12.view.read (Elt Ideal) fd (ix2 ⟨640 * (i 0).val + 32 * k.val + r.val, h⟩ j)
      = k0_pay12 v20 (View.readAt (Elt Ideal) scM15.view (Rect.unit (s := S2x640x4608) (k0_off17 k) S1x32x4608.size (k0_off17_inb i k h5)).toLoadRect f15)
          (View.readAt (Elt Ideal) scM15.view (Rect.unit (s := S2x640x4608) (k0_off18 k) S1x32x4608.size (k0_off18_inb i k h5)).toLoadRect f15) (ix3 0 r j) := by
  rcases hv with ⟨fb, fs, rfl⟩ | ⟨fb, fs, rfl⟩
  · exact (read_rows_writes_whole (View.whole main_v6_0) fb (k0_off21 i k) _ (k0_off21_eq i k) (k0_off21_inb i k h5) _ r j h).trans
      (read_slot (View.whole cc0_scratch3) fs ![0, 0, 0] inb_S2x32x4608_S1x32x4608_0_0_0 _ _ r j)
  · exact (read_rows_writes_whole (View.whole main_v6_0) fb (k0_off21 i k) _ (k0_off21_eq i k) (k0_off21_inb i k h5) _ r j h).trans
      (read_slot (View.whole cc0_scratch3) fs ![1, 0, 0] inb_S2x32x4608_S1x32x4608_1_0_0 _ _ r j)

/-- A place of the result is in block `k` just when its row is one of the block's 32. -/
theorem mem_blkSet (c : Dev nD) (i : grid0.Coords) (h5 : k0_cond5 i = 1#1) (k : Fin k0_t2_loop.trips) (r : Fin 1920) (j : Fin 4608) :
    hbM12.view.emb (ix2 r j) ∈ blkSet c i h5 k ↔ 640 * (i 0).val + 32 * k.val ≤ r.val ∧ r.val < 640 * (i 0).val + 32 * k.val + 32 := by
  have e : blkSet c i h5 k = (Rect.unit (s := S1920x4608) (k0_off21 i k) S32x4608.size (k0_off21_inb i k h5)).set.map hbM12.view.emb := View.set_slice _ _
  rw [e]
  refine (Finset.mem_map' hbM12.view.emb).trans ?_
  rw [Rect.mem_set_unit, k0_off21_eq]
  constructor
  · intro h; exact h 0
  · intro h a
    fin_cases a
    · exact h
    · exact ⟨Nat.zero_le _, by have : j.val < 4608 := j.isLt; show j.val < 0 + 4608; omega⟩

end Cert.Proof.KernelIdeal

end
-- ==== Proof.VLast.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.Pipeline.ValueKit
public import Idealize.ShloMosaic.Lib.ValueLayout
public import Idealize.ShloMosaic.Lib.VecWindow
public import proofs.«01_k».proof.Proof.VOut
public import proofs.«01_k».proof.Proof.VDnStep

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The place a row of 32 has in a slot of the buffer. -/
theorem off_val (k : Fin k0_t2_loop.trips) (p : Fin 32) (l : Fin 4608) (u : Fin 2) (off : Fin 3 → ℕ) (heq : off = ![u.val, 32 * k.val, 0]) {h : 32 * k.val + p.val < 640} :
    ∀ a : Fin 3, ((ix3 u (⟨32 * k.val + p.val, h⟩ : Fin 640) l : S2x640x4608.Idx) a).val = off a + ((ix3 0 p l : S1x32x4608.Idx) a).val := by
  subst heq
  intro a
  fin_cases a
  · rfl
  · rfl
  · exact (Nat.zero_add _).symm

/-- The last point of a block of rows: the last eight tiles, then the result written block by block. -/
theorem lastV (c : Dev nD) : LastP m c (dnP (argsOf m c) c) (outP (argsOf m c) c) := by
  unfold LastP
  intro t arg2 harg2 arg3 harg3 arg4 harg4 arg5 harg5 arg6 harg6 arg7 harg7 arg8 harg8 arg9 harg9 arg10 harg10 arg14 harg14 f8 f9 f10 f13 d15 g15 f15 f16 f17 W h1 h2 h3 h4 h5 e8 e9 e10 hd hf15 f12 g12 hout hn hb
  have h26 : t.val % 27 = 26 := by have := (cond5_iff _).mp h5; rwa [co1] at this
  have ht : t.val < 81 := t.isLt
  have h18 : 18 ≤ t.val % 27 := by omega
  have hc0 := co0 t
  obtain ⟨hD, hH, hC, hS⟩ := hd
  have U := dnReads m c t h18 arg8 arg9 f8 f9 f16 f17 e8 e9 hC hS
  have hi : ((grid0.coords t) 1).val = 26 := by rw [co1]; exact h26
  rw [← co1 t] at U hD
  have hD0 : ∀ y : S2x640x4608.Idx, (y 0).val = 0 → scM15.view.read (Elt Ideal) (scM15.view.writes (Elt Ideal) f15 (run26 (F := Ideal) c (grid0.coords t) arg2 harg2 arg3 harg3 arg4 harg4 arg5 harg5 arg6 harg6 arg7 harg7 arg8 harg8 arg9 harg9 arg10 harg10 arg14 harg14 f8 f9 f10 (V m c main_arg9) f13 f15 f16 f17 W h1 h2 h3 h4 h5).1) y = dnG (argsOf m c) (640 * (t.val / 27)) y := by
    intro y y0
    unfold run26
    dsimp only
    exact piecesDn (c := c) (grid0.coords t) ((cond4_iff _).mp h4) (argsOf m c) (640 * (t.val / 27)) _ _ _ _ _ _ _ _
      _ (dn_tile_320_384 U) _ (dn_tile_320_256 U) _ (dn_tile_0_384 U) _ (dn_tile_0_256 U)
      _ (dn_tile_320_128 U) _ (dn_tile_320_0 U) _ (dn_tile_0_128 U) _ (dn_tile_0_0 U)
      f15 y y0 (by rw [hi]; exact (y 2).isLt) (fun h => by rw [hf15, (read_halves g15 d15 y).1 y0]; exact hD y y0 h)
  have hD1 : ∀ y : S2x640x4608.Idx, (y 0).val = 1 → scM15.view.read (Elt Ideal) (scM15.view.writes (Elt Ideal) f15 (run26 (F := Ideal) c (grid0.coords t) arg2 harg2 arg3 harg3 arg4 harg4 arg5 harg5 arg6 harg6 arg7 harg7 arg8 harg8 arg9 harg9 arg10 harg10 arg14 harg14 f8 f9 f10 (V m c main_arg9) f13 f15 f16 f17 W h1 h2 h3 h4 h5).1) y = (argsOf m c).h1 (640 * (t.val / 27) + (y 1).val) (y 2).val := by
    intro y y0
    unfold run26
    dsimp only
    refine (piecesDn_other (c := c) (grid0.coords t) ((cond4_iff _).mp h4) (argsOf m c) (640 * (t.val / 27)) _ _ _ _ _ _ _ _
      _ (dn_tile_320_384 U) _ (dn_tile_320_256 U) _ (dn_tile_0_384 U) _ (dn_tile_0_256 U)
      _ (dn_tile_320_128 U) _ (dn_tile_320_0 U) _ (dn_tile_0_128 U) _ (dn_tile_0_0 U)
      f15 y y0).trans ?_
    rw [hf15, (read_halves g15 d15 y).2 y0]
    exact hH y y0
  generalize (scM15.view.writes (Elt Ideal) f15 (run26 (F := Ideal) c (grid0.coords t) arg2 harg2 arg3 harg3 arg4 harg4 arg5 harg5 arg6 harg6 arg7 harg7 arg8 harg8 arg9 harg9 arg10 harg10 arg14 harg14 f8 f9 f10 (V m c main_arg9) f13 f15 f16 f17 W h1 h2 h3 h4 h5).1) = X at hb hD0 hD1
  have hg : ∀ l : Fin 4608, (View.readAt (Elt Ideal) arg10.view (Rect.unit (s := S1x4608) ![0, 0] S1x4608.size inb_S1x4608_S1x4608_0_0).toLoadRect f10) (ix2 0 l) = (argsOf m c).g l := by
    intro l
    rw [← blk8 m c t 0 l, ← e10, View.readAt_eq_ld]
    exact View.ld_unit_apply_of _ _ _ _ _ _ (fun a => by fin_cases a; exacts [rfl, (Nat.zero_add _).symm])
  intro r j hr
  by_cases h : 640 * (t.val / 27) ≤ r.val
  · have hk : (r.val - 640 * (t.val / 27)) / 32 < k0_t2_loop.trips := by rw [trips2]; omega
    obtain ⟨k, hkv⟩ : ∃ k : Fin k0_t2_loop.trips, k.val = (r.val - 640 * (t.val / 27)) / 32 := ⟨⟨_, hk⟩, rfl⟩
    have hk20 : k.val < 20 := trips2 ▸ k.isLt
    obtain ⟨fd, hv, hfd⟩ := hb k
    have hm := (mem_blkSet c (grid0.coords t) h5 k r j).mpr (by rw [hc0]; omega)
    have hq : (r.val - 640 * (t.val / 27)) % 32 < 32 := Nat.mod_lt _ (by decide)
    have hlt : 640 * ((grid0.coords t) 0).val + 32 * k.val + (⟨(r.val - 640 * (t.val / 27)) % 32, hq⟩ : Fin 32).val < 1920 := by
      rw [hc0]; show 640 * (t.val / 27) + 32 * k.val + (r.val - 640 * (t.val / 27)) % 32 < 1920; omega
    have hre : r = ⟨640 * ((grid0.coords t) 0).val + 32 * k.val + (⟨(r.val - 640 * (t.val / 27)) % 32, hq⟩ : Fin 32).val, hlt⟩ := by
      refine Fin.ext ?_
      show r.val = 640 * ((grid0.coords t) 0).val + 32 * k.val + (r.val - 640 * (t.val / 27)) % 32
      rw [hc0]; omega
    have e1 : hbM12.view.read (Elt Ideal) g12 (ix2 r j) = hbM12.view.read (Elt Ideal) fd (ix2 r j) := congrArg _ (hfd _ hm)
    rw [e1]
    refine (congrArg (fun r => hbM12.view.read (Elt Ideal) fd (ix2 r j)) hre).trans ((blkVal_read hv ⟨_, hq⟩ j hlt).trans ?_)
    refine (pay12_out (argsOf m c) (640 * (t.val / 27) + 32 * k.val) _ _ _ hg ?_ ?_ ⟨_, hq⟩ j).trans ?_
    · intro p l
      have := hD1 (ix3 1 (⟨32 * k.val + p.val, by omega⟩ : Fin 640) l) rfl
      rw [View.readAt_eq_ld]
      refine (View.ld_unit_apply_of _ _ _ _ _ (ix3 1 (⟨32 * k.val + p.val, by omega⟩ : Fin 640) l) (off_val k p l 1 _ (k0_off17_eq k))).trans (this.trans ?_)
      show (argsOf m c).h1 (640 * (t.val / 27) + (32 * k.val + p.val)) l = _
      rw [Nat.add_assoc]
    · intro p l
      have := hD0 (ix3 0 (⟨32 * k.val + p.val, by omega⟩ : Fin 640) l) rfl
      rw [View.readAt_eq_ld]
      refine (View.ld_unit_apply_of _ _ _ _ _ (ix3 0 (⟨32 * k.val + p.val, by omega⟩ : Fin 640) l) (off_val k p l 0 _ (k0_off18_eq k))).trans (this.trans ?_)
      show (argsOf m c).dn (640 * (t.val / 27) + (32 * k.val + p.val)) l = _
      rw [Nat.add_assoc]
    · show (argsOf m c).out (640 * (t.val / 27) + 32 * k.val + (r.val - 640 * (t.val / 27)) % 32) j = (argsOf m c).out r j
      rw [show 640 * (t.val / 27) + 32 * k.val + (r.val - 640 * (t.val / 27)) % 32 = r.val by omega]
  · have e1 : hbM12.view.read (Elt Ideal) g12 (ix2 r j) = hbM12.view.read (Elt Ideal) f12 (ix2 r j) :=
      congrArg _ (hn _ (fun k hm => by have := (mem_blkSet c (grid0.coords t) h5 k r j).mp hm; rw [hc0] at this; omega))
    rw [e1]
    exact hout r j (by omega)

end Cert.Proof.KernelIdeal

end
-- ==== Proof.VSpec.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.Pipeline.ValueKit
public import Idealize.ShloMosaic.Lib.Pipeline.ArrRel
public import proofs.«01_k».proof.Proof.IPoints
public import proofs.«01_k».proof.Proof.VTurn
public import proofs.«01_k».proof.Proof.VStep
public import proofs.«01_k».proof.Proof.VLast

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What the kernel keeps, with every value named. -/
def specV (m : (ℓ : Loc nD τ sig) → Buf (Elt Ideal) ℓ) (c : Dev nD) : Spec (F := Ideal) m c where
  up := upP (argsOf m c) c
  dn := dnP (argsOf m c) c
  c4 := c4P (argsOf m c) c
  out := outP (argsOf m c) c
  s4 := s4P (argsOf m c)
  c4_zero _ _ _ h := absurd h (by omega)
  out_zero _ _ _ h := absurd h (by omega)
  first := firstV m c
  step := stepV m c
  turn := turnV m c
  down := downV m c
  last := lastV m c

/-- The result, the codes and the scales as arrays. -/
def outArr (A : Args) : (⟨2, ![1920, 4608]⟩ : Shape).Idx → EReal := fun y => A.out (y 0).val (y 1).val
def codeArr (A : Args) : (⟨2, ![1920, 9216]⟩ : Shape).Idx → EReal := fun y => A.code (y 0).val (y 1).val
def scArr (A : Args) : (⟨3, ![3, 1, 640]⟩ : Shape).Idx → EReal := fun y => A.sc (640 * (y 0).val + (y 2).val)

variable (m : (ℓ : Loc nD τ sig) → Buf (Elt Ideal) ℓ) (ρ : Dev nD → PrngReg)

/-- What the two results the body copies out are to hold at the end. -/
def GV (c : Dev nD) : (b : Ref sig .tc) → Buf (Elt Ideal) ((c.tc : Thread nD τ).loc b) :=
  Function.update (Function.update (V m c) main_v6_0 (outArr (argsOf m c))) main_v6_1 (codeArr (argsOf m c))

theorem GV_0 (c : Dev nD) : GV m c main_v6_0 = outArr (argsOf m c) := by
  unfold GV; rw [Function.update_of_ne (by decide), Function.update_self]
theorem GV_1 (c : Dev nD) : GV m c main_v6_1 = codeArr (argsOf m c) := by
  unfold GV; rw [Function.update_self]

theorem out_eq (c : Dev nD) (f12 : HbBuf (F := Ideal) c hbM12) (h : outP (argsOf m c) c 3 f12) : f12 = GV m c main_v6_0 := by
  rw [GV_0]
  funext y
  obtain ⟨r, j, rfl⟩ : ∃ (r : Fin 1920) (j : Fin 4608), y = ix2 r j := ⟨y 0, y 1, by funext a; fin_cases a <;> rfl⟩
  exact h r j (by have := r.isLt; omega)

theorem code_eq (c : Dev nD) (f13 : HbBuf (F := Ideal) c hbM13) (h : c4P (argsOf m c) c 3 f13) : f13 = GV m c main_v6_1 := by
  rw [GV_1]
  funext y
  obtain ⟨r, j, rfl⟩ : ∃ (r : Fin 1920) (j : Fin 9216), y = ix2 r j := ⟨y 0, y 1, by funext a; fin_cases a <;> rfl⟩
  exact h r j (by have := r.isLt; omega)

theorem idx9 : ∀ t : Fin cfg0.N, win0_9.index t = ![t.val / 27, 0, 0] := by decide +kernel

/-- The array of scales at the end. -/
theorem sc_eq (c : Dev nD) (r : PUnit × MemSt nD τ sig (Elt Ideal)) (h : Pipeline.RDat.FramePostR cfg0 (rdat (specV m)) R0 (V m) r) :
    r.2.mem ((c : Thread nD τ).loc main_v6_2) = scArr (argsOf m c) := by
  obtain ⟨after, hL, hA⟩ := Pipeline.RDat.FramePostR.exists_exact h c
  refine (hA 9).trans (Dat.arrAt_eq_of_covers _ 9 _ (by decide +kernel) fun t hf y => ?_)
  obtain ⟨Y, -, hY⟩ := hL 9 t hf
  have ht : t.val < 81 := t.isLt
  have h26 : t.val % 27 = 26 := (flush0_9 t).mp hf
  have hs : s4P (argsOf m c) (t.val / 27) (after 9 t) := hY (by omega)
  have hy : ∃ q : Fin 640, (win0_9.xinj (grid0.coords t) y) = ix3 0 0 q := ⟨win0_9.xinj (grid0.coords t) y 2, by
    funext a; fin_cases a
    · exact Subsingleton.elim (α := Fin 1) _ _
    · exact Subsingleton.elim (α := Fin 1) _ _
    · rfl⟩
  obtain ⟨q, hq⟩ := hy
  have hq2 : (y 2).val = q.val := congrArg (fun z : S1x1x640.Idx => (z 2).val) hq
  refine ((congrArg (after 9 t) hq).trans (hs q)).trans ?_
  refine congrArg (argsOf m c).sc ?_
  blk_simp [idx9 t]
  dsimp only
  exact congrArg _ hq2.symm

/-- The run of the kernel: the three results are the arrays named above, and the arguments are as launched. -/
theorem run_V : θ_run defs (onTc (τ := τ) (main (F := Ideal))) (s₀ m ρ) (fun r => ∀ c : Dev nD,
    r.2.mem ((c : Thread nD τ).loc main_v6_0) = outArr (argsOf m c) ∧ r.2.mem ((c : Thread nD τ).loc main_v6_1) = codeArr (argsOf m c)
      ∧ r.2.mem ((c : Thread nD τ).loc main_v6_2) = scArr (argsOf m c)
      ∧ Pipeline.RDat.FramePostR cfg0 (rdat (specV m)) R0 (V m) r) := by
  refine (θ_run defs _ _).mono (fun r h c => ?_) (run_value m (specV m) ρ (GV m) (out_eq m) (code_eq m))
  have hR := h.1.toR
  exact ⟨(h.1.written c (b := main_v6_0) (by decide)).trans (GV_0 m c), (h.1.written c (b := main_v6_1) (by decide)).trans (GV_1 m c), sc_eq m c r hR, hR⟩

end Cert.Proof.KernelIdeal

end
-- ==== Proof.VRefA.lean ====
module

public import proofs.«01_k».proof.Proof.Gen.ReferenceIdeal.Frame
public import Idealize.ShloMosaic.Lib.Tactic
public import Idealize.ShloMosaic.Lib.Pointwise
public import Idealize.ShloMosaic.Lib.Pipeline.ValueKit
public import Idealize.ShloMosaic.Lib.ValueLayout
public import proofs.«01_k».proof.Proof.VDown

@[expose] public section

set_option maxRecDepth 16384

noncomputable section

namespace Cert.Proof.ReferenceIdeal

open Cert.ReferenceIdeal Cert.ReferenceIdeal.Gen
open Cert.Proof.KernelIdeal (Args geluE absE negInf_eq)
open Idealize.ShloMosaic Idealize.ShloMosaic.TcCoe Idealize.ShloMosaic.Tactic

/-- The gated activations of the reference. -/
theorem pay2_act (A : Args) (v0 : Vec Ideal S1920x4608 .fp8e4m3) (v1 : Vec Ideal S1920x1 .f32) (v3 : Vec Ideal S4608x9216 .fp8e4m3) (v4 : Vec Ideal S1x9216 .f32) (v14 : Vec Ideal S4608x9216 .fp8e4m3) (v15 : Vec Ideal S1x9216 .f32)
    (h0 : ∀ (r : Fin 1920) (k : Fin 4608), v0 (ix2 r k) = A.c3 r k) (h1 : ∀ r : Fin 1920, v1 (ix2 r 0) = A.s3 r)
    (h3 : ∀ (k : Fin 4608) (j : Fin 9216), v3 (ix2 k j) = A.wg k j) (h4 : ∀ j : Fin 9216, v4 (ix2 0 j) = A.wgs j)
    (h14 : ∀ (k : Fin 4608) (j : Fin 9216), v14 (ix2 k j) = A.wu k j) (h15 : ∀ j : Fin 9216, v15 (ix2 0 j) = A.wus j)
    (r : Fin 1920) (j : Fin 9216) : k0_pay2 v0 v1 v3 v4 v0 v1 v14 v15 (ix2 r j) = A.act r j := by
  unfold k0_pay2
  pointwise
  simp only [h0, h1, h3, h4, h14, h15]
  unfold Args.act geluE
  generalize (∑ k : Fin 4608, A.c3 r k * A.wg k j) * A.s3 r * A.wgs j = x
  rw [mul_assoc x x x]

/-- Their magnitudes. -/
theorem pay3_abs (A : Args) (v0 : Vec Ideal S1920x4608 .fp8e4m3) (v1 : Vec Ideal S1920x1 .f32) (v3 : Vec Ideal S4608x9216 .fp8e4m3) (v4 : Vec Ideal S1x9216 .f32) (v14 : Vec Ideal S4608x9216 .fp8e4m3) (v15 : Vec Ideal S1x9216 .f32)
    (h : ∀ (r : Fin 1920) (j : Fin 9216), k0_pay2 v0 v1 v3 v4 v0 v1 v14 v15 (ix2 r j) = A.act r j)
    (r : Fin 1920) (j : Fin 9216) : k0_pay3 v0 v1 v3 v4 v0 v1 v14 v15 (ix2 r j) = absE (A.act r j) := by
  unfold k0_pay3
  pointwise
  rw [h]
  rfl

/-- The choice of the scale, read at a row. -/
theorem sel_eq (w : FVec Ideal S1920 .f32) (r : Fin 1920) : (select (cmpf .oeq (shapeCast S1920x1 w shapeCasts_S1920_S1920x1) (broadcast S1920x1 (Scalar.ofBits (F := Ideal) .f32 0x00000000#32))) (broadcast S1920x1 (Scalar.ofBits (F := Ideal) .f32 0x3F800000#32)) (divf (shapeCast S1920x1 w shapeCasts_S1920_S1920x1) (broadcast S1920x1 (Scalar.ofBits (F := Ideal) .f32 0x43E00000#32)))) (ix2 r 0)
    = if w (ix1 r) = 0 then 1 else Ideal.div (w (ix1 r)) (Ideal.ofBits .f32 0x43E00000#32) := by
  pointwise

/-- The maximum of a row. -/
theorem max_eq (v36 : FVec Ideal S1920x9216 .f32) (r : Fin 1920) : multiReduction .maximumf [1] S1920 v36 0xFF800000#32 reduces_S1920x9216_S1920 (.inl rfl) rfl (ix1 r)
    = (Finset.univ : Finset (Fin 9216)).fold max (Ideal.ofBits .f32 0xFF800000#32) fun x => v36 (ix2 r x) := by
  pointwise

/-- The largest magnitude of a row, spelt out. -/
theorem rowMax_eq (A : Args) (r : ℕ) : A.rowMax r = (Finset.univ : Finset (Fin 9216)).fold max ⊥ fun j : Fin 9216 => absE (A.act r j) := by unfold Args.rowMax; rfl

/-- The scale of a row. -/
theorem pay4_sc (A : Args) (v36 : FVec Ideal S1920x9216 .f32) (h : ∀ (r : Fin 1920) (j : Fin 9216), v36 (ix2 r j) = absE (A.act r j)) (r : Fin 1920) : k0_pay4 v36 (ix2 r 0) = A.sc r := by
  unfold k0_pay4
  refine (sel_eq _ r).trans ?_
  rw [max_eq, negInf_eq, show (fun x : Fin 9216 => v36 (ix2 r x)) = fun j : Fin 9216 => absE (A.act r j) from funext fun x => h r x, ← rowMax_eq]
  unfold Args.sc
  rfl

/-- The code of a quotient, read at a place. -/
theorem clip_eq (v : FVec Ideal S1920x9216 .f32) (s : FVec Ideal S1920x1 .f32) (r : Fin 1920) (j : Fin 9216) : (truncf .fp8e4m3 (minimumf (broadcast S1920x9216 (Scalar.ofBits (F := Ideal) .f32 0x43E00000#32)) (maximumf (broadcast S1920x9216 (Scalar.ofBits (F := Ideal) .f32 0xC3E00000#32)) (divf v (broadcastTo S1920x9216 s broadcasts_S1920x1_S1920x9216)))) bitsLt_fp8e4m3_f32 : FVec Ideal S1920x9216 .fp8e4m3) (ix2 r j)
    = min (Ideal.ofBits .f32 0x43E00000#32) (max (Ideal.ofBits .f32 0xC3E00000#32) (Ideal.div (v (ix2 r j)) (s (ix2 r 0)))) := by
  pointwise

/-- The codes. -/
theorem pay5_code (A : Args) (v35 v36 : FVec Ideal S1920x9216 .f32) (h35 : ∀ (r : Fin 1920) (j : Fin 9216), v35 (ix2 r j) = A.act r j) (h : ∀ (r : Fin 1920) (j : Fin 9216), v36 (ix2 r j) = absE (A.act r j))
    (r : Fin 1920) (j : Fin 9216) : k0_pay5 v35 v36 (ix2 r j) = A.code r j := by
  have hs := pay4_sc A v36 h
  unfold k0_pay5
  generalize k0_pay4 v36 = s at hs ⊢
  refine (clip_eq v35 s r j).trans ?_
  rw [h35, hs]
  unfold Args.code
  rfl

/-- The norm and the sum with the residual, read at a place. -/
theorem norm_eq (D v76 : FVec Ideal S1920x4608 .f32) (v70 : FVec Ideal S1x4608 .f32) (r : Fin 1920) (j : Fin 4608) :
    (truncf .bf16 (addf v76 (mulf (divf D (broadcastTo S1920x4608 (sqrt (addf (divf (shapeCast S1920x1 (multiReduction .add [1] S1920 (mulf D D) 0x00000000#32 reduces_S1920x4608_S1920 (.inl rfl) rfl) shapeCasts_S1920_S1920x1) (broadcast S1920x1 (Scalar.ofBits (F := Ideal) .f32 0x45900000#32))) (broadcast S1920x1 (Scalar.ofBits (F := Ideal) .f32 0x358637BD#32)))) broadcasts_S1920x1_S1920x4608))
      (broadcastTo S1920x4608 (addf (broadcast S1x4608 (Scalar.ofBits (F := Ideal) .f32 0x3F800000#32)) (shapeCast S1x4608 v70 shapeCasts_S1x4608_S1x4608)) broadcasts_S1x4608_S1920x4608))) bitsLt_bf16_f32 : FVec Ideal S1920x4608 .bf16) (ix2 r j)
    = v76 (ix2 r j) + Ideal.div (D (ix2 r j)) (Ideal.sqrt (Ideal.div (∑ k : Fin 4608, D (ix2 r k) * D (ix2 r k)) (Ideal.ofBits .f32 0x45900000#32) + Ideal.ofBits .f32 0x358637BD#32)) * (1 + v70 (ix2 0 j)) := by
  pointwise

/-- The scaled product, read at a place. -/
theorem dot_eq (q : FVec Ideal S1920x9216 .fp8e4m3) (v52 : FVec Ideal S9216x4608 .fp8e4m3) (s : FVec Ideal S1920x1 .f32) (v53 : FVec Ideal S1x4608 .f32) (r : Fin 1920) (j : Fin 4608) :
    (mulf (mulf (matmul dot_S1920x9216_S9216x4608_S1920x4608_1_0_0_1_n_n none q v52 (constant S1920x4608 .f32 0x00000000#32)) (broadcastTo S1920x4608 s broadcasts_S1920x1_S1920x4608)) (broadcastTo S1920x4608 (shapeCast S1x4608 v53 shapeCasts_S1x4608_S1x4608) broadcasts_S1x4608_S1920x4608) : FVec Ideal S1920x4608 .f32) (ix2 r j)
    = (∑ k : Fin 9216, q (ix2 r k) * v52 (ix2 k j)) * s (ix2 r 0) * v53 (ix2 0 j) := by
  pointwise

/-- The down products before the norm. -/
def dnV (q : FVec Ideal S1920x9216 .fp8e4m3) (v52 : FVec Ideal S9216x4608 .fp8e4m3) (s : FVec Ideal S1920x1 .f32) (v53 : FVec Ideal S1x4608 .f32) : FVec Ideal S1920x4608 .f32 :=
  mulf (mulf (matmul dot_S1920x9216_S9216x4608_S1920x4608_1_0_0_1_n_n none q v52 (constant S1920x4608 .f32 0x00000000#32)) (broadcastTo S1920x4608 s broadcasts_S1920x1_S1920x4608)) (broadcastTo S1920x4608 (shapeCast S1x4608 v53 shapeCasts_S1x4608_S1x4608) broadcasts_S1x4608_S1920x4608)

/-- The result. -/
theorem pay6_out (A : Args) (v35 v36 : FVec Ideal S1920x9216 .f32) (v52 : Vec Ideal S9216x4608 .fp8e4m3) (v53 v70 : Vec Ideal S1x4608 .f32) (v76 : Vec Ideal S1920x4608 .f32)
    (h35 : ∀ (r : Fin 1920) (j : Fin 9216), v35 (ix2 r j) = A.act r j) (h : ∀ (r : Fin 1920) (j : Fin 9216), v36 (ix2 r j) = absE (A.act r j))
    (h52 : ∀ (k : Fin 9216) (j : Fin 4608), v52 (ix2 k j) = A.wd k j) (h53 : ∀ j : Fin 4608, v53 (ix2 0 j) = A.wds j) (h70 : ∀ j : Fin 4608, v70 (ix2 0 j) = A.g j)
    (h76 : ∀ (r : Fin 1920) (j : Fin 4608), v76 (ix2 r j) = A.h1 r j)
    (r : Fin 1920) (j : Fin 4608) : k0_pay6 v35 v36 v52 v53 v70 v76 (ix2 r j) = A.out r j := by
  have hs := pay4_sc A v36 h
  have hc := pay5_code A v35 v36 h35 h
  unfold k0_pay6
  generalize k0_pay4 v36 = s at hs ⊢
  generalize k0_pay5 v35 v36 = q at hc ⊢
  have hd : ∀ (r : Fin 1920) (j : Fin 4608), dnV q v52 s v53 (ix2 r j) = A.dn r j := by
    intro r j
    unfold dnV
    refine (dot_eq q v52 s v53 r j).trans ?_
    rw [hs, h53]
    unfold Args.dn
    exact congrArg (fun z => z * A.sc r * A.wds j) (Finset.sum_congr rfl fun k _ => by rw [hc, h52])
  refine (norm_eq (dnV q v52 s v53) v76 v70 r j).trans ?_
  rw [h76, h70, hd, show (fun k : Fin 4608 => dnV q v52 s v53 (ix2 r k) * dnV q v52 s v53 (ix2 r k)) = fun k : Fin 4608 => A.dn r k * A.dn r k from funext fun k => by rw [hd]]
  unfold Args.out
  rfl

/-- The scales laid out by blocks of 640 rows. -/
theorem pay1_sc (A : Args) (v44 : FVec Ideal S1920x1 .f32) (h : ∀ r : Fin 1920, v44 (ix2 r 0) = A.sc r) (b : Fin 3) (q : Fin 640) : k0_pay1 v44 (ix3 b 0 q) = A.sc (640 * b + q) := by
  unfold k0_pay1
  pointwise
  refine Eq.trans (congrArg v44 ?_) (h ⟨640 * b + q, by omega⟩)
  exact congrArg (fun i : Fin 1920 => (ix2 i 0 : S1920x1.Idx)) (Fin.ext (by show b.val * 640 + q.val = 640 * b.val + q.val; omega))

end Cert.Proof.ReferenceIdeal

end
-- ==== Proof.VRefB.lean ====
module

public import proofs.«01_k».proof.Proof.Gen.ReferenceIdeal.Frame
public import Idealize.ShloMosaic.Lib.Tactic
public import Idealize.ShloMosaic.Lib.Pointwise
public import Idealize.ShloMosaic.Lib.Pipeline.ValueKit
public import Idealize.ShloMosaic.Lib.ValueLayout
public import proofs.«01_k».proof.Proof.VSpec

@[expose] public section

set_option maxRecDepth 16384

noncomputable section

namespace Cert.Proof.ReferenceIdeal

open Cert.ReferenceIdeal Cert.ReferenceIdeal.Gen
open Cert.Proof.KernelIdeal (Args at1 at2 at1_eq at2_eq outArr codeArr scArr)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The arguments as launched. -/
def rArgs (c : Dev nD) : Args where
  c3 := at2 (a := 1920) (b := 4608) (m ((c : Thread nD τ).loc main_arg0))
  s3 := at1 (a := 1920) (m ((c : Thread nD τ).loc main_arg1))
  wg := at2 (a := 4608) (b := 9216) (m ((c : Thread nD τ).loc main_arg2))
  wgs := at1 (a := 9216) (m ((c : Thread nD τ).loc main_arg3))
  wu := at2 (a := 4608) (b := 9216) (m ((c : Thread nD τ).loc main_arg4))
  wus := at1 (a := 9216) (m ((c : Thread nD τ).loc main_arg5))
  wd := at2 (a := 9216) (b := 4608) (m ((c : Thread nD τ).loc main_arg6))
  wds := at1 (a := 4608) (m ((c : Thread nD τ).loc main_arg7))
  g := at1 (a := 4608) (m ((c : Thread nD τ).loc main_arg8))
  h1 := at2 (a := 1920) (b := 4608) (m ((c : Thread nD τ).loc main_arg9))

theorem idx0 : ∀ t : Fin cfg0.N, win0_0.index t = ![0, 0] := by decide +kernel
/-- What window 0 holds. -/
theorem blk0 (c : Dev nD) (t : Fin cfg0.N) (r : Fin 1920) (k : Fin 4608) : iblk m c 0 t (ix2 r k) = (rArgs m c).c3 r k := by
  refine .trans ?_ (at2_eq _ _ _ (by omega) (by omega)).symm
  blk_ext [iblk, V, idx0 t] <;> simp only [idx0 t] <;> simp <;> omega

theorem idx1 : ∀ t : Fin cfg0.N, win0_1.index t = ![0, 0] := by decide +kernel
/-- What window 1 holds. -/
theorem blk1 (c : Dev nD) (t : Fin cfg0.N) (r : Fin 1920) : iblk m c 1 t (ix2 r 0) = (rArgs m c).s3 r := by
  refine .trans ?_ (at1_eq _ _ (by omega)).symm
  unfold iblk
  rw [View.read_apply]
  entry_read
  pointwise
  refine congrArg (m ((c : Thread nD τ).loc main_arg1)) (congrArg ix1 (Fin.ext ?_))
  blk_simp [idx1 t]
  try dsimp only
  try omega

theorem idx2 : ∀ t : Fin cfg0.N, win0_2.index t = ![0, 0] := by decide +kernel
/-- What window 2 holds. -/
theorem blk2 (c : Dev nD) (t : Fin cfg0.N) (r : Fin 4608) (k : Fin 9216) : iblk m c 2 t (ix2 r k) = (rArgs m c).wg r k := by
  refine .trans ?_ (at2_eq _ _ _ (by omega) (by omega)).symm
  blk_ext [iblk, V, idx2 t] <;> simp only [idx2 t] <;> simp <;> omega

theorem idx3 : ∀ t : Fin cfg0.N, win0_3.index t = ![0, 0] := by decide +kernel
/-- What window 3 holds. -/
theorem blk3 (c : Dev nD) (t : Fin cfg0.N) (j : Fin 9216) : iblk m c 3 t (ix2 0 j) = (rArgs m c).wgs j := by
  refine .trans ?_ (at1_eq _ _ (by omega)).symm
  unfold iblk
  rw [View.read_apply]
  entry_read
  pointwise
  refine congrArg (m ((c : Thread nD τ).loc main_arg3)) (congrArg ix1 (Fin.ext ?_))
  blk_simp [idx3 t]
  try dsimp only
  try omega

theorem idx4 : ∀ t : Fin cfg0.N, win0_4.index t = ![0, 0] := by decide +kernel
/-- What window 4 holds. -/
theorem blk4 (c : Dev nD) (t : Fin cfg0.N) (r : Fin 4608) (k : Fin 9216) : iblk m c 4 t (ix2 r k) = (rArgs m c).wu r k := by
  refine .trans ?_ (at2_eq _ _ _ (by omega) (by omega)).symm
  blk_ext [iblk, V, idx4 t] <;> simp only [idx4 t] <;> simp <;> omega

theorem idx5 : ∀ t : Fin cfg0.N, win0_5.index t = ![0, 0] := by decide +kernel
/-- What window 5 holds. -/
theorem blk5 (c : Dev nD) (t : Fin cfg0.N) (j : Fin 9216) : iblk m c 5 t (ix2 0 j) = (rArgs m c).wus j := by
  refine .trans ?_ (at1_eq _ _ (by omega)).symm
  unfold iblk
  rw [View.read_apply]
  entry_read
  pointwise
  refine congrArg (m ((c : Thread nD τ).loc main_arg5)) (congrArg ix1 (Fin.ext ?_))
  blk_simp [idx5 t]
  try dsimp only
  try omega

theorem idx6 : ∀ t : Fin cfg0.N, win0_6.index t = ![0, 0] := by decide +kernel
/-- What window 6 holds. -/
theorem blk6 (c : Dev nD) (t : Fin cfg0.N) (r : Fin 9216) (k : Fin 4608) : iblk m c 6 t (ix2 r k) = (rArgs m c).wd r k := by
  refine .trans ?_ (at2_eq _ _ _ (by omega) (by omega)).symm
  blk_ext [iblk, V, idx6 t] <;> simp only [idx6 t] <;> simp <;> omega

theorem idx7 : ∀ t : Fin cfg0.N, win0_7.index t = ![0, 0] := by decide +kernel
/-- What window 7 holds. -/
theorem blk7 (c : Dev nD) (t : Fin cfg0.N) (j : Fin 4608) : iblk m c 7 t (ix2 0 j) = (rArgs m c).wds j := by
  refine .trans ?_ (at1_eq _ _ (by omega)).symm
  unfold iblk
  rw [View.read_apply]
  entry_read
  pointwise
  refine congrArg (m ((c : Thread nD τ).loc main_arg7)) (congrArg ix1 (Fin.ext ?_))
  blk_simp [idx7 t]
  try dsimp only
  try omega

theorem idx8 : ∀ t : Fin cfg0.N, win0_8.index t = ![0, 0] := by decide +kernel
/-- What window 8 holds. -/
theorem blk8 (c : Dev nD) (t : Fin cfg0.N) (j : Fin 4608) : iblk m c 8 t (ix2 0 j) = (rArgs m c).g j := by
  refine .trans ?_ (at1_eq _ _ (by omega)).symm
  unfold iblk
  rw [View.read_apply]
  entry_read
  pointwise
  refine congrArg (m ((c : Thread nD τ).loc main_arg8)) (congrArg ix1 (Fin.ext ?_))
  blk_simp [idx8 t]
  try dsimp only
  try omega

theorem idx9 : ∀ t : Fin cfg0.N, win0_9.index t = ![0, 0] := by decide +kernel
/-- What window 9 holds. -/
theorem blk9 (c : Dev nD) (t : Fin cfg0.N) (r : Fin 1920) (k : Fin 4608) : iblk m c 9 t (ix2 r k) = (rArgs m c).h1 r k := by
  refine .trans ?_ (at2_eq _ _ _ (by omega) (by omega)).symm
  blk_ext [iblk, V, idx9 t] <;> simp only [idx9 t] <;> simp <;> omega

end Cert.Proof.ReferenceIdeal

end
-- ==== Proof.VRef.lean ====
module

public import proofs.«01_k».proof.Proof.Gen.ReferenceIdeal.Frame
public import Idealize.ShloMosaic.Lib.Tactic
public import Idealize.ShloMosaic.Lib.Pointwise
public import Idealize.ShloMosaic.Lib.Pipeline.ValueKit
public import Idealize.ShloMosaic.Lib.ValueLayout
public import proofs.«01_k».proof.Proof.VRefA
public import proofs.«01_k».proof.Proof.VRefB

@[expose] public section

set_option maxRecDepth 16384

noncomputable section

namespace Cert.Proof.ReferenceIdeal

open Cert.ReferenceIdeal Cert.ReferenceIdeal.Gen
open Cert.Proof.KernelIdeal (Args  outArr codeArr scArr)
open Idealize.ShloMosaic Idealize.ShloMosaic.TcCoe Idealize.ShloMosaic.Tactic Idealize.SL.Sem
open Idealize.ShloMosaic.Pipeline (Dat)

theorem z2 : ∀ a : Fin 2, (![0, 0] : Fin 2 → ℕ) a = 0 := by decide
theorem z3 : ∀ a : Fin 3, (![0, 0, 0] : Fin 3 → ℕ) a = 0 := by decide

section
variable (A : Args) (x0 : Vec Ideal S1920x4608 .fp8e4m3) (x1 : Vec Ideal S1920x1 .f32) (x2 : Vec Ideal S4608x9216 .fp8e4m3) (x3 : Vec Ideal S1x9216 .f32) (x4 : Vec Ideal S4608x9216 .fp8e4m3) (x5 : Vec Ideal S1x9216 .f32) (x6 : Vec Ideal S9216x4608 .fp8e4m3) (x7 : Vec Ideal S1x4608 .f32) (x8 : Vec Ideal S1x4608 .f32) (x9 : Vec Ideal S1920x4608 .f32)
  (h0 : ∀ (r : Fin 1920) (k : Fin 4608), x0 (ix2 r k) = A.c3 r k) (h1 : ∀ r : Fin 1920, x1 (ix2 r 0) = A.s3 r)
  (h2 : ∀ (k : Fin 4608) (j : Fin 9216), x2 (ix2 k j) = A.wg k j) (h3 : ∀ j : Fin 9216, x3 (ix2 0 j) = A.wgs j)
  (h4 : ∀ (k : Fin 4608) (j : Fin 9216), x4 (ix2 k j) = A.wu k j) (h5 : ∀ j : Fin 9216, x5 (ix2 0 j) = A.wus j)
  (h6 : ∀ (k : Fin 9216) (j : Fin 4608), x6 (ix2 k j) = A.wd k j) (h7 : ∀ j : Fin 4608, x7 (ix2 0 j) = A.wds j) (h8 : ∀ j : Fin 4608, x8 (ix2 0 j) = A.g j)
  (h9 : ∀ (r : Fin 1920) (j : Fin 4608), x9 (ix2 r j) = A.h1 r j)
include h0 h1 h2 h3 h4 h5

/-- The activations, of the blocks. -/
theorem pay7_act (r : Fin 1920) (j : Fin 9216) : k0_pay7 x0 x1 x2 x3 x4 x5 x6 x7 x8 x9 (ix2 r j) = A.act r j := by
  unfold k0_pay7
  rw [View.ld_unit_lit _ x0 z2, View.ld_unit_lit _ x1 z2, View.ld_unit_lit _ x2 z2, View.ld_unit_lit _ x3 z2, View.ld_unit_lit _ x4 z2, View.ld_unit_lit _ x5 z2]
  exact pay2_act A x0 x1 x2 x3 x4 x5 h0 h1 h2 h3 h4 h5 r j

/-- Their magnitudes. -/
theorem pay8_abs (r : Fin 1920) (j : Fin 9216) : k0_pay8 x0 x1 x2 x3 x4 x5 x6 x7 x8 x9 (ix2 r j) = Cert.Proof.KernelIdeal.absE (A.act r j) := by
  unfold k0_pay8
  rw [View.ld_unit_lit _ x0 z2, View.ld_unit_lit _ x1 z2, View.ld_unit_lit _ x2 z2, View.ld_unit_lit _ x3 z2, View.ld_unit_lit _ x4 z2, View.ld_unit_lit _ x5 z2]
  exact pay3_abs A x0 x1 x2 x3 x4 x5 (pay2_act A x0 x1 x2 x3 x4 x5 h0 h1 h2 h3 h4 h5) r j

include h6 h7 h8 h9 in
/-- The result. -/
theorem out10 (r : Fin 1920) (j : Fin 4608) : out0_10 x0 x1 x2 x3 x4 x5 x6 x7 x8 x9 (ix2 r j) = A.out r j := by
  unfold out0_10
  rw [View.canon_cons_unit_lit _ _ _ z2, View.ld_unit_lit _ x6 z2, View.ld_unit_lit _ x7 z2, View.ld_unit_lit _ x8 z2, View.ld_unit_lit _ x9 z2]
  exact pay6_out A _ _ x6 x7 x8 x9 (pay7_act A x0 x1 x2 x3 x4 x5 x6 x7 x8 x9 h0 h1 h2 h3 h4 h5) (pay8_abs A x0 x1 x2 x3 x4 x5 x6 x7 x8 x9 h0 h1 h2 h3 h4 h5) h6 h7 h8 h9 r j

/-- The codes. -/
theorem out11 (r : Fin 1920) (j : Fin 9216) : out0_11 x0 x1 x2 x3 x4 x5 x6 x7 x8 x9 (ix2 r j) = A.code r j := by
  unfold out0_11
  rw [View.canon_cons_unit_lit _ _ _ z2]
  exact pay5_code A _ _ (pay7_act A x0 x1 x2 x3 x4 x5 x6 x7 x8 x9 h0 h1 h2 h3 h4 h5) (pay8_abs A x0 x1 x2 x3 x4 x5 x6 x7 x8 x9 h0 h1 h2 h3 h4 h5) r j

/-- The scales. -/
theorem out12 (b : Fin 3) (q : Fin 640) : out0_12 x0 x1 x2 x3 x4 x5 x6 x7 x8 x9 (ix3 b 0 q) = A.sc (640 * b + q) := by
  unfold out0_12
  rw [View.canon_cons_unit_lit _ _ _ z3]
  exact pay1_sc A _ (pay4_sc A _ (pay8_abs A x0 x1 x2 x3 x4 x5 x6 x7 x8 x9 h0 h1 h2 h3 h4 h5)) b q

end

variable (m : (ℓ : Loc nD τ sig) → Buf (Elt Ideal) ℓ) (ρ : Dev nD → PrngReg)

theorem idx10 : ∀ t : Fin cfg0.N, win0_10.index t = ![0, 0] := by decide +kernel
/-- The array of results 10 at the end. -/
theorem fin10 (c : Dev nD) : (dats m 0 c).arrAt 10 cfg0.N = outArr (rArgs m c) := by
  refine Dat.arrAt_eq_of_covers _ 10 _ (by decide +kernel) fun t hf y => ?_
  obtain ⟨r, j, hq⟩ : ∃ (r : Fin 1920) (j : Fin 4608), win0_10.xinj (grid0.coords t) y = ix2 r j := ⟨win0_10.xinj (grid0.coords t) y 0, win0_10.xinj (grid0.coords t) y 1, by funext a; fin_cases a <;> rfl⟩
  have e0 : (y 0).val = r.val := congrArg (fun z : (⟨2, ![1920, 4608]⟩ : Shape).Idx => (z 0).val) hq
  have e1 : (y 1).val = j.val := congrArg (fun z : (⟨2, ![1920, 4608]⟩ : Shape).Idx => (z 1).val) hq
  refine (congrFun (after0_10 m c t) _).trans ((congrArg _ hq).trans ((out10 (rArgs m c) _ _ _ _ _ _ _ _ _ _ (blk0 m c t) (blk1 m c t) (blk2 m c t) (blk3 m c t) (blk4 m c t) (blk5 m c t) (blk6 m c t) (blk7 m c t) (blk8 m c t) (blk9 m c t) r j).trans ?_))
  refine congrArg₂ (rArgs m c).out ?_ ?_
  · blk_simp [idx10 t]; try dsimp only
    omega
  · blk_simp [idx10 t]; try dsimp only
    omega

theorem idx11 : ∀ t : Fin cfg0.N, win0_11.index t = ![0, 0] := by decide +kernel
/-- The array of results 11 at the end. -/
theorem fin11 (c : Dev nD) : (dats m 0 c).arrAt 11 cfg0.N = codeArr (rArgs m c) := by
  refine Dat.arrAt_eq_of_covers _ 11 _ (by decide +kernel) fun t hf y => ?_
  obtain ⟨r, j, hq⟩ : ∃ (r : Fin 1920) (j : Fin 9216), win0_11.xinj (grid0.coords t) y = ix2 r j := ⟨win0_11.xinj (grid0.coords t) y 0, win0_11.xinj (grid0.coords t) y 1, by funext a; fin_cases a <;> rfl⟩
  have e0 : (y 0).val = r.val := congrArg (fun z : (⟨2, ![1920, 9216]⟩ : Shape).Idx => (z 0).val) hq
  have e1 : (y 1).val = j.val := congrArg (fun z : (⟨2, ![1920, 9216]⟩ : Shape).Idx => (z 1).val) hq
  refine (congrFun (after0_11 m c t) _).trans ((congrArg _ hq).trans ((out11 (rArgs m c) _ _ _ _ _ _ _ _ _ _ (blk0 m c t) (blk1 m c t) (blk2 m c t) (blk3 m c t) (blk4 m c t) (blk5 m c t) r j).trans ?_))
  refine congrArg₂ (rArgs m c).code ?_ ?_
  · blk_simp [idx11 t]; try dsimp only
    omega
  · blk_simp [idx11 t]; try dsimp only
    omega

theorem idx12 : ∀ t : Fin cfg0.N, win0_12.index t = ![0, 0, 0] := by decide +kernel
/-- The array of scales at the end. -/
theorem fin12 (c : Dev nD) : (dats m 0 c).arrAt 12 cfg0.N = scArr (rArgs m c) := by
  refine Dat.arrAt_eq_of_covers _ 12 _ (by decide +kernel) fun t hf y => ?_
  obtain ⟨r, j, hq⟩ : ∃ (r : Fin 3) (j : Fin 640), win0_12.xinj (grid0.coords t) y = ix3 r 0 j := ⟨win0_12.xinj (grid0.coords t) y 0, win0_12.xinj (grid0.coords t) y 2, by
    funext a; fin_cases a
    · rfl
    · exact Subsingleton.elim (α := Fin 1) _ _
    · rfl⟩
  have e0 : (y 0).val = r.val := congrArg (fun z : S3x1x640.Idx => (z 0).val) hq
  have e2 : (y 2).val = j.val := congrArg (fun z : S3x1x640.Idx => (z 2).val) hq
  refine (congrFun (after0_12 m c t) _).trans ((congrArg _ hq).trans ((out12 (rArgs m c) _ _ _ _ _ _ _ _ _ _ (blk0 m c t) (blk1 m c t) (blk2 m c t) (blk3 m c t) (blk4 m c t) (blk5 m c t) r j).trans ?_))
  refine congrArg (rArgs m c).sc ?_
  blk_simp [idx12 t]; try dsimp only
  omega

/-- The run of the reference: the three results are the same arrays of its arguments, and the arguments are as launched. -/
theorem run_V : θ_run defs (onTc (τ := τ) (main (F := Ideal))) ⟨m, fun _ => 0, ρ⟩ fun r => ∀ c : Dev nD,
    r.2.mem ((c : Thread nD τ).loc main_v5_0) = outArr (rArgs m c) ∧ r.2.mem ((c : Thread nD τ).loc main_v5_1) = codeArr (rArgs m c)
      ∧ r.2.mem ((c : Thread nD τ).loc main_v5_2) = scArr (rArgs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 10).trans (fin10 m c), ((h c).1 11).trans (fin11 m c), ((h c).1 12).trans (fin12 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 9).trans (((dats m 0 c).arrAt_in 9 rfl _).trans ((A_eq m c 9).trans (V_main_arg9 m c)))⟩) (run_main m ρ)

end Cert.Proof.ReferenceIdeal

end
-- ==== Proof.lean ====
/- The frames of the kernel, of its idealisation and of the reference: `Points.lean` and `IPoints.lean` run the kernel
   (each grid point by its body, the launch by the library's pipeline theorem), the generated modules run the reference.
   The values: `VSpec.lean` states what the idealised kernel leaves in its three results as a function of the arguments,
   `VRef.lean` states the same of the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Points
public import proofs.«01_k».proof.Proof.IPoints
public import proofs.«01_k».proof.Proof.VSpec
public import proofs.«01_k».proof.Proof.VRef

@[expose] public section

noncomputable section

namespace Cert.Proof

open Idealize.ShloMosaic Idealize.SL.Sem
open Cert.Proof.KernelIdeal (at1 at2 outArr codeArr scArr argsOf specV)

/-- Launches whose arguments agree give the two programs the same argument arrays. -/
theorem rArgs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    : Cert.Proof.ReferenceIdeal.rArgs m' c = Cert.Proof.KernelIdeal.argsOf m c := by
  have e0 := congrArg (at2 (a := 1920) (b := 4608)) h0
  have e1 := congrArg (at1 (a := 1920)) h1
  have e2 := congrArg (at2 (a := 4608) (b := 9216)) h2
  have e3 := congrArg (at1 (a := 9216)) h3
  have e4 := congrArg (at2 (a := 4608) (b := 9216)) h4
  have e5 := congrArg (at1 (a := 9216)) h5
  have e6 := congrArg (at2 (a := 9216) (b := 4608)) h6
  have e7 := congrArg (at1 (a := 4608)) h7
  have e8 := congrArg (at1 (a := 4608)) h8
  have e9 := congrArg (at2 (a := 1920) (b := 4608)) h9
  unfold Cert.Proof.ReferenceIdeal.rArgs Cert.Proof.KernelIdeal.argsOf
  rw [Cert.Proof.KernelIdeal.Args.mk.injEq]
  exact ⟨e0, e1, e2, e3, e4, e5, e6, e7, e8, e9⟩

theorem claim : Cert.Claim :=
  ⟨Cert.Kernel.Gen.facts, Cert.KernelIdeal.Gen.facts, Cert.ReferenceIdeal.Gen.facts,
   fun m ρ _ => Cert.Proof.Kernel.frame m ρ,
   fun m ρ _ => Cert.Proof.KernelIdeal.frame m ρ,
   fun m ρ _ => Cert.ReferenceIdeal.Gen.frame m ρ,
   trivial,
   fun m g m' g' _ hargs =>
    ⟨fun c => outArr (argsOf m c), fun c => codeArr (argsOf m c), fun c => scArr (argsOf m c),
     (θ_run _ _ _).mono (fun r h c => ⟨(h c).1, (h c).2.1, (h c).2.2.1,
       Cert.Proof.KernelIdeal.args_unchanged m (specV m) r (h c).2.2.2 c⟩) (Cert.Proof.KernelIdeal.run_V m g),
     (θ_run _ _ _).mono (fun r h c => by
       obtain ⟨h0, h1, h2, h3, h4, h5, h6, h7, h8, h9⟩ := hargs c
       have e := rArgs_eq m m' c h0 h1 h2 h3 h4 h5 h6 h7 h8 h9
       have hc := h c
       rw [e] at hc
       exact hc) (Cert.Proof.ReferenceIdeal.run_V m' g')⟩⟩

end Cert.Proof

end
